-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_gradient_finite [hPre_gate_gradient_finite : Cert.Pre_gate_gradient_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_gradient_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_gradient_finite [hPre_gate_gradient_finite : Cert.Pre_gate_gradient_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_gradient_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gate_gradient_finite [hKernelIdeal : Cert.KernelIdeal.Facts] [hPre_gate_gradient_finite : Cert.Pre_gate_gradient_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_gradient_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gate_gradient_finite [hReferenceIdeal : Cert.ReferenceIdeal.Facts] [hPre_gate_gradient_finite : Cert.Pre_gate_gradient_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_gradient_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def preserves_Kernel_KernelIdeal : Prop :=
  True

def algebraic_KernelIdeal_ReferenceIdeal_pre_gate_gradient_finite [hKernelIdeal : Cert.KernelIdeal.Facts] [hReferenceIdeal : Cert.ReferenceIdeal.Facts] [hPre_gate_gradient_finite : Cert.Pre_gate_gradient_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_gradient_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v8_0)) (v1 : (c : Dev Cert.Kernel10Ideal.nD) → Buf (Elt Ideal) ((c.tc : Thread Cert.Kernel10Ideal.nD Cert.Kernel10Ideal.τ).loc Cert.Kernel10Ideal.main_v8_1)) (v2 : (c : Dev Cert.Kernel10Ideal.nD) → Buf (Elt Ideal) ((c.tc : Thread Cert.Kernel10Ideal.nD Cert.Kernel10Ideal.τ).loc Cert.Kernel10Ideal.main_v8_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_0) = v0 c
          ∧ r.2.mem ((c.tc : Thread Cert.Kernel10Ideal.nD Cert.Kernel10Ideal.τ).loc Cert.Kernel10Ideal.main_v8_1) = v1 c
          ∧ r.2.mem ((c.tc : Thread Cert.Kernel10Ideal.nD Cert.Kernel10Ideal.τ).loc Cert.Kernel10Ideal.main_v8_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v34) = v0 c
          ∧ r.2.mem ((c.tc : Thread Cert.Reference10Ideal.nD Cert.Reference10Ideal.τ).loc Cert.Reference10Ideal.main_v35) = v1 c
          ∧ r.2.mem ((c.tc : Thread Cert.Reference10Ideal.nD Cert.Reference10Ideal.τ).loc Cert.Reference10Ideal.main_v17) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v17) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v49) = v0 c
          ∧ r.2.mem ((c.tc : Thread Cert.Reference15Ideal.nD Cert.Reference15Ideal.τ).loc Cert.Reference15Ideal.main_v48) = v1 c
          ∧ r.2.mem ((c.tc : Thread Cert.Reference15Ideal.nD Cert.Reference15Ideal.τ).loc Cert.Reference15Ideal.main_v50) = v2 c
          ∧ r.2.mem ((c.tc : Thread Cert.Reference15Ideal.nD Cert.Reference15Ideal.τ).loc Cert.Reference15Ideal.main_v32) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v7) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v12) = v0 c
          ∧ r.2.mem ((c.tc : Thread Cert.Reference17Ideal.nD Cert.Reference17Ideal.τ).loc Cert.Reference17Ideal.main_v20) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v37) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_arg1) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v4) = v2 c
          ∧ r.2.mem ((c.tc : Thread Cert.Reference19Ideal.nD Cert.Reference19Ideal.τ).loc Cert.Reference19Ideal.main_v10) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg1) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_arg1) = v0 c
          ∧ r.2.mem ((c.tc : Thread Cert.Reference21Ideal.nD Cert.Reference21Ideal.τ).loc Cert.Reference21Ideal.main_v23) = v1 c
          ∧ r.2.mem ((c.tc : Thread Cert.Reference21Ideal.nD Cert.Reference21Ideal.τ).loc Cert.Reference21Ideal.main_v4) = v2 c
          ∧ r.2.mem ((c.tc : Thread Cert.Reference21Ideal.nD Cert.Reference21Ideal.τ).loc Cert.Reference21Ideal.main_v10) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg1) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v10) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v3) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v8) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v3) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v8) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v3) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v8) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v4) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v1) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v6) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hPre_gate_gradient_finite : Cert.Pre_gate_gradient_finite.Facts),
    quiescent_Kernel (hKernel := hKernel)
    ∧ quiescent_KernelIdeal (hKernelIdeal := hKernelIdeal)
    ∧ quiescent_KernelIdeal_pre_gate_gradient_finite (hKernelIdeal := hKernelIdeal) (hPre_gate_gradient_finite := hPre_gate_gradient_finite)
    ∧ quiescent_ReferenceIdeal (hReferenceIdeal := hReferenceIdeal)
    ∧ quiescent_ReferenceIdeal_pre_gate_gradient_finite (hReferenceIdeal := hReferenceIdeal) (hPre_gate_gradient_finite := hPre_gate_gradient_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ preserves_Kernel_KernelIdeal
    ∧ algebraic_KernelIdeal_ReferenceIdeal_pre_gate_gradient_finite (hKernelIdeal := hKernelIdeal) (hReferenceIdeal := hReferenceIdeal) (hPre_gate_gradient_finite := hPre_gate_gradient_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
-- ==== Pre_gate_gradient_finite.lean ====
abbrev S4096x11264 : Shape := ⟨2, ![4096, 11264]⟩
abbrev S4096x5632 : Shape := ⟨2, ![4096, 5632]⟩
abbrev S3x5632 : Shape := ⟨2, ![3, 5632]⟩
abbrev S1x5632 : Shape := ⟨2, ![1, 5632]⟩
abbrev S4096x4x2x1408 : Shape := ⟨4, ![4096, 4, 2, 1408]⟩
abbrev S4096x4x1x1408 : Shape := ⟨4, ![4096, 4, 1, 1408]⟩
abbrev S4096x4x1408 : Shape := ⟨3, ![4096, 4, 1408]⟩
abbrev S_ : Shape := ⟨0, ![]⟩

class Facts : Prop where
  shapeCasts_S4096x11264_S4096x4x2x1408 : S4096x11264.ShapeCasts S4096x4x2x1408
  slices_S4096x4x2x1408_S4096x4x1x1408_0_0_0_0 : S4096x4x2x1408.Slices ![0, 0, 0, 0] S4096x4x1x1408
  shapeCasts_S4096x4x1x1408_S4096x4x1408 : S4096x4x1x1408.ShapeCasts S4096x4x1408
  shapeCasts_S4096x4x1408_S4096x5632 : S4096x4x1408.ShapeCasts S4096x5632
  slices_S4096x4x2x1408_S4096x4x1x1408_0_0_1_0 : S4096x4x2x1408.Slices ![0, 0, 1, 0] S4096x4x1x1408
  bcast_S_S4096x5632 : S_.BroadcastsInDim S4096x5632 (![] : Fin 0 → Fin S4096x5632.rank)

variable [Facts]

def fn {F : FTy → Type} [FloatOps F] (main_arg0 : FVec F S4096x11264 .f32) (main_arg1 : FVec F S4096x5632 .f32) (main_arg2 : FVec F S3x5632 .f32) (main_arg3 : FVec F S1x5632 .f32) : IVec S4096x5632 1 :=
  let main_v0 : FVec F S4096x4x2x1408 .f32 := shapeCast S4096x4x2x1408 main_arg0 shapeCasts_S4096x11264_S4096x4x2x1408
  let main_v1 : FVec F S4096x4x1x1408 .f32 := (extractStridedSlice S4096x4x1x1408 ![0, 0, 0, 0] · slices_S4096x4x2x1408_S4096x4x1x1408_0_0_0_0) main_v0
  let main_v2 : FVec F S4096x4x1408 .f32 := shapeCast S4096x4x1408 main_v1 shapeCasts_S4096x4x1x1408_S4096x4x1408
  let main_v3 : FVec F S4096x5632 .f32 := shapeCast S4096x5632 main_v2 shapeCasts_S4096x4x1408_S4096x5632
  let main_v4 : FVec F S4096x4x1x1408 .f32 := (extractStridedSlice S4096x4x1x1408 ![0, 0, 1, 0] · slices_S4096x4x2x1408_S4096x4x1x1408_0_0_1_0) main_v0
  let main_v5 : FVec F S4096x4x1408 .f32 := shapeCast S4096x4x1408 main_v4 shapeCasts_S4096x4x1x1408_S4096x4x1408
  let main_v6 : FVec F S4096x5632 .f32 := shapeCast S4096x5632 main_v5 shapeCasts_S4096x4x1408_S4096x5632
  let main_v7 : FVec F S4096x5632 .f32 := mulf main_arg1 main_v6
  let main_v8 : FVec F S4096x5632 .f32 := Host.absf main_v7
  let main_cst : FVec F S_ .f32 := constant S_ .f32 0x7F800000#32
  let main_v9 : FVec F S4096x5632 .f32 := broadcastInDim S4096x5632 ![] bcast_S_S4096x5632 main_cst
  let main_v10 : IVec S4096x5632 1 := cmpf .olt main_v8 main_v9
  main_v10
-- ==== Kernel.lean ====
abbrev S4096x11264 : Shape := ⟨2, ![4096, 11264]⟩
abbrev S4096x5632 : Shape := ⟨2, ![4096, 5632]⟩
abbrev S3x5632 : Shape := ⟨2, ![3, 5632]⟩
abbrev S1x5632 : Shape := ⟨2, ![1, 5632]⟩
abbrev S512x1408 : Shape := ⟨2, ![512, 1408]⟩
abbrev S8x1408 : Shape := ⟨2, ![8, 1408]⟩
abbrev S3x1408 : Shape := ⟨2, ![3, 1408]⟩
abbrev S1x1408 : Shape := ⟨2, ![1, 1408]⟩
abbrev S512x2816 : Shape := ⟨2, ![512, 2816]⟩
abbrev S504x1408 : Shape := ⟨2, ![504, 1408]⟩
abbrev S1408 : Shape := ⟨1, ![1408]⟩

abbrev nBuf : Space → Nat
  | .hbm => 7
  | .vmem => 24
  | .smem => 0
  | _ => 0

abbrev bufTy : (tb : Table) → Fin (tcTables nBuf tb) → BufTy
  | .hbm, ⟨0, _⟩ => ⟨S4096x11264, .f32⟩
  | .hbm, ⟨1, _⟩ => ⟨S4096x5632, .f32⟩
  | .hbm, ⟨2, _⟩ => ⟨S3x5632, .f32⟩
  | .hbm, ⟨3, _⟩ => ⟨S1x5632, .f32⟩
  | .hbm, ⟨4, _⟩ => ⟨S4096x11264, .bf16⟩
  | .hbm, ⟨5, _⟩ => ⟨S3x5632, .f32⟩
  | .hbm, ⟨6, _⟩ => ⟨S1x5632, .f32⟩
  | .local _ .vmem, ⟨0, _⟩ => ⟨S512x1408, .f32⟩
  | .local _ .vmem, ⟨1, _⟩ => ⟨S512x1408, .f32⟩
  | .local _ .vmem, ⟨2, _⟩ => ⟨S8x1408, .f32⟩
  | .local _ .vmem, ⟨3, _⟩ => ⟨S8x1408, .f32⟩
  | .local _ .vmem, ⟨4, _⟩ => ⟨S8x1408, .f32⟩
  | .local _ .vmem, ⟨5, _⟩ => ⟨S8x1408, .f32⟩
  | .local _ .vmem, ⟨6, _⟩ => ⟨S512x1408, .f32⟩
  | .local _ .vmem, ⟨7, _⟩ => ⟨S512x1408, .f32⟩
  | .local _ .vmem, ⟨8, _⟩ => ⟨S8x1408, .f32⟩
  | .local _ .vmem, ⟨9, _⟩ => ⟨S8x1408, .f32⟩
  | .local _ .vmem, ⟨10, _⟩ => ⟨S512x1408, .f32⟩
  | .local _ .vmem, ⟨11, _⟩ => ⟨S512x1408, .f32⟩
  | .local _ .vmem, ⟨12, _⟩ => ⟨S8x1408, .f32⟩
  | .local _ .vmem, ⟨13, _⟩ => ⟨S8x1408, .f32⟩
  | .local _ .vmem, ⟨14, _⟩ => ⟨S3x1408, .f32⟩
  | .local _ .vmem, ⟨15, _⟩ => ⟨S3x1408, .f32⟩
  | .local _ .vmem, ⟨16, _⟩ => ⟨S1x1408, .f32⟩
  | .local _ .vmem, ⟨17, _⟩ => ⟨S1x1408, .f32⟩
  | .local _ .vmem, ⟨18, _⟩ => ⟨S512x2816, .bf16⟩
  | .local _ .vmem, ⟨19, _⟩ => ⟨S512x2816, .bf16⟩
  | .local _ .vmem, ⟨20, _⟩ => ⟨S3x1408, .f32⟩
  | .local _ .vmem, ⟨21, _⟩ => ⟨S3x1408, .f32⟩
  | .local _ .vmem, ⟨22, _⟩ => ⟨S1x1408, .f32⟩
  | .local _ .vmem, ⟨23, _⟩ => ⟨S1x1408, .f32⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.muli c2_i32 arg0
  let c0_i32_0 : BitVec 32 := 0#32
  let v4 : BitVec 32 := Scalar.addi v3 c0_i32_0
  let c0_i32_1 : BitVec 32 := 0#32
  ![v2.toNat, v4.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c2_i32 : BitVec 32 := 2#32
  let v3 : BitVec 32 := Scalar.muli c2_i32 arg0
  let c0_i32 : BitVec 32 := 0#32
  let v4 : BitVec 32 := Scalar.addi v3 c0_i32
  let c0_i32_0 : BitVec 32 := 0#32
  ![v2.toNat, v4.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c2_i32 : BitVec 32 := 2#32
  let v3 : BitVec 32 := Scalar.muli c2_i32 arg0
  let c1_i32_0 : BitVec 32 := 1#32
  let v4 : BitVec 32 := Scalar.addi v3 c1_i32_0
  let c0_i32 : BitVec 32 := 0#32
  ![v2.toNat, v4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S3x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S4096x11264 : Shape := ⟨2, ![4096, 11264]⟩
abbrev S4096x5632 : Shape := ⟨2, ![4096, 5632]⟩
abbrev S3x5632 : Shape := ⟨2, ![3, 5632]⟩
abbrev S1x5632 : Shape := ⟨2, ![1, 5632]⟩
abbrev S4096x4x2x1408 : Shape := ⟨4, ![4096, 4, 2, 1408]⟩
abbrev S4096x4x1x1408 : Shape := ⟨4, ![4096, 4, 1, 1408]⟩
abbrev S4096x4x1408 : Shape := ⟨3, ![4096, 4, 1408]⟩
abbrev S1x4096x5632 : Shape := ⟨3, ![1, 4096, 5632]⟩
abbrev S5632 : Shape := ⟨1, ![5632]⟩
abbrev S_ : Shape := ⟨0, ![]⟩
abbrev S1x2x5632 : Shape := ⟨3, ![1, 2, 5632]⟩
abbrev S1x4098x5632 : Shape := ⟨3, ![1, 4098, 5632]⟩
abbrev S1x1x5632 : Shape := ⟨3, ![1, 1, 5632]⟩

abbrev nBuf : Space → Nat
  | .hbm => 127
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S4096x5632, .f32⟩
  | .hbm, ⟨2, _⟩ => ⟨S3x5632, .f32⟩
  | .hbm, ⟨3, _⟩ => ⟨S1x5632, .f32⟩
  | .hbm, ⟨4, _⟩ => ⟨S4096x4x2x1408, .f32⟩
  | .hbm, ⟨5, _⟩ => ⟨S4096x4x1x1408, .f32⟩
  | .hbm, ⟨6, _⟩ => ⟨S4096x4x1408, .f32⟩
  | .hbm, ⟨7, _⟩ => ⟨S4096x5632, .f32⟩
  | .hbm, ⟨8, _⟩ => ⟨S4096x4x1x1408, .f32⟩
  | .hbm, ⟨9, _⟩ => ⟨S4096x4x1408, .f32⟩
  | .hbm, ⟨10, _⟩ => ⟨S4096x5632, .f32⟩
  | .hbm, ⟨11, _⟩ => ⟨S1x4096x5632, .f32⟩
  | .hbm, ⟨12, _⟩ => ⟨S5632, .f32⟩
  | .hbm, ⟨13, _⟩ => ⟨S_, .f32⟩
  | .hbm, ⟨14, _⟩ => ⟨S1x2x5632, .f32⟩
  | .hbm, ⟨15, _⟩ => ⟨S1x4098x5632, .f32⟩
  | .hbm, ⟨16, _⟩ => ⟨S_, .f32⟩
  | .hbm, ⟨17, _⟩ => ⟨S1x2x5632, .f32⟩
  | .hbm, ⟨18, _⟩ => ⟨S1x4096x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S1x4096x5632, .f32⟩
  | .hbm, ⟨23, _⟩ => ⟨S1x4096x5632, .f32⟩
  | .hbm, ⟨24, _⟩ => ⟨S1x1x5632, .f32⟩
  | .hbm, ⟨25, _⟩ => ⟨S1x4096x5632, .f32⟩
  | .hbm, ⟨26, _⟩ => ⟨S1x4096x5632, .f32⟩
  | .hbm, ⟨27, _⟩ => ⟨S1x4096x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S1x4096x5632, .f32⟩
  | .hbm, ⟨32, _⟩ => ⟨S1x4096x5632, .f32⟩
  | .hbm, ⟨33, _⟩ => ⟨S1x4096x5632, .f32⟩
  | .hbm, ⟨34, _⟩ => ⟨S1x4096x5632, .f32⟩
  | .hbm, ⟨35, _⟩ => ⟨S1x5632, .f32⟩
  | .hbm, ⟨36, _⟩ => ⟨S5632, .f32⟩
  | .hbm, ⟨37, _⟩ => ⟨S1x1x5632, .f32⟩
  | .hbm, ⟨38, _⟩ => ⟨S1x4096x5632, .f32⟩
  | .hbm, ⟨39, _⟩ => ⟨S1x4096x5632, .f32⟩
  | .hbm, ⟨40, _⟩ => ⟨S1x4096x5632, .f32⟩
  | .hbm, ⟨41, _⟩ => ⟨S1x4096x5632, .f32⟩
  | .hbm, ⟨42, _⟩ => ⟨S1x4096x5632, .f32⟩
  | .hbm, ⟨43, _⟩ => ⟨S_, .f32⟩
  | .hbm, ⟨44, _⟩ => ⟨S1x4096x5632, .f32⟩
  | .hbm, ⟨45, _⟩ => ⟨S1x4096x5632, .f32⟩
  | .hbm, ⟨46, _⟩ => ⟨S_, .f32⟩
  | .hbm, ⟨47, _⟩ => ⟨S1x4096x5632, .f32⟩
  | .hbm, ⟨48, _⟩ => ⟨S1x4096x5632, .f32⟩
  | .hbm, ⟨49, _⟩ => ⟨S_, .f32⟩
  | .hbm, ⟨50, _⟩ => ⟨S1x4096x5632, .f32⟩
  | .hbm, ⟨51, _⟩ => ⟨S1x4096x5632, .f32⟩
  | .hbm, ⟨52, _⟩ => ⟨S1x4096x5632, .f32⟩
  | .hbm, ⟨53, _⟩ => ⟨S1x4096x5632, .f32⟩
  | .hbm, ⟨54, _⟩ => ⟨S4096x5632, .f32⟩
  | .hbm, ⟨55, _⟩ => ⟨S4096x5632, .f32⟩
  | .hbm, ⟨56, _⟩ => ⟨S4096x5632, .f32⟩
  | .hbm, ⟨57, _⟩ => ⟨S4096x5632, .f32⟩
  | .hbm, ⟨58, _⟩ => ⟨S1x4096x5632, .f32⟩
  | .hbm, ⟨59, _⟩ => ⟨S1x4096x5632, .f32⟩
  | .hbm, ⟨60, _⟩ => ⟨S1x4096x5632, .f32⟩
  | .hbm, ⟨61, _⟩ => ⟨S1x4096x5632, .f32⟩
  | .hbm, ⟨62, _⟩ => ⟨S1x4096x5632, .f32⟩
  | .hbm, ⟨63, _⟩ => ⟨S1x4096x5632, .f32⟩
  | .hbm, ⟨64, _⟩ => ⟨S_, .f32⟩
  | .hbm, ⟨65, _⟩ => ⟨S1x5632, .f32⟩
  | .hbm, ⟨66, _⟩ => ⟨S1x1x5632, .f32⟩
  | .hbm, ⟨67, _⟩ => ⟨S1x4096x5632, .f32⟩
  | .hbm, ⟨68, _⟩ => ⟨S1x4096x5632, .f32⟩
  | .hbm, ⟨69, _⟩ => ⟨S_, .f32⟩
  | .hbm, ⟨70, _⟩ => ⟨S5632, .f32⟩
  | .hbm, ⟨71, _⟩ => ⟨S1x5632, .f32⟩
  | .hbm, ⟨72, _⟩ => ⟨S_, .f32⟩
  | .hbm, ⟨73, _⟩ => ⟨S3x5632, .f32⟩
  | .hbm, ⟨74, _⟩ => ⟨S_, .f32⟩
  | .hbm, ⟨75, _⟩ => ⟨S1x4098x5632, .f32⟩
  | .hbm, ⟨76, _⟩ => ⟨S1x4096x5632, .f32⟩
  | .hbm, ⟨77, _⟩ => ⟨S_, .f32⟩
  | .hbm, ⟨78, _⟩ => ⟨S1x5632, .f32⟩
  | .hbm, ⟨79, _⟩ => ⟨S1x1x5632, .f32⟩
  | .hbm, ⟨80, _⟩ => ⟨S1x4096x5632, .f32⟩
  | .hbm, ⟨81, _⟩ => ⟨S1x4096x5632, .f32⟩
  | .hbm, ⟨82, _⟩ => ⟨S_, .f32⟩
  | .hbm, ⟨83, _⟩ => ⟨S5632, .f32⟩
  | .hbm, ⟨84, _⟩ => ⟨S1x5632, .f32⟩
  | .hbm, ⟨85, _⟩ => ⟨S_, .f32⟩
  | .hbm, ⟨86, _⟩ => ⟨S3x5632, .f32⟩
  | .hbm, ⟨87, _⟩ => ⟨S3x5632, .f32⟩
  | .hbm, ⟨88, _⟩ => ⟨S_, .f32⟩
  | .hbm, ⟨89, _⟩ => ⟨S1x4098x5632, .f32⟩
  | .hbm, ⟨90, _⟩ => ⟨S1x4098x5632, .f32⟩
  | .hbm, ⟨91, _⟩ => ⟨S_, .f32⟩
  | .hbm, ⟨92, _⟩ => ⟨S1x5632, .f32⟩
  | .hbm, ⟨93, _⟩ => ⟨S1x1x5632, .f32⟩
  | .hbm, ⟨94, _⟩ => ⟨S_, .f32⟩
  | .hbm, ⟨95, _⟩ => ⟨S5632, .f32⟩
  | .hbm, ⟨96, _⟩ => ⟨S1x4096x5632, .f32⟩
  | .hbm, ⟨97, _⟩ => ⟨S_, .f32⟩
  | .hbm, ⟨98, _⟩ => ⟨S1x5632, .f32⟩
  | .hbm, ⟨99, _⟩ => ⟨S1x1x5632, .f32⟩
  | .hbm, ⟨100, _⟩ => ⟨S1x4096x5632, .f32⟩
  | .hbm, ⟨101, _⟩ => ⟨S1x4096x5632, .f32⟩
  | .hbm, ⟨102, _⟩ => ⟨S_, .f32⟩
  | .hbm, ⟨103, _⟩ => ⟨S5632, .f32⟩
  | .hbm, ⟨104, _⟩ => ⟨S1x5632, .f32⟩
  | .hbm, ⟨105, _⟩ => ⟨S_, .f32⟩
  | .hbm, ⟨106, _⟩ => ⟨S3x5632, .f32⟩
  | .hbm, ⟨107, _⟩ => ⟨S3x5632, .f32⟩
  | .hbm, ⟨108, _⟩ => ⟨S_, .f32⟩
  | .hbm, ⟨109, _⟩ => ⟨S1x4098x5632, .f32⟩
  | .hbm, ⟨110, _⟩ => ⟨S1x4098x5632, .f32⟩
  | .hbm, ⟨111, _⟩ => ⟨S1x2x5632, .f32⟩
  | .hbm, ⟨112, _⟩ => ⟨S1x4096x5632, .f32⟩
  | .hbm, ⟨113, _⟩ => ⟨S1x5632, .f32⟩
  | .hbm, ⟨114, _⟩ => ⟨S_, .f32⟩
  | .hbm, ⟨115, _⟩ => ⟨S4096x5632, .f32⟩
  | .hbm, ⟨116, _⟩ => ⟨S4096x4x1408, .f32⟩
  | .hbm, ⟨117, _⟩ => ⟨S4096x4x1x1408, .f32⟩
  | .hbm, ⟨118, _⟩ => ⟨S_, .f32⟩
  | .hbm, ⟨119, _⟩ => ⟨S4096x4x2x1408, .f32⟩
  | .hbm, ⟨120, _⟩ => ⟨S4096x4x1408, .f32⟩
  | .hbm, ⟨121, _⟩ => ⟨S4096x4x1x1408, .f32⟩
  | .hbm, ⟨122, _⟩ => ⟨S_, .f32⟩
  | .hbm, ⟨123, _⟩ => ⟨S4096x4x2x1408, .f32⟩
  | .hbm, ⟨124, _⟩ => ⟨S4096x4x2x1408, .f32⟩
  | .hbm, ⟨125, _⟩ => ⟨S4096x11264, .f32⟩
  | .hbm, ⟨126, _⟩ => ⟨S4096x11264, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v35_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v35_1 : Ref sig .tc := ⟨.hbm, 52, rfl⟩
abbrev main_v35_0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v41 : Ref sig .tc := ⟨.hbm, 62, rfl⟩
abbrev main_v42 : Ref sig .tc := ⟨.hbm, 63, rfl⟩
abbrev main_cst_1 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_2 : Ref sig .tc := ⟨.hbm, 69, rfl⟩
abbrev main_v47 : Ref sig .tc := ⟨.hbm, 70, rfl⟩
abbrev main_v48 : Ref sig .tc := ⟨.hbm, 71, rfl⟩
abbrev main_cst_3 : Ref sig .tc := ⟨.hbm, 72, rfl⟩
abbrev main_v49 : Ref sig .tc := ⟨.hbm, 73, rfl⟩
abbrev main_cst_4 : Ref sig .tc := ⟨.hbm, 74, rfl⟩
abbrev main_v50 : Ref sig .tc := ⟨.hbm, 75, rfl⟩
abbrev main_v51 : Ref sig .tc := ⟨.hbm, 76, rfl⟩
abbrev main_cst_5 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_6 : Ref sig .tc := ⟨.hbm, 82, rfl⟩
abbrev main_v56 : Ref sig .tc := ⟨.hbm, 83, rfl⟩
abbrev main_v57 : Ref sig .tc := ⟨.hbm, 84, rfl⟩
abbrev main_cst_7 : Ref sig .tc := ⟨.hbm, 85, rfl⟩
abbrev main_v58 : Ref sig .tc := ⟨.hbm, 86, rfl⟩
abbrev main_v59 : Ref sig .tc := ⟨.hbm, 87, rfl⟩
abbrev main_cst_8 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_cst_11 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_v71 : Ref sig .tc := ⟨.hbm, 104, rfl⟩
abbrev main_cst_13 : Ref sig .tc := ⟨.hbm, 105, rfl⟩
abbrev main_v72 : Ref sig .tc := ⟨.hbm, 106, rfl⟩
abbrev main_v73 : Ref sig .tc := ⟨.hbm, 107, rfl⟩
abbrev main_cst_14 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_15 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_16 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_17 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩

abbrev nD : Nat := 1
abbrev τ : Topo := Topo.v7x

variable {F : FTy → Type} [FloatOps F]
-- ==== Kernel2.lean ====
abbrev S4096x11264 : Shape := ⟨2, ![4096, 11264]⟩
abbrev S4x2048x2816 : Shape := ⟨3, ![4, 2048, 2816]⟩
abbrev S4096x2048 : Shape := ⟨2, ![4096, 2048]⟩
abbrev S1024x2816 : Shape := ⟨2, ![1024, 2816]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 3
  | .vmem => 9
  | .smem => 0
  | _ => 0

abbrev bufTy : (tb : Table) → Fin (tcTables nBuf tb) → BufTy
  | .hbm, ⟨0, _⟩ => ⟨S4096x11264, .bf16⟩
  | .hbm, ⟨1, _⟩ => ⟨S4x2048x2816, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi v0 c0_i32
  let c2_i32_0 : BitVec 32 := 2#32
  let c0_i32_1 : BitVec 32 := 0#32
  let v2 : BitVec 1 := Scalar.cmpi .eq c2_i32_0 c0_i32_1
  let c1_i32 : BitVec 32 := 1#32
  let v3 : BitVec 32 := Scalar.select v2 c1_i32 c2_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c2_i32_5 : BitVec 32 := 2#32
  let v12 : BitVec 32 := Scalar.muli c2_i32_5 v11
  let c2_i32_6 : BitVec 32 := 2#32
  let v13 : BitVec 32 := Scalar.divsi v1 c2_i32_6
  let c0_i32_7 : BitVec 32 := 0#32
  let v14 : BitVec 1 := Scalar.cmpi .sgt v1 c0_i32_7
  let v15 : BitVec 32 := Scalar.extui v14
  let c0_i32_8 : BitVec 32 := 0#32
  let v16 : BitVec 1 := Scalar.cmpi .slt v1 c0_i32_8
  let v17 : BitVec 32 := Scalar.extui v16
  let v18 : BitVec 32 := Scalar.subi v15 v17
  let c0_i32_9 : BitVec 32 := 0#32
  let v19 : BitVec 1 := Scalar.cmpi .sgt c2_i32_6 c0_i32_9
  let v20 : BitVec 32 := Scalar.extui v19
  let c0_i32_10 : BitVec 32 := 0#32
  let v21 : BitVec 1 := Scalar.cmpi .slt c2_i32_6 c0_i32_10
  let v22 : BitVec 32 := Scalar.extui v21
  let v23 : BitVec 32 := Scalar.subi v20 v22
  let v24 : BitVec 1 := Scalar.cmpi .ne v18 v23
  let v25 : BitVec 32 := Scalar.remsi v1 c2_i32_6
  let c0_i32_11 : BitVec 32 := 0#32
  let v26 : BitVec 1 := Scalar.cmpi .ne v25 c0_i32_11
  let v27 : BitVec 1 := Scalar.andi v24 v26
  let c1_i32_12 : BitVec 32 := 1#32
  let v28 : BitVec 32 := Scalar.subi v13 c1_i32_12
  let v29 : BitVec 32 := Scalar.select v27 v28 v13
  let c2_i32_13 : BitVec 32 := 2#32
  let v30 : BitVec 32 := Scalar.divsi v29 c2_i32_13
  let c0_i32_14 : BitVec 32 := 0#32
  let v31 : BitVec 1 := Scalar.cmpi .sgt v29 c0_i32_14
  let v32 : BitVec 32 := Scalar.extui v31
  let c0_i32_15 : BitVec 32 := 0#32
  let v33 : BitVec 1 := Scalar.cmpi .slt v29 c0_i32_15
  let v34 : BitVec 32 := Scalar.extui v33
  let v35 : BitVec 32 := Scalar.subi v32 v34
  let c0_i32_16 : BitVec 32 := 0#32
  let v36 : BitVec 1 := Scalar.cmpi .sgt c2_i32_13 c0_i32_16
  let v37 : BitVec 32 := Scalar.extui v36
  let c0_i32_17 : BitVec 32 := 0#32
  let v38 : BitVec 1 := Scalar.cmpi .slt c2_i32_13 c0_i32_17
  let v39 : BitVec 32 := Scalar.extui v38
  let v40 : BitVec 32 := Scalar.subi v37 v39
  let v41 : BitVec 1 := Scalar.cmpi .ne v35 v40
  let v42 : BitVec 32 := Scalar.remsi v29 c2_i32_13
  let c0_i32_18 : BitVec 32 := 0#32
  let v43 : BitVec 1 := Scalar.cmpi .ne v42 c0_i32_18
  let v44 : BitVec 1 := Scalar.andi v41 v43
  let c1_i32_19 : BitVec 32 := 1#32
  let v45 : BitVec 32 := Scalar.subi v30 c1_i32_19
  let v46 : BitVec 32 := Scalar.select v44 v45 v30
  let v47 : BitVec 32 := Scalar.addi v12 v46
  let c2_i32_20 : BitVec 32 := 2#32
  let v48 : BitVec 32 := Scalar.divsi v1 c2_i32_20
  let c0_i32_21 : BitVec 32 := 0#32
  let v49 : BitVec 1 := Scalar.cmpi .sgt v1 c0_i32_21
  let v50 : BitVec 32 := Scalar.extui v49
  let c0_i32_22 : BitVec 32 := 0#32
  let v51 : BitVec 1 := Scalar.cmpi .slt v1 c0_i32_22
  let v52 : BitVec 32 := Scalar.extui v51
  let v53 : BitVec 32 := Scalar.subi v50 v52
  let c0_i32_23 : BitVec 32 := 0#32
  let v54 : BitVec 1 := Scalar.cmpi .sgt c2_i32_20 c0_i32_23
  let v55 : BitVec 32 := Scalar.extui v54
  let c0_i32_24 : BitVec 32 := 0#32
  let v56 : BitVec 1 := Scalar.cmpi .slt c2_i32_20 c0_i32_24
  let v57 : BitVec 32 := Scalar.extui v56
  let v58 : BitVec 32 := Scalar.subi v55 v57
  let v59 : BitVec 1 := Scalar.cmpi .ne v53 v58
  let v60 : BitVec 32 := Scalar.remsi v1 c2_i32_20
  let c0_i32_25 : BitVec 32 := 0#32
  let v61 : BitVec 1 := Scalar.cmpi .ne v60 c0_i32_25
  let v62 : BitVec 1 := Scalar.andi v59 v61
  let c1_i32_26 : BitVec 32 := 1#32
  let v63 : BitVec 32 := Scalar.subi v48 c1_i32_26
  let v64 : BitVec 32 := Scalar.select v62 v63 v48
  let c2_i32_27 : BitVec 32 := 2#32
  let c0_i32_28 : BitVec 32 := 0#32
  let v65 : BitVec 1 := Scalar.cmpi .eq c2_i32_27 c0_i32_28
  let c1_i32_29 : BitVec 32 := 1#32
  let v66 : BitVec 32 := Scalar.select v65 c1_i32_29 c2_i32_27
  let v67 : BitVec 32 := Scalar.remsi v64 v66
  let c0_i32_30 : BitVec 32 := 0#32
  let v68 : BitVec 1 := Scalar.cmpi .ne v67 c0_i32_30
  let c0_i32_31 : BitVec 32 := 0#32
  let v69 : BitVec 1 := Scalar.cmpi .slt v67 c0_i32_31
  let c0_i32_32 : BitVec 32 := 0#32
  let v70 : BitVec 1 := Scalar.cmpi .slt v66 c0_i32_32
  let v71 : BitVec 1 := Scalar.xori v69 v70
  let v72 : BitVec 1 := Scalar.andi v71 v68
  let v73 : BitVec 32 := Scalar.addi v67 v66
  let v74 : BitVec 32 := Scalar.select v72 v73 v67
  let c2_i32_33 : BitVec 32 := 2#32
  let v75 : BitVec 32 := Scalar.muli c2_i32_33 arg2
  let c0_i32_34 : BitVec 32 := 0#32
  let v76 : BitVec 32 := Scalar.addi v75 c0_i32_34
  let c2_i32_35 : BitVec 32 := 2#32
  let c0_i32_36 : BitVec 32 := 0#32
  let v77 : BitVec 1 := Scalar.cmpi .eq c2_i32_35 c0_i32_36
  let c1_i32_37 : BitVec 32 := 1#32
  let v78 : BitVec 32 := Scalar.select v77 c1_i32_37 c2_i32_35
  let v79 : BitVec 32 := Scalar.remsi v76 v78
  let c0_i32_38 : BitVec 32 := 0#32
  let v80 : BitVec 1 := Scalar.cmpi .ne v79 c0_i32_38
  let c0_i32_39 : BitVec 32 := 0#32
  let v81 : BitVec 1 := Scalar.cmpi .slt v79 c0_i32_39
  let c0_i32_40 : BitVec 32 := 0#32
  let v82 : BitVec 1 := Scalar.cmpi .slt v78 c0_i32_40
  let v83 : BitVec 1 := Scalar.xori v81 v82
  let v84 : BitVec 1 := Scalar.andi v83 v80
  let v85 : BitVec 32 := Scalar.addi v79 v78
  let v86 : BitVec 32 := Scalar.select v84 v85 v79
  let c2_i32_41 : BitVec 32 := 2#32
  let v87 : BitVec 32 := Scalar.muli c2_i32_41 v86
  let c2_i32_42 : BitVec 32 := 2#32
  let v88 : BitVec 32 := Scalar.divsi v76 c2_i32_42
  let c0_i32_43 : BitVec 32 := 0#32
  let v89 : BitVec 1 := Scalar.cmpi .sgt v76 c0_i32_43
  let v90 : BitVec 32 := Scalar.extui v89
  let c0_i32_44 : BitVec 32 := 0#32
  let v91 : BitVec 1 := Scalar.cmpi .slt v76 c0_i32_44
  let v92 : BitVec 32 := Scalar.extui v91
  let v93 : BitVec 32 := Scalar.subi v90 v92
  let c0_i32_45 : BitVec 32 := 0#32
  let v94 : BitVec 1 := Scalar.cmpi .sgt c2_i32_42 c0_i32_45
  let v95 : BitVec 32 := Scalar.extui v94
  let c0_i32_46 : BitVec 32 := 0#32
  let v96 : BitVec 1 := Scalar.cmpi .slt c2_i32_42 c0_i32_46
  let v97 : BitVec 32 := Scalar.extui v96
  let v98 : BitVec 32 := Scalar.subi v95 v97
  let v99 : BitVec 1 := Scalar.cmpi .ne v93 v98
  let v100 : BitVec 32 := Scalar.remsi v76 c2_i32_42
  let c0_i32_47 : BitVec 32 := 0#32
  let v101 : BitVec 1 := Scalar.cmpi .ne v100 c0_i32_47
  let v102 : BitVec 1 := Scalar.andi v99 v101
  let c1_i32_48 : BitVec 32 := 1#32
  let v103 : BitVec 32 := Scalar.subi v88 c1_i32_48
  let v104 : BitVec 32 := Scalar.select v102 v103 v88
  let c2_i32_49 : BitVec 32 := 2#32
  let v105 : BitVec 32 := Scalar.divsi v104 c2_i32_49
  let c0_i32_50 : BitVec 32 := 0#32
  let v106 : BitVec 1 := Scalar.cmpi .sgt v104 c0_i32_50
  let v107 : BitVec 32 := Scalar.extui v106
  let c0_i32_51 : BitVec 32 := 0#32
  let v108 : BitVec 1 := Scalar.cmpi .slt v104 c0_i32_51
  let v109 : BitVec 32 := Scalar.extui v108
  let v110 : BitVec 32 := Scalar.subi v107 v109
  let c0_i32_52 : BitVec 32 := 0#32
  let v111 : BitVec 1 := Scalar.cmpi .sgt c2_i32_49 c0_i32_52
  let v112 : BitVec 32 := Scalar.extui v111
  let c0_i32_53 : BitVec 32 := 0#32
  let v113 : BitVec 1 := Scalar.cmpi .slt c2_i32_49 c0_i32_53
  let v114 : BitVec 32 := Scalar.extui v113
  let v115 : BitVec 32 := Scalar.subi v112 v114
  let v116 : BitVec 1 := Scalar.cmpi .ne v110 v115
  let v117 : BitVec 32 := Scalar.remsi v104 c2_i32_49
  let c0_i32_54 : BitVec 32 := 0#32
  let v118 : BitVec 1 := Scalar.cmpi .ne v117 c0_i32_54
  let v119 : BitVec 1 := Scalar.andi v116 v118
  let c1_i32_55 : BitVec 32 := 1#32
  let v120 : BitVec 32 := Scalar.subi v105 c1_i32_55
  let v121 : BitVec 32 := Scalar.select v119 v120 v105
  let v122 : BitVec 32 := Scalar.addi v87 v121
  let c2_i32_56 : BitVec 32 := 2#32
  let v123 : BitVec 32 := Scalar.divsi v76 c2_i32_56
  let c0_i32_57 : BitVec 32 := 0#32
  let v124 : BitVec 1 := Scalar.cmpi .sgt v76 c0_i32_57
  let v125 : BitVec 32 := Scalar.extui v124
  let c0_i32_58 : BitVec 32 := 0#32
  let v126 : BitVec 1 := Scalar.cmpi .slt v76 c0_i32_58
  let v127 : BitVec 32 := Scalar.extui v126
  let v128 : BitVec 32 := Scalar.subi v125 v127
  let c0_i32_59 : BitVec 32 := 0#32
  let v129 : BitVec 1 := Scalar.cmpi .sgt c2_i32_56 c0_i32_59
  let v130 : BitVec 32 := Scalar.extui v129
  let c0_i32_60 : BitVec 32 := 0#32
  let v131 : BitVec 1 := Scalar.cmpi .slt c2_i32_56 c0_i32_60
  let v132 : BitVec 32 := Scalar.extui v131
  let v133 : BitVec 32 := Scalar.subi v130 v132
  let v134 : BitVec 1 := Scalar.cmpi .ne v128 v133
  let v135 : BitVec 32 := Scalar.remsi v76 c2_i32_56
  let c0_i32_61 : BitVec 32 := 0#32
  let v136 : BitVec 1 := Scalar.cmpi .ne v135 c0_i32_61
  let v137 : BitVec 1 := Scalar.andi v134 v136
  let c1_i32_62 : BitVec 32 := 1#32
  let v138 : BitVec 32 := Scalar.subi v123 c1_i32_62
  let v139 : BitVec 32 := Scalar.select v137 v138 v123
  let c2_i32_63 : BitVec 32 := 2#32
  let c0_i32_64 : BitVec 32 := 0#32
  let v140 : BitVec 1 := Scalar.cmpi .eq c2_i32_63 c0_i32_64
  let c1_i32_65 : BitVec 32 := 1#32
  let v141 : BitVec 32 := Scalar.select v140 c1_i32_65 c2_i32_63
  let v142 : BitVec 32 := Scalar.remsi v139 v141
  let c0_i32_66 : BitVec 32 := 0#32
  let v143 : BitVec 1 := Scalar.cmpi .ne v142 c0_i32_66
  let c0_i32_67 : BitVec 32 := 0#32
  let v144 : BitVec 1 := Scalar.cmpi .slt v142 c0_i32_67
  let c0_i32_68 : BitVec 32 := 0#32
  let v145 : BitVec 1 := Scalar.cmpi .slt v141 c0_i32_68
  let v146 : BitVec 1 := Scalar.xori v144 v145
  let v147 : BitVec 1 := Scalar.andi v146 v143
  let v148 : BitVec 32 := Scalar.addi v142 v141
  let v149 : BitVec 32 := Scalar.select v147 v148 v142
  let c0_i32_69 : BitVec 32 := 0#32
  ![v47.toNat, arg1.toNat, v149.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c2_i32_0 : BitVec 32 := 2#32
  let c0_i32 : BitVec 32 := 0#32
  let v2 : BitVec 1 := Scalar.cmpi .eq c2_i32_0 c0_i32
  let c1_i32_1 : BitVec 32 := 1#32
  let v3 : BitVec 32 := Scalar.select v2 c1_i32_1 c2_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c2_i32_5 : BitVec 32 := 2#32
  let v12 : BitVec 32 := Scalar.muli c2_i32_5 v11
  let c2_i32_6 : BitVec 32 := 2#32
  let v13 : BitVec 32 := Scalar.divsi v1 c2_i32_6
  let c0_i32_7 : BitVec 32 := 0#32
  let v14 : BitVec 1 := Scalar.cmpi .sgt v1 c0_i32_7
  let v15 : BitVec 32 := Scalar.extui v14
  let c0_i32_8 : BitVec 32 := 0#32
  let v16 : BitVec 1 := Scalar.cmpi .slt v1 c0_i32_8
  let v17 : BitVec 32 := Scalar.extui v16
  let v18 : BitVec 32 := Scalar.subi v15 v17
  let c0_i32_9 : BitVec 32 := 0#32
  let v19 : BitVec 1 := Scalar.cmpi .sgt c2_i32_6 c0_i32_9
  let v20 : BitVec 32 := Scalar.extui v19
  let c0_i32_10 : BitVec 32 := 0#32
  let v21 : BitVec 1 := Scalar.cmpi .slt c2_i32_6 c0_i32_10
  let v22 : BitVec 32 := Scalar.extui v21
  let v23 : BitVec 32 := Scalar.subi v20 v22
  let v24 : BitVec 1 := Scalar.cmpi .ne v18 v23
  let v25 : BitVec 32 := Scalar.remsi v1 c2_i32_6
  let c0_i32_11 : BitVec 32 := 0#32
  let v26 : BitVec 1 := Scalar.cmpi .ne v25 c0_i32_11
  let v27 : BitVec 1 := Scalar.andi v24 v26
  let c1_i32_12 : BitVec 32 := 1#32
  let v28 : BitVec 32 := Scalar.subi v13 c1_i32_12
  let v29 : BitVec 32 := Scalar.select v27 v28 v13
  let c2_i32_13 : BitVec 32 := 2#32
  let v30 : BitVec 32 := Scalar.divsi v29 c2_i32_13
  let c0_i32_14 : BitVec 32 := 0#32
  let v31 : BitVec 1 := Scalar.cmpi .sgt v29 c0_i32_14
  let v32 : BitVec 32 := Scalar.extui v31
  let c0_i32_15 : BitVec 32 := 0#32
  let v33 : BitVec 1 := Scalar.cmpi .slt v29 c0_i32_15
  let v34 : BitVec 32 := Scalar.extui v33
  let v35 : BitVec 32 := Scalar.subi v32 v34
  let c0_i32_16 : BitVec 32 := 0#32
  let v36 : BitVec 1 := Scalar.cmpi .sgt c2_i32_13 c0_i32_16
  let v37 : BitVec 32 := Scalar.extui v36
  let c0_i32_17 : BitVec 32 := 0#32
  let v38 : BitVec 1 := Scalar.cmpi .slt c2_i32_13 c0_i32_17
  let v39 : BitVec 32 := Scalar.extui v38
  let v40 : BitVec 32 := Scalar.subi v37 v39
  let v41 : BitVec 1 := Scalar.cmpi .ne v35 v40
  let v42 : BitVec 32 := Scalar.remsi v29 c2_i32_13
  let c0_i32_18 : BitVec 32 := 0#32
  let v43 : BitVec 1 := Scalar.cmpi .ne v42 c0_i32_18
  let v44 : BitVec 1 := Scalar.andi v41 v43
  let c1_i32_19 : BitVec 32 := 1#32
  let v45 : BitVec 32 := Scalar.subi v30 c1_i32_19
  let v46 : BitVec 32 := Scalar.select v44 v45 v30
  let v47 : BitVec 32 := Scalar.addi v12 v46
  let c2_i32_20 : BitVec 32 := 2#32
  let v48 : BitVec 32 := Scalar.divsi v1 c2_i32_20
  let c0_i32_21 : BitVec 32 := 0#32
  let v49 : BitVec 1 := Scalar.cmpi .sgt v1 c0_i32_21
  let v50 : BitVec 32 := Scalar.extui v49
  let c0_i32_22 : BitVec 32 := 0#32
  let v51 : BitVec 1 := Scalar.cmpi .slt v1 c0_i32_22
  let v52 : BitVec 32 := Scalar.extui v51
  let v53 : BitVec 32 := Scalar.subi v50 v52
  let c0_i32_23 : BitVec 32 := 0#32
  let v54 : BitVec 1 := Scalar.cmpi .sgt c2_i32_20 c0_i32_23
  let v55 : BitVec 32 := Scalar.extui v54
  let c0_i32_24 : BitVec 32 := 0#32
  let v56 : BitVec 1 := Scalar.cmpi .slt c2_i32_20 c0_i32_24
  let v57 : BitVec 32 := Scalar.extui v56
  let v58 : BitVec 32 := Scalar.subi v55 v57
  let v59 : BitVec 1 := Scalar.cmpi .ne v53 v58
  let v60 : BitVec 32 := Scalar.remsi v1 c2_i32_20
  let c0_i32_25 : BitVec 32 := 0#32
  let v61 : BitVec 1 := Scalar.cmpi .ne v60 c0_i32_25
  let v62 : BitVec 1 := Scalar.andi v59 v61
  let c1_i32_26 : BitVec 32 := 1#32
  let v63 : BitVec 32 := Scalar.subi v48 c1_i32_26
  let v64 : BitVec 32 := Scalar.select v62 v63 v48
  let c2_i32_27 : BitVec 32 := 2#32
  let c0_i32_28 : BitVec 32 := 0#32
  let v65 : BitVec 1 := Scalar.cmpi .eq c2_i32_27 c0_i32_28
  let c1_i32_29 : BitVec 32 := 1#32
  let v66 : BitVec 32 := Scalar.select v65 c1_i32_29 c2_i32_27
  let v67 : BitVec 32 := Scalar.remsi v64 v66
  let c0_i32_30 : BitVec 32 := 0#32
  let v68 : BitVec 1 := Scalar.cmpi .ne v67 c0_i32_30
  let c0_i32_31 : BitVec 32 := 0#32
  let v69 : BitVec 1 := Scalar.cmpi .slt v67 c0_i32_31
  let c0_i32_32 : BitVec 32 := 0#32
  let v70 : BitVec 1 := Scalar.cmpi .slt v66 c0_i32_32
  let v71 : BitVec 1 := Scalar.xori v69 v70
  let v72 : BitVec 1 := Scalar.andi v71 v68
  let v73 : BitVec 32 := Scalar.addi v67 v66
  let v74 : BitVec 32 := Scalar.select v72 v73 v67
  let c2_i32_33 : BitVec 32 := 2#32
  let v75 : BitVec 32 := Scalar.muli c2_i32_33 arg2
  let c1_i32_34 : BitVec 32 := 1#32
  let v76 : BitVec 32 := Scalar.addi v75 c1_i32_34
  let c2_i32_35 : BitVec 32 := 2#32
  let c0_i32_36 : BitVec 32 := 0#32
  let v77 : BitVec 1 := Scalar.cmpi .eq c2_i32_35 c0_i32_36
  let c1_i32_37 : BitVec 32 := 1#32
  let v78 : BitVec 32 := Scalar.select v77 c1_i32_37 c2_i32_35
  let v79 : BitVec 32 := Scalar.remsi v76 v78
  let c0_i32_38 : BitVec 32 := 0#32
  let v80 : BitVec 1 := Scalar.cmpi .ne v79 c0_i32_38
  let c0_i32_39 : BitVec 32 := 0#32
  let v81 : BitVec 1 := Scalar.cmpi .slt v79 c0_i32_39
  let c0_i32_40 : BitVec 32 := 0#32
  let v82 : BitVec 1 := Scalar.cmpi .slt v78 c0_i32_40
  let v83 : BitVec 1 := Scalar.xori v81 v82
  let v84 : BitVec 1 := Scalar.andi v83 v80
  let v85 : BitVec 32 := Scalar.addi v79 v78
  let v86 : BitVec 32 := Scalar.select v84 v85 v79
  let c2_i32_41 : BitVec 32 := 2#32
  let v87 : BitVec 32 := Scalar.muli c2_i32_41 v86
  let c2_i32_42 : BitVec 32 := 2#32
  let v88 : BitVec 32 := Scalar.divsi v76 c2_i32_42
  let c0_i32_43 : BitVec 32 := 0#32
  let v89 : BitVec 1 := Scalar.cmpi .sgt v76 c0_i32_43
  let v90 : BitVec 32 := Scalar.extui v89
  let c0_i32_44 : BitVec 32 := 0#32
  let v91 : BitVec 1 := Scalar.cmpi .slt v76 c0_i32_44
  let v92 : BitVec 32 := Scalar.extui v91
  let v93 : BitVec 32 := Scalar.subi v90 v92
  let c0_i32_45 : BitVec 32 := 0#32
  let v94 : BitVec 1 := Scalar.cmpi .sgt c2_i32_42 c0_i32_45
  let v95 : BitVec 32 := Scalar.extui v94
  let c0_i32_46 : BitVec 32 := 0#32
  let v96 : BitVec 1 := Scalar.cmpi .slt c2_i32_42 c0_i32_46
  let v97 : BitVec 32 := Scalar.extui v96
  let v98 : BitVec 32 := Scalar.subi v95 v97
  let v99 : BitVec 1 := Scalar.cmpi .ne v93 v98
  let v100 : BitVec 32 := Scalar.remsi v76 c2_i32_42
  let c0_i32_47 : BitVec 32 := 0#32
  let v101 : BitVec 1 := Scalar.cmpi .ne v100 c0_i32_47
  let v102 : BitVec 1 := Scalar.andi v99 v101
  let c1_i32_48 : BitVec 32 := 1#32
  let v103 : BitVec 32 := Scalar.subi v88 c1_i32_48
  let v104 : BitVec 32 := Scalar.select v102 v103 v88
  let c2_i32_49 : BitVec 32 := 2#32
  let v105 : BitVec 32 := Scalar.divsi v104 c2_i32_49
  let c0_i32_50 : BitVec 32 := 0#32
  let v106 : BitVec 1 := Scalar.cmpi .sgt v104 c0_i32_50
  let v107 : BitVec 32 := Scalar.extui v106
  let c0_i32_51 : BitVec 32 := 0#32
  let v108 : BitVec 1 := Scalar.cmpi .slt v104 c0_i32_51
  let v109 : BitVec 32 := Scalar.extui v108
  let v110 : BitVec 32 := Scalar.subi v107 v109
  let c0_i32_52 : BitVec 32 := 0#32
  let v111 : BitVec 1 := Scalar.cmpi .sgt c2_i32_49 c0_i32_52
  let v112 : BitVec 32 := Scalar.extui v111
  let c0_i32_53 : BitVec 32 := 0#32
  let v113 : BitVec 1 := Scalar.cmpi .slt c2_i32_49 c0_i32_53
  let v114 : BitVec 32 := Scalar.extui v113
  let v115 : BitVec 32 := Scalar.subi v112 v114
  let v116 : BitVec 1 := Scalar.cmpi .ne v110 v115
  let v117 : BitVec 32 := Scalar.remsi v104 c2_i32_49
  let c0_i32_54 : BitVec 32 := 0#32
  let v118 : BitVec 1 := Scalar.cmpi .ne v117 c0_i32_54
  let v119 : BitVec 1 := Scalar.andi v116 v118
  let c1_i32_55 : BitVec 32 := 1#32
  let v120 : BitVec 32 := Scalar.subi v105 c1_i32_55
  let v121 : BitVec 32 := Scalar.select v119 v120 v105
  let v122 : BitVec 32 := Scalar.addi v87 v121
  let c2_i32_56 : BitVec 32 := 2#32
  let v123 : BitVec 32 := Scalar.divsi v76 c2_i32_56
  let c0_i32_57 : BitVec 32 := 0#32
  let v124 : BitVec 1 := Scalar.cmpi .sgt v76 c0_i32_57
  let v125 : BitVec 32 := Scalar.extui v124
  let c0_i32_58 : BitVec 32 := 0#32
  let v126 : BitVec 1 := Scalar.cmpi .slt v76 c0_i32_58
  let v127 : BitVec 32 := Scalar.extui v126
  let v128 : BitVec 32 := Scalar.subi v125 v127
  let c0_i32_59 : BitVec 32 := 0#32
  let v129 : BitVec 1 := Scalar.cmpi .sgt c2_i32_56 c0_i32_59
  let v130 : BitVec 32 := Scalar.extui v129
  let c0_i32_60 : BitVec 32 := 0#32
  let v131 : BitVec 1 := Scalar.cmpi .slt c2_i32_56 c0_i32_60
  let v132 : BitVec 32 := Scalar.extui v131
  let v133 : BitVec 32 := Scalar.subi v130 v132
  let v134 : BitVec 1 := Scalar.cmpi .ne v128 v133
  let v135 : BitVec 32 := Scalar.remsi v76 c2_i32_56
  let c0_i32_61 : BitVec 32 := 0#32
  let v136 : BitVec 1 := Scalar.cmpi .ne v135 c0_i32_61
  let v137 : BitVec 1 := Scalar.andi v134 v136
  let c1_i32_62 : BitVec 32 := 1#32
  let v138 : BitVec 32 := Scalar.subi v123 c1_i32_62
  let v139 : BitVec 32 := Scalar.select v137 v138 v123
  let c2_i32_63 : BitVec 32 := 2#32
  let c0_i32_64 : BitVec 32 := 0#32
  let v140 : BitVec 1 := Scalar.cmpi .eq c2_i32_63 c0_i32_64
  let c1_i32_65 : BitVec 32 := 1#32
  let v141 : BitVec 32 := Scalar.select v140 c1_i32_65 c2_i32_63
  let v142 : BitVec 32 := Scalar.remsi v139 v141
  let c0_i32_66 : BitVec 32 := 0#32
  let v143 : BitVec 1 := Scalar.cmpi .ne v142 c0_i32_66
  let c0_i32_67 : BitVec 32 := 0#32
  let v144 : BitVec 1 := Scalar.cmpi .slt v142 c0_i32_67
  let c0_i32_68 : BitVec 32 := 0#32
  let v145 : BitVec 1 := Scalar.cmpi .slt v141 c0_i32_68
  let v146 : BitVec 1 := Scalar.xori v144 v145
  let v147 : BitVec 1 := Scalar.andi v146 v143
  let v148 : BitVec 32 := Scalar.addi v142 v141
  let v149 : BitVec 32 := Scalar.select v147 v148 v142
  let c0_i32_69 : BitVec 32 := 0#32
  ![v47.toNat, arg1.toNat, v149.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x11264 : Shape := ⟨2, ![4096, 11264]⟩
abbrev S4x2048x2816 : Shape := ⟨3, ![4, 2048, 2816]⟩
abbrev S1x2048x2816 : Shape := ⟨3, ![1, 2048, 2816]⟩
abbrev S2048x2816 : Shape := ⟨2, ![2048, 2816]⟩
abbrev S2048x11264 : Shape := ⟨2, ![2048, 11264]⟩
abbrev S4096x4x2x1408 : Shape := ⟨4, ![4096, 4, 2, 1408]⟩
abbrev S4096x4x1x1408 : Shape := ⟨4, ![4096, 4, 1, 1408]⟩
abbrev S4096x4x1408 : Shape := ⟨3, ![4096, 4, 1408]⟩
abbrev S4096x5632 : Shape := ⟨2, ![4096, 5632]⟩
abbrev S4096x2048 : Shape := ⟨2, ![4096, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4x2048x2816, .bf16⟩
  | .hbm, ⟨2, _⟩ => ⟨S1x2048x2816, .bf16⟩
  | .hbm, ⟨3, _⟩ => ⟨S2048x2816, .bf16⟩
  | .hbm, ⟨4, _⟩ => ⟨S1x2048x2816, .bf16⟩
  | .hbm, ⟨5, _⟩ => ⟨S2048x2816, .bf16⟩
  | .hbm, ⟨6, _⟩ => ⟨S1x2048x2816, .bf16⟩
  | .hbm, ⟨7, _⟩ => ⟨S2048x2816, .bf16⟩
  | .hbm, ⟨8, _⟩ => ⟨S1x2048x2816, .bf16⟩
  | .hbm, ⟨9, _⟩ => ⟨S2048x2816, .bf16⟩
  | .hbm, ⟨10, _⟩ => ⟨S2048x11264, .bf16⟩
  | .hbm, ⟨11, _⟩ => ⟨S2048x11264, .f32⟩
  | .hbm, ⟨12, _⟩ => ⟨S4096x11264, .f32⟩
  | .hbm, ⟨13, _⟩ => ⟨S4096x4x2x1408, .f32⟩
  | .hbm, ⟨14, _⟩ => ⟨S4096x4x1x1408, .f32⟩
  | .hbm, ⟨15, _⟩ => ⟨S4096x4x1408, .f32⟩
  | .hbm, ⟨16, _⟩ => ⟨S4096x5632, .f32⟩
  | .hbm, ⟨17, _⟩ => ⟨S4096x4x1x1408, .f32⟩
  | .hbm, ⟨18, _⟩ => ⟨S4096x4x1408, .f32⟩
  | .hbm, ⟨19, _⟩ => ⟨S4096x5632, .f32⟩
  | .hbm, ⟨20, _⟩ => ⟨S4096x11264, .f32⟩
  | .hbm, ⟨21, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩

abbrev nD : Nat := 1
abbrev τ : Topo := Topo.v7x

variable {F : FTy → Type} [FloatOps F]
-- ==== Kernel3.lean ====
abbrev S4096x2048 : Shape := ⟨2, ![4096, 2048]⟩
abbrev S4096x11264 : Shape := ⟨2, ![4096, 11264]⟩
abbrev S4x2048x2816 : Shape := ⟨3, ![4, 2048, 2816]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S4x2048x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli c2_i32_3 v9
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c2_i32_11 : BitVec 32 := 2#32
  let v28 : BitVec 32 := Scalar.divsi v27 c2_i32_11
  let c0_i32_12 : BitVec 32 := 0#32
  let v29 : BitVec 1 := Scalar.cmpi .sgt v27 c0_i32_12
  let v30 : BitVec 32 := Scalar.extui v29
  let c0_i32_13 : BitVec 32 := 0#32
  let v31 : BitVec 1 := Scalar.cmpi .slt v27 c0_i32_13
  let v32 : BitVec 32 := Scalar.extui v31
  let v33 : BitVec 32 := Scalar.subi v30 v32
  let c0_i32_14 : BitVec 32 := 0#32
  let v34 : BitVec 1 := Scalar.cmpi .sgt c2_i32_11 c0_i32_14
  let v35 : BitVec 32 := Scalar.extui v34
  let c0_i32_15 : BitVec 32 := 0#32
  let v36 : BitVec 1 := Scalar.cmpi .slt c2_i32_11 c0_i32_15
  let v37 : BitVec 32 := Scalar.extui v36
  let v38 : BitVec 32 := Scalar.subi v35 v37
  let v39 : BitVec 1 := Scalar.cmpi .ne v33 v38
  let v40 : BitVec 32 := Scalar.remsi v27 c2_i32_11
  let c0_i32_16 : BitVec 32 := 0#32
  let v41 : BitVec 1 := Scalar.cmpi .ne v40 c0_i32_16
  let v42 : BitVec 1 := Scalar.andi v39 v41
  let c1_i32_17 : BitVec 32 := 1#32
  let v43 : BitVec 32 := Scalar.subi v28 c1_i32_17
  let v44 : BitVec 32 := Scalar.select v42 v43 v28
  let v45 : BitVec 32 := Scalar.addi v10 v44
  let c2_i32_18 : BitVec 32 := 2#32
  let v46 : BitVec 32 := Scalar.divsi arg1 c2_i32_18
  let c0_i32_19 : BitVec 32 := 0#32
  let v47 : BitVec 1 := Scalar.cmpi .sgt arg1 c0_i32_19
  let v48 : BitVec 32 := Scalar.extui v47
  let c0_i32_20 : BitVec 32 := 0#32
  let v49 : BitVec 1 := Scalar.cmpi .slt arg1 c0_i32_20
  let v50 : BitVec 32 := Scalar.extui v49
  let v51 : BitVec 32 := Scalar.subi v48 v50
  let c0_i32_21 : BitVec 32 := 0#32
  let v52 : BitVec 1 := Scalar.cmpi .sgt c2_i32_18 c0_i32_21
  let v53 : BitVec 32 := Scalar.extui v52
  let c0_i32_22 : BitVec 32 := 0#32
  let v54 : BitVec 1 := Scalar.cmpi .slt c2_i32_18 c0_i32_22
  let v55 : BitVec 32 := Scalar.extui v54
  let v56 : BitVec 32 := Scalar.subi v53 v55
  let v57 : BitVec 1 := Scalar.cmpi .ne v51 v56
  let v58 : BitVec 32 := Scalar.remsi arg1 c2_i32_18
  let c0_i32_23 : BitVec 32 := 0#32
  let v59 : BitVec 1 := Scalar.cmpi .ne v58 c0_i32_23
  let v60 : BitVec 1 := Scalar.andi v57 v59
  let c1_i32_24 : BitVec 32 := 1#32
  let v61 : BitVec 32 := Scalar.subi v46 c1_i32_24
  let v62 : BitVec 32 := Scalar.select v60 v61 v46
  let c2_i32_25 : BitVec 32 := 2#32
  let c0_i32_26 : BitVec 32 := 0#32
  let v63 : BitVec 1 := Scalar.cmpi .eq c2_i32_25 c0_i32_26
  let c1_i32_27 : BitVec 32 := 1#32
  let v64 : BitVec 32 := Scalar.select v63 c1_i32_27 c2_i32_25
  let v65 : BitVec 32 := Scalar.remsi v62 v64
  let c0_i32_28 : BitVec 32 := 0#32
  let v66 : BitVec 1 := Scalar.cmpi .ne v65 c0_i32_28
  let c0_i32_29 : BitVec 32 := 0#32
  let v67 : BitVec 1 := Scalar.cmpi .slt v65 c0_i32_29
  let c0_i32_30 : BitVec 32 := 0#32
  let v68 : BitVec 1 := Scalar.cmpi .slt v64 c0_i32_30
  let v69 : BitVec 1 := Scalar.xori v67 v68
  let v70 : BitVec 1 := Scalar.andi v69 v66
  let v71 : BitVec 32 := Scalar.addi v65 v64
  let v72 : BitVec 32 := Scalar.select v70 v71 v65
  let c2_i32_31 : BitVec 32 := 2#32
  let c0_i32_32 : BitVec 32 := 0#32
  let v73 : BitVec 1 := Scalar.cmpi .eq c2_i32_31 c0_i32_32
  let c1_i32_33 : BitVec 32 := 1#32
  let v74 : BitVec 32 := Scalar.select v73 c1_i32_33 c2_i32_31
  let v75 : BitVec 32 := Scalar.remsi arg1 v74
  let c0_i32_34 : BitVec 32 := 0#32
  let v76 : BitVec 1 := Scalar.cmpi .ne v75 c0_i32_34
  let c0_i32_35 : BitVec 32 := 0#32
  let v77 : BitVec 1 := Scalar.cmpi .slt v75 c0_i32_35
  let c0_i32_36 : BitVec 32 := 0#32
  let v78 : BitVec 1 := Scalar.cmpi .slt v74 c0_i32_36
  let v79 : BitVec 1 := Scalar.xori v77 v78
  let v80 : BitVec 1 := Scalar.andi v79 v76
  let v81 : BitVec 32 := Scalar.addi v75 v74
  let v82 : BitVec 32 := Scalar.select v80 v81 v75
  let c2_i32_37 : BitVec 32 := 2#32
  let v83 : BitVec 32 := Scalar.muli c2_i32_37 v82
  let c2_i32_38 : BitVec 32 := 2#32
  let v84 : BitVec 32 := Scalar.divsi arg1 c2_i32_38
  let c0_i32_39 : BitVec 32 := 0#32
  let v85 : BitVec 1 := Scalar.cmpi .sgt arg1 c0_i32_39
  let v86 : BitVec 32 := Scalar.extui v85
  let c0_i32_40 : BitVec 32 := 0#32
  let v87 : BitVec 1 := Scalar.cmpi .slt arg1 c0_i32_40
  let v88 : BitVec 32 := Scalar.extui v87
  let v89 : BitVec 32 := Scalar.subi v86 v88
  let c0_i32_41 : BitVec 32 := 0#32
  let v90 : BitVec 1 := Scalar.cmpi .sgt c2_i32_38 c0_i32_41
  let v91 : BitVec 32 := Scalar.extui v90
  let c0_i32_42 : BitVec 32 := 0#32
  let v92 : BitVec 1 := Scalar.cmpi .slt c2_i32_38 c0_i32_42
  let v93 : BitVec 32 := Scalar.extui v92
  let v94 : BitVec 32 := Scalar.subi v91 v93
  let v95 : BitVec 1 := Scalar.cmpi .ne v89 v94
  let v96 : BitVec 32 := Scalar.remsi arg1 c2_i32_38
  let c0_i32_43 : BitVec 32 := 0#32
  let v97 : BitVec 1 := Scalar.cmpi .ne v96 c0_i32_43
  let v98 : BitVec 1 := Scalar.andi v95 v97
  let c1_i32_44 : BitVec 32 := 1#32
  let v99 : BitVec 32 := Scalar.subi v84 c1_i32_44
  let v100 : BitVec 32 := Scalar.select v98 v99 v84
  let c2_i32_45 : BitVec 32 := 2#32
  let v101 : BitVec 32 := Scalar.divsi v100 c2_i32_45
  let c0_i32_46 : BitVec 32 := 0#32
  let v102 : BitVec 1 := Scalar.cmpi .sgt v100 c0_i32_46
  let v103 : BitVec 32 := Scalar.extui v102
  let c0_i32_47 : BitVec 32 := 0#32
  let v104 : BitVec 1 := Scalar.cmpi .slt v100 c0_i32_47
  let v105 : BitVec 32 := Scalar.extui v104
  let v106 : BitVec 32 := Scalar.subi v103 v105
  let c0_i32_48 : BitVec 32 := 0#32
  let v107 : BitVec 1 := Scalar.cmpi .sgt c2_i32_45 c0_i32_48
  let v108 : BitVec 32 := Scalar.extui v107
  let c0_i32_49 : BitVec 32 := 0#32
  let v109 : BitVec 1 := Scalar.cmpi .slt c2_i32_45 c0_i32_49
  let v110 : BitVec 32 := Scalar.extui v109
  let v111 : BitVec 32 := Scalar.subi v108 v110
  let v112 : BitVec 1 := Scalar.cmpi .ne v106 v111
  let v113 : BitVec 32 := Scalar.remsi v100 c2_i32_45
  let c0_i32_50 : BitVec 32 := 0#32
  let v114 : BitVec 1 := Scalar.cmpi .ne v113 c0_i32_50
  let v115 : BitVec 1 := Scalar.andi v112 v114
  let c1_i32_51 : BitVec 32 := 1#32
  let v116 : BitVec 32 := Scalar.subi v101 c1_i32_51
  let v117 : BitVec 32 := Scalar.select v115 v116 v101
  let v118 : BitVec 32 := Scalar.addi v83 v117
  let c2_i32_52 : BitVec 32 := 2#32
  let v119 : BitVec 32 := Scalar.divsi arg1 c2_i32_52
  let c0_i32_53 : BitVec 32 := 0#32
  let v120 : BitVec 1 := Scalar.cmpi .sgt arg1 c0_i32_53
  let v121 : BitVec 32 := Scalar.extui v120
  let c0_i32_54 : BitVec 32 := 0#32
  let v122 : BitVec 1 := Scalar.cmpi .slt arg1 c0_i32_54
  let v123 : BitVec 32 := Scalar.extui v122
  let v124 : BitVec 32 := Scalar.subi v121 v123
  let c0_i32_55 : BitVec 32 := 0#32
  let v125 : BitVec 1 := Scalar.cmpi .sgt c2_i32_52 c0_i32_55
  let v126 : BitVec 32 := Scalar.extui v125
  let c0_i32_56 : BitVec 32 := 0#32
  let v127 : BitVec 1 := Scalar.cmpi .slt c2_i32_52 c0_i32_56
  let v128 : BitVec 32 := Scalar.extui v127
  let v129 : BitVec 32 := Scalar.subi v126 v128
  let v130 : BitVec 1 := Scalar.cmpi .ne v124 v129
  let v131 : BitVec 32 := Scalar.remsi arg1 c2_i32_52
  let c0_i32_57 : BitVec 32 := 0#32
  let v132 : BitVec 1 := Scalar.cmpi .ne v131 c0_i32_57
  let v133 : BitVec 1 := Scalar.andi v130 v132
  let c1_i32_58 : BitVec 32 := 1#32
  let v134 : BitVec 32 := Scalar.subi v119 c1_i32_58
  let v135 : BitVec 32 := Scalar.select v133 v134 v119
  let c2_i32_59 : BitVec 32 := 2#32
  let c0_i32_60 : BitVec 32 := 0#32
  let v136 : BitVec 1 := Scalar.cmpi .eq c2_i32_59 c0_i32_60
  let c1_i32_61 : BitVec 32 := 1#32
  let v137 : BitVec 32 := Scalar.select v136 c1_i32_61 c2_i32_59
  let v138 : BitVec 32 := Scalar.remsi v135 v137
  let c0_i32_62 : BitVec 32 := 0#32
  let v139 : BitVec 1 := Scalar.cmpi .ne v138 c0_i32_62
  let c0_i32_63 : BitVec 32 := 0#32
  let v140 : BitVec 1 := Scalar.cmpi .slt v138 c0_i32_63
  let c0_i32_64 : BitVec 32 := 0#32
  let v141 : BitVec 1 := Scalar.cmpi .slt v137 c0_i32_64
  let v142 : BitVec 1 := Scalar.xori v140 v141
  let v143 : BitVec 1 := Scalar.andi v142 v139
  let v144 : BitVec 32 := Scalar.addi v138 v137
  let v145 : BitVec 32 := Scalar.select v143 v144 v138
  let c0_i32_65 : BitVec 32 := 0#32
  ![v45.toNat, arg0.toNat, v145.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S4096x11264 : Shape := ⟨2, ![4096, 11264]⟩
abbrev S4096x4x2x1408 : Shape := ⟨4, ![4096, 4, 2, 1408]⟩
abbrev S4096x4x1x1408 : Shape := ⟨4, ![4096, 4, 1, 1408]⟩
abbrev S4096x4x1408 : Shape := ⟨3, ![4096, 4, 1408]⟩
abbrev S4096x5632 : Shape := ⟨2, ![4096, 5632]⟩
abbrev S11264x2048 : Shape := ⟨2, ![11264, 2048]⟩
abbrev S2048x11264 : Shape := ⟨2, ![2048, 11264]⟩
abbrev S2048x2816 : Shape := ⟨2, ![2048, 2816]⟩
abbrev S1x2048x2816 : Shape := ⟨3, ![1, 2048, 2816]⟩
abbrev S4x2048x2816 : Shape := ⟨3, ![4, 2048, 2816]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S4096x11264, .f32⟩
  | .hbm, ⟨3, _⟩ => ⟨S4096x4x2x1408, .f32⟩
  | .hbm, ⟨4, _⟩ => ⟨S4096x4x1x1408, .f32⟩
  | .hbm, ⟨5, _⟩ => ⟨S4096x4x1408, .f32⟩
  | .hbm, ⟨6, _⟩ => ⟨S4096x5632, .f32⟩
  | .hbm, ⟨7, _⟩ => ⟨S4096x4x1x1408, .f32⟩
  | .hbm, ⟨8, _⟩ => ⟨S4096x4x1408, .f32⟩
  | .hbm, ⟨9, _⟩ => ⟨S4096x5632, .f32⟩
  | .hbm, ⟨10, _⟩ => ⟨S4096x11264, .f32⟩
  | .hbm, ⟨11, _⟩ => ⟨S4096x2048, .f32⟩
  | .hbm, ⟨12, _⟩ => ⟨S11264x2048, .f32⟩
  | .hbm, ⟨13, _⟩ => ⟨S2048x11264, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S1x2048x2816, .f32⟩
  | .hbm, ⟨19, _⟩ => ⟨S1x2048x2816, .f32⟩
  | .hbm, ⟨20, _⟩ => ⟨S1x2048x2816, .f32⟩
  | .hbm, ⟨21, _⟩ => ⟨S1x2048x2816, .f32⟩
  | .hbm, ⟨22, _⟩ => ⟨S4x2048x2816, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩

abbrev nD : Nat := 1
abbrev τ : Topo := Topo.v7x

variable {F : FTy → Type} [FloatOps F]
-- ==== Kernel4.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S5632x2048 : Shape := ⟨2, ![5632, 2048]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S5632x2048, .f32⟩
  | .hbm, ⟨3, _⟩ => ⟨S4096x2048, .f32⟩
  | .hbm, ⟨4, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x5632 : Shape := ⟨2, ![4096, 5632]⟩
abbrev S4096x2048 : Shape := ⟨2, ![4096, 2048]⟩
abbrev S2048x5632 : Shape := ⟨2, ![2048, 5632]⟩
abbrev S5632x2048 : Shape := ⟨2, ![5632, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S2048x5632, .f32⟩
  | .hbm, ⟨5, _⟩ => ⟨S5632x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S4096x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S4096x6272 : Shape := ⟨2, ![4096, 6272]⟩
abbrev S2048x6272 : Shape := ⟨2, ![2048, 6272]⟩
abbrev S8x128 : Shape := ⟨2, ![8, 128]⟩
abbrev S4096x2048 : Shape := ⟨2, ![4096, 2048]⟩
abbrev S1024x6272 : Shape := ⟨2, ![1024, 6272]⟩
abbrev S512x6272 : Shape := ⟨2, ![512, 6272]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x6272, .bf16⟩
  | .hbm, ⟨1, _⟩ => ⟨S2048x6272, .bf16⟩
  | .hbm, ⟨2, _⟩ => ⟨S8x128, .f32⟩
  | .hbm, ⟨3, _⟩ => ⟨S4096x2048, .f32⟩
  | .local _ .vmem, ⟨0, _⟩ => ⟨S1024x6272, .bf16⟩
  | .local _ .vmem, ⟨1, _⟩ => ⟨S1024x6272, .bf16⟩
  | .local _ .vmem, ⟨2, _⟩ => ⟨S512x6272, .bf16⟩
  | .local _ .vmem, ⟨3, _⟩ => ⟨S512x6272, .bf16⟩
  | .local _ .vmem, ⟨4, _⟩ => ⟨S1024x512, .f32⟩
  | .local _ .vmem, ⟨5, _⟩ => ⟨S1024x512, .f32⟩
  | _, _ => ⟨S4096x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x6272 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x6272 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x6272 : Shape := ⟨2, ![4096, 6272]⟩
abbrev S2048x6272 : Shape := ⟨2, ![2048, 6272]⟩
abbrev S8x128 : Shape := ⟨2, ![8, 128]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x6272, .bf16⟩
  | .hbm, ⟨1, _⟩ => ⟨S2048x6272, .bf16⟩
  | .hbm, ⟨2, _⟩ => ⟨S8x128, .f32⟩
  | .hbm, ⟨3, _⟩ => ⟨S2048x6272, .f32⟩
  | .hbm, ⟨4, _⟩ => ⟨S4096x6272, .f32⟩
  | .hbm, ⟨5, _⟩ => ⟨S4096x2048, .f32⟩
  | _, _ => ⟨S4096x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S4096x2048 : Shape := ⟨2, ![4096, 2048]⟩
abbrev S4096x6272 : Shape := ⟨2, ![4096, 6272]⟩
abbrev S2048x6272 : Shape := ⟨2, ![2048, 6272]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6272, .bf16⟩
  | .hbm, ⟨2, _⟩ => ⟨S2048x6272, .f32⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S4096x6272 : Shape := ⟨2, ![4096, 6272]⟩
abbrev S6272x2048 : Shape := ⟨2, ![6272, 2048]⟩
abbrev S2048x6272 : Shape := ⟨2, ![2048, 6272]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6272, .bf16⟩
  | .hbm, ⟨2, _⟩ => ⟨S4096x2048, .f32⟩
  | .hbm, ⟨3, _⟩ => ⟨S4096x6272, .f32⟩
  | .hbm, ⟨4, _⟩ => ⟨S6272x2048, .f32⟩
  | .hbm, ⟨5, _⟩ => ⟨S2048x6272, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩
abbrev S2048 : Shape := ⟨1, ![2048]⟩

abbrev nBuf : Space → Nat
  | .hbm => 18
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .bf16⟩
  | .hbm, ⟨17, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x1, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference10Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel11.lean ====
abbrev S4096x2048 : Shape := ⟨2, ![4096, 2048]⟩
abbrev S2048x6272 : Shape := ⟨2, ![2048, 6272]⟩
abbrev S4096x6272 : Shape := ⟨2, ![4096, 6272]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6272, .bf16⟩
  | .hbm, ⟨2, _⟩ => ⟨S4096x6272, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x6272 : Shape := ⟨2, ![2048, 6272]⟩
abbrev S4096x6272 : Shape := ⟨2, ![4096, 6272]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6272, .bf16⟩
  | .hbm, ⟨2, _⟩ => ⟨S4096x2048, .f32⟩
  | .hbm, ⟨3, _⟩ => ⟨S2048x6272, .f32⟩
  | .hbm, ⟨4, _⟩ => ⟨S4096x6272, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x2048 : Shape := ⟨2, ![4096, 2048]⟩
abbrev S4x2048x2816 : Shape := ⟨3, ![4, 2048, 2816]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli c2_i32_3 v9
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c2_i32_11 : BitVec 32 := 2#32
  let v28 : BitVec 32 := Scalar.divsi v27 c2_i32_11
  let c0_i32_12 : BitVec 32 := 0#32
  let v29 : BitVec 1 := Scalar.cmpi .sgt v27 c0_i32_12
  let v30 : BitVec 32 := Scalar.extui v29
  let c0_i32_13 : BitVec 32 := 0#32
  let v31 : BitVec 1 := Scalar.cmpi .slt v27 c0_i32_13
  let v32 : BitVec 32 := Scalar.extui v31
  let v33 : BitVec 32 := Scalar.subi v30 v32
  let c0_i32_14 : BitVec 32 := 0#32
  let v34 : BitVec 1 := Scalar.cmpi .sgt c2_i32_11 c0_i32_14
  let v35 : BitVec 32 := Scalar.extui v34
  let c0_i32_15 : BitVec 32 := 0#32
  let v36 : BitVec 1 := Scalar.cmpi .slt c2_i32_11 c0_i32_15
  let v37 : BitVec 32 := Scalar.extui v36
  let v38 : BitVec 32 := Scalar.subi v35 v37
  let v39 : BitVec 1 := Scalar.cmpi .ne v33 v38
  let v40 : BitVec 32 := Scalar.remsi v27 c2_i32_11
  let c0_i32_16 : BitVec 32 := 0#32
  let v41 : BitVec 1 := Scalar.cmpi .ne v40 c0_i32_16
  let v42 : BitVec 1 := Scalar.andi v39 v41
  let c1_i32_17 : BitVec 32 := 1#32
  let v43 : BitVec 32 := Scalar.subi v28 c1_i32_17
  let v44 : BitVec 32 := Scalar.select v42 v43 v28
  let v45 : BitVec 32 := Scalar.addi v10 v44
  let c2_i32_18 : BitVec 32 := 2#32
  let v46 : BitVec 32 := Scalar.divsi arg1 c2_i32_18
  let c0_i32_19 : BitVec 32 := 0#32
  let v47 : BitVec 1 := Scalar.cmpi .sgt arg1 c0_i32_19
  let v48 : BitVec 32 := Scalar.extui v47
  let c0_i32_20 : BitVec 32 := 0#32
  let v49 : BitVec 1 := Scalar.cmpi .slt arg1 c0_i32_20
  let v50 : BitVec 32 := Scalar.extui v49
  let v51 : BitVec 32 := Scalar.subi v48 v50
  let c0_i32_21 : BitVec 32 := 0#32
  let v52 : BitVec 1 := Scalar.cmpi .sgt c2_i32_18 c0_i32_21
  let v53 : BitVec 32 := Scalar.extui v52
  let c0_i32_22 : BitVec 32 := 0#32
  let v54 : BitVec 1 := Scalar.cmpi .slt c2_i32_18 c0_i32_22
  let v55 : BitVec 32 := Scalar.extui v54
  let v56 : BitVec 32 := Scalar.subi v53 v55
  let v57 : BitVec 1 := Scalar.cmpi .ne v51 v56
  let v58 : BitVec 32 := Scalar.remsi arg1 c2_i32_18
  let c0_i32_23 : BitVec 32 := 0#32
  let v59 : BitVec 1 := Scalar.cmpi .ne v58 c0_i32_23
  let v60 : BitVec 1 := Scalar.andi v57 v59
  let c1_i32_24 : BitVec 32 := 1#32
  let v61 : BitVec 32 := Scalar.subi v46 c1_i32_24
  let v62 : BitVec 32 := Scalar.select v60 v61 v46
  let c2_i32_25 : BitVec 32 := 2#32
  let c0_i32_26 : BitVec 32 := 0#32
  let v63 : BitVec 1 := Scalar.cmpi .eq c2_i32_25 c0_i32_26
  let c1_i32_27 : BitVec 32 := 1#32
  let v64 : BitVec 32 := Scalar.select v63 c1_i32_27 c2_i32_25
  let v65 : BitVec 32 := Scalar.remsi v62 v64
  let c0_i32_28 : BitVec 32 := 0#32
  let v66 : BitVec 1 := Scalar.cmpi .ne v65 c0_i32_28
  let c0_i32_29 : BitVec 32 := 0#32
  let v67 : BitVec 1 := Scalar.cmpi .slt v65 c0_i32_29
  let c0_i32_30 : BitVec 32 := 0#32
  let v68 : BitVec 1 := Scalar.cmpi .slt v64 c0_i32_30
  let v69 : BitVec 1 := Scalar.xori v67 v68
  let v70 : BitVec 1 := Scalar.andi v69 v66
  let v71 : BitVec 32 := Scalar.addi v65 v64
  let v72 : BitVec 32 := Scalar.select v70 v71 v65
  let c2_i32_31 : BitVec 32 := 2#32
  let c0_i32_32 : BitVec 32 := 0#32
  let v73 : BitVec 1 := Scalar.cmpi .eq c2_i32_31 c0_i32_32
  let c1_i32_33 : BitVec 32 := 1#32
  let v74 : BitVec 32 := Scalar.select v73 c1_i32_33 c2_i32_31
  let v75 : BitVec 32 := Scalar.remsi arg1 v74
  let c0_i32_34 : BitVec 32 := 0#32
  let v76 : BitVec 1 := Scalar.cmpi .ne v75 c0_i32_34
  let c0_i32_35 : BitVec 32 := 0#32
  let v77 : BitVec 1 := Scalar.cmpi .slt v75 c0_i32_35
  let c0_i32_36 : BitVec 32 := 0#32
  let v78 : BitVec 1 := Scalar.cmpi .slt v74 c0_i32_36
  let v79 : BitVec 1 := Scalar.xori v77 v78
  let v80 : BitVec 1 := Scalar.andi v79 v76
  let v81 : BitVec 32 := Scalar.addi v75 v74
  let v82 : BitVec 32 := Scalar.select v80 v81 v75
  let c2_i32_37 : BitVec 32 := 2#32
  let v83 : BitVec 32 := Scalar.muli c2_i32_37 v82
  let c2_i32_38 : BitVec 32 := 2#32
  let v84 : BitVec 32 := Scalar.divsi arg1 c2_i32_38
  let c0_i32_39 : BitVec 32 := 0#32
  let v85 : BitVec 1 := Scalar.cmpi .sgt arg1 c0_i32_39
  let v86 : BitVec 32 := Scalar.extui v85
  let c0_i32_40 : BitVec 32 := 0#32
  let v87 : BitVec 1 := Scalar.cmpi .slt arg1 c0_i32_40
  let v88 : BitVec 32 := Scalar.extui v87
  let v89 : BitVec 32 := Scalar.subi v86 v88
  let c0_i32_41 : BitVec 32 := 0#32
  let v90 : BitVec 1 := Scalar.cmpi .sgt c2_i32_38 c0_i32_41
  let v91 : BitVec 32 := Scalar.extui v90
  let c0_i32_42 : BitVec 32 := 0#32
  let v92 : BitVec 1 := Scalar.cmpi .slt c2_i32_38 c0_i32_42
  let v93 : BitVec 32 := Scalar.extui v92
  let v94 : BitVec 32 := Scalar.subi v91 v93
  let v95 : BitVec 1 := Scalar.cmpi .ne v89 v94
  let v96 : BitVec 32 := Scalar.remsi arg1 c2_i32_38
  let c0_i32_43 : BitVec 32 := 0#32
  let v97 : BitVec 1 := Scalar.cmpi .ne v96 c0_i32_43
  let v98 : BitVec 1 := Scalar.andi v95 v97
  let c1_i32_44 : BitVec 32 := 1#32
  let v99 : BitVec 32 := Scalar.subi v84 c1_i32_44
  let v100 : BitVec 32 := Scalar.select v98 v99 v84
  let c2_i32_45 : BitVec 32 := 2#32
  let v101 : BitVec 32 := Scalar.divsi v100 c2_i32_45
  let c0_i32_46 : BitVec 32 := 0#32
  let v102 : BitVec 1 := Scalar.cmpi .sgt v100 c0_i32_46
  let v103 : BitVec 32 := Scalar.extui v102
  let c0_i32_47 : BitVec 32 := 0#32
  let v104 : BitVec 1 := Scalar.cmpi .slt v100 c0_i32_47
  let v105 : BitVec 32 := Scalar.extui v104
  let v106 : BitVec 32 := Scalar.subi v103 v105
  let c0_i32_48 : BitVec 32 := 0#32
  let v107 : BitVec 1 := Scalar.cmpi .sgt c2_i32_45 c0_i32_48
  let v108 : BitVec 32 := Scalar.extui v107
  let c0_i32_49 : BitVec 32 := 0#32
  let v109 : BitVec 1 := Scalar.cmpi .slt c2_i32_45 c0_i32_49
  let v110 : BitVec 32 := Scalar.extui v109
  let v111 : BitVec 32 := Scalar.subi v108 v110
  let v112 : BitVec 1 := Scalar.cmpi .ne v106 v111
  let v113 : BitVec 32 := Scalar.remsi v100 c2_i32_45
  let c0_i32_50 : BitVec 32 := 0#32
  let v114 : BitVec 1 := Scalar.cmpi .ne v113 c0_i32_50
  let v115 : BitVec 1 := Scalar.andi v112 v114
  let c1_i32_51 : BitVec 32 := 1#32
  let v116 : BitVec 32 := Scalar.subi v101 c1_i32_51
  let v117 : BitVec 32 := Scalar.select v115 v116 v101
  let v118 : BitVec 32 := Scalar.addi v83 v117
  let c2_i32_52 : BitVec 32 := 2#32
  let v119 : BitVec 32 := Scalar.divsi arg1 c2_i32_52
  let c0_i32_53 : BitVec 32 := 0#32
  let v120 : BitVec 1 := Scalar.cmpi .sgt arg1 c0_i32_53
  let v121 : BitVec 32 := Scalar.extui v120
  let c0_i32_54 : BitVec 32 := 0#32
  let v122 : BitVec 1 := Scalar.cmpi .slt arg1 c0_i32_54
  let v123 : BitVec 32 := Scalar.extui v122
  let v124 : BitVec 32 := Scalar.subi v121 v123
  let c0_i32_55 : BitVec 32 := 0#32
  let v125 : BitVec 1 := Scalar.cmpi .sgt c2_i32_52 c0_i32_55
  let v126 : BitVec 32 := Scalar.extui v125
  let c0_i32_56 : BitVec 32 := 0#32
  let v127 : BitVec 1 := Scalar.cmpi .slt c2_i32_52 c0_i32_56
  let v128 : BitVec 32 := Scalar.extui v127
  let v129 : BitVec 32 := Scalar.subi v126 v128
  let v130 : BitVec 1 := Scalar.cmpi .ne v124 v129
  let v131 : BitVec 32 := Scalar.remsi arg1 c2_i32_52
  let c0_i32_57 : BitVec 32 := 0#32
  let v132 : BitVec 1 := Scalar.cmpi .ne v131 c0_i32_57
  let v133 : BitVec 1 := Scalar.andi v130 v132
  let c1_i32_58 : BitVec 32 := 1#32
  let v134 : BitVec 32 := Scalar.subi v119 c1_i32_58
  let v135 : BitVec 32 := Scalar.select v133 v134 v119
  let c2_i32_59 : BitVec 32 := 2#32
  let c0_i32_60 : BitVec 32 := 0#32
  let v136 : BitVec 1 := Scalar.cmpi .eq c2_i32_59 c0_i32_60
  let c1_i32_61 : BitVec 32 := 1#32
  let v137 : BitVec 32 := Scalar.select v136 c1_i32_61 c2_i32_59
  let v138 : BitVec 32 := Scalar.remsi v135 v137
  let c0_i32_62 : BitVec 32 := 0#32
  let v139 : BitVec 1 := Scalar.cmpi .ne v138 c0_i32_62
  let c0_i32_63 : BitVec 32 := 0#32
  let v140 : BitVec 1 := Scalar.cmpi .slt v138 c0_i32_63
  let c0_i32_64 : BitVec 32 := 0#32
  let v141 : BitVec 1 := Scalar.cmpi .slt v137 c0_i32_64
  let v142 : BitVec 1 := Scalar.xori v140 v141
  let v143 : BitVec 1 := Scalar.andi v142 v139
  let v144 : BitVec 32 := Scalar.addi v138 v137
  let v145 : BitVec 32 := Scalar.select v143 v144 v138
  let c0_i32_65 : BitVec 32 := 0#32
  ![v45.toNat, arg2.toNat, v145.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S4x2048x2816 : Shape := ⟨3, ![4, 2048, 2816]⟩
abbrev S1x2048x2816 : Shape := ⟨3, ![1, 2048, 2816]⟩
abbrev S2048x2816 : Shape := ⟨2, ![2048, 2816]⟩
abbrev S2048x11264 : Shape := ⟨2, ![2048, 11264]⟩
abbrev S4096x11264 : Shape := ⟨2, ![4096, 11264]⟩
abbrev S4096x5632 : Shape := ⟨2, ![4096, 5632]⟩
abbrev S4096x4x1x1408 : Shape := ⟨4, ![4096, 4, 1, 1408]⟩
abbrev S4096x4x2x1408 : Shape := ⟨4, ![4096, 4, 2, 1408]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S1x2048x2816, .bf16⟩
  | .hbm, ⟨3, _⟩ => ⟨S2048x2816, .bf16⟩
  | .hbm, ⟨4, _⟩ => ⟨S1x2048x2816, .bf16⟩
  | .hbm, ⟨5, _⟩ => ⟨S2048x2816, .bf16⟩
  | .hbm, ⟨6, _⟩ => ⟨S1x2048x2816, .bf16⟩
  | .hbm, ⟨7, _⟩ => ⟨S2048x2816, .bf16⟩
  | .hbm, ⟨8, _⟩ => ⟨S1x2048x2816, .bf16⟩
  | .hbm, ⟨9, _⟩ => ⟨S2048x2816, .bf16⟩
  | .hbm, ⟨10, _⟩ => ⟨S2048x11264, .bf16⟩
  | .hbm, ⟨11, _⟩ => ⟨S2048x11264, .f32⟩
  | .hbm, ⟨12, _⟩ => ⟨S4096x2048, .f32⟩
  | .hbm, ⟨13, _⟩ => ⟨S4096x11264, .f32⟩
  | .hbm, ⟨14, _⟩ => ⟨S4096x5632, .f32⟩
  | .hbm, ⟨15, _⟩ => ⟨S4096x5632, .f32⟩
  | .hbm, ⟨16, _⟩ => ⟨S4096x4x1x1408, .f32⟩
  | .hbm, ⟨17, _⟩ => ⟨S4096x4x1x1408, .f32⟩
  | .hbm, ⟨18, _⟩ => ⟨S4096x4x2x1408, .f32⟩
  | .hbm, ⟨19, _⟩ => ⟨S4096x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== Kernel14.lean ====
abbrev S4096x5632 : Shape := ⟨2, ![4096, 5632]⟩
abbrev S5632x2048 : Shape := ⟨2, ![5632, 2048]⟩
abbrev S4096x2048 : Shape := ⟨2, ![4096, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4096x2048 : Shape := ⟨2, ![4096, 2048]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S1x1, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S1x1, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S1x1, .f32⟩
  | .hbm, ⟨69, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel16.lean ====
abbrev S4096x128 : Shape := ⟨2, ![4096, 128]⟩
abbrev S4096x6272 : Shape := ⟨2, ![4096, 6272]⟩
abbrev S1x128 : Shape := ⟨2, ![1, 128]⟩
abbrev S512x128 : Shape := ⟨2, ![512, 128]⟩
abbrev S128 : Shape := ⟨1, ![128]⟩

abbrev nBuf : Space → Nat
  | .hbm => 4
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S4096x6272, .bf16⟩
  | .hbm, ⟨2, _⟩ => ⟨S1x128, .f32⟩
  | .hbm, ⟨3, _⟩ => ⟨S4096x6272, .bf16⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .bf16⟩
  | .local _ .vmem, ⟨4, _⟩ => ⟨S512x128, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c48_i32 : BitVec 32 := 48#32
  let c0_i32 : BitVec 32 := 0#32
  ![arg0.toNat, c48_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S4096x128 : Shape := ⟨2, ![4096, 128]⟩
abbrev S4096x6272 : Shape := ⟨2, ![4096, 6272]⟩
abbrev S_ : Shape := ⟨0, ![]⟩
abbrev S128 : Shape := ⟨1, ![128]⟩
abbrev S1x128 : Shape := ⟨2, ![1, 128]⟩
abbrev S4096x6144 : Shape := ⟨2, ![4096, 6144]⟩

abbrev nBuf : Space → Nat
  | .hbm => 12
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x6272, .bf16⟩
  | .hbm, ⟨2, _⟩ => ⟨S4096x128, .f32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S_, .f32⟩
  | .hbm, ⟨7, _⟩ => ⟨S4096x6272, .f32⟩
  | .hbm, ⟨8, _⟩ => ⟨S4096x6144, .bf16⟩
  | .hbm, ⟨9, _⟩ => ⟨S4096x128, .f32⟩
  | .hbm, ⟨10, _⟩ => ⟨S4096x128, .bf16⟩
  | .hbm, ⟨11, _⟩ => ⟨S4096x6272, .bf16⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel17.lean ====
abbrev S4096x2048 : Shape := ⟨2, ![4096, 2048]⟩
abbrev S1x2048 : Shape := ⟨2, ![1, 2048]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x1, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x1, .f32⟩
  | .local _ .vmem, ⟨6, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference17Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel18.lean ====
abbrev S4096x11264 : Shape := ⟨2, ![4096, 11264]⟩
abbrev S3x5632 : Shape := ⟨2, ![3, 5632]⟩
abbrev S1x5632 : Shape := ⟨2, ![1, 5632]⟩
abbrev S4096x5632 : Shape := ⟨2, ![4096, 5632]⟩
abbrev S1024x1408 : Shape := ⟨2, ![1024, 1408]⟩
abbrev S8x1408 : Shape := ⟨2, ![8, 1408]⟩
abbrev S3x1408 : Shape := ⟨2, ![3, 1408]⟩
abbrev S1x1408 : Shape := ⟨2, ![1, 1408]⟩
abbrev S1016x1408 : Shape := ⟨2, ![1016, 1408]⟩

abbrev nBuf : Space → Nat
  | .hbm => 4
  | .vmem => 12
  | .smem => 0
  | _ => 0

abbrev bufTy : (tb : Table) → Fin (tcTables nBuf tb) → BufTy
  | .hbm, ⟨0, _⟩ => ⟨S4096x11264, .f32⟩
  | .hbm, ⟨1, _⟩ => ⟨S3x5632, .f32⟩
  | .hbm, ⟨2, _⟩ => ⟨S1x5632, .f32⟩
  | .hbm, ⟨3, _⟩ => ⟨S4096x5632, .bf16⟩
  | .local _ .vmem, ⟨0, _⟩ => ⟨S1024x1408, .f32⟩
  | .local _ .vmem, ⟨1, _⟩ => ⟨S1024x1408, .f32⟩
  | .local _ .vmem, ⟨2, _⟩ => ⟨S8x1408, .f32⟩
  | .local _ .vmem, ⟨3, _⟩ => ⟨S8x1408, .f32⟩
  | .local _ .vmem, ⟨4, _⟩ => ⟨S1024x1408, .f32⟩
  | .local _ .vmem, ⟨5, _⟩ => ⟨S1024x1408, .f32⟩
  | .local _ .vmem, ⟨6, _⟩ => ⟨S3x1408, .f32⟩
  | .local _ .vmem, ⟨7, _⟩ => ⟨S3x1408, .f32⟩
  | .local _ .vmem, ⟨8, _⟩ => ⟨S1x1408, .f32⟩
  | .local _ .vmem, ⟨9, _⟩ => ⟨S1x1408, .f32⟩
  | .local _ .vmem, ⟨10, _⟩ => ⟨S1024x1408, .bf16⟩
  | .local _ .vmem, ⟨11, _⟩ => ⟨S1024x1408, .bf16⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.muli c2_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference18Ideal.lean ====
abbrev S4096x11264 : Shape := ⟨2, ![4096, 11264]⟩
abbrev S3x5632 : Shape := ⟨2, ![3, 5632]⟩
abbrev S1x5632 : Shape := ⟨2, ![1, 5632]⟩
abbrev S4096x4x2x1408 : Shape := ⟨4, ![4096, 4, 2, 1408]⟩
abbrev S4096x4x1x1408 : Shape := ⟨4, ![4096, 4, 1, 1408]⟩
abbrev S4096x4x1408 : Shape := ⟨3, ![4096, 4, 1408]⟩
abbrev S4096x5632 : Shape := ⟨2, ![4096, 5632]⟩
abbrev S1x4096x5632 : Shape := ⟨3, ![1, 4096, 5632]⟩
abbrev S5632 : Shape := ⟨1, ![5632]⟩
abbrev S_ : Shape := ⟨0, ![]⟩
abbrev S1x2x5632 : Shape := ⟨3, ![1, 2, 5632]⟩
abbrev S1x4098x5632 : Shape := ⟨3, ![1, 4098, 5632]⟩
abbrev S1x1x5632 : Shape := ⟨3, ![1, 1, 5632]⟩

abbrev nBuf : Space → Nat
  | .hbm => 50
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S3x5632, .f32⟩
  | .hbm, ⟨2, _⟩ => ⟨S1x5632, .f32⟩
  | .hbm, ⟨3, _⟩ => ⟨S4096x4x2x1408, .f32⟩
  | .hbm, ⟨4, _⟩ => ⟨S4096x4x1x1408, .f32⟩
  | .hbm, ⟨5, _⟩ => ⟨S4096x4x1408, .f32⟩
  | .hbm, ⟨6, _⟩ => ⟨S4096x5632, .f32⟩
  | .hbm, ⟨7, _⟩ => ⟨S4096x4x1x1408, .f32⟩
  | .hbm, ⟨8, _⟩ => ⟨S4096x4x1408, .f32⟩
  | .hbm, ⟨9, _⟩ => ⟨S4096x5632, .f32⟩
  | .hbm, ⟨10, _⟩ => ⟨S1x4096x5632, .f32⟩
  | .hbm, ⟨11, _⟩ => ⟨S5632, .f32⟩
  | .hbm, ⟨12, _⟩ => ⟨S_, .f32⟩
  | .hbm, ⟨13, _⟩ => ⟨S1x2x5632, .f32⟩
  | .hbm, ⟨14, _⟩ => ⟨S1x4098x5632, .f32⟩
  | .hbm, ⟨15, _⟩ => ⟨S1x4096x5632, .f32⟩
  | .hbm, ⟨16, _⟩ => ⟨S1x5632, .f32⟩
  | .hbm, ⟨17, _⟩ => ⟨S5632, .f32⟩
  | .hbm, ⟨18, _⟩ => ⟨S1x1x5632, .f32⟩
  | .hbm, ⟨19, _⟩ => ⟨S1x4096x5632, .f32⟩
  | .hbm, ⟨20, _⟩ => ⟨S1x4096x5632, .f32⟩
  | .hbm, ⟨21, _⟩ => ⟨S1x1x5632, .f32⟩
  | .hbm, ⟨22, _⟩ => ⟨S1x4096x5632, .f32⟩
  | .hbm, ⟨23, _⟩ => ⟨S1x4096x5632, .f32⟩
  | .hbm, ⟨24, _⟩ => ⟨S1x4096x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S1x4096x5632, .f32⟩
  | .hbm, ⟨29, _⟩ => ⟨S1x4096x5632, .f32⟩
  | .hbm, ⟨30, _⟩ => ⟨S1x4096x5632, .f32⟩
  | .hbm, ⟨31, _⟩ => ⟨S1x4096x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S1x4096x5632, .f32⟩
  | .hbm, ⟨36, _⟩ => ⟨S1x4096x5632, .f32⟩
  | .hbm, ⟨37, _⟩ => ⟨S1x4096x5632, .f32⟩
  | .hbm, ⟨38, _⟩ => ⟨S1x4096x5632, .f32⟩
  | .hbm, ⟨39, _⟩ => ⟨S1x4096x5632, .f32⟩
  | .hbm, ⟨40, _⟩ => ⟨S_, .f32⟩
  | .hbm, ⟨41, _⟩ => ⟨S1x4096x5632, .f32⟩
  | .hbm, ⟨42, _⟩ => ⟨S1x4096x5632, .f32⟩
  | .hbm, ⟨43, _⟩ => ⟨S_, .f32⟩
  | .hbm, ⟨44, _⟩ => ⟨S1x4096x5632, .f32⟩
  | .hbm, ⟨45, _⟩ => ⟨S1x4096x5632, .f32⟩
  | .hbm, ⟨46, _⟩ => ⟨S1x4096x5632, .f32⟩
  | .hbm, ⟨47, _⟩ => ⟨S4096x5632, .f32⟩
  | .hbm, ⟨48, _⟩ => ⟨S4096x5632, .f32⟩
  | .hbm, ⟨49, _⟩ => ⟨S4096x5632, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel19.lean ====
abbrev S512x2048 : Shape := ⟨2, ![512, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S2048x2816 : Shape := ⟨2, ![2048, 2816]⟩
abbrev S128x2816 : Shape := ⟨2, ![128, 2816]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | .local _ .vmem, ⟨14, _⟩ => ⟨S128x2816, .f32⟩
  | .local _ .vmem, ⟨15, _⟩ => ⟨S128x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S1408x2048 : Shape := ⟨2, ![1408, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2048x1538 : Shape := ⟨2, ![2048, 1538]⟩
abbrev S128x1538 : Shape := ⟨2, ![128, 1538]⟩

abbrev nBuf : Space → Nat
  | .hbm => 8
  | .vmem => 16
  | .smem => 0
  | _ => 0

abbrev bufTy : (tb : Table) → Fin (tcTables nBuf tb) → BufTy
  | .hbm, ⟨0, _⟩ => ⟨S2048x1538, .f32⟩
  | .hbm, ⟨1, _⟩ => ⟨S2048x1538, .f32⟩
  | .hbm, ⟨2, _⟩ => ⟨S2048x1538, .f32⟩
  | .hbm, ⟨3, _⟩ => ⟨S2048x1538, .f32⟩
  | .hbm, ⟨4, _⟩ => ⟨S2048x1538, .f32⟩
  | .hbm, ⟨5, _⟩ => ⟨S2048x1538, .f32⟩
  | .hbm, ⟨6, _⟩ => ⟨S2048x1538, .f32⟩
  | .hbm, ⟨7, _⟩ => ⟨S2048x1538, .f32⟩
  | .local _ .vmem, ⟨0, _⟩ => ⟨S128x1538, .f32⟩
  | .local _ .vmem, ⟨1, _⟩ => ⟨S128x1538, .f32⟩
  | .local _ .vmem, ⟨2, _⟩ => ⟨S128x1538, .f32⟩
  | .local _ .vmem, ⟨3, _⟩ => ⟨S128x1538, .f32⟩
  | .local _ .vmem, ⟨4, _⟩ => ⟨S128x1538, .f32⟩
  | .local _ .vmem, ⟨5, _⟩ => ⟨S128x1538, .f32⟩
  | .local _ .vmem, ⟨6, _⟩ => ⟨S128x1538, .f32⟩
  | .local _ .vmem, ⟨7, _⟩ => ⟨S128x1538, .f32⟩
  | .local _ .vmem, ⟨8, _⟩ => ⟨S128x1538, .f32⟩
  | .local _ .vmem, ⟨9, _⟩ => ⟨S128x1538, .f32⟩
  | .local _ .vmem, ⟨10, _⟩ => ⟨S128x1538, .f32⟩
  | .local _ .vmem, ⟨11, _⟩ => ⟨S128x1538, .f32⟩
  | .local _ .vmem, ⟨12, _⟩ => ⟨S128x1538, .f32⟩
  | .local _ .vmem, ⟨13, _⟩ => ⟨S128x1538, .f32⟩
  | .local _ .vmem, ⟨14, _⟩ => ⟨S128x1538, .f32⟩
  | .local _ .vmem, ⟨15, _⟩ => ⟨S128x1538, .f32⟩
  | _, _ => ⟨S2048x1538, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1538 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1538 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1538 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1538 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1538 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1538 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1538 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1538 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S2048x1538 : Shape := ⟨2, ![2048, 1538]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1538, .f32⟩
  | .hbm, ⟨1, _⟩ => ⟨S2048x1538, .f32⟩
  | .hbm, ⟨2, _⟩ => ⟨S2048x1538, .f32⟩
  | .hbm, ⟨3, _⟩ => ⟨S2048x1538, .f32⟩
  | .hbm, ⟨4, _⟩ => ⟨S_, .f32⟩
  | .hbm, ⟨5, _⟩ => ⟨S2048x1538, .f32⟩
  | .hbm, ⟨6, _⟩ => ⟨S2048x1538, .f32⟩
  | .hbm, ⟨7, _⟩ => ⟨S_, .f32⟩
  | .hbm, ⟨8, _⟩ => ⟨S2048x1538, .f32⟩
  | .hbm, ⟨9, _⟩ => ⟨S2048x1538, .f32⟩
  | .hbm, ⟨10, _⟩ => ⟨S2048x1538, .f32⟩
  | .hbm, ⟨11, _⟩ => ⟨S_, .f32⟩
  | .hbm, ⟨12, _⟩ => ⟨S2048x1538, .f32⟩
  | .hbm, ⟨13, _⟩ => ⟨S2048x1538, .f32⟩
  | .hbm, ⟨14, _⟩ => ⟨S2048x1538, .f32⟩
  | .hbm, ⟨15, _⟩ => ⟨S_, .f32⟩
  | .hbm, ⟨16, _⟩ => ⟨S2048x1538, .f32⟩
  | .hbm, ⟨17, _⟩ => ⟨S2048x1538, .f32⟩
  | .hbm, ⟨18, _⟩ => ⟨S2048x1538, .f32⟩
  | .hbm, ⟨19, _⟩ => ⟨S_, .f32⟩
  | .hbm, ⟨20, _⟩ => ⟨S2048x1538, .f32⟩
  | .hbm, ⟨21, _⟩ => ⟨S2048x1538, .f32⟩
  | .hbm, ⟨22, _⟩ => ⟨S_, .f32⟩
  | .hbm, ⟨23, _⟩ => ⟨S2048x1538, .f32⟩
  | .hbm, ⟨24, _⟩ => ⟨S2048x1538, .f32⟩
  | .hbm, ⟨25, _⟩ => ⟨S2048x1538, .f32⟩
  | .hbm, ⟨26, _⟩ => ⟨S_, .f32⟩
  | .hbm, ⟨27, _⟩ => ⟨S2048x1538, .f32⟩
  | .hbm, ⟨28, _⟩ => ⟨S2048x1538, .f32⟩
  | .hbm, ⟨29, _⟩ => ⟨S2048x1538, .f32⟩
  | .hbm, ⟨30, _⟩ => ⟨S_, .f32⟩
  | .hbm, ⟨31, _⟩ => ⟨S2048x1538, .f32⟩
  | .hbm, ⟨32, _⟩ => ⟨S2048x1538, .f32⟩
  | .hbm, ⟨33, _⟩ => ⟨S2048x1538, .f32⟩
  | .hbm, ⟨34, _⟩ => ⟨S_, .f32⟩
  | .hbm, ⟨35, _⟩ => ⟨S2048x1538, .f32⟩
  | .hbm, ⟨36, _⟩ => ⟨S2048x1538, .f32⟩
  | _, _ => ⟨S2048x1538, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S4x2336x128 : Shape := ⟨3, ![4, 2336, 128]⟩
abbrev S2336x128 : Shape := ⟨2, ![2336, 128]⟩
abbrev S1x2336x128 : Shape := ⟨3, ![1, 2336, 128]⟩

abbrev nBuf : Space → Nat
  | .hbm => 2
  | .vmem => 2
  | .smem => 0
  | _ => 0

abbrev bufTy : (tb : Table) → Fin (tcTables nBuf tb) → BufTy
  | .hbm, ⟨0, _⟩ => ⟨S4x2336x128, .f32⟩
  | .hbm, ⟨1, _⟩ => ⟨S2336x128, .f32⟩
  | .local _ .vmem, ⟨0, _⟩ => ⟨S4x2336x128, .f32⟩
  | .local _ .vmem, ⟨1, _⟩ => ⟨S2336x128, .f32⟩
  | _, _ => ⟨S4x2336x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x2336x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2336x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference25Ideal.lean ====
abbrev S4x2336x128 : Shape := ⟨3, ![4, 2336, 128]⟩
abbrev S_ : Shape := ⟨0, ![]⟩
abbrev S2336x128 : Shape := ⟨2, ![2336, 128]⟩

abbrev nBuf : Space → Nat
  | .hbm => 3
  | .vmem => 0
  | .smem => 0
  | _ => 0

abbrev bufTy : (tb : Table) → Fin (tcTables nBuf tb) → BufTy
  | .hbm, ⟨0, _⟩ => ⟨S4x2336x128, .f32⟩
  | .hbm, ⟨1, _⟩ => ⟨S_, .f32⟩
  | .hbm, ⟨2, _⟩ => ⟨S2336x128, .f32⟩
  | _, _ => ⟨S4x2336x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel26.lean ====
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .local _ .vmem, ⟨0, _⟩ => ⟨S8x16x128, .f32⟩
  | .local _ .vmem, ⟨1, _⟩ => ⟨S16x128, .f32⟩
  | _, _ => ⟨S8x16x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference26Ideal.lean ====
abbrev S8x16x128 : Shape := ⟨3, ![8, 16, 128]⟩
abbrev S_ : Shape := ⟨0, ![]⟩
abbrev S16x128 : Shape := ⟨2, ![16, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S_, .f32⟩
  | .hbm, ⟨2, _⟩ => ⟨S16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel27.lean ====
abbrev S2336x128 : Shape := ⟨2, ![2336, 128]⟩
abbrev S5 : Shape := ⟨1, ![5]⟩
abbrev S4x2336x128 : Shape := ⟨3, ![4, 2336, 128]⟩
abbrev S1x2336x128 : Shape := ⟨3, ![1, 2336, 128]⟩
abbrev S1 : Shape := ⟨1, ![1]⟩

abbrev nBuf : Space → Nat
  | .hbm => 5
  | .vmem => 3
  | .smem => 1
  | _ => 0

abbrev bufTy : (tb : Table) → Fin (tcTables nBuf tb) → BufTy
  | .hbm, ⟨0, _⟩ => ⟨S2336x128, .f32⟩
  | .hbm, ⟨1, _⟩ => ⟨S2336x128, .f32⟩
  | .hbm, ⟨2, _⟩ => ⟨S4x2336x128, .f32⟩
  | .hbm, ⟨3, _⟩ => ⟨S1x2336x128, .f32⟩
  | .hbm, ⟨4, _⟩ => ⟨S2336x128, .f32⟩
  | .local _ .vmem, ⟨0, _⟩ => ⟨S2336x128, .f32⟩
  | .local _ .vmem, ⟨1, _⟩ => ⟨S2336x128, .f32⟩
  | .local _ .vmem, ⟨2, _⟩ => ⟨S1x2336x128, .f32⟩
  | .local _ .smem, ⟨0, _⟩ => ⟨S5, .i32⟩
  | _, _ => ⟨S2336x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (inb_S5_S1_1 : ∀ a, (![1] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S5) ![1] S1.size inb_S5_S1_1) numel1_S1
  let c0_i32 : BitVec 32 := 0#32
  let c0_i32_0 : BitVec 32 := 0#32
  let c0_i32_1 : BitVec 32 := 0#32
  ![v0.toNat, c0_i32.toNat, c0_i32_0.toNat]

abbrev stage0_0 : Fin 1 → Memref sig .tc .vmem S2336x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2336x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2336x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference27Ideal.lean ====
abbrev S2336x128 : Shape := ⟨2, ![2336, 128]⟩

abbrev nBuf : Space → Nat
  | .hbm => 3
  | .vmem => 0
  | .smem => 0
  | _ => 0

abbrev bufTy : (tb : Table) → Fin (tcTables nBuf tb) → BufTy
  | .hbm, ⟨0, _⟩ => ⟨S2336x128, .f32⟩
  | .hbm, ⟨1, _⟩ => ⟨S2336x128, .f32⟩
  | .hbm, ⟨2, _⟩ => ⟨S2336x128, .f32⟩
  | _, _ => ⟨S2336x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel28.lean ====
abbrev S4x512x2048 : Shape := ⟨3, ![4, 512, 2048]⟩
abbrev S4x256x2048 : Shape := ⟨3, ![4, 256, 2048]⟩
abbrev S5 : Shape := ⟨1, ![5]⟩
abbrev S1x128x2048 : Shape := ⟨3, ![1, 128, 2048]⟩
abbrev S1 : Shape := ⟨1, ![1]⟩
abbrev S128x2048 : Shape := ⟨2, ![128, 2048]⟩
abbrev S3x256x2048 : Shape := ⟨3, ![3, 256, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x512x2048, .f32⟩
  | .hbm, ⟨1, _⟩ => ⟨S4x256x2048, .f32⟩
  | .hbm, ⟨2, _⟩ => ⟨S4x256x2048, .bf16⟩
  | .hbm, ⟨3, _⟩ => ⟨S3x256x2048, .bf16⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .bf16⟩
  | .local _ .vmem, ⟨5, _⟩ => ⟨S1x128x2048, .bf16⟩
  | .local _ .smem, ⟨0, _⟩ => ⟨S5, .i32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c2_i32 : BitVec 32 := 2#32
  let arg0 : BitVec 32 := BitVec.ofNat 32 (i 0).val
  let v0 : BitVec 32 := Scalar.addi c2_i32 arg0
  let v1 : Index := Scalar.indexCast v0
  ![v1.toNat]
def cc0_transform_0 (k0_off1_inb : ∀ i : grid0.Coords, ∀ a, (k0_off1 i) a + S1.size a ≤ S5.size a) (numel1_S1 : S1.numel = 1) (inb_S5_S1_0 : ∀ a, (![0] : Fin 1 → Nat) a + S1.size a ≤ S5.size a) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let v1 : Index := Scalar.indexCast v0
  let v2 : BitVec 32 := pf.at 0 (Rect.unit (s := S5) ![v1.toNat] S1.size (k0_off1_inb i)) numel1_S1
  let c0 : Index := 0#32
  let v3 : BitVec 32 := pf.at 0 (Rect.unit (s := S5) ![0] S1.size inb_S5_S1_0) numel1_S1
  let c2_i32_0 : BitVec 32 := 2#32
  let v4 : BitVec 32 := Scalar.muli v3 c2_i32_0
  let v5 : BitVec 32 := Scalar.addi v4 arg1
  let c0_i32 : BitVec 32 := 0#32
  let c0_i32_1 : BitVec 32 := 0#32
  ![v2.toNat, v5.toNat, c0_i32.toNat]

def cc0_transform_1 (k0_off1_inb : ∀ i : grid0.Coords, ∀ a, (k0_off1 i) a + S1.size a ≤ S5.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let v1 : Index := Scalar.indexCast v0
  let v2 : BitVec 32 := pf.at 0 (Rect.unit (s := S5) ![v1.toNat] S1.size (k0_off1_inb i)) numel1_S1
  let c0_i32 : BitVec 32 := 0#32
  let c0_i32_0 : BitVec 32 := 0#32
  ![v2.toNat, arg1.toNat, c0_i32.toNat]

def cc0_transform_2 (k0_off1_inb : ∀ i : grid0.Coords, ∀ a, (k0_off1 i) a + S1.size a ≤ S5.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let v1 : Index := Scalar.indexCast v0
  let v2 : BitVec 32 := pf.at 0 (Rect.unit (s := S5) ![v1.toNat] S1.size (k0_off1_inb i)) numel1_S1
  let c0_i32 : BitVec 32 := 0#32
  let c0_i32_0 : BitVec 32 := 0#32
  ![v2.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference28Ideal.lean ====
abbrev S4x512x2048 : Shape := ⟨3, ![4, 512, 2048]⟩
abbrev S4x256x2048 : Shape := ⟨3, ![4, 256, 2048]⟩
abbrev S3x256x2048 : Shape := ⟨3, ![3, 256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x256x2048, .f32⟩
  | .hbm, ⟨2, _⟩ => ⟨S3x256x2048, .f32⟩
  | .hbm, ⟨3, _⟩ => ⟨S3x256x2048, .f32⟩
  | .hbm, ⟨4, _⟩ => ⟨S3x256x2048, .f32⟩
  | .hbm, ⟨5, _⟩ => ⟨S3x256x2048, .bf16⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel29.lean ====
abbrev S4x512x2048 : Shape := ⟨3, ![4, 512, 2048]⟩
abbrev S4x256x2048 : Shape := ⟨3, ![4, 256, 2048]⟩
abbrev S5 : Shape := ⟨1, ![5]⟩
abbrev S512x2048 : Shape := ⟨2, ![512, 2048]⟩
abbrev S1x128x2048 : Shape := ⟨3, ![1, 128, 2048]⟩
abbrev S1 : Shape := ⟨1, ![1]⟩
abbrev S128x2048 : Shape := ⟨2, ![128, 2048]⟩
abbrev S256x2048 : Shape := ⟨2, ![256, 2048]⟩

abbrev nBuf : Space → Nat
  | .hbm => 5
  | .vmem => 12
  | .smem => 1
  | _ => 0

abbrev bufTy : (tb : Table) → Fin (tcTables nBuf tb) → BufTy
  | .hbm, ⟨0, _⟩ => ⟨S4x512x2048, .f32⟩
  | .hbm, ⟨1, _⟩ => ⟨S4x256x2048, .f32⟩
  | .hbm, ⟨2, _⟩ => ⟨S4x256x2048, .bf16⟩
  | .hbm, ⟨3, _⟩ => ⟨S512x2048, .f32⟩
  | .hbm, ⟨4, _⟩ => ⟨S256x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .bf16⟩
  | .local _ .vmem, ⟨5, _⟩ => ⟨S1x128x2048, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S128x2048, .f32⟩
  | .local _ .vmem, ⟨11, _⟩ => ⟨S128x2048, .f32⟩
  | .local _ .smem, ⟨0, _⟩ => ⟨S5, .i32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_1 : ∀ a, (![1] : Fin 1 → Nat) a + S1.size a ≤ S5.size a) (numel1_S1 : S1.numel = 1) (inb_S5_S1_0 : ∀ a, (![0] : Fin 1 → Nat) a + S1.size a ≤ S5.size a) (pf : pre0.Contents (Elt F)) (i : grid0.Coords) : Fin 3 → Nat :=
  let arg0 : BitVec 32 := BitVec.ofNat 32 (i 0).val
  let c1 : Index := 1#32
  let v0 : BitVec 32 := pf.at 0 (Rect.unit (s := S5) ![1] S1.size inb_S5_S1_1) numel1_S1
  let c0 : Index := 0#32
  let v1 : BitVec 32 := pf.at 0 (Rect.unit (s := S5) ![0] S1.size inb_S5_S1_0) numel1_S1
  let c2_i32 : BitVec 32 := 2#32
  let v2 : BitVec 32 := Scalar.muli v1 c2_i32
  let v3 : BitVec 32 := Scalar.addi v2 arg0
  let c0_i32 : BitVec 32 := 0#32
  let c0_i32_0 : BitVec 32 := 0#32
  ![v0.toNat, v3.toNat, c0_i32.toNat]

def cc0_transform_1 (inb_S5_S1_1 : ∀ a, (![1] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S5) ![1] S1.size inb_S5_S1_1) numel1_S1
  let c0_i32 : BitVec 32 := 0#32
  let c0_i32_0 : BitVec 32 := 0#32
  ![v0.toNat, arg0.toNat, c0_i32.toNat]

def cc0_transform_2 (inb_S5_S1_2 : ∀ a, (![2] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S5) ![2] S1.size inb_S5_S1_2) numel1_S1
  let c0_i32 : BitVec 32 := 0#32
  let c0_i32_0 : BitVec 32 := 0#32
  ![v0.toNat, arg0.toNat, c0_i32.toNat]

def cc0_transform_3 (inb_S5_S1_3 : ∀ a, (![3] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S5) ![3] S1.size inb_S5_S1_3) numel1_S1
  let c0_i32 : BitVec 32 := 0#32
  let c0_i32_0 : BitVec 32 := 0#32
  ![v0.toNat, arg0.toNat, c0_i32.toNat]

def cc0_transform_4 (inb_S5_S1_4 : ∀ a, (![4] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c4 : Index := 4#32
  let v0 : BitVec 32 := pf.at 0 (Rect.unit (s := S5) ![4] S1.size inb_S5_S1_4) numel1_S1
  let c0_i32 : BitVec 32 := 0#32
  let c0_i32_0 : BitVec 32 := 0#32
  ![v0.toNat, arg0.toNat, c0_i32.toNat]

def cc0_transform_5 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference29Ideal.lean ====
abbrev S4x512x2048 : Shape := ⟨3, ![4, 512, 2048]⟩
abbrev S4x256x2048 : Shape := ⟨3, ![4, 256, 2048]⟩
abbrev S1x256x2048 : Shape := ⟨3, ![1, 256, 2048]⟩
abbrev S256x2048 : Shape := ⟨2, ![256, 2048]⟩
abbrev S3x256x2048 : Shape := ⟨3, ![3, 256, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x256x2048, .f32⟩
  | .hbm, ⟨2, _⟩ => ⟨S4x256x2048, .bf16⟩
  | .hbm, ⟨3, _⟩ => ⟨S1x256x2048, .f32⟩
  | .hbm, ⟨4, _⟩ => ⟨S256x2048, .f32⟩
  | .hbm, ⟨5, _⟩ => ⟨S1x256x2048, .f32⟩
  | .hbm, ⟨6, _⟩ => ⟨S256x2048, .f32⟩
  | .hbm, ⟨7, _⟩ => ⟨S256x2048, .f32⟩
  | .hbm, ⟨8, _⟩ => ⟨S3x256x2048, .bf16⟩
  | .hbm, ⟨9, _⟩ => ⟨S3x256x2048, .f32⟩
  | .hbm, ⟨10, _⟩ => ⟨S_, .f32⟩
  | .hbm, ⟨11, _⟩ => ⟨S256x2048, .f32⟩
  | .hbm, ⟨12, _⟩ => ⟨S256x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel30.lean ====
abbrev S4x2048x2816 : Shape := ⟨3, ![4, 2048, 2816]⟩
abbrev S4x1024x2816 : Shape := ⟨3, ![4, 1024, 2816]⟩
abbrev S5 : Shape := ⟨1, ![5]⟩
abbrev S1x128x2816 : Shape := ⟨3, ![1, 128, 2816]⟩
abbrev S1 : Shape := ⟨1, ![1]⟩
abbrev S128x2816 : Shape := ⟨2, ![128, 2816]⟩
abbrev S3x1024x2816 : Shape := ⟨3, ![3, 1024, 2816]⟩

abbrev nBuf : Space → Nat
  | .hbm => 4
  | .vmem => 6
  | .smem => 1
  | _ => 0

abbrev bufTy : (tb : Table) → Fin (tcTables nBuf tb) → BufTy
  | .hbm, ⟨0, _⟩ => ⟨S4x2048x2816, .f32⟩
  | .hbm, ⟨1, _⟩ => ⟨S4x1024x2816, .f32⟩
  | .hbm, ⟨2, _⟩ => ⟨S4x1024x2816, .bf16⟩
  | .hbm, ⟨3, _⟩ => ⟨S3x1024x2816, .bf16⟩
  | .local _ .vmem, ⟨0, _⟩ => ⟨S1x128x2816, .f32⟩
  | .local _ .vmem, ⟨1, _⟩ => ⟨S1x128x2816, .f32⟩
  | .local _ .vmem, ⟨2, _⟩ => ⟨S1x128x2816, .f32⟩
  | .local _ .vmem, ⟨3, _⟩ => ⟨S1x128x2816, .f32⟩
  | .local _ .vmem, ⟨4, _⟩ => ⟨S1x128x2816, .bf16⟩
  | .local _ .vmem, ⟨5, _⟩ => ⟨S1x128x2816, .bf16⟩
  | .local _ .smem, ⟨0, _⟩ => ⟨S5, .i32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c2_i32 : BitVec 32 := 2#32
  let arg0 : BitVec 32 := BitVec.ofNat 32 (i 0).val
  let v0 : BitVec 32 := Scalar.addi c2_i32 arg0
  let v1 : Index := Scalar.indexCast v0
  ![v1.toNat]
def cc0_transform_0 (k0_off1_inb : ∀ i : grid0.Coords, ∀ a, (k0_off1 i) a + S1.size a ≤ S5.size a) (numel1_S1 : S1.numel = 1) (inb_S5_S1_0 : ∀ a, (![0] : Fin 1 → Nat) a + S1.size a ≤ S5.size a) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let v1 : Index := Scalar.indexCast v0
  let v2 : BitVec 32 := pf.at 0 (Rect.unit (s := S5) ![v1.toNat] S1.size (k0_off1_inb i)) numel1_S1
  let c0 : Index := 0#32
  let v3 : BitVec 32 := pf.at 0 (Rect.unit (s := S5) ![0] S1.size inb_S5_S1_0) numel1_S1
  let c8_i32 : BitVec 32 := 8#32
  let v4 : BitVec 32 := Scalar.muli v3 c8_i32
  let v5 : BitVec 32 := Scalar.addi v4 arg1
  let c0_i32 : BitVec 32 := 0#32
  let c0_i32_0 : BitVec 32 := 0#32
  ![v2.toNat, v5.toNat, c0_i32.toNat]

def cc0_transform_1 (k0_off1_inb : ∀ i : grid0.Coords, ∀ a, (k0_off1 i) a + S1.size a ≤ S5.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let v1 : Index := Scalar.indexCast v0
  let v2 : BitVec 32 := pf.at 0 (Rect.unit (s := S5) ![v1.toNat] S1.size (k0_off1_inb i)) numel1_S1
  let c0_i32 : BitVec 32 := 0#32
  let c0_i32_0 : BitVec 32 := 0#32
  ![v2.toNat, arg1.toNat, c0_i32.toNat]

def cc0_transform_2 (k0_off1_inb : ∀ i : grid0.Coords, ∀ a, (k0_off1 i) a + S1.size a ≤ S5.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let v1 : Index := Scalar.indexCast v0
  let v2 : BitVec 32 := pf.at 0 (Rect.unit (s := S5) ![v1.toNat] S1.size (k0_off1_inb i)) numel1_S1
  let c0_i32 : BitVec 32 := 0#32
  let c0_i32_0 : BitVec 32 := 0#32
  ![v2.toNat, arg1.toNat, c0_i32.toNat]

abbrev stage0_0 : Fin 2 → Memref sig .tc .vmem S1x128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference30Ideal.lean ====
abbrev S4x2048x2816 : Shape := ⟨3, ![4, 2048, 2816]⟩
abbrev S4x1024x2816 : Shape := ⟨3, ![4, 1024, 2816]⟩
abbrev S3x1024x2816 : Shape := ⟨3, ![3, 1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x1024x2816, .f32⟩
  | .hbm, ⟨2, _⟩ => ⟨S3x1024x2816, .f32⟩
  | .hbm, ⟨3, _⟩ => ⟨S3x1024x2816, .f32⟩
  | .hbm, ⟨4, _⟩ => ⟨S3x1024x2816, .f32⟩
  | .hbm, ⟨5, _⟩ => ⟨S3x1024x2816, .bf16⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel31.lean ====
abbrev S4x2048x2816 : Shape := ⟨3, ![4, 2048, 2816]⟩
abbrev S4x1024x2816 : Shape := ⟨3, ![4, 1024, 2816]⟩
abbrev S5 : Shape := ⟨1, ![5]⟩
abbrev S2048x2816 : Shape := ⟨2, ![2048, 2816]⟩
abbrev S1x128x2816 : Shape := ⟨3, ![1, 128, 2816]⟩
abbrev S1 : Shape := ⟨1, ![1]⟩
abbrev S128x2816 : Shape := ⟨2, ![128, 2816]⟩
abbrev S1024x2816 : Shape := ⟨2, ![1024, 2816]⟩

abbrev nBuf : Space → Nat
  | .hbm => 5
  | .vmem => 12
  | .smem => 1
  | _ => 0

abbrev bufTy : (tb : Table) → Fin (tcTables nBuf tb) → BufTy
  | .hbm, ⟨0, _⟩ => ⟨S4x2048x2816, .f32⟩
  | .hbm, ⟨1, _⟩ => ⟨S4x1024x2816, .f32⟩
  | .hbm, ⟨2, _⟩ => ⟨S4x1024x2816, .bf16⟩
  | .hbm, ⟨3, _⟩ => ⟨S2048x2816, .f32⟩
  | .hbm, ⟨4, _⟩ => ⟨S1024x2816, .f32⟩
  | .local _ .vmem, ⟨0, _⟩ => ⟨S1x128x2816, .f32⟩
  | .local _ .vmem, ⟨1, _⟩ => ⟨S1x128x2816, .f32⟩
  | .local _ .vmem, ⟨2, _⟩ => ⟨S1x128x2816, .f32⟩
  | .local _ .vmem, ⟨3, _⟩ => ⟨S1x128x2816, .f32⟩
  | .local _ .vmem, ⟨4, _⟩ => ⟨S1x128x2816, .bf16⟩
  | .local _ .vmem, ⟨5, _⟩ => ⟨S1x128x2816, .bf16⟩
  | .local _ .vmem, ⟨6, _⟩ => ⟨S1x128x2816, .bf16⟩
  | .local _ .vmem, ⟨7, _⟩ => ⟨S1x128x2816, .bf16⟩
  | .local _ .vmem, ⟨8, _⟩ => ⟨S1x128x2816, .bf16⟩
  | .local _ .vmem, ⟨9, _⟩ => ⟨S1x128x2816, .bf16⟩
  | .local _ .vmem, ⟨10, _⟩ => ⟨S128x2816, .f32⟩
  | .local _ .vmem, ⟨11, _⟩ => ⟨S128x2816, .f32⟩
  | .local _ .smem, ⟨0, _⟩ => ⟨S5, .i32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_1 : ∀ a, (![1] : Fin 1 → Nat) a + S1.size a ≤ S5.size a) (numel1_S1 : S1.numel = 1) (inb_S5_S1_0 : ∀ a, (![0] : Fin 1 → Nat) a + S1.size a ≤ S5.size a) (pf : pre0.Contents (Elt F)) (i : grid0.Coords) : Fin 3 → Nat :=
  let arg0 : BitVec 32 := BitVec.ofNat 32 (i 0).val
  let c1 : Index := 1#32
  let v0 : BitVec 32 := pf.at 0 (Rect.unit (s := S5) ![1] S1.size inb_S5_S1_1) numel1_S1
  let c0 : Index := 0#32
  let v1 : BitVec 32 := pf.at 0 (Rect.unit (s := S5) ![0] S1.size inb_S5_S1_0) numel1_S1
  let c8_i32 : BitVec 32 := 8#32
  let v2 : BitVec 32 := Scalar.muli v1 c8_i32
  let v3 : BitVec 32 := Scalar.addi v2 arg0
  let c0_i32 : BitVec 32 := 0#32
  let c0_i32_0 : BitVec 32 := 0#32
  ![v0.toNat, v3.toNat, c0_i32.toNat]

def cc0_transform_1 (inb_S5_S1_1 : ∀ a, (![1] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S5) ![1] S1.size inb_S5_S1_1) numel1_S1
  let c0_i32 : BitVec 32 := 0#32
  let c0_i32_0 : BitVec 32 := 0#32
  ![v0.toNat, arg0.toNat, c0_i32.toNat]

def cc0_transform_2 (inb_S5_S1_2 : ∀ a, (![2] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S5) ![2] S1.size inb_S5_S1_2) numel1_S1
  let c0_i32 : BitVec 32 := 0#32
  let c0_i32_0 : BitVec 32 := 0#32
  ![v0.toNat, arg0.toNat, c0_i32.toNat]

def cc0_transform_3 (inb_S5_S1_3 : ∀ a, (![3] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S5) ![3] S1.size inb_S5_S1_3) numel1_S1
  let c0_i32 : BitVec 32 := 0#32
  let c0_i32_0 : BitVec 32 := 0#32
  ![v0.toNat, arg0.toNat, c0_i32.toNat]

def cc0_transform_4 (inb_S5_S1_4 : ∀ a, (![4] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c4 : Index := 4#32
  let v0 : BitVec 32 := pf.at 0 (Rect.unit (s := S5) ![4] S1.size inb_S5_S1_4) numel1_S1
  let c0_i32 : BitVec 32 := 0#32
  let c0_i32_0 : BitVec 32 := 0#32
  ![v0.toNat, arg0.toNat, c0_i32.toNat]

def cc0_transform_5 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c8_i32 : BitVec 32 := 8#32
  let v1 : BitVec 32 := Scalar.muli v0 c8_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference31Ideal.lean ====
abbrev S4x2048x2816 : Shape := ⟨3, ![4, 2048, 2816]⟩
abbrev S4x1024x2816 : Shape := ⟨3, ![4, 1024, 2816]⟩
abbrev S1x1024x2816 : Shape := ⟨3, ![1, 1024, 2816]⟩
abbrev S1024x2816 : Shape := ⟨2, ![1024, 2816]⟩
abbrev S3x1024x2816 : Shape := ⟨3, ![3, 1024, 2816]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x1024x2816, .f32⟩
  | .hbm, ⟨2, _⟩ => ⟨S4x1024x2816, .bf16⟩
  | .hbm, ⟨3, _⟩ => ⟨S1x1024x2816, .f32⟩
  | .hbm, ⟨4, _⟩ => ⟨S1024x2816, .f32⟩
  | .hbm, ⟨5, _⟩ => ⟨S1x1024x2816, .f32⟩
  | .hbm, ⟨6, _⟩ => ⟨S1024x2816, .f32⟩
  | .hbm, ⟨7, _⟩ => ⟨S1024x2816, .f32⟩
  | .hbm, ⟨8, _⟩ => ⟨S3x1024x2816, .bf16⟩
  | .hbm, ⟨9, _⟩ => ⟨S3x1024x2816, .f32⟩
  | .hbm, ⟨10, _⟩ => ⟨S_, .f32⟩
  | .hbm, ⟨11, _⟩ => ⟨S1024x2816, .f32⟩
  | .hbm, ⟨12, _⟩ => ⟨S1024x2816, .f32⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel32.lean ====
abbrev S4x1408x2048 : Shape := ⟨3, ![4, 1408, 2048]⟩
abbrev S4x704x2048 : Shape := ⟨3, ![4, 704, 2048]⟩
abbrev S5 : Shape := ⟨1, ![5]⟩
abbrev S1x64x2048 : Shape := ⟨3, ![1, 64, 2048]⟩
abbrev S1 : Shape := ⟨1, ![1]⟩
abbrev S64x2048 : Shape := ⟨2, ![64, 2048]⟩
abbrev S3x704x2048 : Shape := ⟨3, ![3, 704, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x1408x2048, .f32⟩
  | .hbm, ⟨1, _⟩ => ⟨S4x704x2048, .f32⟩
  | .hbm, ⟨2, _⟩ => ⟨S4x704x2048, .bf16⟩
  | .hbm, ⟨3, _⟩ => ⟨S3x704x2048, .bf16⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .bf16⟩
  | .local _ .vmem, ⟨5, _⟩ => ⟨S1x64x2048, .bf16⟩
  | .local _ .smem, ⟨0, _⟩ => ⟨S5, .i32⟩
  | _, _ => ⟨S4x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 11], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c2_i32 : BitVec 32 := 2#32
  let arg0 : BitVec 32 := BitVec.ofNat 32 (i 0).val
  let v0 : BitVec 32 := Scalar.addi c2_i32 arg0
  let v1 : Index := Scalar.indexCast v0
  ![v1.toNat]
def cc0_transform_0 (k0_off1_inb : ∀ i : grid0.Coords, ∀ a, (k0_off1 i) a + S1.size a ≤ S5.size a) (numel1_S1 : S1.numel = 1) (inb_S5_S1_0 : ∀ a, (![0] : Fin 1 → Nat) a + S1.size a ≤ S5.size a) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let v1 : Index := Scalar.indexCast v0
  let v2 : BitVec 32 := pf.at 0 (Rect.unit (s := S5) ![v1.toNat] S1.size (k0_off1_inb i)) numel1_S1
  let c0 : Index := 0#32
  let v3 : BitVec 32 := pf.at 0 (Rect.unit (s := S5) ![0] S1.size inb_S5_S1_0) numel1_S1
  let c11_i32 : BitVec 32 := 11#32
  let v4 : BitVec 32 := Scalar.muli v3 c11_i32
  let v5 : BitVec 32 := Scalar.addi v4 arg1
  let c0_i32 : BitVec 32 := 0#32
  let c0_i32_0 : BitVec 32 := 0#32
  ![v2.toNat, v5.toNat, c0_i32.toNat]

def cc0_transform_1 (k0_off1_inb : ∀ i : grid0.Coords, ∀ a, (k0_off1 i) a + S1.size a ≤ S5.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let v1 : Index := Scalar.indexCast v0
  let v2 : BitVec 32 := pf.at 0 (Rect.unit (s := S5) ![v1.toNat] S1.size (k0_off1_inb i)) numel1_S1
  let c0_i32 : BitVec 32 := 0#32
  let c0_i32_0 : BitVec 32 := 0#32
  ![v2.toNat, arg1.toNat, c0_i32.toNat]

def cc0_transform_2 (k0_off1_inb : ∀ i : grid0.Coords, ∀ a, (k0_off1 i) a + S1.size a ≤ S5.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let v1 : Index := Scalar.indexCast v0
  let v2 : BitVec 32 := pf.at 0 (Rect.unit (s := S5) ![v1.toNat] S1.size (k0_off1_inb i)) numel1_S1
  let c0_i32 : BitVec 32 := 0#32
  let c0_i32_0 : BitVec 32 := 0#32
  ![v2.toNat, arg1.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference32Ideal.lean ====
abbrev S4x1408x2048 : Shape := ⟨3, ![4, 1408, 2048]⟩
abbrev S4x704x2048 : Shape := ⟨3, ![4, 704, 2048]⟩
abbrev S3x704x2048 : Shape := ⟨3, ![3, 704, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x1408x2048, .f32⟩
  | .hbm, ⟨1, _⟩ => ⟨S4x704x2048, .f32⟩
  | .hbm, ⟨2, _⟩ => ⟨S3x704x2048, .f32⟩
  | .hbm, ⟨3, _⟩ => ⟨S3x704x2048, .f32⟩
  | .hbm, ⟨4, _⟩ => ⟨S3x704x2048, .f32⟩
  | .hbm, ⟨5, _⟩ => ⟨S3x704x2048, .bf16⟩
  | _, _ => ⟨S4x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel33.lean ====
abbrev S4x1408x2048 : Shape := ⟨3, ![4, 1408, 2048]⟩
abbrev S4x704x2048 : Shape := ⟨3, ![4, 704, 2048]⟩
abbrev S5 : Shape := ⟨1, ![5]⟩
abbrev S1408x2048 : Shape := ⟨2, ![1408, 2048]⟩
abbrev S1x64x2048 : Shape := ⟨3, ![1, 64, 2048]⟩
abbrev S1 : Shape := ⟨1, ![1]⟩
abbrev S64x2048 : Shape := ⟨2, ![64, 2048]⟩
abbrev S704x2048 : Shape := ⟨2, ![704, 2048]⟩

abbrev nBuf : Space → Nat
  | .hbm => 5
  | .vmem => 12
  | .smem => 1
  | _ => 0

abbrev bufTy : (tb : Table) → Fin (tcTables nBuf tb) → BufTy
  | .hbm, ⟨0, _⟩ => ⟨S4x1408x2048, .f32⟩
  | .hbm, ⟨1, _⟩ => ⟨S4x704x2048, .f32⟩
  | .hbm, ⟨2, _⟩ => ⟨S4x704x2048, .bf16⟩
  | .hbm, ⟨3, _⟩ => ⟨S1408x2048, .f32⟩
  | .hbm, ⟨4, _⟩ => ⟨S704x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .bf16⟩
  | .local _ .vmem, ⟨5, _⟩ => ⟨S1x64x2048, .bf16⟩
  | .local _ .vmem, ⟨6, _⟩ => ⟨S1x64x2048, .bf16⟩
  | .local _ .vmem, ⟨7, _⟩ => ⟨S1x64x2048, .bf16⟩
  | .local _ .vmem, ⟨8, _⟩ => ⟨S1x64x2048, .bf16⟩
  | .local _ .vmem, ⟨9, _⟩ => ⟨S1x64x2048, .bf16⟩
  | .local _ .vmem, ⟨10, _⟩ => ⟨S64x2048, .f32⟩
  | .local _ .vmem, ⟨11, _⟩ => ⟨S64x2048, .f32⟩
  | .local _ .smem, ⟨0, _⟩ => ⟨S5, .i32⟩
  | _, _ => ⟨S4x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_1 : ∀ a, (![1] : Fin 1 → Nat) a + S1.size a ≤ S5.size a) (numel1_S1 : S1.numel = 1) (inb_S5_S1_0 : ∀ a, (![0] : Fin 1 → Nat) a + S1.size a ≤ S5.size a) (pf : pre0.Contents (Elt F)) (i : grid0.Coords) : Fin 3 → Nat :=
  let arg0 : BitVec 32 := BitVec.ofNat 32 (i 0).val
  let c1 : Index := 1#32
  let v0 : BitVec 32 := pf.at 0 (Rect.unit (s := S5) ![1] S1.size inb_S5_S1_1) numel1_S1
  let c0 : Index := 0#32
  let v1 : BitVec 32 := pf.at 0 (Rect.unit (s := S5) ![0] S1.size inb_S5_S1_0) numel1_S1
  let c11_i32 : BitVec 32 := 11#32
  let v2 : BitVec 32 := Scalar.muli v1 c11_i32
  let v3 : BitVec 32 := Scalar.addi v2 arg0
  let c0_i32 : BitVec 32 := 0#32
  let c0_i32_0 : BitVec 32 := 0#32
  ![v0.toNat, v3.toNat, c0_i32.toNat]

def cc0_transform_1 (inb_S5_S1_1 : ∀ a, (![1] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S5) ![1] S1.size inb_S5_S1_1) numel1_S1
  let c0_i32 : BitVec 32 := 0#32
  let c0_i32_0 : BitVec 32 := 0#32
  ![v0.toNat, arg0.toNat, c0_i32.toNat]

def cc0_transform_2 (inb_S5_S1_2 : ∀ a, (![2] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S5) ![2] S1.size inb_S5_S1_2) numel1_S1
  let c0_i32 : BitVec 32 := 0#32
  let c0_i32_0 : BitVec 32 := 0#32
  ![v0.toNat, arg0.toNat, c0_i32.toNat]

def cc0_transform_3 (inb_S5_S1_3 : ∀ a, (![3] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S5) ![3] S1.size inb_S5_S1_3) numel1_S1
  let c0_i32 : BitVec 32 := 0#32
  let c0_i32_0 : BitVec 32 := 0#32
  ![v0.toNat, arg0.toNat, c0_i32.toNat]

def cc0_transform_4 (inb_S5_S1_4 : ∀ a, (![4] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c4 : Index := 4#32
  let v0 : BitVec 32 := pf.at 0 (Rect.unit (s := S5) ![4] S1.size inb_S5_S1_4) numel1_S1
  let c0_i32 : BitVec 32 := 0#32
  let c0_i32_0 : BitVec 32 := 0#32
  ![v0.toNat, arg0.toNat, c0_i32.toNat]

def cc0_transform_5 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c11_i32 : BitVec 32 := 11#32
  let v1 : BitVec 32 := Scalar.muli v0 c11_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference33Ideal.lean ====
abbrev S4x1408x2048 : Shape := ⟨3, ![4, 1408, 2048]⟩
abbrev S4x704x2048 : Shape := ⟨3, ![4, 704, 2048]⟩
abbrev S1x704x2048 : Shape := ⟨3, ![1, 704, 2048]⟩
abbrev S704x2048 : Shape := ⟨2, ![704, 2048]⟩
abbrev S3x704x2048 : Shape := ⟨3, ![3, 704, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x1408x2048, .f32⟩
  | .hbm, ⟨1, _⟩ => ⟨S4x704x2048, .f32⟩
  | .hbm, ⟨2, _⟩ => ⟨S4x704x2048, .bf16⟩
  | .hbm, ⟨3, _⟩ => ⟨S1x704x2048, .f32⟩
  | .hbm, ⟨4, _⟩ => ⟨S704x2048, .f32⟩
  | .hbm, ⟨5, _⟩ => ⟨S1x704x2048, .f32⟩
  | .hbm, ⟨6, _⟩ => ⟨S704x2048, .f32⟩
  | .hbm, ⟨7, _⟩ => ⟨S704x2048, .f32⟩
  | .hbm, ⟨8, _⟩ => ⟨S3x704x2048, .bf16⟩
  | .hbm, ⟨9, _⟩ => ⟨S3x704x2048, .f32⟩
  | .hbm, ⟨10, _⟩ => ⟨S_, .f32⟩
  | .hbm, ⟨11, _⟩ => ⟨S704x2048, .f32⟩
  | .hbm, ⟨12, _⟩ => ⟨S704x2048, .f32⟩
  | _, _ => ⟨S4x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel34.lean ====
abbrev S1x2048x6272 : Shape := ⟨3, ![1, 2048, 6272]⟩
abbrev S1x1024x6272 : Shape := ⟨3, ![1, 1024, 6272]⟩
abbrev S5 : Shape := ⟨1, ![5]⟩
abbrev S1024x6272 : Shape := ⟨2, ![1024, 6272]⟩
abbrev S1x128x6272 : Shape := ⟨3, ![1, 128, 6272]⟩
abbrev S1 : Shape := ⟨1, ![1]⟩
abbrev S128x6272 : Shape := ⟨2, ![128, 6272]⟩

abbrev nBuf : Space → Nat
  | .hbm => 3
  | .vmem => 6
  | .smem => 1
  | _ => 0

abbrev bufTy : (tb : Table) → Fin (tcTables nBuf tb) → BufTy
  | .hbm, ⟨0, _⟩ => ⟨S1x2048x6272, .f32⟩
  | .hbm, ⟨1, _⟩ => ⟨S1x1024x6272, .f32⟩
  | .hbm, ⟨2, _⟩ => ⟨S1024x6272, .bf16⟩
  | .local _ .vmem, ⟨0, _⟩ => ⟨S1x128x6272, .f32⟩
  | .local _ .vmem, ⟨1, _⟩ => ⟨S1x128x6272, .f32⟩
  | .local _ .vmem, ⟨2, _⟩ => ⟨S1x128x6272, .f32⟩
  | .local _ .vmem, ⟨3, _⟩ => ⟨S1x128x6272, .f32⟩
  | .local _ .vmem, ⟨4, _⟩ => ⟨S128x6272, .bf16⟩
  | .local _ .vmem, ⟨5, _⟩ => ⟨S128x6272, .bf16⟩
  | .local _ .smem, ⟨0, _⟩ => ⟨S5, .i32⟩
  | _, _ => ⟨S1x2048x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_0 : ∀ a, (![0] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S5) ![0] S1.size inb_S5_S1_0) numel1_S1
  let c8_i32 : BitVec 32 := 8#32
  let v1 : BitVec 32 := Scalar.muli v0 c8_i32
  let v2 : BitVec 32 := Scalar.addi v1 arg0
  let c0_i32 : BitVec 32 := 0#32
  let c0_i32_0 : BitVec 32 := 0#32
  let c0_i32_1 : BitVec 32 := 0#32
  ![c0_i32.toNat, v2.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x6272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x6272 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x6272 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference34Ideal.lean ====
abbrev S1x2048x6272 : Shape := ⟨3, ![1, 2048, 6272]⟩
abbrev S1x1024x6272 : Shape := ⟨3, ![1, 1024, 6272]⟩
abbrev S1024x6272 : Shape := ⟨2, ![1024, 6272]⟩

abbrev nBuf : Space → Nat
  | .hbm => 7
  | .vmem => 0
  | .smem => 0
  | _ => 0

abbrev bufTy : (tb : Table) → Fin (tcTables nBuf tb) → BufTy
  | .hbm, ⟨0, _⟩ => ⟨S1x2048x6272, .f32⟩
  | .hbm, ⟨1, _⟩ => ⟨S1x1024x6272, .f32⟩
  | .hbm, ⟨2, _⟩ => ⟨S1x1024x6272, .f32⟩
  | .hbm, ⟨3, _⟩ => ⟨S1024x6272, .f32⟩
  | .hbm, ⟨4, _⟩ => ⟨S1024x6272, .f32⟩
  | .hbm, ⟨5, _⟩ => ⟨S1024x6272, .f32⟩
  | .hbm, ⟨6, _⟩ => ⟨S1024x6272, .bf16⟩
  | _, _ => ⟨S1x2048x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel35.lean ====
abbrev S4x1024x1538 : Shape := ⟨3, ![4, 1024, 1538]⟩
abbrev S5 : Shape := ⟨1, ![5]⟩
abbrev S2048x1538 : Shape := ⟨2, ![2048, 1538]⟩
abbrev S1x128x1538 : Shape := ⟨3, ![1, 128, 1538]⟩
abbrev S1 : Shape := ⟨1, ![1]⟩
abbrev S128x1538 : Shape := ⟨2, ![128, 1538]⟩
abbrev S1024x1538 : Shape := ⟨2, ![1024, 1538]⟩

abbrev nBuf : Space → Nat
  | .hbm => 4
  | .vmem => 10
  | .smem => 1
  | _ => 0

abbrev bufTy : (tb : Table) → Fin (tcTables nBuf tb) → BufTy
  | .hbm, ⟨0, _⟩ => ⟨S4x1024x1538, .bf16⟩
  | .hbm, ⟨1, _⟩ => ⟨S4x1024x1538, .bf16⟩
  | .hbm, ⟨2, _⟩ => ⟨S2048x1538, .f32⟩
  | .hbm, ⟨3, _⟩ => ⟨S1024x1538, .f32⟩
  | .local _ .vmem, ⟨0, _⟩ => ⟨S1x128x1538, .bf16⟩
  | .local _ .vmem, ⟨1, _⟩ => ⟨S1x128x1538, .bf16⟩
  | .local _ .vmem, ⟨2, _⟩ => ⟨S1x128x1538, .bf16⟩
  | .local _ .vmem, ⟨3, _⟩ => ⟨S1x128x1538, .bf16⟩
  | .local _ .vmem, ⟨4, _⟩ => ⟨S1x128x1538, .bf16⟩
  | .local _ .vmem, ⟨5, _⟩ => ⟨S1x128x1538, .bf16⟩
  | .local _ .vmem, ⟨6, _⟩ => ⟨S1x128x1538, .bf16⟩
  | .local _ .vmem, ⟨7, _⟩ => ⟨S1x128x1538, .bf16⟩
  | .local _ .vmem, ⟨8, _⟩ => ⟨S128x1538, .f32⟩
  | .local _ .vmem, ⟨9, _⟩ => ⟨S128x1538, .f32⟩
  | .local _ .smem, ⟨0, _⟩ => ⟨S5, .i32⟩
  | _, _ => ⟨S4x1024x1538, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_1 : ∀ a, (![1] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S5) ![1] S1.size inb_S5_S1_1) numel1_S1
  let c0_i32 : BitVec 32 := 0#32
  let c0_i32_0 : BitVec 32 := 0#32
  ![v0.toNat, arg0.toNat, c0_i32.toNat]

def cc0_transform_1 (inb_S5_S1_2 : ∀ a, (![2] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S5) ![2] S1.size inb_S5_S1_2) numel1_S1
  let c0_i32 : BitVec 32 := 0#32
  let c0_i32_0 : BitVec 32 := 0#32
  ![v0.toNat, arg0.toNat, c0_i32.toNat]

def cc0_transform_2 (inb_S5_S1_3 : ∀ a, (![3] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S5) ![3] S1.size inb_S5_S1_3) numel1_S1
  let c0_i32 : BitVec 32 := 0#32
  let c0_i32_0 : BitVec 32 := 0#32
  ![v0.toNat, arg0.toNat, c0_i32.toNat]

def cc0_transform_3 (inb_S5_S1_4 : ∀ a, (![4] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c4 : Index := 4#32
  let v0 : BitVec 32 := pf.at 0 (Rect.unit (s := S5) ![4] S1.size inb_S5_S1_4) numel1_S1
  let c0_i32 : BitVec 32 := 0#32
  let c0_i32_0 : BitVec 32 := 0#32
  ![v0.toNat, arg0.toNat, c0_i32.toNat]

def cc0_transform_4 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c8_i32 : BitVec 32 := 8#32
  let v1 : BitVec 32 := Scalar.muli v0 c8_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x128x1538 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1538 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1538 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1538 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1538 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference35Ideal.lean ====
abbrev S4x1024x1538 : Shape := ⟨3, ![4, 1024, 1538]⟩
abbrev S1x1024x1538 : Shape := ⟨3, ![1, 1024, 1538]⟩
abbrev S1024x1538 : Shape := ⟨2, ![1024, 1538]⟩
abbrev S3x1024x1538 : Shape := ⟨3, ![3, 1024, 1538]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4x1024x1538, .bf16⟩
  | .hbm, ⟨1, _⟩ => ⟨S4x1024x1538, .bf16⟩
  | .hbm, ⟨2, _⟩ => ⟨S1x1024x1538, .bf16⟩
  | .hbm, ⟨3, _⟩ => ⟨S1024x1538, .bf16⟩
  | .hbm, ⟨4, _⟩ => ⟨S1024x1538, .f32⟩
  | .hbm, ⟨5, _⟩ => ⟨S3x1024x1538, .bf16⟩
  | .hbm, ⟨6, _⟩ => ⟨S3x1024x1538, .f32⟩
  | .hbm, ⟨7, _⟩ => ⟨S_, .f32⟩
  | .hbm, ⟨8, _⟩ => ⟨S1024x1538, .f32⟩
  | .hbm, ⟨9, _⟩ => ⟨S1024x1538, .f32⟩
  | _, _ => ⟨S4x1024x1538, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Access.lean ====
/- Arrays of extended reals read at natural-number coordinates (zero outside the array). -/
module

public import Idealize.ShloMosaic.Lib.Pointwise
public import Idealize.ShloMosaic.Lib.ValueIdx
public import Idealize.ShloMosaic.Lib.Pipeline.Value
public import Idealize.ShloMosaic.Lib.Pipeline.ValueKit.Tiles
public import Idealize.ShloMosaic.Lib.Pipeline.ValueKit.Geometry
public import Idealize.ShloMosaic.Lib.Pipeline.ValueKit.Acc

@[expose] public section

noncomputable section

namespace Cert.Access

open Idealize.ShloMosaic

/-- Entry `(r, c)` of a matrix, `0` outside it. -/
def at2 {n m : ℕ} (x : (⟨2, ![n, m]⟩ : Shape).Idx → EReal) (r c : ℕ) : EReal :=
  if h : r < n ∧ c < m then x (ValueIdx.ix2 ⟨r, h.1⟩ ⟨c, h.2⟩) else 0

theorem at2_pos {n m : ℕ} (x : (⟨2, ![n, m]⟩ : Shape).Idx → EReal) {r c : ℕ} (hr : r < n) (hc : c < m) :
    at2 x r c = x (ValueIdx.ix2 ⟨r, hr⟩ ⟨c, hc⟩) := dif_pos ⟨hr, hc⟩

/-- An entry of a matrix, by its coordinates. -/
theorem eq_at2 {n m : ℕ} (x : (⟨2, ![n, m]⟩ : Shape).Idx → EReal) (i : (⟨2, ![n, m]⟩ : Shape).Idx) :
    x i = at2 x (i 0).val (i 1).val := by
  rw [at2_pos x (i 0).isLt (i 1).isLt]
  exact congrArg x (ValueIdx.eq_ix2 i)

/-- An entry of a matrix, by coordinates equal to its own. -/
theorem eq_at2_of {n m : ℕ} (x : (⟨2, ![n, m]⟩ : Shape).Idx → EReal) (i : (⟨2, ![n, m]⟩ : Shape).Idx) {r c : ℕ}
    (hr : (i 0).val = r) (hc : (i 1).val = c) : x i = at2 x r c := by
  subst hr hc
  exact eq_at2 x i

/-- An entry of a matrix at a pair of coordinates. -/
theorem rd2 {n m : ℕ} (x : (⟨2, ![n, m]⟩ : Shape).Idx → EReal) (a : Fin n) (b : Fin m) {r c : ℕ}
    (hr : a.val = r) (hc : b.val = c) : x (ix2 a b) = at2 x r c :=
  eq_at2_of x _ hr hc

/-- The same, the coordinates as numbers with their bounds. -/
theorem rdm {n m : ℕ} (x : (⟨2, ![n, m]⟩ : Shape).Idx → EReal) {a b : ℕ} (ha : a < n) (hb : b < m) {r c : ℕ}
    (hr : a = r) (hc : b = c) : x (ix2 ⟨a, ha⟩ ⟨b, hb⟩) = at2 x r c :=
  eq_at2_of x _ hr hc

/-- The two spellings of a pair of coordinates agree. -/
theorem ix2_pt2 {n m : ℕ} (a : Fin n) (b : Fin m) : ix2 a b = ValueIdx.ix2 a b := ValueIdx.eq_ix2 _

section Buffers

variable {n m : ℕ}

/-- A load of a box of a matrix, entry by entry. -/
theorem at2_ld (X : (⟨2, ![n, m]⟩ : Shape).Idx → Elt Ideal .f32) (o0 o1 s0 s1 : ℕ)
    (inb : ∀ a, (![o0, o1] : Fin 2 → ℕ) a + (![s0, s1] : Fin 2 → ℕ) a ≤ (⟨2, ![n, m]⟩ : Shape).size a)
    {r c : ℕ} (hr : r < s0) (hc : c < s1) :
    at2 (n := s0) (m := s1) (View.ld (Val := Elt Ideal) (e' := .f32) X (Rect.unit (s := ⟨2, ![n, m]⟩) ![o0, o1] ![s0, s1] inb)) r c
      = at2 X (o0 + r) (o1 + c) := by
  rw [at2_pos _ hr hc]
  exact eq_at2_of X _ (Rect.idx_unit_val _ _ inb _ 0) (Rect.idx_unit_val _ _ inb _ 1)

/-- What a list of stores leaves, the last store first: the store's own values on its box, what was there before off it. -/
theorem canon_at {e : EltTy} (o0 o1 s0 s1 : ℕ)
    (inb : ∀ a, (![o0, o1] : Fin 2 → ℕ) a + (![s0, s1] : Fin 2 → ℕ) a ≤ (⟨2, ![n, m]⟩ : Shape).size a)
    (w : (⟨2, ![s0, s1]⟩ : Shape).Idx → Elt Ideal e) (L : List (View.Piece (Elt Ideal) (⟨2, ![n, m]⟩ : Shape) e))
    {r c : ℕ} (hr : r < n) (hc : c < m) :
    View.canon (⟨Rect.unit (s := ⟨2, ![n, m]⟩) ![o0, o1] ![s0, s1] inb, w⟩ :: L) (ValueIdx.ix2 ⟨r, hr⟩ ⟨c, hc⟩)
      = if h : (o0 ≤ r ∧ r < o0 + s0) ∧ (o1 ≤ c ∧ c < o1 + s1) then
          w (ValueIdx.ix2 ⟨r - o0, by omega⟩ ⟨c - o1, by omega⟩)
        else View.canon L (ValueIdx.ix2 ⟨r, hr⟩ ⟨c, hc⟩) := by
  split_ifs with h
  · have e : (Rect.unit (s := ⟨2, ![n, m]⟩) ![o0, o1] ![s0, s1] inb).emb (ValueIdx.ix2 (⟨r - o0, by omega⟩ : Fin s0) (⟨c - o1, by omega⟩ : Fin s1))
        = ValueIdx.ix2 (⟨r, hr⟩ : Fin n) (⟨c, hc⟩ : Fin m) := by
      refine Shape.idx_ext₂ ?_ ?_
      · refine (ValueKit.rect_emb_unit_val _ _ inb _ 0).trans ?_
        show o0 + (r - o0) = r
        omega
      · refine (ValueKit.rect_emb_unit_val _ _ inb _ 1).trans ?_
        show o1 + (c - o1) = c
        omega
    rw [← e]
    exact View.canon_cons_emb (Rect.unit (s := ⟨2, ![n, m]⟩) ![o0, o1] ![s0, s1] inb) w L _
  · refine View.canon_cons_of_not_mem _ L ?_
    show ¬ _ ∈ (Rect.unit (s := ⟨2, ![n, m]⟩) ![o0, o1] ![s0, s1] inb).set
    rw [Rect.mem_set_unit]
    exact fun hm => h ⟨hm 0, hm 1⟩

/-- The same at natural-number coordinates. -/
theorem at2_canon (o0 o1 s0 s1 : ℕ)
    (inb : ∀ a, (![o0, o1] : Fin 2 → ℕ) a + (![s0, s1] : Fin 2 → ℕ) a ≤ (⟨2, ![n, m]⟩ : Shape).size a)
    (w : (⟨2, ![s0, s1]⟩ : Shape).Idx → Elt Ideal .f32) (L : List (View.Piece (Elt Ideal) (⟨2, ![n, m]⟩ : Shape) .f32))
    {r c : ℕ} (hr : r < n) (hc : c < m) :
    at2 (n := n) (m := m) (View.canon (⟨Rect.unit (s := ⟨2, ![n, m]⟩) ![o0, o1] ![s0, s1] inb, w⟩ :: L)) r c
      = if (o0 ≤ r ∧ r < o0 + s0) ∧ (o1 ≤ c ∧ c < o1 + s1) then at2 w (r - o0) (c - o1) else at2 (n := n) (m := m) (View.canon L) r c := by
  rw [at2_pos _ hr hc, canon_at o0 o1 s0 s1 inb w L hr hc]
  split_ifs with h
  · exact (at2_pos w (by omega) (by omega)).symm
  · exact (at2_pos _ hr hc).symm

/-- The same for a buffer of half-width floats. -/
theorem at2_canon16 (o0 o1 s0 s1 : ℕ)
    (inb : ∀ a, (![o0, o1] : Fin 2 → ℕ) a + (![s0, s1] : Fin 2 → ℕ) a ≤ (⟨2, ![n, m]⟩ : Shape).size a)
    (w : (⟨2, ![s0, s1]⟩ : Shape).Idx → Elt Ideal .bf16) (L : List (View.Piece (Elt Ideal) (⟨2, ![n, m]⟩ : Shape) .bf16))
    {r c : ℕ} (hr : r < n) (hc : c < m) :
    at2 (n := n) (m := m) (View.canon (⟨Rect.unit (s := ⟨2, ![n, m]⟩) ![o0, o1] ![s0, s1] inb, w⟩ :: L)) r c
      = if (o0 ≤ r ∧ r < o0 + s0) ∧ (o1 ≤ c ∧ c < o1 + s1) then at2 w (r - o0) (c - o1) else at2 (n := n) (m := m) (View.canon L) r c := by
  rw [at2_pos _ hr hc, canon_at o0 o1 s0 s1 inb w L hr hc]
  split_ifs with h
  · exact (at2_pos w (by omega) (by omega)).symm
  · exact (at2_pos _ hr hc).symm

/-- A load of a box after a list of stores. -/
theorem at2_readCov {sig : RefSig} {κ : Kind} {sp : Space} (v : View sig κ sp (⟨2, ![n, m]⟩ : Shape) .f32)
    (L : List (View.Piece (Elt Ideal) (⟨2, ![n, m]⟩ : Shape) .f32)) (o0 o1 s0 s1 : ℕ)
    (inb : ∀ a, (![o0, o1] : Fin 2 → ℕ) a + (![s0, s1] : Fin 2 → ℕ) a ≤ (⟨2, ![n, m]⟩ : Shape).size a)
    {r c : ℕ} (hr : r < s0) (hc : c < s1) :
    at2 (n := s0) (m := s1) (v.readCov L (Rect.unit (s := ⟨2, ![n, m]⟩) ![o0, o1] ![s0, s1] inb).toLoadRect) r c
      = at2 (n := n) (m := m) (View.canon L) (o0 + r) (o1 + c) := by
  rw [View.readCov_eq_canon', at2_pos _ hr hc]
  exact eq_at2_of (View.canon L) _ (Rect.idx_unit_val _ _ inb _ 0) (Rect.idx_unit_val _ _ inb _ 1)

end Buffers

end Cert.Access

end
-- ==== Proof.FfnSpec.lean ====
/- The gradient of the gated activation behind a causal three-tap convolution, one column at a time: the column's values
   as functions of the row number. -/
module

public import Idealize.ShloMosaic.PureOps.Ideal

@[expose] public section

noncomputable section

namespace Cert.Ffn

open Idealize.ShloMosaic

/-- The logistic function. -/
def sg (x : EReal) : EReal := Ideal.div 1 (1 + Ideal.exp (0 - x))

variable (g u d w : ℕ → EReal) (b : EReal)

/-- The gate `k` rows earlier, zero before the first row. -/
def tap (k t : ℕ) : EReal := if t < k then 0 else g (t - k)

/-- The convolved gate. -/
def conv (t : ℕ) : EReal := ((b + tap g 2 t * w 0) + tap g 1 t * w 1) + g t * w 2

/-- The gradient of the convolved gate. -/
def dgate (t : ℕ) : EReal := (d t * u t) * (sg (conv g w b t) * (1 + conv g w b t * (1 - sg (conv g w b t))))

/-- The gradient of the other factor. -/
def dup (t : ℕ) : EReal := d t * (conv g w b t * sg (conv g w b t))

/-- The gradient of the convolved gate, zero past the last row. -/
def nxt (t : ℕ) : EReal := if t < 4096 then dgate g u d w b t else 0

/-- The gradient of the gate: the convolution's transpose. -/
def dgp (t : ℕ) : EReal := (nxt g u d w b (t + 2) * w 0 + nxt g u d w b (t + 1) * w 1) + dgate g u d w b t * w 2

/-- The gradient of tap `k`, over the first `n` rows. -/
def dtap (k n : ℕ) : EReal := ∑ t ∈ Finset.range n, dgate g u d w b t * tap g (2 - k) t

/-- The gradient of the bias, over the first `n` rows. -/
def dbias (n : ℕ) : EReal := ∑ t ∈ Finset.range n, dgate g u d w b t

theorem tap_zero (t : ℕ) : tap g 0 t = g t := rfl

theorem sg_top : sg ⊤ = 1 := by
  unfold sg
  rw [show (0 : EReal) - ⊤ = ⊥ from rfl, Ideal.exp_bot, add_zero, ← EReal.coe_one, Ideal.div_coe one_ne_zero, one_div_one, EReal.coe_one, mul_one]

theorem sg_bot : sg ⊥ = 0 := by
  unfold sg
  rw [show (0 : EReal) - ⊥ = ⊤ from rfl, Ideal.exp_top, show (1 : EReal) + ⊤ = ⊤ from rfl, Ideal.div, if_neg EReal.top_ne_zero, EReal.inv_top, mul_zero]

theorem sg_coe (x : ℝ) : sg x = (((1 + Real.exp (-x))⁻¹ : ℝ) : EReal) := by
  unfold sg
  rw [← EReal.coe_zero, ← EReal.coe_sub, zero_sub, Ideal.exp_coe, ← EReal.coe_one, ← EReal.coe_add, Ideal.div_coe (by positivity), EReal.coe_one, one_mul, one_div]

/-- The gated activation's derivative in the two forms: factored as the kernel computes it, and expanded term by term. -/
theorem silu_grad (x : EReal) (ht : x ≠ ⊤) (hb : x ≠ ⊥) (c : EReal) :
    x * (sg c * (1 + c * (1 - sg c))) = x * sg c + c * x * (sg c * (1 - sg c)) := by
  induction c with
  | bot => rw [sg_bot, zero_mul, zero_mul, mul_zero, mul_zero, add_zero]
  | top => rw [sg_top, show (1 : EReal) - 1 = 0 by rw [← EReal.coe_one, ← EReal.coe_sub, sub_self, EReal.coe_zero], mul_zero, mul_zero, add_zero, mul_one, mul_one, mul_zero, add_zero]
  | coe c =>
    lift x to ℝ using ⟨ht, hb⟩
    rw [sg_coe, ← EReal.coe_one]
    norm_cast
    ring

end Cert.Ffn

end
-- ==== Proof.FfnPay.lean ====
/- What the values the gated activation's backward kernel computes on a tile are, entry by entry. -/
module

public import proofs.«01_k».proof.Proof.Access
public import proofs.«01_k».proof.Proof.FfnSpec
public import proofs.«01_k».proof.Proof.Gen.KernelIdeal.Skeleton
public import Idealize.ShloMosaic.Lib.WordCmp

@[expose] public section

set_option maxRecDepth 16384

noncomputable section

namespace Cert.Ffn

open Idealize.ShloMosaic Cert.Access
open Cert.KernelIdeal Cert.KernelIdeal.Gen

/-- The rows two above, the first two rows from the tile before. -/
theorem pay7_at (i : grid0.Coords) (v3 : Vec Ideal S512x1408 .f32) (v5 : Vec Ideal S8x1408 .f32) (r c : ℕ) (hr : r < 512) (hc : c < 1408) :
    at2 (k0_pay7 i v3 v5) r c = if r < 2 then (if (i 1).val = 0 then 0 else at2 v5 (r + 6) c) else at2 v3 (r - 2) c := by
  rw [at2_pos _ hr hc]
  pointwise [k0_pay7, k0_pay6]
  have hi : (i 1).val < 8 := (i 1).isLt
  simp (disch := omega) only [hlo_ix]
  repeat' split
  all_goals first | (exfalso; omega) | rfl | exact rdm _ _ _ (by omega) rfl

/-- The rows one above, the first row from the tile before. -/
theorem pay8_at (i : grid0.Coords) (v3 : Vec Ideal S512x1408 .f32) (v5 : Vec Ideal S8x1408 .f32) (r c : ℕ) (hr : r < 512) (hc : c < 1408) :
    at2 (k0_pay8 i v3 v5) r c = if r < 1 then (if (i 1).val = 0 then 0 else at2 v5 (r + 7) c) else at2 v3 (r - 1) c := by
  rw [at2_pos _ hr hc]
  pointwise [k0_pay8, k0_pay6]
  have hi : (i 1).val < 8 := (i 1).isLt
  simp (disch := omega) only [hlo_ix]
  repeat' split
  all_goals first | (exfalso; omega) | rfl | exact rdm _ _ _ (by omega) rfl

/-- The bias and the first two taps. -/
theorem pay9_at (i : grid0.Coords) (v3 : Vec Ideal S512x1408 .f32) (v5 : Vec Ideal S8x1408 .f32) (b w0 w1 : Vec Ideal S1x1408 .f32) (r c : ℕ) (hr : r < 512) (hc : c < 1408) :
    at2 (k0_pay9 i v3 v5 b w0 w1) r c = (at2 b 0 c + at2 (k0_pay7 i v3 v5) r c * at2 w0 0 c) + at2 (k0_pay8 i v3 v5) r c * at2 w1 0 c := by
  rw [at2_pos _ hr hc]
  pointwise [k0_pay9]
  simp only [at2_pos _ hr hc, at2_pos _ (Nat.one_pos) hc, ix2_pt2]
  rfl

/-- The convolved gate. -/
theorem pay10_at (v3 a : Vec Ideal S512x1408 .f32) (w2 : Vec Ideal S1x1408 .f32) (r c : ℕ) (hr : r < 512) (hc : c < 1408) :
    at2 (k0_pay10 v3 a w2) r c = at2 a r c + at2 v3 r c * at2 w2 0 c := by
  rw [at2_pos _ hr hc]
  pointwise [k0_pay10]
  simp only [at2_pos _ hr hc, at2_pos _ (Nat.one_pos) hc, ix2_pt2]
  rfl

/-- Its logistic. -/
theorem pay11_at (v3 a : Vec Ideal S512x1408 .f32) (w2 : Vec Ideal S1x1408 .f32) (r c : ℕ) (hr : r < 512) (hc : c < 1408) :
    at2 (k0_pay11 v3 a w2) r c = sg (at2 (k0_pay10 v3 a w2) r c) := by
  rw [at2_pos _ hr hc]
  pointwise [k0_pay11]
  simp only [at2_pos _ hr hc, at2_pos _ (Nat.one_pos) hc, ix2_pt2, sg]

/-- The gate's gradient before the convolution. -/
theorem pay12_at (v3 a : Vec Ideal S512x1408 .f32) (w2 : Vec Ideal S1x1408 .f32) (u d : Vec Ideal S512x1408 .f32) (r c : ℕ) (hr : r < 512) (hc : c < 1408) :
    at2 (k0_pay12 v3 a w2 u d) r c = (at2 d r c * at2 u r c) * (sg (at2 (k0_pay10 v3 a w2) r c) * (1 + at2 (k0_pay10 v3 a w2) r c * (1 - sg (at2 (k0_pay10 v3 a w2) r c)))) := by
  rw [← pay11_at _ _ _ _ _ hr hc, at2_pos _ hr hc]
  pointwise [k0_pay12]
  simp only [at2_pos _ hr hc, at2_pos _ (Nat.one_pos) hc, ix2_pt2]

/-- The gradient of the other factor. -/
theorem pay13_at (v3 a : Vec Ideal S512x1408 .f32) (w2 : Vec Ideal S1x1408 .f32) (d : Vec Ideal S512x1408 .f32) (r c : ℕ) (hr : r < 512) (hc : c < 1408) :
    at2 (k0_pay13 v3 a w2 d) r c = at2 d r c * (at2 (k0_pay10 v3 a w2) r c * sg (at2 (k0_pay10 v3 a w2) r c)) := by
  rw [← pay11_at _ _ _ _ _ hr hc, at2_pos _ hr hc]
  pointwise [k0_pay13]
  simp only [at2_pos _ hr hc, at2_pos _ (Nat.one_pos) hc, ix2_pt2]

/-- The convolution at the first rows of the next tile. -/
def convNext (v3 : Vec Ideal S512x1408 .f32) (n : Vec Ideal S8x1408 .f32) (b w0 w1 w2 : Vec Ideal S1x1408 .f32) (r c : ℕ) : EReal :=
  ((at2 b 0 c + (if r < 2 then at2 v3 (r + 510) c else at2 n (r - 2) c) * at2 w0 0 c)
    + (if r < 1 then at2 v3 (r + 511) c else at2 n (r - 1) c) * at2 w1 0 c) + at2 n r c * at2 w2 0 c

/-- The gate's gradient at the first rows of the next tile, zero past the last. -/
theorem pay18_at (i : grid0.Coords) (v3 : Vec Ideal S512x1408 .f32) (n : Vec Ideal S8x1408 .f32) (b w0 w1 w2 : Vec Ideal S1x1408 .f32) (u d : Vec Ideal S8x1408 .f32) (r c : ℕ) (hr : r < 8) (hc : c < 1408) :
    at2 (k0_pay18 (F := Ideal) (BitVec.ofNat 32 (i 1).val) n (k0_pay14 v3) (k0_pay15 v3 b n w0) (k0_pay16 n) k0_pay17 1#32 w1 w2 u d) r c
      = if (i 1).val = 7 then 0 else (at2 d r c * at2 u r c) * (sg (convNext v3 n b w0 w1 w2 r c) * (1 + convNext v3 n b w0 w1 w2 r c * (1 - sg (convNext v3 n b w0 w1 w2 r c)))) := by
  have hi : (i 1).val < 8 := (i 1).isLt
  have e2 : Scalar.select (IntOp.cmpi .sge (BitVec.ofNat 32 r) 2#32) (n (ix2 ⟨(r + 8 - 2) % 8, by omega⟩ ⟨c, hc⟩)) (v3 (ix2 ⟨504 + (r + 8 - 2) % 8, by omega⟩ ⟨c, hc⟩)) = (if r < 2 then at2 v3 (r + 510) c else at2 n (r - 2) c) := by
    simp (disch := omega) only [hlo_ix]
    repeat' split
    all_goals first | (exfalso; omega) | exact rdm _ _ _ (by omega) rfl
  have e1 : Scalar.select (IntOp.cmpi .sge (BitVec.ofNat 32 r) 1#32) (n (ix2 ⟨(r + 8 - 1) % 8, by omega⟩ ⟨c, hc⟩)) (v3 (ix2 ⟨504 + (r + 8 - 1) % 8, by omega⟩ ⟨c, hc⟩)) = (if r < 1 then at2 v3 (r + 511) c else at2 n (r - 1) c) := by
    simp (disch := omega) only [hlo_ix]
    repeat' split
    all_goals first | (exfalso; omega) | exact rdm _ _ _ (by omega) rfl
  unfold convNext
  rw [← e2, ← e1, at2_pos _ hr hc]
  pointwise [k0_pay18, k0_pay14, k0_pay15, k0_pay16, k0_pay17]
  simp only [at2_pos _ hr hc, at2_pos _ (Nat.one_pos) hc, ix2_pt2, sg]
  simp (disch := omega) only [hlo_ix]
  rfl

/-- The running sum of the bias's gradient. -/
theorem pay19_at (g : FVec Ideal S512x1408 .f32) (p : Vec Ideal S1x1408 .f32) (c : ℕ) (hc : c < 1408) :
    at2 (k0_pay19 g p) 0 c = at2 p 0 c + ∑ k ∈ Finset.range 512, at2 g k c := by
  rw [at2_pos _ Nat.one_pos hc]
  pointwise [k0_pay19]
  rw [Finset.sum_range]
  simp only [at2_pos _ (Fin.isLt _) hc, at2_pos _ (Nat.one_pos) hc, ix2_pt2]
  rfl

/-- The running sum of the first tap's gradient. -/
theorem pay21_at (x g : FVec Ideal S512x1408 .f32) (p : Vec Ideal S1x1408 .f32) (c : ℕ) (hc : c < 1408) :
    at2 (k0_pay21 x g p) 0 c = at2 p 0 c + ∑ k ∈ Finset.range 512, at2 g k c * at2 x k c := by
  rw [at2_pos _ Nat.one_pos hc]
  pointwise [k0_pay21]
  rw [Finset.sum_range]
  simp only [at2_pos _ (Fin.isLt _) hc, at2_pos _ (Nat.one_pos) hc, ix2_pt2]
  rfl

/-- The running sum of the second tap's gradient. -/
theorem pay23_at (x g : FVec Ideal S512x1408 .f32) (p : Vec Ideal S1x1408 .f32) (c : ℕ) (hc : c < 1408) :
    at2 (k0_pay23 x g p) 0 c = at2 p 0 c + ∑ k ∈ Finset.range 512, at2 g k c * at2 x k c := by
  rw [at2_pos _ Nat.one_pos hc]
  pointwise [k0_pay23]
  rw [Finset.sum_range]
  simp only [at2_pos _ (Fin.isLt _) hc, at2_pos _ (Nat.one_pos) hc, ix2_pt2]
  rfl

/-- The running sum of the third tap's gradient. -/
theorem pay1_at (x g : FVec Ideal S512x1408 .f32) (p : Vec Ideal S1x1408 .f32) (c : ℕ) (hc : c < 1408) :
    at2 (k0_pay1 x g p) 0 c = at2 p 0 c + ∑ k ∈ Finset.range 512, at2 g k c * at2 x k c := by
  rw [at2_pos _ Nat.one_pos hc]
  pointwise [k0_pay1]
  rw [Finset.sum_range]
  simp only [at2_pos _ (Fin.isLt _) hc, at2_pos _ (Nat.one_pos) hc, ix2_pt2]
  rfl

/-- The first tap of the convolution's transpose. -/
theorem pay22_at (g : FVec Ideal S512x1408 .f32) (n : FVec Ideal S8x1408 .f32) (w0 : Vec Ideal S1x1408 .f32) (r c : ℕ) (hr : r < 512) (hc : c < 1408) :
    at2 (k0_pay22 g n k0_pay20 w0) r c = (if r < 510 then at2 g (r + 2) c else at2 n (r - 510) c) * at2 w0 0 c := by
  rw [at2_pos _ hr hc]
  pointwise [k0_pay22, k0_pay20]
  simp (disch := omega) only [hlo_ix]
  refine congrArg₂ (· * ·) ?_ (rd2 _ _ _ rfl rfl)
  repeat' split
  all_goals first | (exfalso; omega) | exact rdm _ _ _ (by omega) rfl

/-- The second tap of the convolution's transpose. -/
theorem pay24_at (g : FVec Ideal S512x1408 .f32) (n : FVec Ideal S8x1408 .f32) (w0 : Vec Ideal S1x1408 .f32) (r c : ℕ) (hr : r < 512) (hc : c < 1408) :
    at2 (k0_pay24 g n w0) r c = (if r < 511 then at2 g (r + 1) c else at2 n (r - 511) c) * at2 w0 0 c := by
  rw [at2_pos _ hr hc]
  pointwise [k0_pay24]
  simp (disch := omega) only [hlo_ix]
  refine congrArg₂ (· * ·) ?_ (rd2 _ _ _ rfl rfl)
  repeat' split
  all_goals first | (exfalso; omega) | exact rdm _ _ _ (by omega) rfl

/-- The gradient of the gate's columns. -/
theorem pay2_at (g : FVec Ideal S512x1408 .f32) (p q : FVec Ideal S512x1408 .f32) (w2 : Vec Ideal S1x1408 .f32) (r c : ℕ) (hr : r < 512) (hc : c < 1408) :
    at2 (k0_pay2 g p q w2) r c = (at2 p r c + at2 q r c) + at2 g r c * at2 w2 0 c := by
  rw [at2_pos _ hr hc]
  pointwise [k0_pay2]
  simp only [at2_pos _ hr hc, at2_pos _ (Nat.one_pos) hc, ix2_pt2]
  rfl

end Cert.Ffn

end
-- ==== Proof.FfnTile.lean ====
/- The values the gated activation's backward kernel computes on one row tile of one column block, in terms of the
   columns' values. -/
module

public import proofs.«01_k».proof.Proof.FfnPay

@[expose] public section

set_option maxRecDepth 16384

noncomputable section

namespace Cert.Ffn

open Idealize.ShloMosaic Cert.Access
open Cert.KernelIdeal Cert.KernelIdeal.Gen

/-- The blocks of row tile `n`: the gate with its neighbours' edges, the other factor, the gradient, the taps, the bias. -/
structure Tile (n : ℕ) (g u d w : ℕ → ℕ → EReal) (b : ℕ → EReal)
    (x0 : Vec Ideal S512x1408 .f32) (x1 x2 : Vec Ideal S8x1408 .f32) (x3 : Vec Ideal S512x1408 .f32) (x4 : Vec Ideal S8x1408 .f32)
    (x5 : Vec Ideal S512x1408 .f32) (x6 : Vec Ideal S8x1408 .f32) (x7 : Vec Ideal S3x1408 .f32) (x8 : Vec Ideal S1x1408 .f32) : Prop where
  gate : ∀ r c, r < 512 → c < 1408 → at2 x0 r c = g c (512 * n + r)
  prev : ∀ r c, r < 8 → c < 1408 → n ≠ 0 → at2 x1 r c = g c (512 * n - 8 + r)
  next : ∀ r c, r < 8 → c < 1408 → n ≠ 7 → at2 x2 r c = g c (512 * (n + 1) + r)
  up : ∀ r c, r < 512 → c < 1408 → at2 x3 r c = u c (512 * n + r)
  upNext : ∀ r c, r < 8 → c < 1408 → n ≠ 7 → at2 x4 r c = u c (512 * (n + 1) + r)
  grad : ∀ r c, r < 512 → c < 1408 → at2 x5 r c = d c (512 * n + r)
  gradNext : ∀ r c, r < 8 → c < 1408 → n ≠ 7 → at2 x6 r c = d c (512 * (n + 1) + r)
  taps : ∀ k c, k < 3 → c < 1408 → at2 x7 k c = w c k
  bias : ∀ c, c < 1408 → at2 x8 0 c = b c

section

variable {i : grid0.Coords} {g u d w : ℕ → ℕ → EReal} {b : ℕ → EReal}
  {x0 : Vec Ideal S512x1408 .f32} {x1 x2 : Vec Ideal S8x1408 .f32} {x3 : Vec Ideal S512x1408 .f32} {x4 : Vec Ideal S8x1408 .f32}
  {x5 : Vec Ideal S512x1408 .f32} {x6 : Vec Ideal S8x1408 .f32} {x7 : Vec Ideal S3x1408 .f32} {x8 : Vec Ideal S1x1408 .f32}

/-- Row `k` of the taps. -/
abbrev row0 (x7 : Vec Ideal S3x1408 .f32) : Vec Ideal S1x1408 .f32 := View.ld x7 (Rect.unit (s := S3x1408) ![0, 0] ![1, 1408] inb_S3x1408_S1x1408_0_0)
abbrev row1 (x7 : Vec Ideal S3x1408 .f32) : Vec Ideal S1x1408 .f32 := View.ld x7 (Rect.unit (s := S3x1408) ![1, 0] ![1, 1408] inb_S3x1408_S1x1408_1_0)
abbrev row2 (x7 : Vec Ideal S3x1408 .f32) : Vec Ideal S1x1408 .f32 := View.ld x7 (Rect.unit (s := S3x1408) ![2, 0] ![1, 1408] inb_S3x1408_S1x1408_2_0)

/-- The bias and the first two taps, over the tile's blocks. -/
abbrev part (i : grid0.Coords) (x0 : Vec Ideal S512x1408 .f32) (x1 : Vec Ideal S8x1408 .f32) (x7 : Vec Ideal S3x1408 .f32) (x8 : Vec Ideal S1x1408 .f32) : Vec Ideal S512x1408 .f32 :=
  k0_pay9 i x0 x1 x8 (row0 x7) (row1 x7)

/-- The gate's gradient before the convolution, over the tile's blocks. -/
abbrev gateGrad (i : grid0.Coords) (x0 : Vec Ideal S512x1408 .f32) (x1 : Vec Ideal S8x1408 .f32) (x3 x5 : Vec Ideal S512x1408 .f32) (x7 : Vec Ideal S3x1408 .f32) (x8 : Vec Ideal S1x1408 .f32) : FVec Ideal S512x1408 .f32 :=
  k0_pay12 x0 (part i x0 x1 x7 x8) (row2 x7) x3 x5

/-- The same at the next tile's first rows. -/
abbrev edgeGrad (i : grid0.Coords) (x0 : Vec Ideal S512x1408 .f32) (x2 x4 x6 : Vec Ideal S8x1408 .f32) (x7 : Vec Ideal S3x1408 .f32) (x8 : Vec Ideal S1x1408 .f32) : FVec Ideal S8x1408 .f32 :=
  k0_pay18 (F := Ideal) (BitVec.ofNat 32 (i 1).val) x2 (k0_pay14 x0) (k0_pay15 x0 x8 x2 (row0 x7)) (k0_pay16 x2) k0_pay17 1#32 (row1 x7) (row2 x7) x4 x6

theorem row0_at (H : Tile (i 1).val g u d w b x0 x1 x2 x3 x4 x5 x6 x7 x8) {c : ℕ} (hc : c < 1408) : at2 (row0 x7) 0 c = w c 0 := by
  rw [at2_ld x7 0 0 1 1408 _ Nat.one_pos hc, Nat.zero_add, Nat.zero_add]; exact H.taps 0 c (by omega) hc
theorem row1_at (H : Tile (i 1).val g u d w b x0 x1 x2 x3 x4 x5 x6 x7 x8) {c : ℕ} (hc : c < 1408) : at2 (row1 x7) 0 c = w c 1 := by
  rw [at2_ld x7 1 0 1 1408 _ Nat.one_pos hc, Nat.zero_add]; exact H.taps 1 c (by omega) hc
theorem row2_at (H : Tile (i 1).val g u d w b x0 x1 x2 x3 x4 x5 x6 x7 x8) {c : ℕ} (hc : c < 1408) : at2 (row2 x7) 0 c = w c 2 := by
  rw [at2_ld x7 2 0 1 1408 _ Nat.one_pos hc, Nat.zero_add]; exact H.taps 2 c (by omega) hc

theorem tap2_at (H : Tile (i 1).val g u d w b x0 x1 x2 x3 x4 x5 x6 x7 x8) {r c : ℕ} (hr : r < 512) (hc : c < 1408) :
    at2 (k0_pay7 i x0 x1) r c = tap (g c) 2 (512 * (i 1).val + r) := by
  rw [pay7_at i x0 x1 r c hr hc]
  unfold tap
  split_ifs with h1 h2 h3 h3 h3
  · rfl
  · omega
  · omega
  · rw [H.prev _ c (by omega) hc h2]; congr 1; omega
  · omega
  · rw [H.gate _ c (by omega) hc]; congr 1; omega

theorem tap1_at (H : Tile (i 1).val g u d w b x0 x1 x2 x3 x4 x5 x6 x7 x8) {r c : ℕ} (hr : r < 512) (hc : c < 1408) :
    at2 (k0_pay8 i x0 x1) r c = tap (g c) 1 (512 * (i 1).val + r) := by
  rw [pay8_at i x0 x1 r c hr hc]
  unfold tap
  split_ifs with h1 h2 h3 h3 h3
  · rfl
  · omega
  · omega
  · rw [H.prev _ c (by omega) hc h2]; congr 1; omega
  · omega
  · rw [H.gate _ c (by omega) hc]; congr 1; omega

theorem conv_at (H : Tile (i 1).val g u d w b x0 x1 x2 x3 x4 x5 x6 x7 x8) {r c : ℕ} (hr : r < 512) (hc : c < 1408) :
    at2 (k0_pay10 x0 (part i x0 x1 x7 x8) (row2 x7)) r c = conv (g c) (w c) (b c) (512 * (i 1).val + r) := by
  rw [pay10_at _ _ _ _ _ hr hc, pay9_at _ _ _ _ _ _ _ _ hr hc, row0_at H hc, row1_at H hc, row2_at H hc, tap2_at H hr hc, tap1_at H hr hc,
    H.gate r c hr hc, H.bias c hc]
  rfl

theorem gateGrad_at (H : Tile (i 1).val g u d w b x0 x1 x2 x3 x4 x5 x6 x7 x8) {r c : ℕ} (hr : r < 512) (hc : c < 1408) :
    at2 (gateGrad i x0 x1 x3 x5 x7 x8) r c = dgate (g c) (u c) (d c) (w c) (b c) (512 * (i 1).val + r) := by
  rw [pay12_at _ _ _ _ _ _ _ hr hc, conv_at H hr hc, H.up r c hr hc, H.grad r c hr hc]
  rfl

theorem upGrad_at (H : Tile (i 1).val g u d w b x0 x1 x2 x3 x4 x5 x6 x7 x8) {r c : ℕ} (hr : r < 512) (hc : c < 1408) :
    at2 (k0_pay13 x0 (part i x0 x1 x7 x8) (row2 x7) x5) r c = dup (g c) (d c) (w c) (b c) (512 * (i 1).val + r) := by
  rw [pay13_at _ _ _ _ _ _ hr hc, conv_at H hr hc, H.grad r c hr hc]
  rfl

theorem convNext_at (H : Tile (i 1).val g u d w b x0 x1 x2 x3 x4 x5 x6 x7 x8) (h7 : (i 1).val ≠ 7) {r c : ℕ} (hr : r < 8) (hc : c < 1408) :
    convNext x0 x2 x8 (row0 x7) (row1 x7) (row2 x7) r c = conv (g c) (w c) (b c) (512 * ((i 1).val + 1) + r) := by
  have e2 : (if r < 2 then at2 x0 (r + 510) c else at2 x2 (r - 2) c) = tap (g c) 2 (512 * ((i 1).val + 1) + r) := by
    unfold tap
    rw [if_neg (by omega : ¬ 512 * ((i 1).val + 1) + r < 2)]
    split_ifs with h
    · rw [H.gate _ c (by omega) hc]; congr 1; omega
    · rw [H.next _ c (by omega) hc h7]; congr 1; omega
  have e1 : (if r < 1 then at2 x0 (r + 511) c else at2 x2 (r - 1) c) = tap (g c) 1 (512 * ((i 1).val + 1) + r) := by
    unfold tap
    rw [if_neg (by omega : ¬ 512 * ((i 1).val + 1) + r < 1)]
    split_ifs with h
    · rw [H.gate _ c (by omega) hc]; congr 1; omega
    · rw [H.next _ c (by omega) hc h7]; congr 1; omega
  unfold convNext
  rw [e1, e2, row0_at H hc, row1_at H hc, row2_at H hc, H.bias c hc, H.next r c hr hc h7]
  rfl

theorem edgeGrad_at (H : Tile (i 1).val g u d w b x0 x1 x2 x3 x4 x5 x6 x7 x8) {r c : ℕ} (hr : r < 8) (hc : c < 1408) :
    at2 (edgeGrad i x0 x2 x4 x6 x7 x8) r c = nxt (g c) (u c) (d c) (w c) (b c) (512 * ((i 1).val + 1) + r) := by
  have hi : (i 1).val < 8 := (i 1).isLt
  rw [pay18_at i _ _ _ _ _ _ _ _ _ _ hr hc]
  unfold nxt
  split_ifs with h1 h2 h2
  · omega
  · rfl
  · rw [convNext_at H h1 hr hc, H.upNext r c hr hc h1, H.gradNext r c hr hc h1]; rfl
  · omega

/-- The gate's columns of the stored tile. -/
theorem store_gate_at (H : Tile (i 1).val g u d w b x0 x1 x2 x3 x4 x5 x6 x7 x8) {r c : ℕ} (hr : r < 512) (hc : c < 1408) :
    at2 (k0_pay2 (gateGrad i x0 x1 x3 x5 x7 x8)
        (k0_pay22 (gateGrad i x0 x1 x3 x5 x7 x8) (edgeGrad i x0 x2 x4 x6 x7 x8) k0_pay20 (row0 x7))
        (k0_pay24 (gateGrad i x0 x1 x3 x5 x7 x8) (edgeGrad i x0 x2 x4 x6 x7 x8) (row1 x7)) (row2 x7)) r c
      = dgp (g c) (u c) (d c) (w c) (b c) (512 * (i 1).val + r) := by
  have hi : (i 1).val < 8 := (i 1).isLt
  rw [pay2_at _ _ _ _ _ _ hr hc, pay22_at _ _ _ _ _ hr hc, pay24_at _ _ _ _ _ hr hc, gateGrad_at H hr hc, row0_at H hc, row1_at H hc, row2_at H hc]
  have e2 : (if r < 510 then at2 (gateGrad i x0 x1 x3 x5 x7 x8) (r + 2) c else at2 (edgeGrad i x0 x2 x4 x6 x7 x8) (r - 510) c)
      = nxt (g c) (u c) (d c) (w c) (b c) (512 * (i 1).val + r + 2) := by
    split_ifs with h
    · rw [gateGrad_at H (by omega) hc, nxt, if_pos (by omega)]; rfl
    · rw [edgeGrad_at H (by omega) hc]; congr 1; omega
  have e1 : (if r < 511 then at2 (gateGrad i x0 x1 x3 x5 x7 x8) (r + 1) c else at2 (edgeGrad i x0 x2 x4 x6 x7 x8) (r - 511) c)
      = nxt (g c) (u c) (d c) (w c) (b c) (512 * (i 1).val + r + 1) := by
    split_ifs with h
    · rw [gateGrad_at H (by omega) hc, nxt, if_pos (by omega)]; rfl
    · rw [edgeGrad_at H (by omega) hc]; congr 1; omega
  rw [e1, e2]
  rfl

end

end Cert.Ffn

end
-- ==== Proof.FfnOut.lean ====
/- What the gated activation's backward kernel leaves in its output blocks at one grid point. -/
module

public import proofs.«01_k».proof.Proof.FfnTile
public import proofs.«01_k».proof.Proof.Gen.KernelIdeal.Value

@[expose] public section

set_option maxRecDepth 16384

noncomputable section

namespace Cert.Ffn

open Idealize.ShloMosaic Idealize.ShloMosaic.TcCoe Idealize.SL.Sem Cert.Access
open Idealize.ShloMosaic.Pipeline (Dat)
open Cert.KernelIdeal Cert.KernelIdeal.Gen

variable (m : (ℓ : Loc nD τ sig) → Buf (Elt Ideal) ℓ)

/-- The input columns as functions of the row number: `j` the column block, `c` the column in it. -/
def gcol (j c s : ℕ) : EReal := at2 (n := 4096) (m := 11264) (V m (0 : Dev nD) (Pipeline.arrRef spec0 0)) s (2816 * j + c)
def ucol (j c s : ℕ) : EReal := at2 (n := 4096) (m := 11264) (V m (0 : Dev nD) (Pipeline.arrRef spec0 0)) s (2816 * j + 1408 + c)
def dcol (j c s : ℕ) : EReal := at2 (n := 4096) (m := 5632) (V m (0 : Dev nD) (Pipeline.arrRef spec0 5)) s (1408 * j + c)
def wcol (j c k : ℕ) : EReal := at2 (n := 3) (m := 5632) (V m (0 : Dev nD) (Pipeline.arrRef spec0 7)) k (1408 * j + c)
def bcol (j c : ℕ) : EReal := at2 (n := 1) (m := 5632) (V m (0 : Dev nD) (Pipeline.arrRef spec0 8)) 0 (1408 * j + c)

theorem coord1 : ∀ t : Fin cfg0.N, (grid0.coords t 1).val = t.val % 8 := (by decide +kernel : ∀ t : Fin grid0.N, _)

theorem idx0 : ∀ t : Fin cfg0.N, win0_0.index t = ![t.val % 8, 2 * (t.val / 8)] := (by decide +kernel : ∀ t : Fin grid0.N, _)
theorem idx1 : ∀ t : Fin cfg0.N, win0_1.index t = ![64 * (t.val % 8) - 1, 2 * (t.val / 8)] := (by decide +kernel : ∀ t : Fin grid0.N, _)
theorem idx2 : ∀ t : Fin cfg0.N, win0_2.index t = ![min (64 * (t.val % 8 + 1)) 511, 2 * (t.val / 8)] := (by decide +kernel : ∀ t : Fin grid0.N, _)
theorem idx3 : ∀ t : Fin cfg0.N, win0_3.index t = ![t.val % 8, 2 * (t.val / 8) + 1] := (by decide +kernel : ∀ t : Fin grid0.N, _)
theorem idx4 : ∀ t : Fin cfg0.N, win0_4.index t = ![min (64 * (t.val % 8 + 1)) 511, 2 * (t.val / 8) + 1] := (by decide +kernel : ∀ t : Fin grid0.N, _)
theorem idx5 : ∀ t : Fin cfg0.N, win0_5.index t = ![t.val % 8, t.val / 8] := (by decide +kernel : ∀ t : Fin grid0.N, _)
theorem idx6 : ∀ t : Fin cfg0.N, win0_6.index t = ![min (64 * (t.val % 8 + 1)) 511, t.val / 8] := (by decide +kernel : ∀ t : Fin grid0.N, _)
theorem idx7 : ∀ t : Fin cfg0.N, win0_7.index t = ![0, t.val / 8] := (by decide +kernel : ∀ t : Fin grid0.N, _)
theorem idx8 : ∀ t : Fin cfg0.N, win0_8.index t = ![0, t.val / 8] := (by decide +kernel : ∀ t : Fin grid0.N, _)
theorem idx9 : ∀ t : Fin cfg0.N, win0_9.index t = ![t.val % 8, t.val / 8] := (by decide +kernel : ∀ t : Fin grid0.N, _)
theorem idx10 : ∀ t : Fin cfg0.N, win0_10.index t = ![0, t.val / 8] := (by decide +kernel : ∀ t : Fin grid0.N, _)
theorem idx11 : ∀ t : Fin cfg0.N, win0_11.index t = ![0, t.val / 8] := (by decide +kernel : ∀ t : Fin grid0.N, _)

theorem pay3_at (v : FVec Ideal S512x1408 .f32) (r c : ℕ) : at2 (n := 512) (m := 1408) (k0_pay3 v) r c = at2 v r c := rfl

theorem pay4_at {r c : ℕ} (hr : r < 3) (hc : c < 1408) : at2 (n := 3) (m := 1408) (k0_pay4 (F := Ideal)) r c = 0 := by
  rw [at2_pos _ hr hc]
  pointwise [k0_pay4]

theorem pay5_at {c : ℕ} (hc : c < 1408) : at2 (n := 1) (m := 1408) (k0_pay5 (F := Ideal)) 0 c = 0 := by
  rw [at2_pos _ Nat.one_pos hc]
  pointwise [k0_pay5]

/-- Every grid point's input blocks are a row tile of its column block. -/
theorem tile (t : Fin cfg0.N) :
    Tile (grid0.coords t 1).val (gcol m (t.val / 8)) (ucol m (t.val / 8)) (dcol m (t.val / 8)) (wcol m (t.val / 8)) (bcol m (t.val / 8))
      (iblk m (0 : Dev nD) 0 t) (iblk m (0 : Dev nD) 1 t) (iblk m (0 : Dev nD) 2 t) (iblk m (0 : Dev nD) 3 t) (iblk m (0 : Dev nD) 4 t)
      (iblk m (0 : Dev nD) 5 t) (iblk m (0 : Dev nD) 6 t) (iblk m (0 : Dev nD) 7 t) (iblk m (0 : Dev nD) 8 t) := by
  have ht : t.val < 32 := t.isLt
  rw [coord1 t]
  refine ⟨fun r c hr hc => ?_, fun r c hr hc hn => ?_, fun r c hr hc hn => ?_, fun r c hr hc => ?_, fun r c hr hc hn => ?_, fun r c hr hc => ?_, fun r c hr hc hn => ?_, fun k c hr hc => ?_, fun c hc => ?_⟩
  · unfold gcol
    rw [at2_pos _ hr hc, at2_pos _ (by omega) (by omega)]
    blk_ext [Gen.iblk, Gen.V, idx0 t]
  · unfold gcol
    rw [at2_pos _ hr hc, at2_pos _ (by omega) (by omega)]
    blk_ext [Gen.iblk, Gen.V, idx1 t]
  · unfold gcol
    rw [at2_pos _ hr hc, at2_pos _ (by omega) (by omega)]
    blk_ext [Gen.iblk, Gen.V, idx2 t]
  · unfold ucol
    rw [at2_pos _ hr hc, at2_pos _ (by omega) (by omega)]
    blk_ext [Gen.iblk, Gen.V, idx3 t]
  · unfold ucol
    rw [at2_pos _ hr hc, at2_pos _ (by omega) (by omega)]
    blk_ext [Gen.iblk, Gen.V, idx4 t]
  · unfold dcol
    rw [at2_pos _ hr hc, at2_pos _ (by omega) (by omega)]
    blk_ext [Gen.iblk, Gen.V, idx5 t]
  · unfold dcol
    rw [at2_pos _ hr hc, at2_pos _ (by omega) (by omega)]
    blk_ext [Gen.iblk, Gen.V, idx6 t]
  · unfold wcol
    rw [at2_pos _ hr hc, at2_pos _ (by omega) (by omega)]
    blk_ext [Gen.iblk, Gen.V, idx7 t]
  · unfold bcol
    rw [at2_pos _ Nat.one_pos hc, at2_pos _ Nat.one_pos (by omega)]
    blk_ext [Gen.iblk, Gen.V, idx8 t]

/-- The gate's gradient before the convolution, column `c` of block `j`. -/
def dg (j c s : ℕ) : EReal := dgate (gcol m j c) (ucol m j c) (dcol m j c) (wcol m j c) (bcol m j c) s

/-- What a tile adds to tap `k`'s gradient. -/
def tapTerm (k c j i : ℕ) : EReal := ∑ r ∈ Finset.range 512, dg m j c (512 * i + r) * tap (gcol m j c) (2 - k) (512 * i + r)

/-- What a tile adds to the bias's gradient. -/
def biasTerm (c j i : ℕ) : EReal := ∑ r ∈ Finset.range 512, dg m j c (512 * i + r)

theorem tapTerm_of {t : Fin cfg0.N} {k c : ℕ} {x g : FVec Ideal S512x1408 .f32} (a a' : EReal) (ha : a = a')
    (hg : ∀ r, r < 512 → at2 g r c = dg m (t.val / 8) c (512 * (grid0.coords t 1).val + r))
    (hx : ∀ r, r < 512 → at2 x r c = tap (gcol m (t.val / 8) c) (2 - k) (512 * (grid0.coords t 1).val + r)) :
    a + ∑ r ∈ Finset.range 512, at2 g r c * at2 x r c = a' + tapTerm m k c (t.val / 8) (t.val % 8) := by
  rw [ha, tapTerm, ← coord1 t]
  refine congrArg (a' + ·) (Finset.sum_congr rfl fun r hr => ?_)
  rw [hg r (Finset.mem_range.mp hr), hx r (Finset.mem_range.mp hr)]

/-- The tile's own stored block. -/
theorem out9_at (t : Fin cfg0.N) {r c : ℕ} (hr : r < 512) (hc : c < 2816) :
    at2 (n := 512) (m := 2816) ((outsAt0 m 0 t.val t.isLt).1) r c
      = if c < 1408 then dgp (gcol m (t.val / 8) c) (ucol m (t.val / 8) c) (dcol m (t.val / 8) c) (wcol m (t.val / 8) c) (bcol m (t.val / 8) c) (512 * (t.val % 8) + r)
        else dup (gcol m (t.val / 8) (c - 1408)) (dcol m (t.val / 8) (c - 1408)) (wcol m (t.val / 8) (c - 1408)) (bcol m (t.val / 8) (c - 1408)) (512 * (t.val % 8) + r) := by
  have H := tile m t
  rw [← coord1 t]
  by_cases h0 : t.val % 8 = 0
  · rw [outsAt0_A m 0 t h0]
    frame_out
    rw [at2_canon16 0 1408 512 1408 _ _ _ hr hc, at2_canon16 0 0 512 1408 _ _ _ hr hc]
    split_ifs with h1 h2 h2 h2
    · omega
    · exact upGrad_at H hr (by omega)
    · exact store_gate_at H hr (by omega)
    all_goals omega
  · rw [outsAt0_B m 0 t h0]
    frame_out
    rw [at2_canon16 0 1408 512 1408 _ _ _ hr hc, at2_canon16 0 0 512 1408 _ _ _ hr hc]
    split_ifs with h1 h2 h2 h2
    · omega
    · exact upGrad_at H hr (by omega)
    · exact store_gate_at H hr (by omega)
    all_goals omega

theorem out10_reset {c k : ℕ} (hc : c < 1408) (hk : k < 3) (t : Fin cfg0.N) (h0 : t.val % 8 = 0) :
    at2 (n := 3) (m := 1408) ((outsAt0 m 0 t.val t.isLt).2.1) k c = 0 + tapTerm m k c (t.val / 8) (t.val % 8) := by
  have H := tile m t
  rw [outsAt0_A m 0 t h0]
  frame_out
  rw [at2_canon 2 0 1 1408 _ _ _ hk hc, at2_canon 1 0 1 1408 _ _ _ hk hc, at2_canon 0 0 1 1408 _ _ _ hk hc]
  obtain rfl | rfl | rfl : k = 2 ∨ k = 1 ∨ k = 0 := by omega
  · rw [if_pos (by omega)]
    refine (pay1_at _ _ _ _ hc).trans (tapTerm_of m _ _ ?_ (fun r hr => gateGrad_at H hr hc) (fun r hr => H.gate r c hr hc))
    rw [at2_readCov _ _ 2 0 1 1408 _ Nat.one_pos hc, at2_canon 1 0 1 1408 _ _ _ (by omega) (by omega), if_neg (by omega), at2_canon 0 0 1 1408 _ _ _ (by omega) (by omega), if_neg (by omega),
      at2_canon 0 0 3 1408 _ _ _ (by omega) (by omega), if_pos (by omega)]
    exact pay4_at (by omega) (by omega)
  · rw [if_neg (by omega), if_pos (by omega)]
    refine (pay23_at _ _ _ _ hc).trans (tapTerm_of m _ _ ?_ (fun r hr => gateGrad_at H hr hc) (fun r hr => tap1_at H hr hc))
    rw [at2_readCov _ _ 1 0 1 1408 _ Nat.one_pos hc, at2_canon 0 0 1 1408 _ _ _ (by omega) (by omega), if_neg (by omega),
      at2_canon 0 0 3 1408 _ _ _ (by omega) (by omega), if_pos (by omega)]
    exact pay4_at (by omega) (by omega)
  · rw [if_neg (by omega), if_neg (by omega), if_pos (by omega)]
    refine (pay21_at _ _ _ _ hc).trans (tapTerm_of m _ _ ?_ (fun r hr => gateGrad_at H hr hc) (fun r hr => tap2_at H hr hc))
    rw [at2_readCov _ _ 0 0 1 1408 _ Nat.one_pos hc,
      at2_canon 0 0 3 1408 _ _ _ (by omega) (by omega), if_pos (by omega)]
    exact pay4_at (by omega) (by omega)

theorem out10_step {c k : ℕ} (hc : c < 1408) (hk : k < 3) (t : Fin cfg0.N) (h0 : ¬t.val % 8 = 0) :
    at2 (n := 3) (m := 1408) ((outsAt0 m 0 t.val t.isLt).2.1) k c
      = at2 (n := 3) (m := 1408) ((outsAt0 m 0 (t.val - 1) (Nat.lt_of_le_of_lt (Nat.sub_le _ _) t.isLt)).2.1) k c + tapTerm m k c (t.val / 8) (t.val % 8) := by
  have H := tile m t
  rw [outsAt0_B m 0 t h0]
  frame_out
  generalize (outsAt0 m 0 (t.val - 1) (Nat.lt_of_le_of_lt (Nat.sub_le _ _) t.isLt)).2.1 = old
  rw [at2_canon 2 0 1 1408 _ _ _ hk hc, at2_canon 1 0 1 1408 _ _ _ hk hc, at2_canon 0 0 1 1408 _ _ _ hk hc]
  obtain rfl | rfl | rfl : k = 2 ∨ k = 1 ∨ k = 0 := by omega
  · rw [if_pos (by omega)]
    refine (pay1_at _ _ _ _ hc).trans (tapTerm_of m _ _ ?_ (fun r hr => gateGrad_at H hr hc) (fun r hr => H.gate r c hr hc))
    rw [at2_ld _ 2 0 1 1408 _ Nat.one_pos hc]
    congr 1; omega
  · rw [if_neg (by omega), if_pos (by omega)]
    refine (pay23_at _ _ _ _ hc).trans (tapTerm_of m _ _ ?_ (fun r hr => gateGrad_at H hr hc) (fun r hr => tap1_at H hr hc))
    rw [at2_ld _ 1 0 1 1408 _ Nat.one_pos hc]
    congr 1; omega
  · rw [if_neg (by omega), if_neg (by omega), if_pos (by omega)]
    refine (pay21_at _ _ _ _ hc).trans (tapTerm_of m _ _ ?_ (fun r hr => gateGrad_at H hr hc) (fun r hr => tap2_at H hr hc))
    rw [at2_ld _ 0 0 1 1408 _ Nat.one_pos hc]
    congr 1; omega

theorem biasTerm_of {t : Fin cfg0.N} {c : ℕ} {g : FVec Ideal S512x1408 .f32} (a a' : EReal) (ha : a = a')
    (hg : ∀ r, r < 512 → at2 g r c = dg m (t.val / 8) c (512 * (grid0.coords t 1).val + r)) :
    a + ∑ r ∈ Finset.range 512, at2 g r c = a' + biasTerm m c (t.val / 8) (t.val % 8) := by
  rw [ha, biasTerm, ← coord1 t]
  exact congrArg (a' + ·) (Finset.sum_congr rfl fun r hr => hg r (Finset.mem_range.mp hr))

theorem out11_reset {c : ℕ} (hc : c < 1408) (t : Fin cfg0.N) (h0 : t.val % 8 = 0) :
    at2 (n := 1) (m := 1408) ((outsAt0 m 0 t.val t.isLt).2.2) 0 c = 0 + biasTerm m c (t.val / 8) (t.val % 8) := by
  have H := tile m t
  rw [outsAt0_A m 0 t h0]
  frame_out
  exact (pay19_at _ _ _ hc).trans (biasTerm_of m _ _ (pay5_at hc) (fun r hr => gateGrad_at H hr hc))

theorem out11_step {c : ℕ} (hc : c < 1408) (t : Fin cfg0.N) (h0 : ¬t.val % 8 = 0) :
    at2 (n := 1) (m := 1408) ((outsAt0 m 0 t.val t.isLt).2.2) 0 c
      = at2 (n := 1) (m := 1408) ((outsAt0 m 0 (t.val - 1) (Nat.lt_of_le_of_lt (Nat.sub_le _ _) t.isLt)).2.2) 0 c + biasTerm m c (t.val / 8) (t.val % 8) := by
  have H := tile m t
  rw [outsAt0_B m 0 t h0]
  frame_out
  generalize (outsAt0 m 0 (t.val - 1) (Nat.lt_of_le_of_lt (Nat.sub_le _ _) t.isLt)).2.2 = old
  exact (pay19_at _ _ _ hc).trans (biasTerm_of m _ _ rfl (fun r hr => gateGrad_at H hr hc))

/-- After the last row tile, tap `k`'s gradient over all rows. -/
theorem out10_at (t : Fin cfg0.N) (h7 : t.val % 8 = 7) {k c : ℕ} (hk : k < 3) (hc : c < 1408) :
    at2 (n := 3) (m := 1408) ((outsAt0 m 0 t.val t.isLt).2.1) k c
      = dtap (gcol m (t.val / 8) c) (ucol m (t.val / 8) c) (dcol m (t.val / 8) c) (wcol m (t.val / 8) c) (bcol m (t.val / 8) c) k 4096 := by
  rw [Pipeline.eq_sum_of_reset_step_divmod (fun n h => at2 (n := 3) (m := 1408) ((outsAt0 m 0 n h).2.1) k c) 8 0 (tapTerm m k c)
    (out10_reset m hc hk) (out10_step m hc hk) t, h7, zero_add]
  simp only [tapTerm, Nat.mul_comm 512]
  exact Finset.sum_range_range_mul_add 8 512 fun s => dg m (t.val / 8) c s * tap (gcol m (t.val / 8) c) (2 - k) s

/-- After the last row tile, the bias's gradient over all rows. -/
theorem out11_at (t : Fin cfg0.N) (h7 : t.val % 8 = 7) {c : ℕ} (hc : c < 1408) :
    at2 (n := 1) (m := 1408) ((outsAt0 m 0 t.val t.isLt).2.2) 0 c
      = dbias (gcol m (t.val / 8) c) (ucol m (t.val / 8) c) (dcol m (t.val / 8) c) (wcol m (t.val / 8) c) (bcol m (t.val / 8) c) 4096 := by
  rw [Pipeline.eq_sum_of_reset_step_divmod (fun n h => at2 (n := 1) (m := 1408) ((outsAt0 m 0 n h).2.2) 0 c) 8 0 (biasTerm m c)
    (out11_reset m hc) (out11_step m hc) t, h7, zero_add]
  simp only [biasTerm, Nat.mul_comm 512]
  exact Finset.sum_range_range_mul_add 8 512 fun s => dg m (t.val / 8) c s

end Cert.Ffn

end
-- ==== Proof.FfnArr.lean ====
/- The arrays the gated activation's backward kernel leaves, entry by entry. -/
module

public import proofs.«01_k».proof.Proof.FfnOut

@[expose] public section

set_option maxRecDepth 16384

noncomputable section

namespace Cert.Ffn

open Idealize.ShloMosaic Idealize.ShloMosaic.TcCoe Idealize.SL.Sem Cert.Access
open Idealize.ShloMosaic.Pipeline (Dat)
open Cert.KernelIdeal Cert.KernelIdeal.Gen

variable (m : (ℓ : Loc nD τ sig) → Buf (Elt Ideal) ℓ)

/-- The gradient of the interleaved input: the gate's columns of a block, then the other factor's. -/
def dguAt (j c s : ℕ) : EReal :=
  if c < 1408 then dgp (gcol m j c) (ucol m j c) (dcol m j c) (wcol m j c) (bcol m j c) s
  else dup (gcol m j (c - 1408)) (dcol m j (c - 1408)) (wcol m j (c - 1408)) (bcol m j (c - 1408)) s

/-- The taps' gradient. -/
def dwAt (j c k : ℕ) : EReal := dtap (gcol m j c) (ucol m j c) (dcol m j c) (wcol m j c) (bcol m j c) k 4096

/-- The bias's gradient. -/
def dbAt (j c : ℕ) : EReal := dbias (gcol m j c) (ucol m j c) (dcol m j c) (wcol m j c) (bcol m j c) 4096

theorem arr9 : (dats m 0 (0 : Dev nD)).arrAt 9 cfg0.N = fun i : S4096x11264.Idx => dguAt m ((i 1).val / 2816) ((i 1).val % 2816) (i 0).val := by
  refine (dats m 0 (0 : Dev nD)).arrAt_eq_of_covers 9 (fun i : S4096x11264.Idx => dguAt m ((i 1).val / 2816) ((i 1).val % 2816) (i 0).val) (by decide +kernel) fun t hf y => ?_
  have ht : t.val < 32 := t.isLt
  have h0 : (y 0).val < 512 := (y 0).isLt
  have h1 : (y 1).val < 2816 := (y 1).isLt
  blk_simp
  rw [after0_9]
  refine (eq_at2 (n := 512) (m := 2816) _ y).trans ((out9_at m t h0 h1).trans ?_)
  have e1 : win0_9.index t 1 = t.val / 8 := congrFun (idx9 t) 1
  have e0 : win0_9.index t 0 = t.val % 8 := congrFun (idx9 t) 0
  rw [e0, e1, show (t.val / 8 * 2816 + (y 1).val) / 2816 = t.val / 8 by omega, show (t.val / 8 * 2816 + (y 1).val) % 2816 = (y 1).val by omega, Nat.mul_comm (t.val % 8)]
  rfl

theorem arr10 : (dats m 0 (0 : Dev nD)).arrAt 10 cfg0.N = fun i : S3x5632.Idx => dwAt m ((i 1).val / 1408) ((i 1).val % 1408) (i 0).val := by
  refine (dats m 0 (0 : Dev nD)).arrAt_eq_of_covers 10 (fun i : S3x5632.Idx => dwAt m ((i 1).val / 1408) ((i 1).val % 1408) (i 0).val) (by decide +kernel) fun t hf y => ?_
  have ht : t.val < 32 := t.isLt
  have h0 : (y 0).val < 3 := (y 0).isLt
  have h1 : (y 1).val < 1408 := (y 1).isLt
  blk_simp
  rw [after0_10]
  refine (eq_at2 (n := 3) (m := 1408) _ y).trans ((out10_at m t ((flush0_10 t).mp hf) h0 h1).trans ?_)
  have e1 : win0_10.index t 1 = t.val / 8 := congrFun (idx10 t) 1
  have e0 : win0_10.index t 0 = 0 := congrFun (idx10 t) 0
  rw [e0, e1, show (t.val / 8 * 1408 + (y 1).val) / 1408 = t.val / 8 by omega, show (t.val / 8 * 1408 + (y 1).val) % 1408 = (y 1).val by omega, Nat.zero_mul, Nat.zero_add]
  rfl

theorem arr11 : (dats m 0 (0 : Dev nD)).arrAt 11 cfg0.N = fun i : S1x5632.Idx => dbAt m ((i 1).val / 1408) ((i 1).val % 1408) := by
  refine (dats m 0 (0 : Dev nD)).arrAt_eq_of_covers 11 (fun i : S1x5632.Idx => dbAt m ((i 1).val / 1408) ((i 1).val % 1408)) (by decide +kernel) fun t hf y => ?_
  have ht : t.val < 32 := t.isLt
  have h0 : (y 0).val < 1 := (y 0).isLt
  have h1 : (y 1).val < 1408 := (y 1).isLt
  blk_simp
  rw [after0_11]
  refine (eq_at2 (n := 1) (m := 1408) _ y).trans ?_
  rw [show (y 0).val = 0 by omega]
  refine (out11_at m t ((flush0_11 t).mp hf) h1).trans ?_
  have e1 : win0_11.index t 1 = t.val / 8 := congrFun (idx11 t) 1
  rw [e1, show (t.val / 8 * 1408 + (y 1).val) / 1408 = t.val / 8 by omega, show (t.val / 8 * 1408 + (y 1).val) % 1408 = (y 1).val by omega]
  rfl

end Cert.Ffn

end
-- ==== Proof.FfnRef.lean ====
/- The reference's gradient of the gated activation, entry by entry. -/
module

public import proofs.«01_k».proof.Proof.Access
public import proofs.«01_k».proof.Proof.FfnSpec
public import proofs.«01_k».proof.Proof.Gen.ReferenceIdeal.Read
public import Idealize.ShloMosaic.Lib.WordCmp

@[expose] public section

set_option maxRecDepth 16384

noncomputable section

namespace Cert.FfnRef

open Idealize.ShloMosaic Idealize.ShloMosaic.TcCoe Cert.Access Cert.Ffn Idealize.ShloMosaic.StableHlo
open Cert.ReferenceIdeal Cert.ReferenceIdeal.Gen Cert.ReferenceIdeal.Read

variable (x0 : (⟨S4096x11264, .f32⟩ : BufTy).Contents (Elt Ideal)) (x1 : (⟨S4096x5632, .f32⟩ : BufTy).Contents (Elt Ideal))
  (x2 : (⟨S3x5632, .f32⟩ : BufTy).Contents (Elt Ideal)) (x3 : (⟨S1x5632, .f32⟩ : BufTy).Contents (Elt Ideal))

/-- The input columns as functions of the row number, by the column of the unlaced halves. -/
def gc (J s : ℕ) : EReal := at2 (n := 4096) (m := 11264) x0 s (2816 * (J / 1408) + J % 1408)
def uc (J s : ℕ) : EReal := at2 (n := 4096) (m := 11264) x0 s (2816 * (J / 1408) + 1408 + J % 1408)
def dc (J s : ℕ) : EReal := at2 (n := 4096) (m := 5632) x1 s J
def wc (J k : ℕ) : EReal := at2 (n := 3) (m := 5632) x2 k J
def bc (J : ℕ) : EReal := at2 (n := 1) (m := 5632) x3 0 J

/-- A sum over two axes of one entry each is that entry. -/
theorem sum_ones (x : S1x1x5632.Idx → EReal) (J : ℕ) (hJ : J < 5632) :
    Ideal.hostReduceAdd reducesTo_S1x1x5632_S5632_d0_1 x 0 (ix1 ⟨J, hJ⟩) = x (ix3 0 0 ⟨J, hJ⟩) := by
  unfold Ideal.hostReduceAdd
  rw [zero_add, show (Finset.univ.filter fun i => reducesTo_S1x1x5632_S5632_d0_1.drop i = ix1 ⟨J, hJ⟩) = {ix3 0 0 ⟨J, hJ⟩} from ?_, Finset.sum_singleton]
  ext i
  simp only [Finset.mem_filter, Finset.mem_univ, true_and, Finset.mem_singleton]
  have hv : (reducesTo_S1x1x5632_S5632_d0_1.drop i 0 : ℕ) = i 2 := Shape.ReducesTo.drop_apply_val reducesTo_S1x1x5632_S5632_d0_1 i 0
  have h0 : (i 0).val < 1 := (i 0).isLt
  have h1 : (i 1).val < 1 := (i 1).isLt
  constructor
  · intro h
    rw [h] at hv
    funext a
    match a with
    | ⟨0, _⟩ => exact Fin.ext (by show (i 0).val = 0; omega)
    | ⟨1, _⟩ => exact Fin.ext (by show (i 1).val = 0; omega)
    | ⟨2, _⟩ => exact Fin.ext hv.symm
  · intro h
    subst h
    funext a
    match a with
    | ⟨0, _⟩ => exact Fin.ext hv

theorem v3_at (s J : ℕ) (hs : s < 4096) (hJ : J < 5632) : val_main_v3 (F := Ideal) x0 (ix2 ⟨s, hs⟩ ⟨J, hJ⟩) = gc x0 J s := by
  pointwise [val_main_v3, val_main_v2, val_main_v1, val_main_v0]
  exact rdm _ _ _ (by omega) (by omega)

theorem v6_at (s J : ℕ) (hs : s < 4096) (hJ : J < 5632) : val_main_v6 (F := Ideal) x0 (ix2 ⟨s, hs⟩ ⟨J, hJ⟩) = uc x0 J s := by
  pointwise [val_main_v6, val_main_v5, val_main_v4, val_main_v0]
  exact rdm _ _ _ (by omega) (by omega)

theorem v10_at (s J : ℕ) (hs : s < 4098) (hJ : J < 5632) : val_main_v10 (F := Ideal) x0 (ix3 0 ⟨s, hs⟩ ⟨J, hJ⟩) = if s < 2 then 0 else gc x0 J (s - 2) := by
  pointwise [val_main_v10, val_main_v9, val_main_v7]
  split_ifs with h
  · pointwise [val_main_cst]
  all_goals exact v3_at x0 _ _ _ _

theorem v12_at (s J : ℕ) (hs : s < 4096) (hJ : J < 5632) : val_main_v12 (F := Ideal) x0 (ix3 0 ⟨s, hs⟩ ⟨J, hJ⟩) = tap (gc x0 J) 2 s := by
  pointwise [val_main_v12]
  exact v10_at x0 _ _ _ _

theorem v21_at (s J : ℕ) (hs : s < 4096) (hJ : J < 5632) : val_main_v21 (F := Ideal) x0 (ix3 0 ⟨s, hs⟩ ⟨J, hJ⟩) = tap (gc x0 J) 1 s := by
  pointwise [val_main_v21]
  refine (v10_at x0 (1 + s) J (by omega) hJ).trans ?_
  unfold tap
  split_ifs <;> first | rfl | omega | (congr 1; omega)

theorem v28_at (s J : ℕ) (hs : s < 4096) (hJ : J < 5632) : val_main_v28 (F := Ideal) x0 (ix3 0 ⟨s, hs⟩ ⟨J, hJ⟩) = gc x0 J s := by
  pointwise [val_main_v28]
  refine (v10_at x0 (2 + s) J (by omega) hJ).trans ?_
  rw [if_neg (by omega)]
  congr 1; omega

theorem v34_at (s J : ℕ) (hs : s < 4096) (hJ : J < 5632) : val_main_v34 (F := Ideal) x0 x2 x3 (ix3 0 ⟨s, hs⟩ ⟨J, hJ⟩)
    = conv (gc x0 J) (wc x2 J) (bc x3 J) s := by
  pointwise [val_main_v34, val_main_v33, val_main_v27, val_main_v26, val_main_v20, val_main_v19, val_main_v18, val_main_v17, val_main_v16, val_main_v15, val_main_v14,
    val_main_v13, val_main_v8, val_main_v25, val_main_v24, val_main_v23, val_main_v22, val_main_v32, val_main_v31, val_main_v30, val_main_v29]
  rw [v12_at x0 s J hs hJ, v21_at x0 s J hs hJ, v28_at x0 s J hs hJ]
  unfold conv wc bc
  rw [at2_pos _ (by omega : 0 < 1) hJ, at2_pos _ (by omega : 0 < 3) hJ, at2_pos _ (by omega : 1 < 3) hJ, at2_pos _ (by omega : 2 < 3) hJ]
  rfl

theorem v35_2_at (s J : ℕ) (hs : s < 4096) (hJ : J < 5632) : val_main_v35_2 (F := Ideal) x0 x2 x3 (ix3 0 ⟨s, hs⟩ ⟨J, hJ⟩)
    = sg (conv (gc x0 J) (wc x2 J) (bc x3 J) s) := by
  rw [← v34_at x0 x2 x3 s J hs hJ]
  pointwise [val_main_v35_2, val_main_call0_v3, val_main_call0_v4, val_main_call0_v2, val_main_call0_v1, val_main_call0_v0, val_main_call0_cst, val_main_call0_cst_0]
  rw [sg, sub_eq_add_neg, zero_add]

theorem v38_at (s J : ℕ) (hs : s < 4096) (hJ : J < 5632) : val_main_v38 (F := Ideal) x0 x1 x2 x3 (ix2 ⟨s, hs⟩ ⟨J, hJ⟩)
    = dup (gc x0 J) (dc x1 J) (wc x2 J) (bc x3 J) s := by
  pointwise [val_main_v38, val_main_v36, val_main_v35_0]
  rw [v34_at x0 x2 x3 s J hs hJ, v35_2_at x0 x2 x3 s J hs hJ, dup, mul_comm, dc, at2_pos _ hs hJ]
  rfl

/-- The gradient entering the activation is finite at every entry. -/
def Fine : Prop := ∀ s J, s < 4096 → J < 5632 → dc x1 J s * uc x0 J s ≠ ⊤ ∧ dc x1 J s * uc x0 J s ≠ ⊥

variable {x0 x1} (hf : Fine x0 x1)
include hf

theorem v41_at (s J : ℕ) (hs : s < 4096) (hJ : J < 5632) : val_main_v41 (F := Ideal) x0 x1 x2 x3 (ix3 0 ⟨s, hs⟩ ⟨J, hJ⟩)
    = dgate (gc x0 J) (uc x0 J) (dc x1 J) (wc x2 J) (bc x3 J) s := by
  pointwise [val_main_v41, val_main_call1_v1, val_main_call1_v2, val_main_call1_v0, val_main_v35_1, val_main_call0_v7, val_main_call0_v6, val_main_call0_cst_1, val_main_v40, val_main_v39]
  rw [v34_at x0 x2 x3 s J hs hJ, v35_2_at x0 x2 x3 s J hs hJ]
  have e1 : x1 (ix2 ⟨s, hs⟩ ⟨J, hJ⟩) * val_main_v6 (F := Ideal) x0 (ix2 ⟨s, hs⟩ ⟨J, hJ⟩) = dc x1 J s * uc x0 J s := by
    rw [v6_at x0 s J hs hJ, dc, at2_pos _ hs hJ]; rfl
  exact ((congrArg (fun z => z * _ + _ * z * _) e1)).trans (silu_grad _ (hf s J hs hJ).1 (hf s J hs hJ).2 _).symm

theorem v73_at (k J : ℕ) (hk : k < 3) (hJ : J < 5632) : val_main_v73 (F := Ideal) x0 x1 x2 x3 (ix2 ⟨k, hk⟩ ⟨J, hJ⟩)
    = dtap (gc x0 J) (uc x0 J) (dc x1 J) (wc x2 J) (bc x3 J) k 4096 := by
  pointwise [val_main_v73, val_main_v59, val_main_v72, val_main_v58, val_main_v49, val_main_v71, val_main_v57, val_main_v48,
    val_main_v70, val_main_v56, val_main_v47, val_main_v67, val_main_v53, val_main_v44, val_main_v66, val_main_v52, val_main_v43, val_main_v65, val_main_v51, val_main_v42,
    val_main_cst_1, val_main_cst_2, val_main_cst_3, val_main_cst_5, val_main_cst_6, val_main_cst_7, val_main_cst_11, val_main_cst_12, val_main_cst_13]
  obtain rfl | rfl | rfl : k = 0 ∨ k = 1 ∨ k = 2 := by omega
  · rw [dif_neg (by omega), dif_neg (by omega), dif_pos (by omega), zero_add, zero_add]
    refine (sum_ones _ J hJ).trans ?_
    pointwise []
    rw [dtap, Finset.sum_range]
    refine Finset.sum_congr rfl fun s _ => ?_
    rw [mul_comm]
    exact congrArg₂ (· * ·) (v41_at x2 x3 hf s.val J s.isLt hJ) (v12_at x0 s.val J s.isLt hJ)
  · rw [dif_neg (by omega), dif_pos (by omega), dif_neg (by omega), zero_add, add_zero]
    refine (sum_ones _ J hJ).trans ?_
    pointwise []
    rw [dtap, Finset.sum_range]
    refine Finset.sum_congr rfl fun s _ => ?_
    rw [mul_comm]
    exact congrArg₂ (· * ·) (v41_at x2 x3 hf s.val J s.isLt hJ) (v21_at x0 s.val J s.isLt hJ)
  · rw [dif_pos (by omega), dif_neg (by omega), dif_neg (by omega), add_zero, add_zero]
    refine (sum_ones _ J hJ).trans ?_
    pointwise []
    rw [dtap, Finset.sum_range]
    refine Finset.sum_congr rfl fun s _ => ?_
    rw [mul_comm]
    exact congrArg₂ (· * ·) (v41_at x2 x3 hf s.val J s.isLt hJ) (v28_at x0 s.val J s.isLt hJ)

theorem v78_at (J : ℕ) (hJ : J < 5632) : val_main_v78 (F := Ideal) x0 x1 x2 x3 (ix2 0 ⟨J, hJ⟩)
    = dbias (gc x0 J) (uc x0 J) (dc x1 J) (wc x2 J) (bc x3 J) 4096 := by
  pointwise [val_main_v78, val_main_v64, val_main_v63, val_main_v62, val_main_cst_9, val_main_cst_10]
  refine (sum_ones _ J hJ).trans ?_
  unfold dbias
  rw [Finset.sum_range]
  pointwise []
  exact Finset.sum_congr rfl fun s _ => v41_at x2 x3 hf s.val J s.isLt hJ

theorem v79_at (s J : ℕ) (hs : s < 4096) (hJ : J < 5632) : val_main_v79 (F := Ideal) x0 x1 x2 x3 (ix2 ⟨s, hs⟩ ⟨J, hJ⟩)
    = dgp (gc x0 J) (uc x0 J) (dc x1 J) (wc x2 J) (bc x3 J) s := by
  have e (a k : ℕ) (ha : a < 4096) (hk : k < 3) : val_main_v41 (F := Ideal) x0 x1 x2 x3 (ix3 0 ⟨a, ha⟩ ⟨J, hJ⟩) * x2 (ix2 ⟨k, hk⟩ ⟨J, hJ⟩)
      = dgate (gc x0 J) (uc x0 J) (dc x1 J) (wc x2 J) (bc x3 J) a * wc x2 J k := by
    rw [v41_at x2 x3 hf a J ha hJ, wc, at2_pos _ hk hJ]; rfl
  pointwise [val_main_v79, val_main_v77, val_main_v75, val_main_v74, val_main_v61, val_main_v60, val_main_v50, val_main_v46, val_main_v55, val_main_v69, val_main_v45, val_main_v54, val_main_v68,
    val_main_cst_4, val_main_cst_8, val_main_cst_14, val_main_cst_15, val_main_v31, val_main_v30, val_main_v29, val_main_v24, val_main_v23, val_main_v22, val_main_v15, val_main_v14, val_main_v13]
  refine (Fin.sum_univ_one _).trans ?_
  refine (congrArg₂ (· + ·) (congrArg₂ (· + ·) (?_ : _ = dgate (gc x0 J) (uc x0 J) (dc x1 J) (wc x2 J) (bc x3 J) s * wc x2 J 2)
    (?_ : _ = nxt (gc x0 J) (uc x0 J) (dc x1 J) (wc x2 J) (bc x3 J) (s + 1) * wc x2 J 1))
    (?_ : _ = nxt (gc x0 J) (uc x0 J) (dc x1 J) (wc x2 J) (bc x3 J) (s + 2) * wc x2 J 0)).trans ?_
  · exact (dif_pos ⟨hs, hJ⟩).trans (e s 2 hs (by omega))
  · unfold nxt
    split_ifs with h1 h2 h2
    · refine Eq.trans ?_ (e (s + 1) 1 h2 (by omega))
      congr 3
      exact Fin.ext (by show 2 + s - 1 = s + 1; omega)
    · omega
    · omega
    · exact (zero_mul _).symm
  · unfold nxt
    split_ifs with h1 h2 h2
    · refine Eq.trans ?_ (e (s + 2) 0 h2 (by omega))
      congr 3
      exact Fin.ext (by show 2 + s = s + 2; omega)
    · omega
    · omega
    · exact (zero_mul _).symm
  · unfold dgp
    rw [add_comm, add_comm (dgate _ _ _ _ _ _ * _), ← add_assoc]

omit hf in
/-- The interleaved gradient's column of the halves' column `J`. -/
def dguRef (x0 : (⟨S4096x11264, .f32⟩ : BufTy).Contents (Elt Ideal)) (x1 : (⟨S4096x5632, .f32⟩ : BufTy).Contents (Elt Ideal))
    (x2 : (⟨S3x5632, .f32⟩ : BufTy).Contents (Elt Ideal)) (x3 : (⟨S1x5632, .f32⟩ : BufTy).Contents (Elt Ideal)) (gate : Prop) [Decidable gate] (J s : ℕ) : EReal :=
  if gate then dgp (gc x0 J) (uc x0 J) (dc x1 J) (wc x2 J) (bc x3 J) s else dup (gc x0 J) (dc x1 J) (wc x2 J) (bc x3 J) s

theorem v88_at (s C : ℕ) (hs : s < 4096) (hC : C < 11264) : val_main_v88 (F := Ideal) x0 x1 x2 x3 (ix2 ⟨s, hs⟩ ⟨C, hC⟩)
    = dguRef x0 x1 x2 x3 (C % 2816 < 1408) (C / 2816 * 1408 + C % 1408) s := by
  have hJ : C / 2816 * 1408 + C % 1408 < 5632 := by omega
  have A := v79_at x2 x3 hf s _ hs hJ
  have B := v38_at x0 x1 x2 x3 s _ hs hJ
  pointwise [val_main_v88, val_main_v87, val_main_v86, val_main_v85, val_main_v84, val_main_v83, val_main_v82, val_main_v81, val_main_v80,
    val_main_cst_16, val_main_cst_17]
  unfold dguRef
  by_cases h : C % 2816 < 1408
  · refine ((congrArg₂ (· + ·) (dif_neg (by omega)) (dif_pos ⟨hs, by omega, by omega, by omega⟩)).trans (zero_add _)).trans (A.trans (if_pos h).symm)
  · refine ((congrArg₂ (· + ·) (dif_pos ⟨hs, by omega, by omega, by omega⟩) (dif_neg (by omega))).trans (add_zero _)).trans (B.trans (if_neg h).symm)

end Cert.FfnRef

end
-- ==== Proof.FfnClaim.lean ====
/- The gated activation's backward kernel leaves the gradient of the activation's forward lines. -/
module

public import proofs.«01_k».proof.Defs
public import proofs.«01_k».proof.Proof.FfnArr
public import proofs.«01_k».proof.Proof.FfnRef

@[expose] public section

set_option maxRecDepth 16384

noncomputable section

namespace Cert.FfnClaim

open Idealize.ShloMosaic Idealize.ShloMosaic.TcCoe Idealize.SL.Sem Cert.Access Cert.Ffn Cert.FfnRef

instance preFacts : Cert.Pre_gate_gradient_finite.Facts where
  shapeCasts_S4096x11264_S4096x4x2x1408 := by decide
  slices_S4096x4x2x1408_S4096x4x1x1408_0_0_0_0 := by decide
  shapeCasts_S4096x4x1x1408_S4096x4x1408 := by decide
  shapeCasts_S4096x4x1408_S4096x5632 := by decide
  slices_S4096x4x2x1408_S4096x4x1x1408_0_0_1_0 := by decide
  bcast_S_S4096x5632 := by decide

section

open Cert.ReferenceIdeal

/-- The precondition says that the gradient entering the activation is finite at every entry. -/
theorem fine_of_pre (x0 : FVec Ideal S4096x11264 .f32) (x1 : FVec Ideal S4096x5632 .f32) (x2 : FVec Ideal S3x5632 .f32) (x3 : FVec Ideal S1x5632 .f32)
    (h : Cert.Pre_gate_gradient_finite.fn (F := Ideal) x0 x1 x2 x3 = fun _ => 1#1) : Fine x0 x1 := by
  intro s J hs hJ
  have e : BitVec.ofBool (decide (FloatOps.absf (F := Ideal) (φ := .f32) (x1 (ix2 ⟨s, hs⟩ ⟨J, hJ⟩)
      * x0 (ix2 ⟨s, hs⟩ ⟨J / 1408 * 2816 + 1408 + J % 1408, by omega⟩)) < Ideal.ofBits FTy.f32 2139095040#32)) = 1#1 := by
    refine Eq.trans (Eq.symm ?_) (congrFun h (ix2 ⟨s, hs⟩ ⟨J, hJ⟩))
    pointwise [Cert.Pre_gate_gradient_finite.fn]
  have l := lt_of_lt_of_le (of_decide_eq_true ((by decide : ∀ b, BitVec.ofBool b = 1#1 → b = true) _ e)) (le_top (a := Ideal.ofBits FTy.f32 2139095040#32))
  have ed : dc x1 J s = x1 (ix2 ⟨s, hs⟩ ⟨J, hJ⟩) := at2_pos x1 hs hJ
  have eu : uc x0 J s = x0 (ix2 ⟨s, hs⟩ ⟨J / 1408 * 2816 + 1408 + J % 1408, by omega⟩) :=
    (congrArg (at2 x0 s) (by omega : 2816 * (J / 1408) + 1408 + J % 1408 = J / 1408 * 2816 + 1408 + J % 1408)).trans (at2_pos x0 hs (by omega))
  rw [ed, eu]
  obtain ⟨l1, l2⟩ := max_lt_iff.mp l
  exact ⟨ne_of_lt l1, fun hb => ne_of_lt l2 ((congrArg (fun z : EReal => -z) hb).trans EReal.neg_bot)⟩

end

section

variable (m : (ℓ : Loc Cert.KernelIdeal.nD Cert.KernelIdeal.τ Cert.KernelIdeal.sig) → Buf (Elt Ideal) ℓ)

/-- The kernel's arguments. -/
abbrev arg0 : (⟨Cert.ReferenceIdeal.S4096x11264, .f32⟩ : BufTy).Contents (Elt Ideal) := m (((0 : Dev Cert.KernelIdeal.nD).tc : Thread Cert.KernelIdeal.nD Cert.KernelIdeal.τ).loc Cert.KernelIdeal.main_arg0)
abbrev arg1 : (⟨Cert.ReferenceIdeal.S4096x5632, .f32⟩ : BufTy).Contents (Elt Ideal) := m (((0 : Dev Cert.KernelIdeal.nD).tc : Thread Cert.KernelIdeal.nD Cert.KernelIdeal.τ).loc Cert.KernelIdeal.main_arg1)
abbrev arg2 : (⟨Cert.ReferenceIdeal.S3x5632, .f32⟩ : BufTy).Contents (Elt Ideal) := m (((0 : Dev Cert.KernelIdeal.nD).tc : Thread Cert.KernelIdeal.nD Cert.KernelIdeal.τ).loc Cert.KernelIdeal.main_arg2)
abbrev arg3 : (⟨Cert.ReferenceIdeal.S1x5632, .f32⟩ : BufTy).Contents (Elt Ideal) := m (((0 : Dev Cert.KernelIdeal.nD).tc : Thread Cert.KernelIdeal.nD Cert.KernelIdeal.τ).loc Cert.KernelIdeal.main_arg3)

theorem gcol_eq (j c : ℕ) (hc : c < 1408) : gcol m j c = gc (arg0 m) (j * 1408 + c) := by
  funext s
  show at2 (n := 4096) (m := 11264) (arg0 m) s (2816 * j + c) = at2 (n := 4096) (m := 11264) (arg0 m) s (2816 * ((j * 1408 + c) / 1408) + (j * 1408 + c) % 1408)
  congr 1; omega
theorem ucol_eq (j c : ℕ) (hc : c < 1408) : ucol m j c = uc (arg0 m) (j * 1408 + c) := by
  funext s
  show at2 (n := 4096) (m := 11264) (arg0 m) s (2816 * j + 1408 + c) = at2 (n := 4096) (m := 11264) (arg0 m) s (2816 * ((j * 1408 + c) / 1408) + 1408 + (j * 1408 + c) % 1408)
  congr 1; omega
theorem dcol_eq (j c : ℕ) : dcol m j c = dc (arg1 m) (j * 1408 + c) := by
  funext s
  show at2 (n := 4096) (m := 5632) (arg1 m) s (1408 * j + c) = at2 (n := 4096) (m := 5632) (arg1 m) s (j * 1408 + c)
  rw [Nat.mul_comm]
theorem wcol_eq (j c : ℕ) : wcol m j c = wc (arg2 m) (j * 1408 + c) := by
  funext k
  show at2 (n := 3) (m := 5632) (arg2 m) k (1408 * j + c) = at2 (n := 3) (m := 5632) (arg2 m) k (j * 1408 + c)
  rw [Nat.mul_comm]
theorem bcol_eq (j c : ℕ) : bcol m j c = bc (arg3 m) (j * 1408 + c) := by
  show at2 (n := 1) (m := 5632) (arg3 m) 0 (1408 * j + c) = at2 (n := 1) (m := 5632) (arg3 m) 0 (j * 1408 + c)
  rw [Nat.mul_comm]

variable (hf : Fine (arg0 m) (arg1 m))
include hf

open Cert.ReferenceIdeal.Read

theorem dgu_eq : (Cert.KernelIdeal.Gen.dats m 0 (0 : Dev Cert.KernelIdeal.nD)).arrAt 9 Cert.KernelIdeal.cfg0.N = val_main_v88 (F := Ideal) (arg0 m) (arg1 m) (arg2 m) (arg3 m) := by
  rw [arr9]
  funext i
  have hs : (i 0).val < 4096 := (i 0).isLt
  have hC : (i 1).val < 11264 := (i 1).isLt
  refine Eq.trans ?_ (((v88_at (arg2 m) (arg3 m) hf (i 0).val (i 1).val hs hC).symm).trans (congrArg _ ?_))
  · unfold dguAt dguRef
    have e : (i 1).val % 1408 = if (i 1).val % 2816 < 1408 then (i 1).val % 2816 else (i 1).val % 2816 - 1408 := by split_ifs <;> omega
    by_cases h : (i 1).val % 2816 < 1408
    · rw [if_pos h] at e
      rw [if_pos h, if_pos h, e, gcol_eq m _ _ h, ucol_eq m _ _ h, dcol_eq, wcol_eq, bcol_eq]
    · rw [if_neg h] at e
      rw [if_neg h, if_neg h, e, gcol_eq m _ _ (by omega), dcol_eq, wcol_eq, bcol_eq]
  · funext a
    match a with
    | ⟨0, _⟩ => rfl
    | ⟨1, _⟩ => rfl

theorem dw_eq : (Cert.KernelIdeal.Gen.dats m 0 (0 : Dev Cert.KernelIdeal.nD)).arrAt 10 Cert.KernelIdeal.cfg0.N = val_main_v73 (F := Ideal) (arg0 m) (arg1 m) (arg2 m) (arg3 m) := by
  rw [arr10]
  funext i
  have hs : (i 0).val < 3 := (i 0).isLt
  have hC : (i 1).val < 5632 := (i 1).isLt
  refine Eq.trans ?_ (((v73_at (arg2 m) (arg3 m) hf (i 0).val (i 1).val hs hC).symm).trans (congrArg _ ?_))
  · unfold dwAt
    rw [gcol_eq m _ _ (by omega), ucol_eq m _ _ (by omega), dcol_eq, wcol_eq, bcol_eq, show (i 1).val / 1408 * 1408 + (i 1).val % 1408 = (i 1).val by omega]
  · funext a
    match a with
    | ⟨0, _⟩ => rfl
    | ⟨1, _⟩ => rfl

theorem db_eq : (Cert.KernelIdeal.Gen.dats m 0 (0 : Dev Cert.KernelIdeal.nD)).arrAt 11 Cert.KernelIdeal.cfg0.N = val_main_v78 (F := Ideal) (arg0 m) (arg1 m) (arg2 m) (arg3 m) := by
  rw [arr11]
  funext i
  have h0 : (i 0).val < 1 := (i 0).isLt
  have hC : (i 1).val < 5632 := (i 1).isLt
  refine Eq.trans ?_ (((v78_at (arg2 m) (arg3 m) hf (i 1).val hC).symm).trans (congrArg _ ?_))
  · unfold dbAt
    rw [gcol_eq m _ _ (by omega), ucol_eq m _ _ (by omega), dcol_eq, wcol_eq, bcol_eq, show (i 1).val / 1408 * 1408 + (i 1).val % 1408 = (i 1).val by omega]
  · funext a
    match a with
    | ⟨0, _⟩ => exact Fin.ext (by show 0 = (i 0).val; omega)
    | ⟨1, _⟩ => rfl

end

open Cert Cert.ReferenceIdeal.Read in
theorem algebraic : Cert.algebraic_KernelIdeal_ReferenceIdeal_pre_gate_gradient_finite (hKernelIdeal := Cert.KernelIdeal.Gen.facts) (hReferenceIdeal := Cert.ReferenceIdeal.Gen.facts) := by
  intro m g m' g' hpre hargs
  obtain ⟨h0, h1, h2, h3⟩ := hargs 0
  have hf : Fine (arg0 m) (arg1 m) := fine_of_pre (arg0 m) (arg1 m) (arg2 m) (arg3 m) (hpre 0)
  refine ⟨fun _ => val_main_v88 (F := Ideal) (arg0 m) (arg1 m) (arg2 m) (arg3 m), fun _ => val_main_v73 (F := Ideal) (arg0 m) (arg1 m) (arg2 m) (arg3 m),
    fun _ => val_main_v78 (F := Ideal) (arg0 m) (arg1 m) (arg2 m) (arg3 m), ?_, ?_⟩
  · refine (θ_run _ _ _).mono (fun r h c => ?_) (Cert.KernelIdeal.Value.run_blocks (F := Ideal) m g)
    obtain rfl : c = 0 := Subsingleton.elim _ _
    obtain ⟨r0, r1, r2, k⟩ := h 0
    exact ⟨r0.trans (dgu_eq m hf), r1.trans (dw_eq m hf), r2.trans (db_eq m hf), k⟩
  · refine (θ_run _ _ _).mono (fun r h c => ?_) (Cert.ReferenceIdeal.Value.run (F := Ideal) m' g')
    obtain rfl : c = 0 := Subsingleton.elim _ _
    obtain ⟨r0, r1, r2, k⟩ := h 0
    refine ⟨(r0.trans (val_main_v88_eq m' 0)).trans ?_, (r1.trans (val_main_v73_eq m' 0)).trans ?_, (r2.trans (val_main_v78_eq m' 0)).trans ?_, k⟩
    · rw [h0, h1, h2, h3]
    · rw [h0, h1, h2, h3]
    · rw [h0, h1, h2, h3]

end Cert.FfnClaim

end
-- ==== Proof.Prod.lean ====
/- Products of matrices as sums over the contracted coordinate, and what cutting that sum in two leaves. -/
module

public import proofs.«01_k».proof.Proof.Access

@[expose] public section

noncomputable section

namespace Cert.Prod

open Idealize.ShloMosaic

/-- Rows by columns. -/
def nn {a b n : ℕ} (X : (⟨2, ![a, n]⟩ : Shape).Idx → EReal) (Y : (⟨2, ![n, b]⟩ : Shape).Idx → EReal) : (⟨2, ![a, b]⟩ : Shape).Idx → EReal :=
  fun i => ∑ k : Fin n, X (ix2 (i 0) k) * Y (ix2 k (i 1))

/-- Rows by rows: the second factor transposed. -/
def nt {a b n : ℕ} (X : (⟨2, ![a, n]⟩ : Shape).Idx → EReal) (Y : (⟨2, ![b, n]⟩ : Shape).Idx → EReal) : (⟨2, ![a, b]⟩ : Shape).Idx → EReal :=
  fun i => ∑ k : Fin n, X (ix2 (i 0) k) * Y (ix2 (i 1) k)

/-- Columns by columns: the first factor transposed. -/
def tn {a b n : ℕ} (X : (⟨2, ![n, a]⟩ : Shape).Idx → EReal) (Y : (⟨2, ![n, b]⟩ : Shape).Idx → EReal) : (⟨2, ![a, b]⟩ : Shape).Idx → EReal :=
  fun i => ∑ k : Fin n, X (ix2 k (i 0)) * Y (ix2 k (i 1))

/-- A residual added in front. -/
def withRes {a b : ℕ} (r X : (⟨2, ![a, b]⟩ : Shape).Idx → EReal) : (⟨2, ![a, b]⟩ : Shape).Idx → EReal :=
  fun i => r i + X i

/-- A sum cut in two halves, added up half by half. -/
theorem sum_halves {n : ℕ} (f : Fin (n + n) → EReal) (p q : Fin n → EReal) (hp : ∀ k : Fin n, p k = f ⟨k.val, by omega⟩)
    (hq : ∀ k : Fin n, q k = f ⟨n + k.val, by omega⟩) : (∑ k, p k) + (∑ k, q k) = ∑ k, f k := by
  rw [Fin.sum_univ_add]
  exact congrArg₂ (· + ·) (Finset.sum_congr rfl fun k _ => hp k) (Finset.sum_congr rfl fun k _ => hq k)

end Cert.Prod

end
-- ==== Proof.UpSpec.lean ====
/- The up product's columns: the weight stacked by chip, and the gate's and the up branch's columns alternating. -/
module

public import proofs.«01_k».proof.Proof.Prod

@[expose] public section

noncomputable section

namespace Cert.UpSpec

open Idealize.ShloMosaic Idealize.ShloMosaic.TcCoe

/-- The column of the whole weight behind column `p` of the alternating layout. -/
def col (p : Fin 11264) : Fin 11264 := ⟨p.val / 1408 % 2 * 5632 + p.val / 2816 * 1408 + p.val % 1408, by have := p.isLt; omega⟩

/-- The place in the alternating layout of column `c` of the whole weight. -/
def pos (c : Fin 11264) : Fin 11264 := ⟨c.val % 5632 / 1408 * 2816 + c.val / 5632 * 1408 + c.val % 1408, by have := c.isLt; omega⟩

theorem pos_col (p : Fin 11264) : pos (col p) = p := by
  apply Fin.ext
  have := p.isLt
  have h : p.val / 1408 = 0 ∨ p.val / 1408 = 1 ∨ p.val / 1408 = 2 ∨ p.val / 1408 = 3 ∨ p.val / 1408 = 4 ∨ p.val / 1408 = 5 ∨ p.val / 1408 = 6 ∨
    p.val / 1408 = 7 := by omega
  simp only [pos, col]
  rcases h with h | h | h | h | h | h | h | h <;> omega

theorem col_pos (c : Fin 11264) : col (pos c) = c := by
  apply Fin.ext
  have := c.isLt
  have h : c.val / 1408 = 0 ∨ c.val / 1408 = 1 ∨ c.val / 1408 = 2 ∨ c.val / 1408 = 3 ∨ c.val / 1408 = 4 ∨ c.val / 1408 = 5 ∨ c.val / 1408 = 6 ∨
    c.val / 1408 = 7 := by omega
  simp only [pos, col]
  rcases h with h | h | h | h | h | h | h | h <;> omega

/-- The whole weight's entry, out of the four chips' stacked columns. -/
def full (w : (⟨3, ![4, 2048, 2816]⟩ : Shape).Idx → EReal) (r : Fin 2048) (c : Fin 11264) : EReal :=
  w (ix3 ⟨c.val / 2816, by have := c.isLt; omega⟩ r ⟨c.val % 2816, Nat.mod_lt _ (by decide)⟩)

/-- The four chips' columns side by side. -/
theorem full_of (w : (⟨3, ![4, 2048, 2816]⟩ : Shape).Idx → EReal) (r : Fin 2048) (c : Fin 11264) :
    (if h : c.val < 2816 then w (ix3 0 r ⟨c.val, h⟩)
      else if h : c.val - 2816 < 2816 then w (ix3 1 r ⟨c.val - 2816, h⟩)
      else if h : c.val - 2816 - 2816 < 2816 then w (ix3 2 r ⟨c.val - 2816 - 2816, h⟩)
      else w (ix3 3 r ⟨c.val - 2816 - 2816 - 2816, by have := c.isLt; omega⟩)) = full w r c := by
  have key : ∀ (a : Fin 4) (b : Fin 2816), a.val * 2816 + b.val = c.val → w (ix3 a r b) = full w r c := fun a b h => by
    have := b.isLt
    unfold full
    exact congrArg₂ (fun a b => w (ix3 a r b)) (Fin.ext (by simp only; omega)) (Fin.ext (by simp only; omega))
  have hc := c.isLt
  split
  · exact key _ _ (by simp only [Fin.val_zero]; omega)
  · split
    · exact key 1 _ (show 1 * 2816 + (c.val - 2816) = c.val by omega)
    · split
      · exact key 2 _ (show 2 * 2816 + (c.val - 2816 - 2816) = c.val by omega)
      · exact key 3 _ (show 3 * 2816 + (c.val - 2816 - 2816 - 2816) = c.val by omega)

/-- The up product in the alternating layout. -/
def up (x : (⟨2, ![4096, 2048]⟩ : Shape).Idx → EReal) (w : (⟨3, ![4, 2048, 2816]⟩ : Shape).Idx → EReal) : (⟨2, ![4096, 11264]⟩ : Shape).Idx → EReal :=
  fun i => ∑ k : Fin 2048, x (ix2 (i 0) k) * full w k (col (i 1))

theorem lt_col (i : (⟨3, ![4, 2048, 2816]⟩ : Shape).Idx) : (i 0).val * 2816 + (i 2).val < 11264 := by
  have h0 : (i 0).val < 4 := (i 0).isLt
  have h2 : (i 2).val < 2816 := (i 2).isLt
  omega

/-- Its gradient by the weight, stacked by chip. -/
def upW (x : (⟨2, ![4096, 2048]⟩ : Shape).Idx → EReal) (d : (⟨2, ![4096, 11264]⟩ : Shape).Idx → EReal) : (⟨3, ![4, 2048, 2816]⟩ : Shape).Idx → EReal :=
  fun i => ∑ s : Fin 4096, x (ix2 s (i 1)) * d (ix2 s (pos ⟨(i 0).val * 2816 + (i 2).val, lt_col i⟩))

/-- Its gradient by the input. -/
def upX (d : (⟨2, ![4096, 11264]⟩ : Shape).Idx → EReal) (w : (⟨3, ![4, 2048, 2816]⟩ : Shape).Idx → EReal) : (⟨2, ![4096, 2048]⟩ : Shape).Idx → EReal :=
  fun i => ∑ c : Fin 11264, d (ix2 (i 0) (pos c)) * full w (i 1) c

/-- A quarter of the contraction: 2816 columns of the alternating layout. -/
def quarter (d : (⟨2, ![4096, 11264]⟩ : Shape).Idx → EReal) (w : (⟨3, ![4, 2048, 2816]⟩ : Shape).Idx → EReal) (i : Fin 4096) (r : Fin 2048) (s : Fin 4) : EReal :=
  ∑ k : Fin 2816, d (ix2 i ⟨s.val * 2816 + k.val, by omega⟩) * full w r (col ⟨s.val * 2816 + k.val, by omega⟩)

/-- The four quarters are the whole, and the alternating order does not change the sum. -/
theorem four (d : (⟨2, ![4096, 11264]⟩ : Shape).Idx → EReal) (w : (⟨3, ![4, 2048, 2816]⟩ : Shape).Idx → EReal) (i : Fin 4096) (r : Fin 2048) :
    quarter d w i r 0 + quarter d w i r 1 + quarter d w i r 2 + quarter d w i r 3 = ∑ c : Fin 11264, d (ix2 i (pos c)) * full w r c := by
  let g : Fin 11264 → EReal := fun p => d (ix2 i p) * full w r (col p)
  have h01 : quarter d w i r 0 + quarter d w i r 1 = ∑ k : Fin 5632, g ⟨k.val, by omega⟩ :=
    Cert.Prod.sum_halves (n := 2816) (fun k => g ⟨k.val, by omega⟩) _ _
      (fun k => congrArg g (Fin.ext (show 0 * 2816 + k.val = k.val by omega))) (fun k => congrArg g (Fin.ext (show 1 * 2816 + k.val = 2816 + k.val by omega)))
  have h23 : quarter d w i r 2 + quarter d w i r 3 = ∑ k : Fin 5632, g ⟨5632 + k.val, by omega⟩ :=
    Cert.Prod.sum_halves (n := 2816) (fun k => g ⟨5632 + k.val, by omega⟩) _ _
      (fun k => congrArg g (Fin.ext (show 2 * 2816 + k.val = 5632 + k.val by omega))) (fun k => congrArg g (Fin.ext (show 3 * 2816 + k.val = 5632 + (2816 + k.val) by omega)))
  have h : (∑ k : Fin 5632, g ⟨k.val, by omega⟩) + ∑ k : Fin 5632, g ⟨5632 + k.val, by omega⟩ = ∑ p : Fin 11264, g p :=
    Cert.Prod.sum_halves (n := 5632) g _ _ (fun _ => rfl) (fun _ => rfl)
  rw [add_assoc, h01, h23, h]
  refine (Equiv.sum_comp (⟨pos, col, col_pos, pos_col⟩ : Fin 11264 ≃ Fin 11264) g).symm.trans ?_
  refine Finset.sum_congr rfl fun c _ => ?_
  show d (ix2 i (pos c)) * full w r (col (pos c)) = _
  rw [col_pos]

end Cert.UpSpec

end
-- ==== Proof.UpX.lean ====
/- The gradient of the up product by its input. -/
module

public import proofs.«01_k».proof.Defs
public import proofs.«01_k».proof.Proof.UpSpec
public import Idealize.ShloMosaic.Lib.Pipeline.ReadBack
public import proofs.«01_k».proof.Proof.Gen.Kernel2Ideal.Value
public import proofs.«01_k».proof.Proof.Gen.Reference2Ideal.Read
public import proofs.«01_k».proof.Proof.Gen.Reference2Ideal.Run

@[expose] public section

set_option maxRecDepth 16384

noncomputable section

namespace Cert.UpX

open Idealize.ShloMosaic Idealize.ShloMosaic.TcCoe Idealize.SL.Sem
open Cert.Prod Cert.UpSpec Cert.Kernel2Ideal Cert.Kernel2Ideal.Gen

/-- One grid point's two products. -/
def part (x0 : Vec Ideal S1024x2816 .bf16) (x1 x2 : Vec Ideal S1x1024x1408 .bf16) (j : S1024x1024.Idx) : EReal :=
  (∑ k : Fin 1408, x0 (ix2 (j 0) ⟨k.val, by omega⟩) * x1 (ix3 0 (j 1) k)) + ∑ k : Fin 1408, x0 (ix2 (j 0) ⟨1408 + k.val, by omega⟩) * x2 (ix3 0 (j 1) k)

theorem idx0 : ∀ t : Fin cfg0.N, win0_0.index t = ![t.val / 8, t.val % 4] := (by decide +kernel : ∀ t : Fin grid0.N, _)
theorem idx1 : ∀ t : Fin cfg0.N, win0_1.index t = ![t.val % 4 / 2, t.val / 4 % 2, t.val % 2] := (by decide +kernel : ∀ t : Fin grid0.N, _)
theorem idx2 : ∀ t : Fin cfg0.N, win0_2.index t = ![2 + t.val % 4 / 2, t.val / 4 % 2, t.val % 2] := (by decide +kernel : ∀ t : Fin grid0.N, _)
theorem idx3 : ∀ t : Fin cfg0.N, win0_3.index t = ![t.val / 8, t.val / 4 % 2] := (by decide +kernel : ∀ t : Fin grid0.N, _)

variable (m : (ℓ : Loc nD τ sig) → Buf (Elt Ideal) ℓ)

theorem outA (t : Fin cfg0.N) (h : t.val % 4 = 0) (j : S1024x1024.Idx) :
    (outsAt0 m (0 : Dev nD) t.val t.isLt).2 j = part (iblk m 0 0 t) (iblk m 0 1 t) (iblk m 0 2 t) j := by
  rw [outsAt0_A m 0 t h (by omega) (by omega)]
  frame_out
  unfold part
  pointwise [k0_pay1]

theorem outB (t : Fin cfg0.N) (h : 1 ≤ t.val % 4 ∧ t.val % 4 ≤ 2) (j : S1024x1024.Idx) :
    (outsAt0 m (0 : Dev nD) t.val t.isLt).2 j
      = (outsAt0 m (0 : Dev nD) (t.val - 1) (lt_of_le_of_lt (Nat.sub_le _ _) t.isLt)).2 j + part (iblk m 0 0 t) (iblk m 0 1 t) (iblk m 0 2 t) j := by
  rw [outsAt0_B m 0 t (by omega) h (by omega)]
  frame_out
  rw [read_unread_whole]
  unfold part
  pointwise [k0_pay2]

/-- At the last point of a run the block leaves the scratch. -/
theorem outC (t : Fin cfg0.N) (h : t.val % 4 = 3) (j : S1024x1024.Idx) :
    (outsAt0 m (0 : Dev nD) t.val t.isLt).1 j
      = (outsAt0 m (0 : Dev nD) (t.val - 1) (lt_of_le_of_lt (Nat.sub_le _ _) t.isLt)).2 j + part (iblk m 0 0 t) (iblk m 0 1 t) (iblk m 0 2 t) j := by
  rw [outsAt0_C m 0 t (by omega) (by omega) h]
  frame_out
  rw [read_unread_whole]
  unfold part
  pointwise [k0_pay3]

/-- A point's two products are a quarter of the contraction. -/
theorem part_eq (t : Fin cfg0.N) (j : S1024x1024.Idx) (i : Fin 4096) (r : Fin 2048) (s : Fin 4)
    (hi : i.val = t.val / 8 * 1024 + (j 0).val) (hr : r.val = t.val / 4 % 2 * 1024 + (j 1).val) (hs : s.val = t.val % 4) :
    part (iblk m 0 0 t) (iblk m 0 1 t) (iblk m 0 2 t) j
      = quarter (m (((0 : Dev nD).tc : Thread nD τ).loc main_arg0)) (m (((0 : Dev nD).tc : Thread nD τ).loc main_arg1)) i r s := by
  unfold part quarter full col
  have h4 : s.val = 0 ∨ s.val = 1 ∨ s.val = 2 ∨ s.val = 3 := by omega
  refine sum_halves (n := 1408) _ _ _ (fun k => ?_) (fun k => ?_)
  · refine congrArg₂ (· * ·) ?_ ?_
    · blk_ext [Gen.iblk, Gen.V, idx0 t]
    · blk_ext [Gen.iblk, Gen.V, idx1 t]
      all_goals rcases h4 with h | h | h | h <;> omega
  · refine congrArg₂ (· * ·) ?_ ?_
    · blk_ext [Gen.iblk, Gen.V, idx0 t]
    · blk_ext [Gen.iblk, Gen.V, idx2 t]
      all_goals rcases h4 with h | h | h | h <;> omega

/-- The four points of a run, added up. -/
theorem out_run (t : Fin cfg0.N) (h : t.val % 4 = 3) (j : S1024x1024.Idx) (i : Fin 4096) (r : Fin 2048)
    (hi : i.val = t.val / 8 * 1024 + (j 0).val) (hr : r.val = t.val / 4 % 2 * 1024 + (j 1).val) :
    (outsAt0 m (0 : Dev nD) t.val t.isLt).1 j = upX (m (((0 : Dev nD).tc : Thread nD τ).loc main_arg0)) (m (((0 : Dev nD).tc : Thread nD τ).loc main_arg1)) (ix2 i r) := by
  have l1 : t.val - 1 < cfg0.N := lt_of_le_of_lt (Nat.sub_le _ _) t.isLt
  have l2 : t.val - 1 - 1 < cfg0.N := lt_of_le_of_lt (Nat.sub_le _ _) l1
  have l3 : t.val - 1 - 1 - 1 < cfg0.N := lt_of_le_of_lt (Nat.sub_le _ _) l2
  have e0 := outA m ⟨t.val - 1 - 1 - 1, l3⟩ (show (t.val - 1 - 1 - 1) % 4 = 0 by omega) j
  have e1 := outB m ⟨t.val - 1 - 1, l2⟩ (show 1 ≤ (t.val - 1 - 1) % 4 ∧ (t.val - 1 - 1) % 4 ≤ 2 by omega) j
  have e2 := outB m ⟨t.val - 1, l1⟩ (show 1 ≤ (t.val - 1) % 4 ∧ (t.val - 1) % 4 ≤ 2 by omega) j
  rw [part_eq m ⟨t.val - 1 - 1 - 1, l3⟩ j i r 0 (by show i.val = (t.val - 1 - 1 - 1) / 8 * 1024 + _; omega) (by show r.val = (t.val - 1 - 1 - 1) / 4 % 2 * 1024 + _; omega) (by show 0 = (t.val - 1 - 1 - 1) % 4; omega)] at e0
  rw [part_eq m ⟨t.val - 1 - 1, l2⟩ j i r 1 (by show i.val = (t.val - 1 - 1) / 8 * 1024 + _; omega) (by show r.val = (t.val - 1 - 1) / 4 % 2 * 1024 + _; omega) (by show 1 = (t.val - 1 - 1) % 4; omega)] at e1
  rw [part_eq m ⟨t.val - 1, l1⟩ j i r 2 (by show i.val = (t.val - 1) / 8 * 1024 + _; omega) (by show r.val = (t.val - 1) / 4 % 2 * 1024 + _; omega) (by show 2 = (t.val - 1) % 4; omega)] at e2
  refine (outC m t h j).trans ?_
  rw [part_eq m t j i r 3 hi hr (by show 3 = t.val % 4; omega)]
  refine Eq.trans (congrArg (· + _) (e2.trans (congrArg (· + _) (e1.trans (congrArg (· + _) e0))))) ?_
  exact four _ _ i r

/-- The array the kernel leaves. -/
theorem arr : (dats m 0 (0 : Dev nD)).arrAt 3 cfg0.N
    = upX (m (((0 : Dev nD).tc : Thread nD τ).loc main_arg0)) (m (((0 : Dev nD).tc : Thread nD τ).loc main_arg1)) := by
  refine (dats m 0 (0 : Dev nD)).arrAt_eq_of_covers 3 _ (by decide +kernel) fun t hf y => ?_
  have h3 : t.val % 4 = 3 := (flush0_3 t).mp hf
  blk_simp
  rw [after0_3]
  have h1 : t.val < 32 := t.isLt
  have hy0 : (y 0).val < 1024 := (y 0).isLt
  have hy1 : (y 1).val < 1024 := (y 1).isLt
  refine (out_run m t h3 y ⟨t.val / 8 * 1024 + (y 0).val, by omega⟩ ⟨t.val / 4 % 2 * 1024 + (y 1).val, by omega⟩ rfl rfl).trans ?_
  refine congrArg (upX (m (((0 : Dev nD).tc : Thread nD τ).loc main_arg0)) (m (((0 : Dev nD).tc : Thread nD τ).loc main_arg1))) ?_
  blk_ext [idx3 t]

theorem weight (x1 : (⟨Cert.Reference2Ideal.S4x2048x2816, .bf16⟩ : BufTy).Contents (Elt Ideal)) (r : Fin 2048) (c : Fin 11264) :
    Cert.Reference2Ideal.Read.val_main_v8 (F := Ideal) x1 (ix2 r c) = full x1 r c := by
  pointwise [Cert.Reference2Ideal.Read.val_main_v8, Cert.Reference2Ideal.Read.val_main_v7, Cert.Reference2Ideal.Read.val_main_v6, Cert.Reference2Ideal.Read.val_main_v5, Cert.Reference2Ideal.Read.val_main_v4, Cert.Reference2Ideal.Read.val_main_v3, Cert.Reference2Ideal.Read.val_main_v2, Cert.Reference2Ideal.Read.val_main_v1, Cert.Reference2Ideal.Read.val_main_v0]
  exact full_of x1 r c

theorem flat (x0 : (⟨Cert.Reference2Ideal.S4096x11264, .bf16⟩ : BufTy).Contents (Elt Ideal)) (s : Fin 4096) (a : Fin 4) (e : Fin 2) (b : Fin 1408) :
    Cert.Reference2Ideal.Read.val_main_v11 (F := Ideal) x0 (ix4 s a e b) = x0 (ix2 s ⟨a.val * 2816 + e.val * 1408 + b.val, by omega⟩) := by
  pointwise [Cert.Reference2Ideal.Read.val_main_v11, Cert.Reference2Ideal.Read.val_main_v10]

theorem gate (x0 : (⟨Cert.Reference2Ideal.S4096x11264, .bf16⟩ : BufTy).Contents (Elt Ideal)) (s : Fin 4096) (c : Fin 5632) :
    Cert.Reference2Ideal.Read.val_main_v14 (F := Ideal) x0 (ix2 s c) = x0 (ix2 s ⟨c.val / 1408 * 2816 + 0 * 1408 + c.val % 1408, by have := c.isLt; omega⟩) := by
  have h3 : Cert.Reference2Ideal.Read.val_main_v14 (F := Ideal) x0 (ix2 s c) = Cert.Reference2Ideal.Read.val_main_v13 (F := Ideal) x0 (ix3 s ⟨c.val / 1408, by have := c.isLt; omega⟩ ⟨c.val % 1408, by have := c.isLt; omega⟩) := by
    pointwise [Cert.Reference2Ideal.Read.val_main_v14]
  have h2 : ∀ (a : Fin 4) (b : Fin 1408), Cert.Reference2Ideal.Read.val_main_v13 (F := Ideal) x0 (ix3 s a b) = Cert.Reference2Ideal.Read.val_main_v11 (F := Ideal) x0 (ix4 s a 0 b) := fun a b => by
    pointwise [Cert.Reference2Ideal.Read.val_main_v13, Cert.Reference2Ideal.Read.val_main_v12]
  exact h3.trans ((h2 _ _).trans (flat x0 s _ 0 _))

theorem upc (x0 : (⟨Cert.Reference2Ideal.S4096x11264, .bf16⟩ : BufTy).Contents (Elt Ideal)) (s : Fin 4096) (c : Fin 5632) :
    Cert.Reference2Ideal.Read.val_main_v17 (F := Ideal) x0 (ix2 s c) = x0 (ix2 s ⟨c.val / 1408 * 2816 + 1 * 1408 + c.val % 1408, by have := c.isLt; omega⟩) := by
  have h3 : Cert.Reference2Ideal.Read.val_main_v17 (F := Ideal) x0 (ix2 s c) = Cert.Reference2Ideal.Read.val_main_v16 (F := Ideal) x0 (ix3 s ⟨c.val / 1408, by have := c.isLt; omega⟩ ⟨c.val % 1408, by have := c.isLt; omega⟩) := by
    pointwise [Cert.Reference2Ideal.Read.val_main_v17]
  have h2 : ∀ (a : Fin 4) (b : Fin 1408), Cert.Reference2Ideal.Read.val_main_v16 (F := Ideal) x0 (ix3 s a b) = Cert.Reference2Ideal.Read.val_main_v11 (F := Ideal) x0 (ix4 s a 1 b) := fun a b => by
    pointwise [Cert.Reference2Ideal.Read.val_main_v16, Cert.Reference2Ideal.Read.val_main_v15]
  exact h3.trans ((h2 _ _).trans (flat x0 s _ 1 _))

theorem cols (x0 : (⟨Cert.Reference2Ideal.S4096x11264, .bf16⟩ : BufTy).Contents (Elt Ideal)) (s : Fin 4096) (c : Fin 11264) : Cert.Reference2Ideal.Read.val_main_v18 (F := Ideal) x0 (ix2 s c) = x0 (ix2 s (pos c)) := by
  have hc := c.isLt
  pointwise [Cert.Reference2Ideal.Read.val_main_v18]
  split
  · refine (gate x0 s _).trans (congrArg (fun a => x0 (ix2 s a)) (Fin.ext ?_))
    show c.val / 1408 * 2816 + 0 * 1408 + c.val % 1408 = c.val % 5632 / 1408 * 2816 + c.val / 5632 * 1408 + c.val % 1408
    omega
  · refine (upc x0 s _).trans (congrArg (fun a => x0 (ix2 s a)) (Fin.ext ?_))
    show (c.val - 5632) / 1408 * 2816 + 1 * 1408 + (c.val - 5632) % 1408 = c.val % 5632 / 1408 * 2816 + c.val / 5632 * 1408 + c.val % 1408
    omega

theorem prod (x0 : (⟨Cert.Reference2Ideal.S4096x11264, .bf16⟩ : BufTy).Contents (Elt Ideal)) (x1 : (⟨Cert.Reference2Ideal.S4x2048x2816, .bf16⟩ : BufTy).Contents (Elt Ideal)) (i : Fin 4096) (r : Fin 2048) :
    Cert.Reference2Ideal.Read.val_main_v19 (F := Ideal) x0 x1 (ix2 i r)
      = ∑ c : Fin 11264, Cert.Reference2Ideal.Read.val_main_v18 (F := Ideal) x0 (ix2 i c) * Cert.Reference2Ideal.Read.val_main_v8 (F := Ideal) x1 (ix2 r c) := by
  pointwise [Cert.Reference2Ideal.Read.val_main_v19, Cert.Reference2Ideal.Read.val_main_v9]

theorem ref (x0 : (⟨Cert.Reference2Ideal.S4096x11264, .bf16⟩ : BufTy).Contents (Elt Ideal)) (x1 : (⟨Cert.Reference2Ideal.S4x2048x2816, .bf16⟩ : BufTy).Contents (Elt Ideal)) :
    Cert.Reference2Ideal.Read.val_main_v19 (F := Ideal) x0 x1 = upX x0 x1 := by
  funext i
  refine (congrArg (Cert.Reference2Ideal.Read.val_main_v19 (F := Ideal) x0 x1) (eq_ix2 i)).trans ((prod x0 x1 (i 0) (i 1)).trans ?_)
  exact Fin.sum_fin_congr fun c => congrArg₂ (· * ·) (cols x0 (i 0) c) (weight x1 (i 1) c)

theorem algebraic : Cert.algebraic_Kernel2Ideal_Reference2Ideal (hKernel2Ideal := Cert.Kernel2Ideal.Gen.facts) (hReference2Ideal := Cert.Reference2Ideal.Gen.facts) := by
  intro m g m' g' _ hargs
  refine ⟨fun _ => upX (m (((0 : Dev nD).tc : Thread nD τ).loc main_arg0)) (m (((0 : Dev nD).tc : Thread nD τ).loc main_arg1)), ?_, ?_⟩
  · refine (θ_run _ _ _).mono (fun r h c => ?_) (Cert.Kernel2Ideal.Value.run_blocks (F := Ideal) m g)
    obtain rfl : c = 0 := Subsingleton.elim _ _
    exact ⟨(h 0).1.trans (arr m), (h 0).2⟩
  · refine (θ_run _ _ _).mono (fun r h c => ?_) (Cert.Reference2Ideal.Value.run (F := Ideal) m' g')
    obtain rfl : c = 0 := Subsingleton.elim _ _
    refine ⟨(h 0).1.trans ((ref _ _).trans ?_), (h 0).2⟩
    rw [(hargs 0).1, (hargs 0).2]

end Cert.UpX

end
-- ==== Proof.UpW.lean ====
/- The gradient of the up product by its weight. -/
module

public import proofs.«01_k».proof.Defs
public import proofs.«01_k».proof.Proof.UpSpec
public import Idealize.ShloMosaic.Lib.Pipeline.ReadBack
public import proofs.«01_k».proof.Proof.Gen.Kernel3Ideal.Value
public import proofs.«01_k».proof.Proof.Gen.Reference3Ideal.Read
public import proofs.«01_k».proof.Proof.Gen.Reference3Ideal.Run

@[expose] public section

set_option maxRecDepth 16384

noncomputable section

namespace Cert.UpW

open Idealize.ShloMosaic Idealize.ShloMosaic.TcCoe Idealize.SL.Sem
open Cert.Prod Cert.UpSpec Cert.Kernel3Ideal Cert.Kernel3Ideal.Gen

/-- The first half of a block's entry. -/
theorem pay1 (x0 : Vec Ideal S2048x1024 .bf16) (x1 : Vec Ideal S2048x1408 .bf16) (j : S1024x1408.Idx) :
    k0_pay1 (F := Ideal) x0 x1 j = ∑ k : Fin 2048, x0 (ix2 k (j 0)) * x1 (ix2 k (j 1)) := by
  pointwise [k0_pay1]

/-- The second half, added to what the first left. -/
theorem pay3 (acc : Vec Ideal S1024x1408 .f32) (x0 : Vec Ideal S2048x1024 .bf16) (x1 : Vec Ideal S2048x1408 .bf16) (j : S1x1024x1408.Idx) :
    k0_pay3 (F := Ideal) acc x0 x1 j = acc (ix2 (j 1) (j 2)) + ∑ k : Fin 2048, x0 (ix2 k (j 1)) * x1 (ix2 k (j 2)) := by
  pointwise [k0_pay3]

theorem idx0 : ∀ t : Fin cfg0.N, win0_0.index t = ![t.val % 2, t.val / 16] := (by decide +kernel : ∀ t : Fin grid0.N, _)
theorem idx1 : ∀ t : Fin cfg0.N, win0_1.index t = ![t.val % 2, t.val / 2 % 8] := (by decide +kernel : ∀ t : Fin grid0.N, _)
theorem idx2 : ∀ t : Fin cfg0.N, win0_2.index t = ![2 * (t.val / 2 % 2) + t.val / 2 % 8 / 4, t.val / 16, t.val / 4 % 2] := (by decide +kernel : ∀ t : Fin grid0.N, _)

variable (m : (ℓ : Loc nD τ sig) → Buf (Elt Ideal) ℓ)

set_option maxHeartbeats 2000000 in
/-- The array the kernel leaves: each block's two halves of the contraction, added up. -/
theorem arr : (dats m 0 (0 : Dev nD)).arrAt 2 cfg0.N
    = upW (m (((0 : Dev nD).tc : Thread nD τ).loc main_arg0)) (m (((0 : Dev nD).tc : Thread nD τ).loc main_arg1)) := by
  refine (dats m 0 (0 : Dev nD)).arrAt_eq_of_covers 2 _ (by decide +kernel) fun t hf y => ?_
  have h1 : t.val % 2 = 1 := (flush0_2 t).mp hf
  have h8 : t.val / 2 % 8 = 0 ∨ t.val / 2 % 8 = 1 ∨ t.val / 2 % 8 = 2 ∨ t.val / 2 % 8 = 3 ∨ t.val / 2 % 8 = 4 ∨ t.val / 2 % 8 = 5 ∨ t.val / 2 % 8 = 6 ∨ t.val / 2 % 8 = 7 := by omega
  have hl : t.val - 1 < cfg0.N := lt_of_le_of_lt (Nat.sub_le _ _) t.isLt
  have hs : (outsAt0 m (0 : Dev nD) (t.val - 1) hl).2 = k0_pay1 (F := Ideal) (iblk m 0 0 ⟨t.val - 1, hl⟩) (iblk m 0 1 ⟨t.val - 1, hl⟩) := by
    rw [outsAt0_A m 0 ⟨t.val - 1, hl⟩ (by show (t.val - 1) % 2 = 0; omega) (by show ¬(t.val - 1) % 2 = 1; omega)]
    frame_out
  blk_simp
  rw [after0_2, outsAt0_B m 0 t (by omega) h1]
  frame_out
  rw [read_unread_whole, hs, pay3, pay1]
  unfold upW
  refine sum_halves (n := 2048) _ _ _ (fun k => ?_) (fun k => ?_)
  · refine congrArg₂ (· * ·) ?_ ?_
    · blk_ext [Gen.iblk, Gen.V, idx0 ⟨t.val - 1, hl⟩, idx2 t]
    · unfold pos
      blk_ext [Gen.iblk, Gen.V, idx1 ⟨t.val - 1, hl⟩, idx2 t]
      all_goals rcases h8 with h | h | h | h | h | h | h | h <;> omega
  · refine congrArg₂ (· * ·) ?_ ?_
    · blk_ext [Gen.iblk, Gen.V, idx0 t, idx2 t]
    · unfold pos
      blk_ext [Gen.iblk, Gen.V, idx1 t, idx2 t]
      all_goals rcases h8 with h | h | h | h | h | h | h | h <;> omega

theorem flat (x1 : (⟨Cert.Reference3Ideal.S4096x11264, .bf16⟩ : BufTy).Contents (Elt Ideal)) (s : Fin 4096) (a : Fin 4) (e : Fin 2) (b : Fin 1408) :
    Cert.Reference3Ideal.Read.val_main_v1 (F := Ideal) x1 (ix4 s a e b) = x1 (ix2 s ⟨a.val * 2816 + e.val * 1408 + b.val, by omega⟩) := by
  pointwise [Cert.Reference3Ideal.Read.val_main_v1, Cert.Reference3Ideal.Read.val_main_v0]

theorem gate (x1 : (⟨Cert.Reference3Ideal.S4096x11264, .bf16⟩ : BufTy).Contents (Elt Ideal)) (s : Fin 4096) (c : Fin 5632) :
    Cert.Reference3Ideal.Read.val_main_v4 (F := Ideal) x1 (ix2 s c) = x1 (ix2 s ⟨c.val / 1408 * 2816 + 0 * 1408 + c.val % 1408, by have := c.isLt; omega⟩) := by
  have h3 : Cert.Reference3Ideal.Read.val_main_v4 (F := Ideal) x1 (ix2 s c) = Cert.Reference3Ideal.Read.val_main_v3 (F := Ideal) x1 (ix3 s ⟨c.val / 1408, by have := c.isLt; omega⟩ ⟨c.val % 1408, by have := c.isLt; omega⟩) := by
    pointwise [Cert.Reference3Ideal.Read.val_main_v4]
  have h2 : ∀ (a : Fin 4) (b : Fin 1408), Cert.Reference3Ideal.Read.val_main_v3 (F := Ideal) x1 (ix3 s a b) = Cert.Reference3Ideal.Read.val_main_v1 (F := Ideal) x1 (ix4 s a 0 b) := fun a b => by
    pointwise [Cert.Reference3Ideal.Read.val_main_v3, Cert.Reference3Ideal.Read.val_main_v2]
  exact h3.trans ((h2 _ _).trans (flat x1 s _ 0 _))

theorem upc (x1 : (⟨Cert.Reference3Ideal.S4096x11264, .bf16⟩ : BufTy).Contents (Elt Ideal)) (s : Fin 4096) (c : Fin 5632) :
    Cert.Reference3Ideal.Read.val_main_v7 (F := Ideal) x1 (ix2 s c) = x1 (ix2 s ⟨c.val / 1408 * 2816 + 1 * 1408 + c.val % 1408, by have := c.isLt; omega⟩) := by
  have h3 : Cert.Reference3Ideal.Read.val_main_v7 (F := Ideal) x1 (ix2 s c) = Cert.Reference3Ideal.Read.val_main_v6 (F := Ideal) x1 (ix3 s ⟨c.val / 1408, by have := c.isLt; omega⟩ ⟨c.val % 1408, by have := c.isLt; omega⟩) := by
    pointwise [Cert.Reference3Ideal.Read.val_main_v7]
  have h2 : ∀ (a : Fin 4) (b : Fin 1408), Cert.Reference3Ideal.Read.val_main_v6 (F := Ideal) x1 (ix3 s a b) = Cert.Reference3Ideal.Read.val_main_v1 (F := Ideal) x1 (ix4 s a 1 b) := fun a b => by
    pointwise [Cert.Reference3Ideal.Read.val_main_v6, Cert.Reference3Ideal.Read.val_main_v5]
  exact h3.trans ((h2 _ _).trans (flat x1 s _ 1 _))

theorem cols (x1 : (⟨Cert.Reference3Ideal.S4096x11264, .bf16⟩ : BufTy).Contents (Elt Ideal)) (s : Fin 4096) (c : Fin 11264) : Cert.Reference3Ideal.Read.val_main_v8 (F := Ideal) x1 (ix2 s c) = x1 (ix2 s (pos c)) := by
  have hc := c.isLt
  pointwise [Cert.Reference3Ideal.Read.val_main_v8]
  split
  · refine (gate x1 s _).trans (congrArg (fun a => x1 (ix2 s a)) (Fin.ext ?_))
    show c.val / 1408 * 2816 + 0 * 1408 + c.val % 1408 = c.val % 5632 / 1408 * 2816 + c.val / 5632 * 1408 + c.val % 1408
    omega
  · refine (upc x1 s _).trans (congrArg (fun a => x1 (ix2 s a)) (Fin.ext ?_))
    show (c.val - 5632) / 1408 * 2816 + 1 * 1408 + (c.val - 5632) % 1408 = c.val % 5632 / 1408 * 2816 + c.val / 5632 * 1408 + c.val % 1408
    omega

theorem prod (x0 : (⟨Cert.Reference3Ideal.S4096x2048, .bf16⟩ : BufTy).Contents (Elt Ideal)) (x1 : (⟨Cert.Reference3Ideal.S4096x11264, .bf16⟩ : BufTy).Contents (Elt Ideal)) (r : Fin 2048) (c : Fin 11264) :
    Cert.Reference3Ideal.Read.val_main_v11 (F := Ideal) x0 x1 (ix2 r c) = ∑ k : Fin 4096, Cert.Reference3Ideal.Read.val_main_v8 (F := Ideal) x1 (ix2 k c) * x0 (ix2 k r) := by
  pointwise [Cert.Reference3Ideal.Read.val_main_v11, Cert.Reference3Ideal.Read.val_main_v10, Cert.Reference3Ideal.Read.val_main_v9]

theorem lay (x0 : (⟨Cert.Reference3Ideal.S4096x2048, .bf16⟩ : BufTy).Contents (Elt Ideal)) (x1 : (⟨Cert.Reference3Ideal.S4096x11264, .bf16⟩ : BufTy).Contents (Elt Ideal)) (i : (⟨3, ![4, 2048, 2816]⟩ : Shape).Idx) :
    Cert.Reference3Ideal.Read.val_main_v20 (F := Ideal) x0 x1 i = Cert.Reference3Ideal.Read.val_main_v11 (F := Ideal) x0 x1 (ix2 (i 1) ⟨(i 0).val * 2816 + (i 2).val, lt_col i⟩) := by
  pointwise [Cert.Reference3Ideal.Read.val_main_v20, Cert.Reference3Ideal.Read.val_main_v19, Cert.Reference3Ideal.Read.val_main_v18, Cert.Reference3Ideal.Read.val_main_v17, Cert.Reference3Ideal.Read.val_main_v16, Cert.Reference3Ideal.Read.val_main_v15, Cert.Reference3Ideal.Read.val_main_v14, Cert.Reference3Ideal.Read.val_main_v13, Cert.Reference3Ideal.Read.val_main_v12]
  have key : ∀ b : Fin 11264, b.val = (i 0).val * 2816 + (i 2).val → Cert.Reference3Ideal.Read.val_main_v11 (F := Ideal) x0 x1 (ix2 (i 1) b)
      = Cert.Reference3Ideal.Read.val_main_v11 (F := Ideal) x0 x1 (ix2 (i 1) ⟨(i 0).val * 2816 + (i 2).val, lt_col i⟩) := fun b h =>
    congrArg (fun b => Cert.Reference3Ideal.Read.val_main_v11 (F := Ideal) x0 x1 (ix2 (i 1) b)) (Fin.ext h)
  have h4 : (i 0).val < 4 := (i 0).isLt
  split
  · exact key _ (show (i 2).val = _ by omega)
  · split
    · exact key _ (show 2816 + (i 2).val = _ by omega)
    · split
      · exact key _ (show 5632 + (i 2).val = _ by omega)
      · exact key _ (show 8448 + (i 2).val = _ by omega)

theorem ref (x0 : (⟨Cert.Reference3Ideal.S4096x2048, .bf16⟩ : BufTy).Contents (Elt Ideal)) (x1 : (⟨Cert.Reference3Ideal.S4096x11264, .bf16⟩ : BufTy).Contents (Elt Ideal)) :
    Cert.Reference3Ideal.Read.val_main_v20 (F := Ideal) x0 x1 = upW x0 x1 := by
  funext i
  refine (lay x0 x1 i).trans ((prod x0 x1 (i 1) _).trans ?_)
  exact Fin.sum_fin_congr fun k => (mul_comm _ _).trans (congrArg (x0 (ix2 k (i 1)) * ·) (cols x1 k _))

theorem algebraic : Cert.algebraic_Kernel3Ideal_Reference3Ideal (hKernel3Ideal := Cert.Kernel3Ideal.Gen.facts) (hReference3Ideal := Cert.Reference3Ideal.Gen.facts) := by
  intro m g m' g' _ hargs
  refine ⟨fun _ => upW (m (((0 : Dev nD).tc : Thread nD τ).loc main_arg0)) (m (((0 : Dev nD).tc : Thread nD τ).loc main_arg1)), ?_, ?_⟩
  · refine (θ_run _ _ _).mono (fun r h c => ?_) (Cert.Kernel3Ideal.Value.run_blocks (F := Ideal) m g)
    obtain rfl : c = 0 := Subsingleton.elim _ _
    exact ⟨(h 0).1.trans (arr m), (h 0).2⟩
  · refine (θ_run _ _ _).mono (fun r h c => ?_) (Cert.Reference3Ideal.Value.run (F := Ideal) m' g')
    obtain rfl : c = 0 := Subsingleton.elim _ _
    refine ⟨(h 0).1.trans ((ref _ _).trans ?_), (h 0).2⟩
    rw [(hargs 0).1, (hargs 0).2]

end Cert.UpW

end
-- ==== Proof.DownX.lean ====
/- The gradient of the down product by its input. -/
module

public import proofs.«01_k».proof.Defs
public import proofs.«01_k».proof.Proof.Prod
public import proofs.«01_k».proof.Proof.Gen.Kernel4Ideal.Value
public import proofs.«01_k».proof.Proof.Gen.Reference4Ideal.Read
public import proofs.«01_k».proof.Proof.Gen.Reference4Ideal.Run

@[expose] public section

set_option maxRecDepth 16384

noncomputable section

namespace Cert.DownX

open Idealize.ShloMosaic Idealize.ShloMosaic.TcCoe Idealize.SL.Sem
open Cert.Prod Cert.Kernel4Ideal Cert.Kernel4Ideal.Gen

/-- A block's entry. -/
theorem pay (x0 : Vec Ideal S1024x2048 .bf16) (x1 : Vec Ideal S1408x2048 .bf16) (j : S1024x1408.Idx) :
    k0_pay1 (F := Ideal) x0 x1 j = ∑ k : Fin 2048, x0 (ix2 (j 0) k) * x1 (ix2 (j 1) k) := by
  pointwise [k0_pay1]

theorem idx0 : ∀ t : Fin cfg0.N, win0_0.index t = ![t.val / 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, t.val % 4] := (by decide +kernel : ∀ t : Fin grid0.N, _)

variable (m : (ℓ : Loc nD τ sig) → Buf (Elt Ideal) ℓ)

/-- The array the kernel leaves. -/
theorem arr : (dats m 0 (0 : Dev nD)).arrAt 2 cfg0.N
    = nt (a := 4096) (b := 5632) (n := 2048) (m (((0 : Dev nD).tc : Thread nD τ).loc main_arg0)) (m (((0 : Dev nD).tc : Thread nD τ).loc main_arg1)) := by
  refine (dats m 0 (0 : Dev nD)).arrAt_eq_of_covers 2 _ (by decide +kernel) fun t hf y => ?_
  blk_simp
  rw [after0_2]
  frame_out
  rw [pay]
  unfold nt
  refine Fin.sum_fin_congr fun k => ?_
  congr 1
  · blk_ext [Gen.iblk, Gen.V, idx0 t, idx2 t]
  · blk_ext [Gen.iblk, Gen.V, idx1 t, idx2 t]

/-- The reference's array. -/
theorem ref (x0 : (⟨Cert.Reference4Ideal.S4096x2048, .bf16⟩ : BufTy).Contents (Elt Ideal)) (x1 : (⟨Cert.Reference4Ideal.S5632x2048, .bf16⟩ : BufTy).Contents (Elt Ideal)) :
    Cert.Reference4Ideal.Read.val_main_v2 (F := Ideal) x0 x1 = nt (a := 4096) (b := 5632) (n := 2048) x0 x1 := by
  funext i
  pointwise [Cert.Reference4Ideal.Read.val_main_v2, Cert.Reference4Ideal.Read.val_main_v1, Cert.Reference4Ideal.Read.val_main_v0]
  rfl

theorem algebraic : Cert.algebraic_Kernel4Ideal_Reference4Ideal (hKernel4Ideal := Cert.Kernel4Ideal.Gen.facts) (hReference4Ideal := Cert.Reference4Ideal.Gen.facts) := by
  intro m g m' g' _ hargs
  refine ⟨fun _ => nt (a := 4096) (b := 5632) (n := 2048) (m (((0 : Dev nD).tc : Thread nD τ).loc main_arg0)) (m (((0 : Dev nD).tc : Thread nD τ).loc main_arg1)), ?_, ?_⟩
  · refine (θ_run _ _ _).mono (fun r h c => ?_) (Cert.Kernel4Ideal.Value.run_blocks (F := Ideal) m g)
    obtain rfl : c = 0 := Subsingleton.elim _ _
    exact ⟨(h 0).1.trans (arr m), (h 0).2⟩
  · refine (θ_run _ _ _).mono (fun r h c => ?_) (Cert.Reference4Ideal.Value.run (F := Ideal) m' g')
    obtain rfl : c = 0 := Subsingleton.elim _ _
    refine ⟨(h 0).1.trans ((ref _ _).trans ?_), (h 0).2⟩
    rw [(hargs 0).1, (hargs 0).2]

end Cert.DownX

end
-- ==== Proof.DownW.lean ====
/- The gradient of the down product by its weight. -/
module

public import proofs.«01_k».proof.Defs
public import proofs.«01_k».proof.Proof.Prod
public import Idealize.ShloMosaic.Lib.Pipeline.ReadBack
public import proofs.«01_k».proof.Proof.Gen.Kernel5Ideal.Value
public import proofs.«01_k».proof.Proof.Gen.Reference5Ideal.Read
public import proofs.«01_k».proof.Proof.Gen.Reference5Ideal.Run

@[expose] public section

set_option maxRecDepth 16384

noncomputable section

namespace Cert.DownW

open Idealize.ShloMosaic Idealize.ShloMosaic.TcCoe Idealize.SL.Sem
open Cert.Prod Cert.Kernel5Ideal Cert.Kernel5Ideal.Gen

/-- The first half of a block's entry. -/
theorem pay1 (x0 : Vec Ideal S2048x1408 .bf16) (x1 : Vec Ideal S2048x1024 .bf16) (j : S1408x1024.Idx) :
    k0_pay1 (F := Ideal) x0 x1 j = ∑ k : Fin 2048, x0 (ix2 k (j 0)) * x1 (ix2 k (j 1)) := by
  pointwise [k0_pay1]

/-- The second half, added to what the first left. -/
theorem pay3 (acc : Vec Ideal S1408x1024 .f32) (x0 : Vec Ideal S2048x1408 .bf16) (x1 : Vec Ideal S2048x1024 .bf16) (j : S1408x1024.Idx) :
    k0_pay3 (F := Ideal) acc x0 x1 j = acc j + ∑ k : Fin 2048, x0 (ix2 k (j 0)) * x1 (ix2 k (j 1)) := by
  pointwise [k0_pay3]

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 4, t.val / 2 % 2] := (by decide +kernel : ∀ t : Fin grid0.N, _)

variable (m : (ℓ : Loc nD τ sig) → Buf (Elt Ideal) ℓ)

/-- The array the kernel leaves: each block's two halves of the contraction, added up. -/
theorem arr : (dats m 0 (0 : Dev nD)).arrAt 2 cfg0.N
    = tn (a := 5632) (b := 2048) (n := 4096) (m (((0 : Dev nD).tc : Thread nD τ).loc main_arg0)) (m (((0 : Dev nD).tc : Thread nD τ).loc main_arg1)) := by
  refine (dats m 0 (0 : Dev nD)).arrAt_eq_of_covers 2 _ (by decide +kernel) fun t hf y => ?_
  have h1 : t.val % 2 = 1 := (flush0_2 t).mp hf
  have hl : t.val - 1 < cfg0.N := lt_of_le_of_lt (Nat.sub_le _ _) t.isLt
  have hs : (outsAt0 m (0 : Dev nD) (t.val - 1) hl).2 = k0_pay1 (F := Ideal) (iblk m 0 0 ⟨t.val - 1, hl⟩) (iblk m 0 1 ⟨t.val - 1, hl⟩) := by
    rw [outsAt0_A m 0 ⟨t.val - 1, hl⟩ (by show (t.val - 1) % 2 = 0; omega) (by show ¬(t.val - 1) % 2 = 1; omega)]
    frame_out
  blk_simp
  rw [after0_2, outsAt0_B m 0 t (by omega) h1]
  frame_out
  rw [read_unread_whole, hs, pay3, pay1]
  unfold tn
  refine sum_halves (n := 2048) _ _ _ (fun k => ?_) (fun k => ?_)
  · refine congrArg₂ (· * ·) ?_ ?_
    · blk_ext [Gen.iblk, Gen.V, idx0 ⟨t.val - 1, hl⟩, idx2 t]
    · blk_ext [Gen.iblk, Gen.V, idx1 ⟨t.val - 1, hl⟩, idx2 t]
  · refine congrArg₂ (· * ·) ?_ ?_
    · blk_ext [Gen.iblk, Gen.V, idx0 t, idx2 t]
    · blk_ext [Gen.iblk, Gen.V, idx1 t, idx2 t]

/-- The reference's array. -/
theorem ref (x0 : (⟨Cert.Reference5Ideal.S4096x5632, .bf16⟩ : BufTy).Contents (Elt Ideal)) (x1 : (⟨Cert.Reference5Ideal.S4096x2048, .bf16⟩ : BufTy).Contents (Elt Ideal)) :
    Cert.Reference5Ideal.Read.val_main_v3 (F := Ideal) x0 x1 = tn (a := 5632) (b := 2048) (n := 4096) x0 x1 := by
  funext i
  pointwise [Cert.Reference5Ideal.Read.val_main_v3, Cert.Reference5Ideal.Read.val_main_v2, Cert.Reference5Ideal.Read.val_main_v1, Cert.Reference5Ideal.Read.val_main_v0]
  exact Finset.sum_congr rfl fun k _ => mul_comm _ _

theorem algebraic : Cert.algebraic_Kernel5Ideal_Reference5Ideal (hKernel5Ideal := Cert.Kernel5Ideal.Gen.facts) (hReference5Ideal := Cert.Reference5Ideal.Gen.facts) := by
  intro m g m' g' _ hargs
  refine ⟨fun _ => tn (a := 5632) (b := 2048) (n := 4096) (m (((0 : Dev nD).tc : Thread nD τ).loc main_arg0)) (m (((0 : Dev nD).tc : Thread nD τ).loc main_arg1)), ?_, ?_⟩
  · refine (θ_run _ _ _).mono (fun r h c => ?_) (Cert.Kernel5Ideal.Value.run_blocks (F := Ideal) m g)
    obtain rfl : c = 0 := Subsingleton.elim _ _
    exact ⟨(h 0).1.trans (arr m), (h 0).2⟩
  · refine (θ_run _ _ _).mono (fun r h c => ?_) (Cert.Reference5Ideal.Value.run (F := Ideal) m' g')
    obtain rfl : c = 0 := Subsingleton.elim _ _
    refine ⟨(h 0).1.trans ((ref _ _).trans ?_), (h 0).2⟩
    rw [(hargs 0).1, (hargs 0).2]

end Cert.DownW

end
-- ==== Proof.OutX.lean ====
/- The gradient of the output product by its input. -/
module

public import proofs.«01_k».proof.Defs
public import proofs.«01_k».proof.Proof.Prod
public import proofs.«01_k».proof.Proof.Gen.Kernel6Ideal.Value
public import proofs.«01_k».proof.Proof.Gen.Reference6Ideal.Read
public import proofs.«01_k».proof.Proof.Gen.Reference6Ideal.Run

@[expose] public section

set_option maxRecDepth 16384

noncomputable section

namespace Cert.OutX

open Idealize.ShloMosaic Idealize.ShloMosaic.TcCoe Idealize.SL.Sem
open Cert.Prod Cert.Kernel6Ideal Cert.Kernel6Ideal.Gen

/-- A block's entry. -/
theorem pay (x0 : Vec Ideal S1024x2048 .bf16) (x1 : Vec Ideal S1024x2048 .bf16) (j : S1024x1024.Idx) :
    k0_pay1 (F := Ideal) x0 x1 j = ∑ k : Fin 2048, x0 (ix2 (j 0) k) * x1 (ix2 (j 1) k) := by
  pointwise [k0_pay1]

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

variable (m : (ℓ : Loc nD τ sig) → Buf (Elt Ideal) ℓ)

/-- The array the kernel leaves. -/
theorem arr : (dats m 0 (0 : Dev nD)).arrAt 2 cfg0.N
    = nt (a := 4096) (b := 2048) (n := 2048) (m (((0 : Dev nD).tc : Thread nD τ).loc main_arg0)) (m (((0 : Dev nD).tc : Thread nD τ).loc main_arg1)) := by
  refine (dats m 0 (0 : Dev nD)).arrAt_eq_of_covers 2 _ (by decide +kernel) fun t hf y => ?_
  blk_simp
  rw [after0_2]
  frame_out
  rw [pay]
  unfold nt
  refine Fin.sum_fin_congr fun k => ?_
  congr 1
  · blk_ext [Gen.iblk, Gen.V, idx0 t, idx2 t]
  · blk_ext [Gen.iblk, Gen.V, idx1 t, idx2 t]

/-- The reference's array. -/
theorem ref (x0 : (⟨Cert.Reference6Ideal.S4096x2048, .bf16⟩ : BufTy).Contents (Elt Ideal)) (x1 : (⟨Cert.Reference6Ideal.S2048x2048, .bf16⟩ : BufTy).Contents (Elt Ideal)) :
    Cert.Reference6Ideal.Read.val_main_v2 (F := Ideal) x0 x1 = nt (a := 4096) (b := 2048) (n := 2048) x0 x1 := by
  funext i
  pointwise [Cert.Reference6Ideal.Read.val_main_v2, Cert.Reference6Ideal.Read.val_main_v1, Cert.Reference6Ideal.Read.val_main_v0]
  rfl

theorem algebraic : Cert.algebraic_Kernel6Ideal_Reference6Ideal (hKernel6Ideal := Cert.Kernel6Ideal.Gen.facts) (hReference6Ideal := Cert.Reference6Ideal.Gen.facts) := by
  intro m g m' g' _ hargs
  refine ⟨fun _ => nt (a := 4096) (b := 2048) (n := 2048) (m (((0 : Dev nD).tc : Thread nD τ).loc main_arg0)) (m (((0 : Dev nD).tc : Thread nD τ).loc main_arg1)), ?_, ?_⟩
  · refine (θ_run _ _ _).mono (fun r h c => ?_) (Cert.Kernel6Ideal.Value.run_blocks (F := Ideal) m g)
    obtain rfl : c = 0 := Subsingleton.elim _ _
    exact ⟨(h 0).1.trans (arr m), (h 0).2⟩
  · refine (θ_run _ _ _).mono (fun r h c => ?_) (Cert.Reference6Ideal.Value.run (F := Ideal) m' g')
    obtain rfl : c = 0 := Subsingleton.elim _ _
    refine ⟨(h 0).1.trans ((ref _ _).trans ?_), (h 0).2⟩
    rw [(hargs 0).1, (hargs 0).2]

end Cert.OutX

end
-- ==== Proof.OutW.lean ====
/- The gradient of the output product by its weight. -/
module

public import proofs.«01_k».proof.Defs
public import proofs.«01_k».proof.Proof.Prod
public import Idealize.ShloMosaic.Lib.Pipeline.ReadBack
public import proofs.«01_k».proof.Proof.Gen.Kernel7Ideal.Value
public import proofs.«01_k».proof.Proof.Gen.Reference7Ideal.Read
public import proofs.«01_k».proof.Proof.Gen.Reference7Ideal.Run

@[expose] public section

set_option maxRecDepth 16384

noncomputable section

namespace Cert.OutW

open Idealize.ShloMosaic Idealize.ShloMosaic.TcCoe Idealize.SL.Sem
open Cert.Prod Cert.Kernel7Ideal Cert.Kernel7Ideal.Gen

/-- The first half of a block's entry. -/
theorem pay1 (x0 : Vec Ideal S2048x1024 .bf16) (x1 : Vec Ideal S2048x1024 .bf16) (j : S1024x1024.Idx) :
    k0_pay1 (F := Ideal) x0 x1 j = ∑ k : Fin 2048, x0 (ix2 k (j 0)) * x1 (ix2 k (j 1)) := by
  pointwise [k0_pay1]

/-- The second half, added to what the first left. -/
theorem pay3 (acc : Vec Ideal S1024x1024 .f32) (x0 : Vec Ideal S2048x1024 .bf16) (x1 : Vec Ideal S2048x1024 .bf16) (j : S1024x1024.Idx) :
    k0_pay3 (F := Ideal) acc x0 x1 j = acc j + ∑ k : Fin 2048, x0 (ix2 k (j 0)) * x1 (ix2 k (j 1)) := by
  pointwise [k0_pay3]

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 4, t.val / 2 % 2] := (by decide +kernel : ∀ t : Fin grid0.N, _)

variable (m : (ℓ : Loc nD τ sig) → Buf (Elt Ideal) ℓ)

/-- The array the kernel leaves: each block's two halves of the contraction, added up. -/
theorem arr : (dats m 0 (0 : Dev nD)).arrAt 2 cfg0.N
    = tn (a := 2048) (b := 2048) (n := 4096) (m (((0 : Dev nD).tc : Thread nD τ).loc main_arg0)) (m (((0 : Dev nD).tc : Thread nD τ).loc main_arg1)) := by
  refine (dats m 0 (0 : Dev nD)).arrAt_eq_of_covers 2 _ (by decide +kernel) fun t hf y => ?_
  have h1 : t.val % 2 = 1 := (flush0_2 t).mp hf
  have hl : t.val - 1 < cfg0.N := lt_of_le_of_lt (Nat.sub_le _ _) t.isLt
  have hs : (outsAt0 m (0 : Dev nD) (t.val - 1) hl).2 = k0_pay1 (F := Ideal) (iblk m 0 0 ⟨t.val - 1, hl⟩) (iblk m 0 1 ⟨t.val - 1, hl⟩) := by
    rw [outsAt0_A m 0 ⟨t.val - 1, hl⟩ (by show (t.val - 1) % 2 = 0; omega) (by show ¬(t.val - 1) % 2 = 1; omega)]
    frame_out
  blk_simp
  rw [after0_2, outsAt0_B m 0 t (by omega) h1]
  frame_out
  rw [read_unread_whole, hs, pay3, pay1]
  unfold tn
  refine sum_halves (n := 2048) _ _ _ (fun k => ?_) (fun k => ?_)
  · refine congrArg₂ (· * ·) ?_ ?_
    · blk_ext [Gen.iblk, Gen.V, idx0 ⟨t.val - 1, hl⟩, idx2 t]
    · blk_ext [Gen.iblk, Gen.V, idx1 ⟨t.val - 1, hl⟩, idx2 t]
  · refine congrArg₂ (· * ·) ?_ ?_
    · blk_ext [Gen.iblk, Gen.V, idx0 t, idx2 t]
    · blk_ext [Gen.iblk, Gen.V, idx1 t, idx2 t]

/-- The reference's array. -/
theorem ref (x0 : (⟨Cert.Reference7Ideal.S4096x2048, .bf16⟩ : BufTy).Contents (Elt Ideal)) (x1 : (⟨Cert.Reference7Ideal.S4096x2048, .bf16⟩ : BufTy).Contents (Elt Ideal)) :
    Cert.Reference7Ideal.Read.val_main_v3 (F := Ideal) x0 x1 = tn (a := 2048) (b := 2048) (n := 4096) x0 x1 := by
  funext i
  pointwise [Cert.Reference7Ideal.Read.val_main_v3, Cert.Reference7Ideal.Read.val_main_v2, Cert.Reference7Ideal.Read.val_main_v1, Cert.Reference7Ideal.Read.val_main_v0]
  exact Finset.sum_congr rfl fun k _ => mul_comm _ _

theorem algebraic : Cert.algebraic_Kernel7Ideal_Reference7Ideal (hKernel7Ideal := Cert.Kernel7Ideal.Gen.facts) (hReference7Ideal := Cert.Reference7Ideal.Gen.facts) := by
  intro m g m' g' _ hargs
  refine ⟨fun _ => tn (a := 2048) (b := 2048) (n := 4096) (m (((0 : Dev nD).tc : Thread nD τ).loc main_arg0)) (m (((0 : Dev nD).tc : Thread nD τ).loc main_arg1)), ?_, ?_⟩
  · refine (θ_run _ _ _).mono (fun r h c => ?_) (Cert.Kernel7Ideal.Value.run_blocks (F := Ideal) m g)
    obtain rfl : c = 0 := Subsingleton.elim _ _
    exact ⟨(h 0).1.trans (arr m), (h 0).2⟩
  · refine (θ_run _ _ _).mono (fun r h c => ?_) (Cert.Reference7Ideal.Value.run (F := Ideal) m' g')
    obtain rfl : c = 0 := Subsingleton.elim _ _
    refine ⟨(h 0).1.trans ((ref _ _).trans ?_), (h 0).2⟩
    rw [(hargs 0).1, (hargs 0).2]

end Cert.OutW

end
-- ==== Proof.ProjX.lean ====
/- The gradient of the input product by its input. -/
module

public import proofs.«01_k».proof.Defs
public import proofs.«01_k».proof.Proof.Prod
public import proofs.«01_k».proof.Proof.Gen.Kernel8Ideal.Value
public import proofs.«01_k».proof.Proof.Gen.Reference8Ideal.Read
public import proofs.«01_k».proof.Proof.Gen.Reference8Ideal.Run

@[expose] public section

set_option maxRecDepth 16384

noncomputable section

namespace Cert.ProjX

open Idealize.ShloMosaic Idealize.ShloMosaic.TcCoe Idealize.SL.Sem
open Cert.Prod Cert.Kernel8Ideal Cert.Kernel8Ideal.Gen

/-- A block's entry. -/
theorem pay (x0 : Vec Ideal S1024x6272 .bf16) (x1 : Vec Ideal S512x6272 .bf16) (j : S1024x512.Idx) :
    k0_pay1 (F := Ideal) x0 x1 j = ∑ k : Fin 6272, x0 (ix2 (j 0) k) * x1 (ix2 (j 1) k) := by
  pointwise [k0_pay1]

theorem idx0 : ∀ t : Fin cfg0.N, win0_0.index t = ![t.val / 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, t.val % 4] := (by decide +kernel : ∀ t : Fin grid0.N, _)

variable (m : (ℓ : Loc nD τ sig) → Buf (Elt Ideal) ℓ)

/-- The array the kernel leaves. -/
theorem arr : (dats m 0 (0 : Dev nD)).arrAt 2 cfg0.N
    = nt (a := 4096) (b := 2048) (n := 6272) (m (((0 : Dev nD).tc : Thread nD τ).loc main_arg0)) (m (((0 : Dev nD).tc : Thread nD τ).loc main_arg1)) := by
  refine (dats m 0 (0 : Dev nD)).arrAt_eq_of_covers 2 _ (by decide +kernel) fun t hf y => ?_
  blk_simp
  rw [after0_2, outsAt0]
  frame_out
  rw [pay]
  unfold nt
  refine Fin.sum_fin_congr fun k => ?_
  congr 1
  · blk_ext [Gen.iblk, Gen.V, idx0 t, idx2 t]
  · blk_ext [Gen.iblk, Gen.V, idx1 t, idx2 t]

/-- The reference's array. -/
theorem ref (x0 : (⟨Cert.Reference8Ideal.S4096x6272, .bf16⟩ : BufTy).Contents (Elt Ideal)) (x1 : (⟨Cert.Reference8Ideal.S2048x6272, .bf16⟩ : BufTy).Contents (Elt Ideal)) :
    Cert.Reference8Ideal.Read.val_main_v2 (F := Ideal) x0 x1 = nt (a := 4096) (b := 2048) (n := 6272) x0 x1 := by
  funext i
  pointwise [Cert.Reference8Ideal.Read.val_main_v2, Cert.Reference8Ideal.Read.val_main_v1, Cert.Reference8Ideal.Read.val_main_v0]
  rfl

theorem algebraic : Cert.algebraic_Kernel8Ideal_Reference8Ideal (hKernel8Ideal := Cert.Kernel8Ideal.Gen.facts) (hReference8Ideal := Cert.Reference8Ideal.Gen.facts) := by
  intro m g m' g' _ hargs
  refine ⟨fun _ => nt (a := 4096) (b := 2048) (n := 6272) (m (((0 : Dev nD).tc : Thread nD τ).loc main_arg0)) (m (((0 : Dev nD).tc : Thread nD τ).loc main_arg1)), ?_, ?_⟩
  · refine (θ_run _ _ _).mono (fun r h c => ?_) (Cert.Kernel8Ideal.Value.run_blocks (F := Ideal) m g)
    obtain rfl : c = 0 := Subsingleton.elim _ _
    exact ⟨(h 0).1.trans (arr m), (h 0).2⟩
  · refine (θ_run _ _ _).mono (fun r h c => ?_) (Cert.Reference8Ideal.Value.run (F := Ideal) m' g')
    obtain rfl : c = 0 := Subsingleton.elim _ _
    refine ⟨(h 0).1.trans ((ref _ _).trans ?_), (h 0).2⟩
    rw [(hargs 0).1, (hargs 0).2.1]

end Cert.ProjX

end
-- ==== Proof.ProjW.lean ====
/- The gradient of the input product by its weight. -/
module

public import proofs.«01_k».proof.Defs
public import proofs.«01_k».proof.Proof.Prod
public import Idealize.ShloMosaic.Lib.Pipeline.ReadBack
public import proofs.«01_k».proof.Proof.Gen.Kernel9Ideal.Value
public import proofs.«01_k».proof.Proof.Gen.Reference9Ideal.Read
public import proofs.«01_k».proof.Proof.Gen.Reference9Ideal.Run

@[expose] public section

set_option maxRecDepth 16384

noncomputable section

namespace Cert.ProjW

open Idealize.ShloMosaic Idealize.ShloMosaic.TcCoe Idealize.SL.Sem
open Cert.Prod Cert.Kernel9Ideal Cert.Kernel9Ideal.Gen

/-- The first half of a block's entry. -/
theorem pay1 (x0 : Vec Ideal S2048x1024 .bf16) (x1 : Vec Ideal S2048x896 .bf16) (j : S1024x896.Idx) :
    k0_pay1 (F := Ideal) x0 x1 j = ∑ k : Fin 2048, x0 (ix2 k (j 0)) * x1 (ix2 k (j 1)) := by
  pointwise [k0_pay1]

/-- The second half, added to what the first left. -/
theorem pay3 (acc : Vec Ideal S1024x896 .f32) (x0 : Vec Ideal S2048x1024 .bf16) (x1 : Vec Ideal S2048x896 .bf16) (j : S1024x896.Idx) :
    k0_pay3 (F := Ideal) acc x0 x1 j = acc j + ∑ k : Fin 2048, x0 (ix2 k (j 0)) * x1 (ix2 k (j 1)) := by
  pointwise [k0_pay3]

theorem idx0 : ∀ t : Fin cfg0.N, win0_0.index t = ![t.val % 2, t.val / 14] := (by decide +kernel : ∀ t : Fin grid0.N, _)
theorem idx1 : ∀ t : Fin cfg0.N, win0_1.index t = ![t.val % 2, t.val / 2 % 7] := (by decide +kernel : ∀ t : Fin grid0.N, _)
theorem idx2 : ∀ t : Fin cfg0.N, win0_2.index t = ![t.val / 14, t.val / 2 % 7] := (by decide +kernel : ∀ t : Fin grid0.N, _)

variable (m : (ℓ : Loc nD τ sig) → Buf (Elt Ideal) ℓ)

/-- The array the kernel leaves: each block's two halves of the contraction, added up. -/
theorem arr : (dats m 0 (0 : Dev nD)).arrAt 2 cfg0.N
    = tn (a := 2048) (b := 6272) (n := 4096) (m (((0 : Dev nD).tc : Thread nD τ).loc main_arg0)) (m (((0 : Dev nD).tc : Thread nD τ).loc main_arg1)) := by
  refine (dats m 0 (0 : Dev nD)).arrAt_eq_of_covers 2 _ (by decide +kernel) fun t hf y => ?_
  have h1 : t.val % 2 = 1 := (flush0_2 t).mp hf
  have hl : t.val - 1 < cfg0.N := lt_of_le_of_lt (Nat.sub_le _ _) t.isLt
  have hs : (outsAt0 m (0 : Dev nD) (t.val - 1) hl).2 = k0_pay1 (F := Ideal) (iblk m 0 0 ⟨t.val - 1, hl⟩) (iblk m 0 1 ⟨t.val - 1, hl⟩) := by
    rw [outsAt0_A m 0 ⟨t.val - 1, hl⟩ (by show (t.val - 1) % 2 = 0; omega) (by show ¬(t.val - 1) % 2 = 1; omega)]
    frame_out
  blk_simp
  rw [after0_2, outsAt0_B m 0 t (by omega) h1]
  frame_out
  rw [read_unread_whole, hs, pay3, pay1]
  unfold tn
  refine sum_halves (n := 2048) _ _ _ (fun k => ?_) (fun k => ?_)
  · refine congrArg₂ (· * ·) ?_ ?_
    · blk_ext [Gen.iblk, Gen.V, idx0 ⟨t.val - 1, hl⟩, idx2 t]
    · blk_ext [Gen.iblk, Gen.V, idx1 ⟨t.val - 1, hl⟩, idx2 t]
  · refine congrArg₂ (· * ·) ?_ ?_
    · blk_ext [Gen.iblk, Gen.V, idx0 t, idx2 t]
    · blk_ext [Gen.iblk, Gen.V, idx1 t, idx2 t]

/-- The reference's array. -/
theorem ref (x0 : (⟨Cert.Reference9Ideal.S4096x2048, .bf16⟩ : BufTy).Contents (Elt Ideal)) (x1 : (⟨Cert.Reference9Ideal.S4096x6272, .bf16⟩ : BufTy).Contents (Elt Ideal)) :
    Cert.Reference9Ideal.Read.val_main_v3 (F := Ideal) x0 x1 = tn (a := 2048) (b := 6272) (n := 4096) x0 x1 := by
  funext i
  pointwise [Cert.Reference9Ideal.Read.val_main_v3, Cert.Reference9Ideal.Read.val_main_v2, Cert.Reference9Ideal.Read.val_main_v1, Cert.Reference9Ideal.Read.val_main_v0]
  exact Finset.sum_congr rfl fun k _ => mul_comm _ _

theorem algebraic : Cert.algebraic_Kernel9Ideal_Reference9Ideal (hKernel9Ideal := Cert.Kernel9Ideal.Gen.facts) (hReference9Ideal := Cert.Reference9Ideal.Gen.facts) := by
  intro m g m' g' _ hargs
  refine ⟨fun _ => tn (a := 2048) (b := 6272) (n := 4096) (m (((0 : Dev nD).tc : Thread nD τ).loc main_arg0)) (m (((0 : Dev nD).tc : Thread nD τ).loc main_arg1)), ?_, ?_⟩
  · refine (θ_run _ _ _).mono (fun r h c => ?_) (Cert.Kernel9Ideal.Value.run_blocks (F := Ideal) m g)
    obtain rfl : c = 0 := Subsingleton.elim _ _
    exact ⟨(h 0).1.trans (arr m), (h 0).2⟩
  · refine (θ_run _ _ _).mono (fun r h c => ?_) (Cert.Reference9Ideal.Value.run (F := Ideal) m' g')
    obtain rfl : c = 0 := Subsingleton.elim _ _
    refine ⟨(h 0).1.trans ((ref _ _).trans ?_), (h 0).2⟩
    rw [(hargs 0).1, (hargs 0).2]

end Cert.ProjW

end
-- ==== Proof.NormSpec.lean ====
/- The root-mean-square norm of a row and its gradient over the extended reals: the reciprocal root of the mean square is
   a nonnegative real whatever the row holds, which lets it move in and out of sums. -/
module

public import proofs.«01_k».proof.Proof.Prod

@[expose] public section

noncomputable section

namespace Cert.Norm

open Idealize.ShloMosaic

/-- The row length the programs divide by. -/
def len : EReal := Ideal.ofBits .f32 0x45000000#32
/-- What the programs add to the mean square. -/
def eps : EReal := Ideal.ofBits .f32 0x358637BD#32
/-- The factor in the derivative of a reciprocal root. -/
def mhalf : EReal := Ideal.ofBits .f32 0xBF000000#32

theorem len_eq : len = ((2048 : ℝ) : EReal) := by
  rw [len]; simp [Ideal.ofBits, Ideal.ieee]; norm_cast; norm_num
theorem mhalf_eq : mhalf = ((-(1 / 2) : ℝ) : EReal) := by
  rw [mhalf]; simp [Ideal.ofBits, Ideal.ieee]; norm_cast; norm_num
theorem eps_pos : 0 < eps := by
  rw [eps]; simp [Ideal.ofBits, Ideal.ieee]; norm_cast; norm_num

theorem div_len (x : EReal) : Ideal.div x len = x * ((1 / 2048 : ℝ) : EReal) := by
  rw [len_eq, Ideal.div_coe (by norm_num)]

section

variable {n : ℕ}

/-- The mean square of a row, with the epsilon. -/
def msq (x : Fin n → EReal) : EReal := Ideal.div (∑ k, x k * x k) len + eps

/-- Its reciprocal root. -/
def rstd (x : Fin n → EReal) : EReal := Ideal.rsqrt (msq x)

theorem mul_self_nonneg (a : EReal) : 0 ≤ a * a := by
  induction a with
  | bot => rw [EReal.bot_mul_bot]; exact le_top
  | top => rw [EReal.top_mul_top]; exact le_top
  | coe a => exact_mod_cast _root_.mul_self_nonneg a

theorem msq_pos (x : Fin n → EReal) : 0 < msq x := by
  rw [msq, div_len]
  exact lt_of_lt_of_le eps_pos (le_add_of_nonneg_left (EReal.mul_nonneg (Finset.sum_nonneg fun k _ => mul_self_nonneg _) (by exact_mod_cast (by norm_num : (0 : ℝ) ≤ 1 / 2048))))

/-- The reciprocal root is a nonnegative real, and divided by the mean square it is its own cube. -/
theorem rstd_real (x : Fin n → EReal) : ∃ r : ℝ, 0 ≤ r ∧ rstd x = r ∧ Ideal.div (rstd x) (msq x) = ((r * r * r : ℝ) : EReal) := by
  have h := msq_pos x
  unfold rstd
  generalize msq x = q at h
  induction q with
  | bot => exact absurd h (by simp)
  | top => exact ⟨0, le_rfl, rfl, by rw [Ideal.rsqrt_top, Ideal.div, if_neg EReal.top_ne_zero, zero_mul]; norm_num⟩
  | coe q =>
    have hq : 0 < q := by exact_mod_cast h
    have e : Ideal.rsqrt (q : EReal) = (((Real.sqrt q)⁻¹ : ℝ) : EReal) := by rw [Ideal.rsqrt_coe, if_neg (not_lt.mpr hq.le), if_neg hq.ne']
    refine ⟨(Real.sqrt q)⁻¹, inv_nonneg.mpr (Real.sqrt_nonneg q), e, ?_⟩
    rw [e, Ideal.div_coe hq.ne', ← EReal.coe_mul]
    congr 1
    rw [mul_assoc, ← mul_inv, Real.mul_self_sqrt hq.le, one_div]

/-- A nonnegative real factor moves into a sum of two. -/
theorem mul_add_real {r : ℝ} (hr : 0 ≤ r) (a b : EReal) : (r : EReal) * (a + b) = r * a + r * b :=
  EReal.left_distrib_of_nonneg_of_ne_top (by exact_mod_cast hr) (EReal.coe_ne_top r) a b

/-- A nonnegative real factor moves out of a finite sum. -/
theorem sum_mul_real {ι : Type} (s : Finset ι) (f : ι → EReal) {r : ℝ} (hr : 0 ≤ r) : ∑ k ∈ s, f k * (r : EReal) = (∑ k ∈ s, f k) * r := by
  classical
  induction s using Finset.induction_on with
  | empty => rw [Finset.sum_empty, Finset.sum_empty, zero_mul]
  | insert a s ha ih => rw [Finset.sum_insert ha, Finset.sum_insert ha, ih, mul_comm (f a + _), mul_add_real hr, mul_comm (r : EReal), mul_comm (r : EReal)]

/-- Twice a real multiple, the two halves added up. -/
theorem twice (w : EReal) {s : ℝ} (hs : 0 ≤ s) : w * ((-(1 / 2) * s : ℝ) : EReal) + w * ((-(1 / 2) * s : ℝ) : EReal) = -(w * (s : EReal)) := by
  rw [show ((-(1 / 2) * s : ℝ) : EReal) = -((1 / 2 * s : ℝ) : EReal) by rw [← EReal.coe_neg]; congr 1; ring, mul_neg, ← neg_mul, ← neg_mul, mul_comm (-w), ← EReal.right_distrib_of_nonneg
    (show (0 : EReal) ≤ ((1 / 2 * s : ℝ) : EReal) by exact_mod_cast (by positivity)) (show (0 : EReal) ≤ ((1 / 2 * s : ℝ) : EReal) by exact_mod_cast (by positivity)), ← EReal.coe_add, mul_comm]
  congr 3
  ring

variable (x d g : Fin n → EReal)

/-- The gradient of a norm by its input, as the kernel computes it, the residual's gradient in front. -/
def dnorm (e : EReal) (j : Fin n) : EReal :=
  e + rstd x * (d j * g j - x j * rstd x * Ideal.div (∑ k, d k * g k * (x k * rstd x)) len)

/-- The gradient through the mean square, as differentiation leaves it. -/
def dmean : EReal := Ideal.div ((∑ k, x k * (d k * g k)) * (mhalf * Ideal.div (rstd x) (msq x))) len

/-- Differentiation's terms, summed up, are the kernel's. -/
theorem dnorm_eq (e : EReal) (j : Fin n) :
    d j * g j * rstd x + x j * dmean x d g + dmean x d g * x j + e = dnorm x d g e j := by
  obtain ⟨r, hr, h1, h2⟩ := rstd_real x
  have h3 : 0 ≤ r * r * r * (1 / 2048) := by positivity
  have es : ∑ k, d k * g k * (x k * rstd x) = (∑ k, x k * (d k * g k)) * r := by
    rw [← sum_mul_real _ _ hr]
    exact Finset.sum_congr rfl fun k _ => by rw [h1, ← mul_assoc, mul_comm (d k * g k)]
  unfold dnorm dmean
  rw [es, h2, h1, mhalf_eq, div_len, div_len]
  generalize ∑ k, x k * (d k * g k) = y
  have e1 : x j * (y * ((((-(1 / 2) : ℝ) : EReal)) * ((r * r * r : ℝ) : EReal)) * ((1 / 2048 : ℝ) : EReal)) = x j * y * ((-(1 / 2) * (r * r * r * (1 / 2048)) : ℝ) : EReal) := by
    rw [mul_assoc y, ← EReal.coe_mul, ← EReal.coe_mul, ← mul_assoc]
    congr 2
    ring
  have e2 : (r : EReal) * (x j * r * (y * r * ((1 / 2048 : ℝ) : EReal))) = x j * y * ((r * r * r * (1 / 2048) : ℝ) : EReal) := by
    push_cast
    ac_rfl
  rw [mul_comm _ (x j), add_assoc (d j * g j * r), e1, twice _ h3, sub_eq_add_neg, mul_add_real hr, mul_neg, e2, mul_comm (d j * g j), add_comm]

end

end Cert.Norm

end
-- ==== Proof.NormB.lean ====
/- The gradient of the norm: by its input with the residual's gradient added, and by its gains. -/
module

public import proofs.«01_k».proof.Defs
public import proofs.«01_k».proof.Proof.NormSpec
public import proofs.«01_k».proof.Proof.Gen.Kernel10Ideal.Value
public import proofs.«01_k».proof.Proof.Gen.Reference10Ideal.Read
public import proofs.«01_k».proof.Proof.Gen.Reference10Ideal.Run
public import Idealize.ShloMosaic.Lib.StableHlo.ReadAt

@[expose] public section

set_option maxRecDepth 16384

noncomputable section

namespace Cert.NormB

open Idealize.ShloMosaic Idealize.ShloMosaic.TcCoe Idealize.SL.Sem
open Cert.Norm Cert.Kernel10Ideal Cert.Kernel10Ideal.Gen

variable (m : (ℓ : Loc nD τ sig) → Buf (Elt Ideal) ℓ)

/-- The kernel's arguments. -/
abbrev arg0 : S4096x2048.Idx → EReal := m (((0 : Dev nD).tc : Thread nD τ).loc main_arg0)
abbrev arg1 : S1x2048.Idx → EReal := m (((0 : Dev nD).tc : Thread nD τ).loc main_arg1)
abbrev arg2 : S4096x2048.Idx → EReal := m (((0 : Dev nD).tc : Thread nD τ).loc main_arg2)
abbrev arg3 : S4096x2048.Idx → EReal := m (((0 : Dev nD).tc : Thread nD τ).loc main_arg3)

/-- The reciprocal roots prepared before the kernel. -/
theorem rs (i : S4096x1.Idx) : V m 0 main_v7 i = rstd fun k : Fin 2048 => arg0 m (ix2 (i 0) k) := by
  unfold V
  after_reads_at
  rfl

theorem pay4 (r : Vec Ideal S512x1 .f32) (x d : Vec Ideal S512x2048 .f32) (g : Vec Ideal S1x2048 .f32) (e : Vec Ideal S512x2048 .f32) (a : Fin 512) (b : Fin 2048) :
    k0_pay4 (F := Ideal) r x d g e (ix2 a b)
      = e (ix2 a b) + r (ix2 a 0) * (d (ix2 a b) * g (ix2 0 b) - x (ix2 a b) * r (ix2 a 0) * Ideal.div (∑ k : Fin 2048, d (ix2 a k) * g (ix2 0 k) * (x (ix2 a k) * r (ix2 a 0))) len) := by
  pointwise [k0_pay4, k0_pay3, k0_pay2]
  rfl
theorem pay1 (j : S1x2048.Idx) : k0_pay1 (F := Ideal) j = 0 := by
  pointwise [k0_pay1]
theorem pay6 (r : Vec Ideal S512x1 .f32) (x d : Vec Ideal S512x2048 .f32) (g : Vec Ideal S1x2048 .f32) (j : S1x2048.Idx) :
    k0_pay6 (F := Ideal) r x d g j = g j + ∑ k : Fin 512, d (ix2 k (j 1)) * (x (ix2 k (j 1)) * r (ix2 k 0)) := by
  pointwise [k0_pay6, k0_pay3, k0_pay2]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)

variable (t : Fin cfg0.N) (a : Fin 512)

/-- Row `a` of tile `t`. -/
def row : Fin 4096 := ⟨t.val * 512 + a.val, by have : t.val < 8 := t.isLt; omega⟩

theorem blk0 (k : Fin 2048) : iblk m 0 0 t (ix2 a k) = arg0 m (ix2 (row t a) k) := by
  blk_ext [Gen.iblk, Gen.V, idx0 t]
  rfl
theorem blk1 : iblk m 0 1 t (ix2 a 0) = rstd fun k : Fin 2048 => arg0 m (ix2 (row t a) k) := by
  refine Eq.trans ?_ (rs m (ix2 (row t a) 0))
  blk_ext [Gen.iblk, idx1 t]
  rfl
theorem blk2 (k : Fin 2048) : iblk m 0 2 t (ix2 0 k) = arg1 m (ix2 0 k) := by
  blk_ext [Gen.iblk, Gen.V, idx2 t]
theorem blk3 (k : Fin 2048) : iblk m 0 3 t (ix2 a k) = arg2 m (ix2 (row t a) k) := by
  blk_ext [Gen.iblk, Gen.V, idx3 t]
  rfl
theorem blk4 (k : Fin 2048) : iblk m 0 4 t (ix2 a k) = arg3 m (ix2 (row t a) k) := by
  blk_ext [Gen.iblk, Gen.V, idx4 t]
  rfl

/-- The gradient by the input, the residual's added. -/
def dx : S4096x2048.Idx → EReal := fun i =>
  dnorm (fun k : Fin 2048 => arg0 m (ix2 (i 0) k)) (fun k => arg2 m (ix2 (i 0) k)) (fun k => arg1 m (ix2 0 k)) (arg3 m (ix2 (i 0) (i 1))) (i 1)

/-- The gradient by the gains. -/
def dg : S1x2048.Idx → EReal := fun i =>
  ∑ s : Fin 4096, arg2 m (ix2 s (i 1)) * (arg0 m (ix2 s (i 1)) * rstd fun k : Fin 2048 => arg0 m (ix2 s k))

/-- A tile of the gradient by the input. -/
theorem tile (y : S512x2048.Idx) :
    k0_pay4 (F := Ideal) (iblk m 0 1 t) (iblk m 0 0 t) (iblk m 0 3 t) (iblk m 0 2 t) (iblk m 0 4 t) y = dx m (ix2 (row t (y 0)) (y 1)) := by
  obtain ⟨a, b, rfl⟩ : ∃ (a : Fin 512) (b : Fin 2048), y = ix2 a b := ⟨y 0, y 1, eq_ix2 y⟩
  rw [pay4, blk0, blk1, blk2, blk3, blk4]
  simp only [blk0, blk2, blk3]
  rfl

theorem out5 (y : S512x2048.Idx) : (outsAt0 m 0 t.val t.isLt).1 y = dx m (ix2 (row t (y 0)) (y 1)) := by
  refine Eq.trans ?_ (tile m t y)
  by_cases h : t.val % 8 = 0
  · rw [outsAt0_A m 0 t h]; frame_out
  · rw [outsAt0_B m 0 t h]; frame_out

theorem out6 (y : S512x2048.Idx) : (outsAt0 m 0 t.val t.isLt).2.1 y = dx m (ix2 (row t (y 0)) (y 1)) := by
  refine Eq.trans ?_ (tile m t y)
  by_cases h : t.val % 8 = 0
  · rw [outsAt0_A m 0 t h]; frame_out; rfl
  · rw [outsAt0_B m 0 t h]; frame_out; rfl

theorem out7 (t : Fin cfg0.N) (h7 : t.val % 8 = 7) (y : S1x2048.Idx) : (outsAt0 m 0 t.val t.isLt).2.2 y = dg m y := by
  have ht : t.val < 8 := t.isLt
  rw [Pipeline.eq_sum_fin_of_reset_step_apply_last (fun n h => (outsAt0 m 0 n h).2.2) 8 (fun _ => 0) _
    (fun t h j => by rw [outsAt0_A m 0 t h]; frame_out; rw [pay6, pay1])
    (fun t h j => by rw [outsAt0_B m 0 t h]; frame_out; rw [pay6])
    (le_of_eq Gen.N_0) t (by show t.val + 1 = 8; omega) y, zero_add]
  unfold dg
  refine Fin.sum_mul_add_congr fun s k hl => ?_
  exact congrArg₂ (· * ·) (blk3 m s k (y 1)) (congrArg₂ (· * ·) (blk0 m s k (y 1)) (blk1 m s k))

theorem arr5 : (dats m 0 (0 : Dev nD)).arrAt 5 cfg0.N = dx m := by
  refine (dats m 0 (0 : Dev nD)).arrAt_eq_of_covers 5 _ (by decide +kernel) fun t hf y => ?_
  blk_simp
  rw [after0_5, out5]
  blk_ext [idx5 t] <;> rfl

theorem arr6 : (dats m 0 (0 : Dev nD)).arrAt 6 cfg0.N = dx m := by
  refine (dats m 0 (0 : Dev nD)).arrAt_eq_of_covers 6 _ (by decide +kernel) fun t hf y => ?_
  blk_simp
  rw [after0_6, out6]
  blk_ext [idx6 t] <;> rfl

theorem arr7 : (dats m 0 (0 : Dev nD)).arrAt 7 cfg0.N = dg m := by
  refine (dats m 0 (0 : Dev nD)).arrAt_eq_of_covers 7 _ (by decide +kernel) fun t hf y => ?_
  blk_simp
  rw [after0_7, out7 m t ((flush0_7 t).mp hf)]
  blk_ext [idx7 t]

section

open Cert.Reference10Ideal.Read

variable (x0 : (⟨Cert.Reference10Ideal.S4096x2048, .f32⟩ : BufTy).Contents (Elt Ideal)) (x1 : (⟨Cert.Reference10Ideal.S1x2048, .f32⟩ : BufTy).Contents (Elt Ideal))
  (x2 x3 : (⟨Cert.Reference10Ideal.S4096x2048, .f32⟩ : BufTy).Contents (Elt Ideal))

theorem v7 (i : Cert.Reference10Ideal.S4096x1.Idx) : val_main_v7 (F := Ideal) x0 i = rstd fun k : Fin 2048 => x0 (ix2 (i 0) k) := by
  pointwise [val_main_v7, val_main_v6, val_main_v5, val_main_v4, val_main_v3, val_main_v2, val_main_v1, val_main_v0, val_main_cst, val_main_cst_0, val_main_cst_1]
  rfl
theorem v6 (i : Cert.Reference10Ideal.S4096x1.Idx) : val_main_v6 (F := Ideal) x0 i = msq fun k : Fin 2048 => x0 (ix2 (i 0) k) := by
  pointwise [val_main_v6, val_main_v5, val_main_v4, val_main_v3, val_main_v2, val_main_v1, val_main_v0, val_main_cst, val_main_cst_0, val_main_cst_1]
  rfl
theorem v10 (i : Cert.Reference10Ideal.S4096x1.Idx) : val_main_v10 (F := Ideal) x0 i = mhalf * Ideal.div (val_main_v7 (F := Ideal) x0 i) (val_main_v6 (F := Ideal) x0 i) := by
  pointwise [val_main_v10, val_main_v9, val_main_v8, val_main_cst_2]
  rfl
theorem v17 (i : Cert.Reference10Ideal.S1x2048.Idx) :
    val_main_v17 (F := Ideal) x0 x2 i = ∑ s : Fin 4096, x0 (ix2 s (i 1)) * val_main_v7 (F := Ideal) x0 (ix2 s 0) * x2 (ix2 s (i 1)) := by
  pointwise [val_main_v17, val_main_v16, val_main_v15, val_main_v12, val_main_v11, val_main_cst_3]
theorem v24 (i : Cert.Reference10Ideal.S4096x2048.Idx) :
    val_main_v24 (F := Ideal) x0 x1 x2 i = x2 i * x1 (ix2 0 (i 1)) * val_main_v7 (F := Ideal) x0 (ix2 (i 0) 0) := by
  pointwise [val_main_v24, val_main_v23, val_main_v19, val_main_v18]
theorem v29 (i : Cert.Reference10Ideal.S4096x2048.Idx) :
    val_main_v29 (F := Ideal) x0 x1 x2 i
      = ∑ z : Fin 1, Ideal.div ((∑ k : Fin 2048, x0 (ix2 (i 0) k) * (x2 (ix2 (i 0) k) * x1 (ix2 0 k))) * val_main_v10 (F := Ideal) x0 (ix2 (i 0) z)) len := by
  pointwise [val_main_v29, val_main_v28, val_main_v27, val_main_v25, val_main_v22, val_main_v21, val_main_v20, val_main_v19, val_main_v18, val_main_v26, val_main_cst_4, val_main_cst_5, val_main_cst_6]
  rfl
theorem v34 (i : Cert.Reference10Ideal.S4096x2048.Idx) :
    val_main_v34 (F := Ideal) x0 x1 x2 x3 i
      = val_main_v24 (F := Ideal) x0 x1 x2 i + x0 i * val_main_v29 (F := Ideal) x0 x1 x2 i + val_main_v29 (F := Ideal) x0 x1 x2 i * x0 i + x3 i := by
  pointwise [val_main_v34, val_main_v33, val_main_v32, val_main_v31, val_main_v30]

/-- The reference's gradient by the input. -/
theorem ref (a : Fin 4096) (b : Fin 2048) : val_main_v34 (F := Ideal) x0 x1 x2 x3 (ix2 a b)
    = dnorm (fun k : Fin 2048 => x0 (ix2 a k)) (fun k => x2 (ix2 a k)) (fun k => x1 (ix2 0 k)) (x3 (ix2 a b)) b := by
  have e : val_main_v29 (F := Ideal) x0 x1 x2 (ix2 a b) = dmean (fun k : Fin 2048 => x0 (ix2 a k)) (fun k => x2 (ix2 a k)) (fun k => x1 (ix2 0 k)) := by
    rw [v29, Fin.sum_univ_one, v10, v7, v6]
    rfl
  rw [v34, e, v24, v7, ← dnorm_eq]
  rfl

end

theorem ref_dx : Cert.Reference10Ideal.Read.val_main_v34 (F := Ideal) (arg0 m) (arg1 m) (arg2 m) (arg3 m) = dx m := by
  funext i
  obtain ⟨a, b, rfl⟩ : ∃ (a : Fin 4096) (b : Fin 2048), i = ix2 a b := ⟨i 0, i 1, eq_ix2 i⟩
  exact ref _ _ _ _ a b

theorem ref_dxb : Cert.Reference10Ideal.Read.val_main_v35 (F := Ideal) (arg0 m) (arg1 m) (arg2 m) (arg3 m) = dx m := ref_dx m

theorem ref_dg : Cert.Reference10Ideal.Read.val_main_v17 (F := Ideal) (arg0 m) (arg2 m) = dg m := by
  funext i
  rw [v17]
  refine Fin.sum_fin_congr fun s => ?_
  rw [v7, mul_comm]
  rfl

open Cert.Reference10Ideal.Read in
theorem algebraic : Cert.algebraic_Kernel10Ideal_Reference10Ideal (hKernel10Ideal := Cert.Kernel10Ideal.Gen.facts) (hReference10Ideal := Cert.Reference10Ideal.Gen.facts) := by
  intro m g m' g' _ hargs
  obtain ⟨h0, h1, h2, h3⟩ := hargs 0
  refine ⟨fun _ => dx m, fun _ => dx m, fun _ => dg m, ?_, ?_⟩
  · refine (θ_run _ _ _).mono (fun r h c => ?_) (Cert.Kernel10Ideal.Value.run_blocks (F := Ideal) m g)
    obtain rfl : c = 0 := Subsingleton.elim _ _
    obtain ⟨r0, r1, r2, k⟩ := h 0
    exact ⟨r0.trans (arr5 m), r1.trans (arr6 m), r2.trans (arr7 m), k⟩
  · refine (θ_run _ _ _).mono (fun r h c => ?_) (Cert.Reference10Ideal.Value.run (F := Ideal) m' g')
    obtain rfl : c = 0 := Subsingleton.elim _ _
    obtain ⟨r0, r1, r2, k⟩ := h 0
    refine ⟨(r0.trans (val_main_v34_eq _ _ _ _)).trans ?_, (r1.trans (val_main_v35_eq _ _ _ _)).trans ?_, (r2.trans (val_main_v17_eq _ _)).trans ?_, k⟩
    · rw [h0, h1, h2, h3]; exact ref_dx m
    · rw [h0, h1, h2, h3]; exact ref_dxb m
    · rw [h0, h2]; exact ref_dg m

end Cert.NormB

end
-- ==== Proof.ProjF.lean ====
/- The input product. -/
module

public import proofs.«01_k».proof.Defs
public import proofs.«01_k».proof.Proof.Prod
public import proofs.«01_k».proof.Proof.Gen.Kernel11Ideal.Value
public import proofs.«01_k».proof.Proof.Gen.Reference11Ideal.Read
public import proofs.«01_k».proof.Proof.Gen.Reference11Ideal.Run

@[expose] public section

set_option maxRecDepth 16384

noncomputable section

namespace Cert.ProjF

open Idealize.ShloMosaic Idealize.ShloMosaic.TcCoe Idealize.SL.Sem
open Cert.Prod Cert.Kernel11Ideal Cert.Kernel11Ideal.Gen

/-- A block's entry. -/
theorem pay (x0 : Vec Ideal S1024x2048 .bf16) (x1 : Vec Ideal S2048x896 .bf16) (j : S1024x896.Idx) :
    k0_pay1 (F := Ideal) x0 x1 j = ∑ k : Fin 2048, x0 (ix2 (j 0) k) * x1 (ix2 k (j 1)) := by
  pointwise [k0_pay1]

theorem idx0 : ∀ t : Fin cfg0.N, win0_0.index t = ![t.val / 7, 0] := (by decide +kernel : ∀ t : Fin grid0.N, _)
theorem idx1 : ∀ t : Fin cfg0.N, win0_1.index t = ![0, t.val % 7] := (by decide +kernel : ∀ t : Fin grid0.N, _)
theorem idx2 : ∀ t : Fin cfg0.N, win0_2.index t = ![t.val / 7, t.val % 7] := (by decide +kernel : ∀ t : Fin grid0.N, _)

variable (m : (ℓ : Loc nD τ sig) → Buf (Elt Ideal) ℓ)

/-- The array the kernel leaves. -/
theorem arr : (dats m 0 (0 : Dev nD)).arrAt 2 cfg0.N
    = nn (a := 4096) (b := 6272) (n := 2048) (m (((0 : Dev nD).tc : Thread nD τ).loc main_arg0)) (m (((0 : Dev nD).tc : Thread nD τ).loc main_arg1)) := by
  refine (dats m 0 (0 : Dev nD)).arrAt_eq_of_covers 2 _ (by decide +kernel) fun t hf y => ?_
  blk_simp
  rw [after0_2]
  frame_out
  rw [pay]
  unfold nn
  refine Fin.sum_fin_congr fun k => ?_
  congr 1
  · blk_ext [Gen.iblk, Gen.V, idx0 t, idx2 t]
  · blk_ext [Gen.iblk, Gen.V, idx1 t, idx2 t]

/-- The reference's array. -/
theorem ref (x0 : (⟨Cert.Reference11Ideal.S4096x2048, .bf16⟩ : BufTy).Contents (Elt Ideal)) (x1 : (⟨Cert.Reference11Ideal.S2048x6272, .bf16⟩ : BufTy).Contents (Elt Ideal)) :
    Cert.Reference11Ideal.Read.val_main_v2 (F := Ideal) x0 x1 = nn (a := 4096) (b := 6272) (n := 2048) x0 x1 := by
  funext i
  pointwise [Cert.Reference11Ideal.Read.val_main_v2, Cert.Reference11Ideal.Read.val_main_v1, Cert.Reference11Ideal.Read.val_main_v0]
  rfl

theorem algebraic : Cert.algebraic_Kernel11Ideal_Reference11Ideal (hKernel11Ideal := Cert.Kernel11Ideal.Gen.facts) (hReference11Ideal := Cert.Reference11Ideal.Gen.facts) := by
  intro m g m' g' _ hargs
  refine ⟨fun _ => nn (a := 4096) (b := 6272) (n := 2048) (m (((0 : Dev nD).tc : Thread nD τ).loc main_arg0)) (m (((0 : Dev nD).tc : Thread nD τ).loc main_arg1)), ?_, ?_⟩
  · refine (θ_run _ _ _).mono (fun r h c => ?_) (Cert.Kernel11Ideal.Value.run_blocks (F := Ideal) m g)
    obtain rfl : c = 0 := Subsingleton.elim _ _
    exact ⟨(h 0).1.trans (arr m), (h 0).2⟩
  · refine (θ_run _ _ _).mono (fun r h c => ?_) (Cert.Reference11Ideal.Value.run (F := Ideal) m' g')
    obtain rfl : c = 0 := Subsingleton.elim _ _
    refine ⟨(h 0).1.trans ((ref _ _).trans ?_), (h 0).2⟩
    rw [(hargs 0).1, (hargs 0).2]

end Cert.ProjF

end
-- ==== Proof.OutF.lean ====
/- The output product, added to the residual. -/
module

public import proofs.«01_k».proof.Defs
public import proofs.«01_k».proof.Proof.Prod
public import proofs.«01_k».proof.Proof.Gen.Kernel12Ideal.Value
public import proofs.«01_k».proof.Proof.Gen.Reference12Ideal.Read
public import proofs.«01_k».proof.Proof.Gen.Reference12Ideal.Run

@[expose] public section

set_option maxRecDepth 16384

noncomputable section

namespace Cert.OutF

open Idealize.ShloMosaic Idealize.ShloMosaic.TcCoe Idealize.SL.Sem
open Cert.Prod Cert.Kernel12Ideal Cert.Kernel12Ideal.Gen

/-- A block's entry. -/
theorem pay (x0 : Vec Ideal S1024x2048 .bf16) (x1 : Vec Ideal S2048x1024 .bf16) (x2 : Vec Ideal S1024x1024 .f32) (j : S1024x1024.Idx) :
    k0_pay1 (F := Ideal) x0 x1 x2 j = x2 j + ∑ k : Fin 2048, x0 (ix2 (j 0) k) * x1 (ix2 k (j 1)) := by
  pointwise [k0_pay1]

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)
theorem idx3 : ∀ t : Fin cfg0.N, win0_3.index t = ![t.val / 2, t.val % 2] := (by decide +kernel : ∀ t : Fin grid0.N, _)

variable (m : (ℓ : Loc nD τ sig) → Buf (Elt Ideal) ℓ)

/-- The array the kernel leaves. -/
theorem arr : (dats m 0 (0 : Dev nD)).arrAt 3 cfg0.N
    = withRes (a := 4096) (b := 2048) (m (((0 : Dev nD).tc : Thread nD τ).loc main_arg2)) (nn (a := 4096) (b := 2048) (n := 2048) (m (((0 : Dev nD).tc : Thread nD τ).loc main_arg0)) (m (((0 : Dev nD).tc : Thread nD τ).loc main_arg1))) := by
  refine (dats m 0 (0 : Dev nD)).arrAt_eq_of_covers 3 _ (by decide +kernel) fun t hf y => ?_
  blk_simp
  rw [after0_3]
  frame_out
  rw [pay]
  unfold withRes nn
  refine congrArg₂ (· + ·) ?_ (Fin.sum_fin_congr fun k => congrArg₂ (· * ·) ?_ ?_)
  · blk_ext [Gen.iblk, Gen.V, idx2 t, idx3 t]
  · blk_ext [Gen.iblk, Gen.V, idx0 t, idx3 t]
  · blk_ext [Gen.iblk, Gen.V, idx1 t, idx3 t]

/-- The reference's array. -/
theorem ref (x0 : (⟨Cert.Reference12Ideal.S4096x2048, .bf16⟩ : BufTy).Contents (Elt Ideal)) (x1 : (⟨Cert.Reference12Ideal.S2048x2048, .bf16⟩ : BufTy).Contents (Elt Ideal)) (x2 : (⟨Cert.Reference12Ideal.S4096x2048, .f32⟩ : BufTy).Contents (Elt Ideal)) :
    Cert.Reference12Ideal.Read.val_main_v3 (F := Ideal) x0 x1 x2 = withRes (a := 4096) (b := 2048) x2 (nn (a := 4096) (b := 2048) (n := 2048) x0 x1) := by
  funext i
  pointwise [Cert.Reference12Ideal.Read.val_main_v3, Cert.Reference12Ideal.Read.val_main_v2, Cert.Reference12Ideal.Read.val_main_v1, Cert.Reference12Ideal.Read.val_main_v0]
  rfl

theorem algebraic : Cert.algebraic_Kernel12Ideal_Reference12Ideal (hKernel12Ideal := Cert.Kernel12Ideal.Gen.facts) (hReference12Ideal := Cert.Reference12Ideal.Gen.facts) := by
  intro m g m' g' _ hargs
  refine ⟨fun _ => withRes (a := 4096) (b := 2048) (m (((0 : Dev nD).tc : Thread nD τ).loc main_arg2)) (nn (a := 4096) (b := 2048) (n := 2048) (m (((0 : Dev nD).tc : Thread nD τ).loc main_arg0)) (m (((0 : Dev nD).tc : Thread nD τ).loc main_arg1))), ?_, ?_⟩
  · refine (θ_run _ _ _).mono (fun r h c => ?_) (Cert.Kernel12Ideal.Value.run_blocks (F := Ideal) m g)
    obtain rfl : c = 0 := Subsingleton.elim _ _
    exact ⟨(h 0).1.trans (arr m), (h 0).2⟩
  · refine (θ_run _ _ _).mono (fun r h c => ?_) (Cert.Reference12Ideal.Value.run (F := Ideal) m' g')
    obtain rfl : c = 0 := Subsingleton.elim _ _
    refine ⟨(h 0).1.trans ((ref _ _ _).trans ?_), (h 0).2⟩
    rw [(hargs 0).1, (hargs 0).2.1, (hargs 0).2.2]

end Cert.OutF

end
-- ==== Proof.UpF.lean ====
/- The up product. -/
module

public import proofs.«01_k».proof.Defs
public import proofs.«01_k».proof.Proof.UpSpec
public import proofs.«01_k».proof.Proof.Gen.Kernel13Ideal.Value
public import proofs.«01_k».proof.Proof.Gen.Reference13Ideal.Read
public import proofs.«01_k».proof.Proof.Gen.Reference13Ideal.Run

@[expose] public section

set_option maxRecDepth 16384

noncomputable section

namespace Cert.UpF

open Idealize.ShloMosaic Idealize.ShloMosaic.TcCoe Idealize.SL.Sem
open Cert.UpSpec Cert.Kernel13Ideal Cert.Kernel13Ideal.Gen

/-- A block's entry. -/
theorem pay (x0 : Vec Ideal S1024x2048 .bf16) (x1 : Vec Ideal S1x2048x1408 .bf16) (j : S1024x1408.Idx) :
    k0_pay1 (F := Ideal) x0 x1 j = ∑ k : Fin 2048, x0 (ix2 (j 0) k) * x1 (ix3 0 k (j 1)) := by
  pointwise [k0_pay1]

theorem idx0 : ∀ t : Fin cfg0.N, win0_0.index t = ![t.val / 8, 0] := (by decide +kernel : ∀ t : Fin grid0.N, _)
theorem idx1 : ∀ t : Fin cfg0.N, win0_1.index t = ![2 * (t.val % 2) + t.val % 8 / 4, 0, t.val / 2 % 2] := (by decide +kernel : ∀ t : Fin grid0.N, _)
theorem idx2 : ∀ t : Fin cfg0.N, win0_2.index t = ![t.val / 8, t.val % 8] := (by decide +kernel : ∀ t : Fin grid0.N, _)

variable (m : (ℓ : Loc nD τ sig) → Buf (Elt Ideal) ℓ)

/-- The array the kernel leaves. -/
theorem arr : (dats m 0 (0 : Dev nD)).arrAt 2 cfg0.N
    = up (m (((0 : Dev nD).tc : Thread nD τ).loc main_arg0)) (m (((0 : Dev nD).tc : Thread nD τ).loc main_arg1)) := by
  refine (dats m 0 (0 : Dev nD)).arrAt_eq_of_covers 2 _ (by decide +kernel) fun t hf y => ?_
  blk_simp
  rw [after0_2]
  frame_out
  rw [pay]
  unfold up
  refine Fin.sum_fin_congr fun k => congrArg₂ (· * ·) ?_ ?_
  · blk_ext [Gen.iblk, Gen.V, idx0 t, idx2 t]
  · have h8 : t.val % 8 = 0 ∨ t.val % 8 = 1 ∨ t.val % 8 = 2 ∨ t.val % 8 = 3 ∨ t.val % 8 = 4 ∨ t.val % 8 = 5 ∨ t.val % 8 = 6 ∨ t.val % 8 = 7 := by omega
    unfold full col
    blk_ext [Gen.iblk, Gen.V, idx1 t, idx2 t]
    all_goals rcases h8 with h | h | h | h | h | h | h | h <;> omega

theorem weight (x1 : (⟨Cert.Reference13Ideal.S4x2048x2816, .bf16⟩ : BufTy).Contents (Elt Ideal)) (r : Fin 2048) (c : Fin 11264) :
    Cert.Reference13Ideal.Read.val_main_v8 (F := Ideal) x1 (ix2 r c) = full x1 r c := by
  pointwise [Cert.Reference13Ideal.Read.val_main_v8, Cert.Reference13Ideal.Read.val_main_v7, Cert.Reference13Ideal.Read.val_main_v6, Cert.Reference13Ideal.Read.val_main_v5, Cert.Reference13Ideal.Read.val_main_v4, Cert.Reference13Ideal.Read.val_main_v3, Cert.Reference13Ideal.Read.val_main_v2, Cert.Reference13Ideal.Read.val_main_v1, Cert.Reference13Ideal.Read.val_main_v0]
  exact full_of x1 r c

theorem prod (x0 : (⟨Cert.Reference13Ideal.S4096x2048, .bf16⟩ : BufTy).Contents (Elt Ideal)) (x1 : (⟨Cert.Reference13Ideal.S4x2048x2816, .bf16⟩ : BufTy).Contents (Elt Ideal)) (i : Fin 4096) (c : Fin 11264) :
    Cert.Reference13Ideal.Read.val_main_v11 (F := Ideal) x0 x1 (ix2 i c) = ∑ k : Fin 2048, x0 (ix2 i k) * Cert.Reference13Ideal.Read.val_main_v8 (F := Ideal) x1 (ix2 k c) := by
  pointwise [Cert.Reference13Ideal.Read.val_main_v11, Cert.Reference13Ideal.Read.val_main_v10, Cert.Reference13Ideal.Read.val_main_v9]

theorem lay (x0 : (⟨Cert.Reference13Ideal.S4096x2048, .bf16⟩ : BufTy).Contents (Elt Ideal)) (x1 : (⟨Cert.Reference13Ideal.S4x2048x2816, .bf16⟩ : BufTy).Contents (Elt Ideal)) (i : (⟨2, ![4096, 11264]⟩ : Shape).Idx) :
    Cert.Reference13Ideal.Read.val_main_v17 (F := Ideal) x0 x1 i = Cert.Reference13Ideal.Read.val_main_v11 (F := Ideal) x0 x1 (ix2 (i 0) (col (i 1))) := by
  pointwise [Cert.Reference13Ideal.Read.val_main_v17, Cert.Reference13Ideal.Read.val_main_v16, Cert.Reference13Ideal.Read.val_main_v15, Cert.Reference13Ideal.Read.val_main_v14, Cert.Reference13Ideal.Read.val_main_v13, Cert.Reference13Ideal.Read.val_main_v12]
  split_ifs with h
  · refine congrArg (fun a => Cert.Reference13Ideal.Read.val_main_v11 (F := Ideal) x0 x1 (ix2 (i 0) a)) (Fin.ext ?_)
    show (i 1).val / 2816 * 1408 + (i 1).val % 1408 = (i 1).val / 1408 % 2 * 5632 + (i 1).val / 2816 * 1408 + (i 1).val % 1408
    omega
  · refine congrArg (fun a => Cert.Reference13Ideal.Read.val_main_v11 (F := Ideal) x0 x1 (ix2 (i 0) a)) (Fin.ext ?_)
    show 5632 + ((i 1).val / 2816 * 1408 + (i 1).val % 1408) = (i 1).val / 1408 % 2 * 5632 + (i 1).val / 2816 * 1408 + (i 1).val % 1408
    omega

theorem ref (x0 : (⟨Cert.Reference13Ideal.S4096x2048, .bf16⟩ : BufTy).Contents (Elt Ideal)) (x1 : (⟨Cert.Reference13Ideal.S4x2048x2816, .bf16⟩ : BufTy).Contents (Elt Ideal)) :
    Cert.Reference13Ideal.Read.val_main_v17 (F := Ideal) x0 x1 = up x0 x1 := by
  funext i
  refine (lay x0 x1 i).trans ((prod x0 x1 (i 0) (col (i 1))).trans ?_)
  exact Fin.sum_fin_congr fun k => congrArg (x0 (ix2 (i 0) k) * ·) (weight x1 k (col (i 1)))

theorem algebraic : Cert.algebraic_Kernel13Ideal_Reference13Ideal (hKernel13Ideal := Cert.Kernel13Ideal.Gen.facts) (hReference13Ideal := Cert.Reference13Ideal.Gen.facts) := by
  intro m g m' g' _ hargs
  refine ⟨fun _ => up (m (((0 : Dev nD).tc : Thread nD τ).loc main_arg0)) (m (((0 : Dev nD).tc : Thread nD τ).loc main_arg1)), ?_, ?_⟩
  · refine (θ_run _ _ _).mono (fun r h c => ?_) (Cert.Kernel13Ideal.Value.run_blocks (F := Ideal) m g)
    obtain rfl : c = 0 := Subsingleton.elim _ _
    exact ⟨(h 0).1.trans (arr m), (h 0).2⟩
  · refine (θ_run _ _ _).mono (fun r h c => ?_) (Cert.Reference13Ideal.Value.run (F := Ideal) m' g')
    obtain rfl : c = 0 := Subsingleton.elim _ _
    refine ⟨(h 0).1.trans ((ref _ _).trans ?_), (h 0).2⟩
    rw [(hargs 0).1, (hargs 0).2]

end Cert.UpF

end
-- ==== Proof.DownF.lean ====
/- The down product, added to the residual. -/
module

public import proofs.«01_k».proof.Defs
public import proofs.«01_k».proof.Proof.Prod
public import proofs.«01_k».proof.Proof.Gen.Kernel14Ideal.Value
public import proofs.«01_k».proof.Proof.Gen.Reference14Ideal.Read
public import proofs.«01_k».proof.Proof.Gen.Reference14Ideal.Run

@[expose] public section

set_option maxRecDepth 16384

noncomputable section

namespace Cert.DownF

open Idealize.ShloMosaic Idealize.ShloMosaic.TcCoe Idealize.SL.Sem
open Cert.Prod Cert.Kernel14Ideal Cert.Kernel14Ideal.Gen

/-- A block's entry. -/
theorem pay (x0 : Vec Ideal S512x5632 .bf16) (x1 : Vec Ideal S5632x1024 .bf16) (x2 : Vec Ideal S512x1024 .f32) (j : S512x1024.Idx) :
    k0_pay1 (F := Ideal) x0 x1 x2 j = x2 j + ∑ k : Fin 5632, x0 (ix2 (j 0) k) * x1 (ix2 k (j 1)) := by
  pointwise [k0_pay1]

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)
theorem idx3 : ∀ t : Fin cfg0.N, win0_3.index t = ![t.val / 2, t.val % 2] := (by decide +kernel : ∀ t : Fin grid0.N, _)

variable (m : (ℓ : Loc nD τ sig) → Buf (Elt Ideal) ℓ)

/-- The array the kernel leaves. -/
theorem arr : (dats m 0 (0 : Dev nD)).arrAt 3 cfg0.N
    = withRes (a := 4096) (b := 2048) (m (((0 : Dev nD).tc : Thread nD τ).loc main_arg2)) (nn (a := 4096) (b := 2048) (n := 5632) (m (((0 : Dev nD).tc : Thread nD τ).loc main_arg0)) (m (((0 : Dev nD).tc : Thread nD τ).loc main_arg1))) := by
  refine (dats m 0 (0 : Dev nD)).arrAt_eq_of_covers 3 _ (by decide +kernel) fun t hf y => ?_
  blk_simp
  rw [after0_3]
  frame_out
  rw [pay]
  unfold withRes nn
  refine congrArg₂ (· + ·) ?_ (Fin.sum_fin_congr fun k => congrArg₂ (· * ·) ?_ ?_)
  · blk_ext [Gen.iblk, Gen.V, idx2 t, idx3 t]
  · blk_ext [Gen.iblk, Gen.V, idx0 t, idx3 t]
  · blk_ext [Gen.iblk, Gen.V, idx1 t, idx3 t]

/-- The reference's array. -/
theorem ref (x0 : (⟨Cert.Reference14Ideal.S4096x5632, .bf16⟩ : BufTy).Contents (Elt Ideal)) (x1 : (⟨Cert.Reference14Ideal.S5632x2048, .bf16⟩ : BufTy).Contents (Elt Ideal)) (x2 : (⟨Cert.Reference14Ideal.S4096x2048, .f32⟩ : BufTy).Contents (Elt Ideal)) :
    Cert.Reference14Ideal.Read.val_main_v3 (F := Ideal) x0 x1 x2 = withRes (a := 4096) (b := 2048) x2 (nn (a := 4096) (b := 2048) (n := 5632) x0 x1) := by
  funext i
  pointwise [Cert.Reference14Ideal.Read.val_main_v3, Cert.Reference14Ideal.Read.val_main_v2, Cert.Reference14Ideal.Read.val_main_v1, Cert.Reference14Ideal.Read.val_main_v0]
  rfl

theorem algebraic : Cert.algebraic_Kernel14Ideal_Reference14Ideal (hKernel14Ideal := Cert.Kernel14Ideal.Gen.facts) (hReference14Ideal := Cert.Reference14Ideal.Gen.facts) := by
  intro m g m' g' _ hargs
  refine ⟨fun _ => withRes (a := 4096) (b := 2048) (m (((0 : Dev nD).tc : Thread nD τ).loc main_arg2)) (nn (a := 4096) (b := 2048) (n := 5632) (m (((0 : Dev nD).tc : Thread nD τ).loc main_arg0)) (m (((0 : Dev nD).tc : Thread nD τ).loc main_arg1))), ?_, ?_⟩
  · refine (θ_run _ _ _).mono (fun r h c => ?_) (Cert.Kernel14Ideal.Value.run_blocks (F := Ideal) m g)
    obtain rfl : c = 0 := Subsingleton.elim _ _
    exact ⟨(h 0).1.trans (arr m), (h 0).2⟩
  · refine (θ_run _ _ _).mono (fun r h c => ?_) (Cert.Reference14Ideal.Value.run (F := Ideal) m' g')
    obtain rfl : c = 0 := Subsingleton.elim _ _
    refine ⟨(h 0).1.trans ((ref _ _ _).trans ?_), (h 0).2⟩
    rw [(hargs 0).1, (hargs 0).2.1, (hargs 0).2.2]

end Cert.DownF

end
-- ==== Proof.LossB.lean ====
/- The loss, and its gradient through the final norm. -/
module

public import proofs.«01_k».proof.Defs
public import proofs.«01_k».proof.Proof.NormSpec
public import proofs.«01_k».proof.Proof.Gen.Kernel15Ideal.Value
public import proofs.«01_k».proof.Proof.Gen.Reference15Ideal.Read
public import proofs.«01_k».proof.Proof.Gen.Reference15Ideal.Run

@[expose] public section

set_option maxRecDepth 16384

noncomputable section

namespace Cert.LossB

open Idealize.ShloMosaic Idealize.ShloMosaic.TcCoe Idealize.SL.Sem
open Cert.Norm Cert.Kernel15Ideal Cert.Kernel15Ideal.Gen

section

variable (x g t : Fin 2048 → EReal)

/-- The half in front of the loss. -/
def half : EReal := Ideal.ofBits .f32 0x3F000000#32

/-- How far a normed row is from its target. -/
def err (k : Fin 2048) : EReal := x k * rstd x * g k - t k

/-- A row's mean squared error. -/
def mse : EReal := Ideal.div (∑ k, err x g t k * err x g t k) len

/-- The loss's gradient by the normed row. -/
def dy (k : Fin 2048) : EReal := err x g t k * Ideal.ofBits .f32 0x3A000000#32

theorem half_eq : half = ((1 / 2 : ℝ) : EReal) := by
  rw [half]; simp [Ideal.ofBits, Ideal.ieee]; norm_cast; norm_num

/-- Differentiation's factor: half of one over the length, twice the error. -/
theorem dy_eq (k : Fin 2048) :
    Ideal.div (half * Ideal.ofBits .f32 0x3F800000#32) len * (Ideal.ofBits .f32 0x40000000#32 * err x g t k) = dy x g t k := by
  have e1 : Ideal.ofBits .f32 0x3F800000#32 = ((1 : ℝ) : EReal) := by simp [Ideal.ofBits, Ideal.ieee]; norm_cast; norm_num
  have e2 : Ideal.ofBits .f32 0x40000000#32 = ((2 : ℝ) : EReal) := by simp [Ideal.ofBits, Ideal.ieee]; norm_cast; norm_num
  have e3 : Ideal.ofBits .f32 0x3A000000#32 = ((1 / 2048 : ℝ) : EReal) := by simp [Ideal.ofBits, Ideal.ieee]; norm_cast; norm_num
  rw [dy, div_len, half_eq, e1, e2, e3, ← mul_assoc, ← EReal.coe_mul, ← EReal.coe_mul, ← EReal.coe_mul, mul_comm (err x g t k)]
  congr 2
  norm_num

end

/-- A row of a matrix. -/
abbrev rw2 {n : ℕ} (x : (⟨2, ![n, 2048]⟩ : Shape).Idx → EReal) (a : Fin n) : Fin 2048 → EReal := fun k => x (ix2 a k)

section

variable (x t : Vec Ideal S512x2048 .f32) (g : Vec Ideal S1x2048 .f32)

theorem pay6 (j : S512x1.Idx) : k0_pay6 (F := Ideal) x j = rstd (rw2 x (j 0)) := by
  pointwise [k0_pay6]
  rfl
theorem pay7 (j : S512x2048.Idx) : k0_pay7 (F := Ideal) x j = x j * rstd (rw2 x (j 0)) := by
  refine Eq.trans (b := x j * k0_pay6 (F := Ideal) x (ix2 (j 0) 0)) (by pointwise [k0_pay7]) ?_
  rw [pay6]; rfl
theorem pay8 (a : Fin 512) (b : Fin 2048) : k0_pay8 (F := Ideal) x g t (ix2 a b) = err (rw2 x a) (rw2 g 0) (rw2 t a) b := by
  refine Eq.trans (b := k0_pay7 (F := Ideal) x (ix2 a b) * g (ix2 0 b) - t (ix2 a b)) (by pointwise [k0_pay8]) ?_
  rw [pay7]; rfl
theorem pay9 (l : Vec Ideal S1x1 .f32) (j : S1x1.Idx) :
    k0_pay9 (F := Ideal) x g t l j = l j + half * ∑ a : Fin 512, mse (rw2 x a) (rw2 g 0) (rw2 t a) := by
  refine Eq.trans (b := l j + half * ∑ a : Fin 512, Ideal.div (∑ k : Fin 2048, k0_pay8 (F := Ideal) x g t (ix2 a k) * k0_pay8 (F := Ideal) x g t (ix2 a k)) len) (by pointwise [k0_pay9]; rfl) ?_
  simp only [pay8]; rfl
theorem pay10 (a : Fin 512) (b : Fin 2048) : k0_pay10 (F := Ideal) x g t (ix2 a b) = dy (rw2 x a) (rw2 g 0) (rw2 t a) b := by
  refine Eq.trans (b := k0_pay8 (F := Ideal) x g t (ix2 a b) * Ideal.ofBits .f32 0x3A000000#32) (by pointwise [k0_pay10]) ?_
  rw [pay8]; rfl
theorem pay11 (a : Fin 512) (b : Fin 2048) : k0_pay11 (F := Ideal) x g t (ix2 a b) = dy (rw2 x a) (rw2 g 0) (rw2 t a) b * g (ix2 0 b) := by
  refine Eq.trans (b := k0_pay10 (F := Ideal) x g t (ix2 a b) * g (ix2 0 b)) (by pointwise [k0_pay11]) ?_
  rw [pay10]
theorem pay1 (a : Fin 512) (b : Fin 2048) :
    k0_pay1 (F := Ideal) (k0_pay6 (F := Ideal) x) (k0_pay7 (F := Ideal) x) (k0_pay11 (F := Ideal) x g t) (k0_pay12 (F := Ideal) x g t) (ix2 a b)
      = dnorm (rw2 x a) (dy (rw2 x a) (rw2 g 0) (rw2 t a)) (rw2 g 0) 0 b := by
  refine Eq.trans (b := k0_pay6 (F := Ideal) x (ix2 a 0) * (k0_pay11 (F := Ideal) x g t (ix2 a b)
    - k0_pay7 (F := Ideal) x (ix2 a b) * Ideal.div (∑ k : Fin 2048, k0_pay11 (F := Ideal) x g t (ix2 a k) * k0_pay7 (F := Ideal) x (ix2 a k)) len)) (by pointwise [k0_pay1, k0_pay12]; rfl) ?_
  simp only [pay6, pay7, pay11]
  exact (zero_add _).symm
theorem pay3 (o : Vec Ideal S1x2048 .f32) (j : S1x2048.Idx) :
    k0_pay3 (F := Ideal) (k0_pay7 (F := Ideal) x) (k0_pay10 (F := Ideal) x g t) o j
      = o j + ∑ a : Fin 512, dy (rw2 x a) (rw2 g 0) (rw2 t a) (j 1) * (x (ix2 a (j 1)) * rstd (rw2 x a)) := by
  refine Eq.trans (b := o j + ∑ a : Fin 512, k0_pay10 (F := Ideal) x g t (ix2 a (j 1)) * k0_pay7 (F := Ideal) x (ix2 a (j 1))) (by pointwise [k0_pay3]) ?_
  refine congrArg (o j + ·) (Fin.sum_fin_congr fun a => ?_)
  exact congrArg₂ (· * ·) (pay10 x t g a (j 1)) (pay7 x _)
theorem pay4 (j : S1x2048.Idx) : k0_pay4 (F := Ideal) j = 0 := by
  pointwise [k0_pay4]
theorem pay5 (j : S1x1.Idx) : k0_pay5 (F := Ideal) j = 0 := by
  pointwise [k0_pay5]

end

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

variable (m : (ℓ : Loc nD τ sig) → Buf (Elt Ideal) ℓ)

/-- The kernel's arguments. -/
abbrev arg0 : S4096x2048.Idx → EReal := m (((0 : Dev nD).tc : Thread nD τ).loc main_arg0)
abbrev arg1 : S1x2048.Idx → EReal := m (((0 : Dev nD).tc : Thread nD τ).loc main_arg1)
abbrev arg2 : S4096x2048.Idx → EReal := m (((0 : Dev nD).tc : Thread nD τ).loc main_arg2)

variable (t : Fin cfg0.N) (a : Fin 512)

/-- Row `a` of tile `t`. -/
def row : Fin 4096 := ⟨t.val * 512 + a.val, by have : t.val < 8 := t.isLt; omega⟩

theorem blk0 (k : Fin 2048) : iblk m 0 0 t (ix2 a k) = arg0 m (ix2 (row t a) k) := by
  blk_ext [Gen.iblk, Gen.V, idx0 t]
  rfl
theorem blk1 (k : Fin 2048) : iblk m 0 1 t (ix2 0 k) = arg1 m (ix2 0 k) := by
  blk_ext [Gen.iblk, Gen.V, idx1 t]
theorem blk2 (k : Fin 2048) : iblk m 0 2 t (ix2 a k) = arg2 m (ix2 (row t a) k) := by
  blk_ext [Gen.iblk, Gen.V, idx2 t]
  rfl
theorem row0 : rw2 (n := 512) (iblk m 0 0 t) a = rw2 (arg0 m) (row t a) := funext fun k => blk0 m t a k
theorem row1 : rw2 (n := 1) (iblk m 0 1 t) 0 = rw2 (arg1 m) 0 := funext fun k => blk1 m t k
theorem row2 : rw2 (n := 512) (iblk m 0 2 t) a = rw2 (arg2 m) (row t a) := funext fun k => blk2 m t a k

/-- The loss's gradient by the normed rows. -/
def dyAt (s : Fin 4096) : Fin 2048 → EReal := dy (rw2 (arg0 m) s) (rw2 (arg1 m) 0) (rw2 (arg2 m) s)

/-- The loss. -/
def loss : S1x1.Idx → EReal := fun _ => half * ∑ s : Fin 4096, mse (rw2 (arg0 m) s) (rw2 (arg1 m) 0) (rw2 (arg2 m) s)

/-- The gradient by the input. -/
def dx : S4096x2048.Idx → EReal := fun i => dnorm (rw2 (arg0 m) (i 0)) (dyAt m (i 0)) (rw2 (arg1 m) 0) 0 (i 1)

/-- The gradient by the gains. -/
def dg : S1x2048.Idx → EReal := fun i => ∑ s : Fin 4096, dyAt m s (i 1) * (arg0 m (ix2 s (i 1)) * rstd (rw2 (arg0 m) s))

/-- A tile of the gradient by the input. -/
theorem tile (y : S512x2048.Idx) :
    k0_pay1 (F := Ideal) (k0_pay6 (F := Ideal) (iblk m 0 0 t)) (k0_pay7 (F := Ideal) (iblk m 0 0 t)) (k0_pay11 (F := Ideal) (iblk m 0 0 t) (iblk m 0 1 t) (iblk m 0 2 t))
      (k0_pay12 (F := Ideal) (iblk m 0 0 t) (iblk m 0 1 t) (iblk m 0 2 t)) y = dx m (ix2 (row t (y 0)) (y 1)) := by
  obtain ⟨a, b, rfl⟩ : ∃ (a : Fin 512) (b : Fin 2048), y = ix2 a b := ⟨y 0, y 1, eq_ix2 y⟩
  rw [pay1, row0, row1, row2]
  rfl

theorem out4 (y : S512x2048.Idx) : (outsAt0 m 0 t.val t.isLt).2.1 y = dx m (ix2 (row t (y 0)) (y 1)) := by
  refine Eq.trans ?_ (tile m t y)
  by_cases h : t.val % 8 = 0
  · rw [outsAt0_A m 0 t h]; frame_out
  · rw [outsAt0_B m 0 t h]; frame_out

theorem out5 (y : S512x2048.Idx) : (outsAt0 m 0 t.val t.isLt).2.2.1 y = dx m (ix2 (row t (y 0)) (y 1)) := by
  refine Eq.trans ?_ (tile m t y)
  by_cases h : t.val % 8 = 0
  · rw [outsAt0_A m 0 t h]; frame_out; rfl
  · rw [outsAt0_B m 0 t h]; frame_out; rfl

theorem out3 (t : Fin cfg0.N) (h7 : t.val % 8 = 7) (y : S1x1.Idx) : (outsAt0 m 0 t.val t.isLt).1 y = loss m y := by
  have ht : t.val < 8 := t.isLt
  rw [Pipeline.eq_sum_fin_of_reset_step_apply_last (fun n h => (outsAt0 m 0 n h).1) 8 (fun _ => 0) _
    (fun t h j => by rw [outsAt0_A m 0 t h]; frame_out; rw [pay9, pay5])
    (fun t h j => by rw [outsAt0_B m 0 t h]; frame_out; rw [pay9])
    (le_of_eq Gen.N_0) t (by show t.val + 1 = 8; omega) y, zero_add]
  unfold loss
  rw [half_eq]
  simp only [mul_comm ((1 / 2 : ℝ) : EReal)]
  rw [sum_mul_real _ _ (by norm_num)]
  refine congrArg (· * ((1 / 2 : ℝ) : EReal)) (Fin.sum_mul_add_congr fun s k hl => ?_)
  rw [row0, row1, row2]
  rfl

theorem out6 (t : Fin cfg0.N) (h7 : t.val % 8 = 7) (y : S1x2048.Idx) : (outsAt0 m 0 t.val t.isLt).2.2.2 y = dg m y := by
  have ht : t.val < 8 := t.isLt
  rw [Pipeline.eq_sum_fin_of_reset_step_apply_last (fun n h => (outsAt0 m 0 n h).2.2.2) 8 (fun _ => 0) _
    (fun t h j => by rw [outsAt0_A m 0 t h]; frame_out; rw [pay3, pay4])
    (fun t h j => by rw [outsAt0_B m 0 t h]; frame_out; rw [pay3])
    (le_of_eq Gen.N_0) t (by show t.val + 1 = 8; omega) y, zero_add]
  unfold dg
  refine Fin.sum_mul_add_congr fun s k hl => ?_
  refine congrArg₂ (· * ·) ?_ (congrArg₂ (· * ·) (blk0 m s k (y 1)) (congrArg rstd (row0 m s k)))
  rw [row0, row1, row2]
  rfl

theorem arr3 : (dats m 0 (0 : Dev nD)).arrAt 3 cfg0.N = loss m := by
  refine (dats m 0 (0 : Dev nD)).arrAt_eq_of_covers 3 _ (by decide +kernel) fun t hf y => ?_
  blk_simp
  rw [after0_3, out3 m t ((flush0_3 t).mp hf)]
  rfl

theorem arr4 : (dats m 0 (0 : Dev nD)).arrAt 4 cfg0.N = dx m := by
  refine (dats m 0 (0 : Dev nD)).arrAt_eq_of_covers 4 _ (by decide +kernel) fun t hf y => ?_
  blk_simp
  rw [after0_4, out4]
  blk_ext [idx4 t] <;> rfl

theorem arr5 : (dats m 0 (0 : Dev nD)).arrAt 5 cfg0.N = dx m := by
  refine (dats m 0 (0 : Dev nD)).arrAt_eq_of_covers 5 _ (by decide +kernel) fun t hf y => ?_
  blk_simp
  rw [after0_5, out5]
  blk_ext [idx5 t] <;> rfl

theorem arr6 : (dats m 0 (0 : Dev nD)).arrAt 6 cfg0.N = dg m := by
  refine (dats m 0 (0 : Dev nD)).arrAt_eq_of_covers 6 _ (by decide +kernel) fun t hf y => ?_
  blk_simp
  rw [after0_6, out6 m t ((flush0_6 t).mp hf)]
  blk_ext [idx6 t]

section

open Cert.Reference15Ideal.Read

variable (x0 : (⟨Cert.Reference15Ideal.S4096x2048, .f32⟩ : BufTy).Contents (Elt Ideal)) (x1 : (⟨Cert.Reference15Ideal.S1x2048, .f32⟩ : BufTy).Contents (Elt Ideal))
  (x2 : (⟨Cert.Reference15Ideal.S4096x2048, .f32⟩ : BufTy).Contents (Elt Ideal))

theorem v7 (i : Cert.Reference15Ideal.S4096x1.Idx) : val_main_v7 (F := Ideal) x0 i = rstd (rw2 (n := 4096) x0 (i 0)) := by
  pointwise [val_main_v7, val_main_v6, val_main_v5, val_main_v4, val_main_v3, val_main_v2, val_main_v1, val_main_v0, val_main_cst, val_main_cst_0, val_main_cst_1]
  rfl
theorem v6 (i : Cert.Reference15Ideal.S4096x1.Idx) : val_main_v6 (F := Ideal) x0 i = msq (rw2 (n := 4096) x0 (i 0)) := by
  pointwise [val_main_v6, val_main_v5, val_main_v4, val_main_v3, val_main_v2, val_main_v1, val_main_v0, val_main_cst, val_main_cst_0, val_main_cst_1]
  rfl
theorem v10 (i : Cert.Reference15Ideal.S4096x1.Idx) : val_main_v10 (F := Ideal) x0 i = mhalf * Ideal.div (val_main_v7 (F := Ideal) x0 i) (val_main_v6 (F := Ideal) x0 i) := by
  pointwise [val_main_v10, val_main_v9, val_main_v8, val_main_cst_2]
  rfl
theorem v15 (a : Fin 4096) (b : Fin 2048) : val_main_v15 (F := Ideal) x0 x1 x2 (ix2 a b) = err (rw2 (n := 4096) x0 a) (rw2 (n := 1) x1 0) (rw2 (n := 4096) x2 a) b := by
  refine Eq.trans (b := x0 (ix2 a b) * val_main_v7 (F := Ideal) x0 (ix2 a 0) * x1 (ix2 0 b) - x2 (ix2 a b)) (by pointwise [val_main_v15, val_main_v14, val_main_v13, val_main_v12, val_main_v11]) ?_
  rw [v7]; rfl
theorem v23 (i : Cert.Reference15Ideal.S1x1.Idx) : val_main_v49 (F := Ideal) x0 x1 x2 i
    = half * ∑ s : Fin 4096, mse (rw2 (n := 4096) x0 s) (rw2 (n := 1) x1 0) (rw2 (n := 4096) x2 s) := by
  pointwise [val_main_v49, val_main_v23, val_main_v22, val_main_v21, val_main_v20, val_main_v19, val_main_v16, val_main_cst_4, val_main_cst_5, val_main_cst_6, val_main_cst_7]
  simp only [v15]
  rfl
theorem v29 (a : Fin 4096) (b : Fin 2048) : val_main_v29 (F := Ideal) x0 x1 x2 (ix2 a b) = dy (rw2 (n := 4096) x0 a) (rw2 (n := 1) x1 0) (rw2 (n := 4096) x2 a) b := by
  refine Eq.trans ?_ (dy_eq _ _ _ b)
  rw [← v15]
  pointwise [val_main_v29, val_main_v28, val_main_v27, val_main_v26, val_main_v25, val_main_v24, val_main_v18, val_main_v17, val_main_cst_3, val_main_cst_8, val_main_cst_9, val_main_cst_10]
  rfl
theorem v32 (i : Cert.Reference15Ideal.S1x2048.Idx) : val_main_v32 (F := Ideal) x0 x1 x2 i
    = ∑ s : Fin 4096, x0 (ix2 s (i 1)) * val_main_v7 (F := Ideal) x0 (ix2 s 0) * val_main_v29 (F := Ideal) x0 x1 x2 (ix2 s (i 1)) := by
  pointwise [val_main_v32, val_main_v31, val_main_v30, val_main_v12, val_main_v11, val_main_cst_11]
theorem v34 (i : Cert.Reference15Ideal.S4096x2048.Idx) : val_main_v34 (F := Ideal) x0 x1 x2 i = val_main_v29 (F := Ideal) x0 x1 x2 i * x1 (ix2 0 (i 1)) := by
  pointwise [val_main_v34, val_main_v33]
theorem v44 (i : Cert.Reference15Ideal.S4096x2048.Idx) : val_main_v44 (F := Ideal) x0 x1 x2 i
    = ∑ z : Fin 1, Ideal.div ((∑ k : Fin 2048, x0 (ix2 (i 0) k) * val_main_v34 (F := Ideal) x0 x1 x2 (ix2 (i 0) k)) * val_main_v10 (F := Ideal) x0 (ix2 (i 0) z)) len := by
  pointwise [val_main_v44, val_main_v43, val_main_v42, val_main_v40, val_main_v37, val_main_v36, val_main_v35, val_main_v41, val_main_cst_12, val_main_cst_13, val_main_cst_14]
  rfl
theorem v48 (i : Cert.Reference15Ideal.S4096x2048.Idx) : val_main_v48 (F := Ideal) x0 x1 x2 i
    = val_main_v34 (F := Ideal) x0 x1 x2 i * val_main_v7 (F := Ideal) x0 (ix2 (i 0) 0) + x0 i * val_main_v44 (F := Ideal) x0 x1 x2 i + val_main_v44 (F := Ideal) x0 x1 x2 i * x0 i := by
  pointwise [val_main_v48, val_main_v47, val_main_v46, val_main_v45, val_main_v39, val_main_v38]

/-- The reference's gradient by the input. -/
theorem ref (a : Fin 4096) (b : Fin 2048) : val_main_v48 (F := Ideal) x0 x1 x2 (ix2 a b)
    = dnorm (rw2 (n := 4096) x0 a) (dy (rw2 (n := 4096) x0 a) (rw2 (n := 1) x1 0) (rw2 (n := 4096) x2 a)) (rw2 (n := 1) x1 0) 0 b := by
  have e34 : ∀ k : Fin 2048, val_main_v34 (F := Ideal) x0 x1 x2 (ix2 a k) = dy (rw2 (n := 4096) x0 a) (rw2 (n := 1) x1 0) (rw2 (n := 4096) x2 a) k * x1 (ix2 0 k) :=
    fun k => (v34 x0 x1 x2 _).trans (congrArg (· * x1 (ix2 0 k)) (v29 x0 x1 x2 a k))
  have e : val_main_v44 (F := Ideal) x0 x1 x2 (ix2 a b) = dmean (rw2 (n := 4096) x0 a) (dy (rw2 (n := 4096) x0 a) (rw2 (n := 1) x1 0) (rw2 (n := 4096) x2 a)) (rw2 (n := 1) x1 0) := by
    rw [v44, Fin.sum_univ_one, v10, v7, v6]
    refine congrArg (fun z => Ideal.div (z * _) len) (Fin.sum_fin_congr fun k => congrArg (x0 (ix2 a k) * ·) (e34 k))
  rw [v48, e, e34, v7, ← dnorm_eq, add_zero]
  rfl

end

theorem ref_dx : Cert.Reference15Ideal.Read.val_main_v48 (F := Ideal) (arg0 m) (arg1 m) (arg2 m) = dx m := by
  funext i
  obtain ⟨a, b, rfl⟩ : ∃ (a : Fin 4096) (b : Fin 2048), i = ix2 a b := ⟨i 0, i 1, eq_ix2 i⟩
  exact ref _ _ _ a b

theorem ref_dxb : Cert.Reference15Ideal.Read.val_main_v50 (F := Ideal) (arg0 m) (arg1 m) (arg2 m) = dx m := ref_dx m

theorem ref_loss : Cert.Reference15Ideal.Read.val_main_v49 (F := Ideal) (arg0 m) (arg1 m) (arg2 m) = loss m := funext fun i => v23 _ _ _ i

theorem ref_dg : Cert.Reference15Ideal.Read.val_main_v32 (F := Ideal) (arg0 m) (arg1 m) (arg2 m) = dg m := by
  funext i
  rw [v32]
  refine Fin.sum_fin_congr fun s => ?_
  rw [v7, mul_comm]
  exact congrArg (· * _) (v29 _ _ _ s (i 1))

open Cert.Reference15Ideal.Read in
theorem algebraic : Cert.algebraic_Kernel15Ideal_Reference15Ideal (hKernel15Ideal := Cert.Kernel15Ideal.Gen.facts) (hReference15Ideal := Cert.Reference15Ideal.Gen.facts) := by
  intro m g m' g' _ hargs
  obtain ⟨h0, h1, h2⟩ := hargs 0
  refine ⟨fun _ => loss m, fun _ => dx m, fun _ => dx m, fun _ => dg m, ?_, ?_⟩
  · refine (θ_run _ _ _).mono (fun r h c => ?_) (Cert.Kernel15Ideal.Value.run_blocks (F := Ideal) m g)
    obtain rfl : c = 0 := Subsingleton.elim _ _
    obtain ⟨r0, r1, r2, r3, k⟩ := h 0
    exact ⟨r0.trans (arr3 m), r1.trans (arr4 m), r2.trans (arr5 m), r3.trans (arr6 m), k⟩
  · refine (θ_run _ _ _).mono (fun r h c => ?_) (Cert.Reference15Ideal.Value.run (F := Ideal) m' g')
    obtain rfl : c = 0 := Subsingleton.elim _ _
    obtain ⟨r0, r1, r2, r3, k⟩ := h 0
    refine ⟨(r0.trans (val_main_v49_eq _ _ _)).trans ?_, (r1.trans (val_main_v48_eq m' 0)).trans ?_, (r2.trans (val_main_v50_eq m' 0)).trans ?_, (r3.trans (val_main_v32_eq _ _ _)).trans ?_, k⟩
    · rw [h0, h1, h2]; exact ref_loss m
    · rw [h0, h1, h2]; exact ref_dx m
    · rw [h0, h1, h2]; exact ref_dxb m
    · rw [h0, h1, h2]; exact ref_dg m

end Cert.LossB

end
-- ==== Proof.GateB.lean ====
/- The gradients of the gates' biases, and of the gates' columns of the projection. -/
module

public import proofs.«01_k».proof.Defs
public import proofs.«01_k».proof.Proof.NormSpec
public import proofs.«01_k».proof.Proof.Gen.Kernel16Ideal.Value
public import proofs.«01_k».proof.Proof.Gen.Reference16Ideal.Read
public import proofs.«01_k».proof.Proof.Gen.Reference16Ideal.Run
public import Idealize.ShloMosaic.Lib.StableHlo.ReadAt
public import Idealize.ShloMosaic.Lib.Pipeline.ValueKit.Partial

@[expose] public section

set_option maxRecDepth 16384

noncomputable section

namespace Cert.GateB

open Idealize.ShloMosaic Idealize.ShloMosaic.TcCoe Idealize.SL.Sem
open Cert.Kernel16Ideal Cert.Kernel16Ideal.Gen

section

variable (x : Vec Ideal S512x128 .f32)

theorem pay1 (j : S1x128.Idx) : k0_pay1 (F := Ideal) j = 0 := by
  pointwise [k0_pay1]
theorem pay2 (o : Vec Ideal S1x128 .f32) (j : S1x128.Idx) : k0_pay2 (F := Ideal) x o j = o j + ∑ a : Fin 512, x (ix2 a (j 1)) := by
  pointwise [k0_pay2]
theorem pay3 (j : S512x128.Idx) : k0_pay3 (F := Ideal) x j = x j := by
  pointwise [k0_pay3]

end

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 48] := (by decide +kernel : ∀ t : Fin grid0.N, _)

variable (m : (ℓ : Loc nD τ sig) → Buf (Elt Ideal) ℓ)

/-- The kernel's arguments. -/
abbrev arg0 : S4096x128.Idx → EReal := m (((0 : Dev nD).tc : Thread nD τ).loc main_arg0)
abbrev arg1 : S4096x6272.Idx → EReal := m (((0 : Dev nD).tc : Thread nD τ).loc main_arg1)

/-- The result starts as a copy of the projection's gradient. -/
theorem start (i : S4096x6272.Idx) : V m 0 main_v0_1 i = arg1 m i := by
  unfold V
  after_reads_at
  rfl

variable (t : Fin cfg0.N) (a : Fin 512)

/-- Row `a` of tile `t`. -/
def row : Fin 4096 := ⟨t.val * 512 + a.val, by have : t.val < 8 := t.isLt; omega⟩

theorem blk0 (k : Fin 128) : iblk m 0 0 t (ix2 a k) = arg0 m (ix2 (row t a) k) := by
  blk_ext [Gen.iblk, Gen.V, idx0 t]
  rfl

/-- The biases' gradient. -/
def db : S1x128.Idx → EReal := fun i => ∑ s : Fin 4096, arg0 m (ix2 s (i 1))

/-- The projection's gradient, its last columns the gates'. -/
def dp : S4096x6272.Idx → EReal := fun i =>
  if h : (i 1).val < 6144 then arg1 m i else arg0 m (ix2 (i 0) ⟨(i 1).val - 6144, by have : (i 1).val < 6272 := (i 1).isLt; omega⟩)

theorem dp_lo (i : S4096x6272.Idx) (h : (i 1).val < 6144) : dp m i = arg1 m i := dif_pos h

theorem dp_hi (i : S4096x6272.Idx) (s : Fin 4096) (k : Fin 128) (h0 : (i 0).val = s.val) (h1 : (i 1).val = 6144 + k.val) : dp m i = arg0 m (ix2 s k) := by
  unfold dp
  rw [dif_neg (by omega)]
  refine congrArg (arg0 m) (congrArg₂ ix2 (Fin.ext h0) (Fin.ext ?_))
  show (i 1).val - 6144 = k.val
  omega

theorem out1 (t : Fin cfg0.N) (h7 : t.val % 8 = 7) (y : S1x128.Idx) : (outsAt0 m 0 t.val t.isLt).1 y = db m y := by
  have ht : t.val < 8 := t.isLt
  rw [Pipeline.eq_sum_fin_of_reset_step_apply_last (fun n h => (outsAt0 m 0 n h).1) 8 (fun _ => 0) _
    (fun t h j => by rw [outsAt0_A m 0 t h]; frame_out; rw [pay2, pay1])
    (fun t h j => by rw [outsAt0_B m 0 t h]; frame_out; rw [pay2])
    (le_of_eq Gen.N_0) t (by show t.val + 1 = 8; omega) y, zero_add]
  unfold db
  exact Fin.sum_mul_add_congr fun s k hl => blk0 m s k (y 1)

theorem out2 (y : S512x128.Idx) : (outsAt0 m 0 t.val t.isLt).2 y = arg0 m (ix2 (row t (y 0)) (y 1)) := by
  refine Eq.trans (b := k0_pay3 (F := Ideal) (iblk m 0 0 t) y) ?_ ?_
  · by_cases h : t.val % 8 = 0
    · rw [outsAt0_A m 0 t h]; frame_out
    · rw [outsAt0_B m 0 t h]; frame_out
  · obtain ⟨a, b, rfl⟩ : ∃ (a : Fin 512) (b : Fin 128), y = ix2 a b := ⟨y 0, y 1, eq_ix2 y⟩
    rw [pay3, blk0]
    rfl

theorem arr1 : (dats m 0 (0 : Dev nD)).arrAt 1 cfg0.N = db m := by
  refine (dats m 0 (0 : Dev nD)).arrAt_eq_of_covers 1 _ (by decide +kernel) fun t hf y => ?_
  blk_simp
  rw [after0_1, out1 m t ((flush0_1 t).mp hf)]
  blk_ext [idx1 t]

theorem arr2 : (dats m 0 (0 : Dev nD)).arrAt 2 cfg0.N = dp m := by
  refine (dats m 0 (0 : Dev nD)).arrAt_eq_of_coversWhere_of_agree 2 _ (fun β => 48 ≤ β (1 : Fin 2)) (by decide +kernel) (fun t hf y => ?_) (fun j hj => ?_)
  · blk_simp
    rw [after0_2, out2]
    have e0 : win0_2.index t 0 = t.val := congrFun (idx2 t) 0
    have e1 : win0_2.index t 1 = 48 := congrFun (idx2 t) 1
    refine (dp_hi m _ _ _ ?_ ?_).symm
    · blk_simp
      rw [e0]; rfl
    · blk_simp
      rw [e1]
  · blk_simp [Pipeline.Window.cell_apply] at hj
    exact (start m _).trans (dp_lo m _ (by show (j 1).val < 6144; omega)).symm

section

open Cert.Reference16Ideal.Read

variable (x0 : (⟨Cert.Reference16Ideal.S4096x128, .f32⟩ : BufTy).Contents (Elt Ideal)) (x1 : (⟨Cert.Reference16Ideal.S4096x6272, .bf16⟩ : BufTy).Contents (Elt Ideal))

theorem ref_db (i : Cert.Reference16Ideal.S1x128.Idx) : val_main_v2 (F := Ideal) x0 i = ∑ s : Fin 4096, x0 (ix2 s (i 1)) := by
  pointwise [val_main_v2, val_main_v1, val_main_cst]
theorem ref_dp (i : Cert.Reference16Ideal.S4096x6272.Idx) : val_main_v7 (F := Ideal) x0 x1 i
    = if h : (i 1).val < 6144 then x1 i else x0 (ix2 (i 0) ⟨(i 1).val - 6144, by have : (i 1).val < 6272 := (i 1).isLt; omega⟩) := by
  pointwise [val_main_v7, val_main_v6, val_main_v5, val_main_v4, val_main_v3, val_main_v0, val_main_cst_0]
  have : (i 1).val < 6272 := (i 1).isLt
  split
  · rfl
  · rw [dif_pos (by omega)]

end

open Cert.Reference16Ideal.Read in
theorem algebraic : Cert.algebraic_Kernel16Ideal_Reference16Ideal (hKernel16Ideal := Cert.Kernel16Ideal.Gen.facts) (hReference16Ideal := Cert.Reference16Ideal.Gen.facts) := by
  intro m g m' g' _ hargs
  obtain ⟨h0, h1⟩ := hargs 0
  refine ⟨fun _ => db m, fun _ => dp m, ?_, ?_⟩
  · refine (θ_run _ _ _).mono (fun r h c => ?_) (Cert.Kernel16Ideal.Value.run_blocks (F := Ideal) m g)
    obtain rfl : c = 0 := Subsingleton.elim _ _
    obtain ⟨r0, r1, k⟩ := h 0
    exact ⟨r0.trans (arr1 m), r1.trans (arr2 m), k⟩
  · refine (θ_run _ _ _).mono (fun r h c => ?_) (Cert.Reference16Ideal.Value.run (F := Ideal) m' g')
    obtain rfl : c = 0 := Subsingleton.elim _ _
    obtain ⟨r0, r1, k⟩ := h 0
    refine ⟨(r0.trans (val_main_v2_eq _)).trans ?_, (r1.trans (val_main_v7_eq _ _)).trans ?_, k⟩
    · rw [h0]; exact funext fun i => ref_db _ i
    · rw [h0, h1]; exact funext fun i => ref_dp _ _ i

end Cert.GateB

end
-- ==== Proof.NormF.lean ====
/- The forward norm before the feed-forward block. -/
module

public import proofs.«01_k».proof.Defs
public import proofs.«01_k».proof.Proof.NormSpec
public import proofs.«01_k».proof.Proof.Gen.Kernel17Ideal.Value
public import proofs.«01_k».proof.Proof.Gen.Reference17Ideal.Read
public import proofs.«01_k».proof.Proof.Gen.Reference17Ideal.Run

@[expose] public section

set_option maxRecDepth 16384

noncomputable section

namespace Cert.NormF

open Idealize.ShloMosaic Idealize.ShloMosaic.TcCoe Idealize.SL.Sem
open Cert.Norm Cert.Kernel17Ideal Cert.Kernel17Ideal.Gen

/-- A row of a matrix. -/
abbrev rw2 {n : ℕ} (x : (⟨2, ![n, 2048]⟩ : Shape).Idx → EReal) (a : Fin n) : Fin 2048 → EReal := fun k => x (ix2 a k)

section

variable (x : Vec Ideal S512x2048 .f32) (g : Vec Ideal S1x2048 .f32)

theorem pay1 (j : S512x1.Idx) : k0_pay1 (F := Ideal) x j = rstd (rw2 x (j 0)) := by
  pointwise [k0_pay1]
  rfl
theorem pay2 (a : Fin 512) (b : Fin 2048) : k0_pay2 (F := Ideal) x g (ix2 a b) = x (ix2 a b) * rstd (rw2 x a) * g (ix2 0 b) := by
  refine Eq.trans (b := x (ix2 a b) * k0_pay1 (F := Ideal) x (ix2 a 0) * g (ix2 0 b)) (by pointwise [k0_pay2]) ?_
  rw [pay1]; rfl

end

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

variable (m : (ℓ : Loc nD τ sig) → Buf (Elt Ideal) ℓ)

/-- The kernel's arguments. -/
abbrev arg0 : S4096x2048.Idx → EReal := m (((0 : Dev nD).tc : Thread nD τ).loc main_arg0)
abbrev arg1 : S1x2048.Idx → EReal := m (((0 : Dev nD).tc : Thread nD τ).loc main_arg1)

variable (t : Fin cfg0.N) (a : Fin 512)

/-- Row `a` of tile `t`. -/
def row : Fin 4096 := ⟨t.val * 512 + a.val, by have : t.val < 8 := t.isLt; omega⟩

theorem blk0 (k : Fin 2048) : iblk m 0 0 t (ix2 a k) = arg0 m (ix2 (row t a) k) := by
  blk_ext [Gen.iblk, Gen.V, idx0 t]
  rfl
theorem blk1 (k : Fin 2048) : iblk m 0 1 t (ix2 0 k) = arg1 m (ix2 0 k) := by
  blk_ext [Gen.iblk, Gen.V, idx1 t]
theorem row0 : rw2 (n := 512) (iblk m 0 0 t) a = rw2 (arg0 m) (row t a) := funext fun k => blk0 m t a k

/-- The normed rows. -/
def out : S4096x2048.Idx → EReal := fun i => arg0 m i * rstd (rw2 (arg0 m) (i 0)) * arg1 m (ix2 0 (i 1))

/-- What the rows were scaled by. -/
def scale : S4096x1.Idx → EReal := fun i => rstd (rw2 (arg0 m) (i 0))

theorem out2 (y : S512x2048.Idx) : out0_2 (F := Ideal) (iblk m 0 0 t) (iblk m 0 1 t) y = out m (ix2 (row t (y 0)) (y 1)) := by
  refine Eq.trans (b := k0_pay2 (F := Ideal) (iblk m 0 0 t) (iblk m 0 1 t) y) (by frame_out) ?_
  obtain ⟨a, b, rfl⟩ : ∃ (a : Fin 512) (b : Fin 2048), y = ix2 a b := ⟨y 0, y 1, eq_ix2 y⟩
  rw [pay2, row0, blk0, blk1]
  rfl

theorem out3 (y : S512x1.Idx) : out0_3 (F := Ideal) (iblk m 0 0 t) (iblk m 0 1 t) y = scale m (ix2 (row t (y 0)) 0) := by
  refine Eq.trans (b := k0_pay1 (F := Ideal) (iblk m 0 0 t) y) (by frame_out) ?_
  rw [pay1]
  exact congrArg rstd (row0 m t (y 0))

theorem arr2 : (dats m 0 (0 : Dev nD)).arrAt 2 cfg0.N = out m := by
  refine (dats m 0 (0 : Dev nD)).arrAt_eq_of_covers 2 _ (by decide +kernel) fun t hf y => ?_
  blk_simp
  rw [after0_2, out2]
  blk_ext [idx2 t] <;> rfl

theorem arr3 : (dats m 0 (0 : Dev nD)).arrAt 3 cfg0.N = scale m := by
  refine (dats m 0 (0 : Dev nD)).arrAt_eq_of_covers 3 _ (by decide +kernel) fun t hf y => ?_
  blk_simp
  rw [after0_3, out3]
  blk_ext [idx3 t] <;> rfl

section

open Cert.Reference17Ideal.Read

variable (x0 : (⟨Cert.Reference17Ideal.S4096x2048, .f32⟩ : BufTy).Contents (Elt Ideal)) (x1 : (⟨Cert.Reference17Ideal.S1x2048, .f32⟩ : BufTy).Contents (Elt Ideal))

theorem v7 (i : Cert.Reference17Ideal.S4096x1.Idx) : val_main_v7 (F := Ideal) x0 i = rstd (rw2 (n := 4096) x0 (i 0)) := by
  pointwise [val_main_v7, val_main_v6, val_main_v5, val_main_v4, val_main_v3, val_main_v2, val_main_v1, val_main_v0, val_main_cst, val_main_cst_0, val_main_cst_1]
  rfl
theorem v12 (i : Cert.Reference17Ideal.S4096x2048.Idx) : val_main_v12 (F := Ideal) x0 x1 i = x0 i * rstd (rw2 (n := 4096) x0 (i 0)) * x1 (ix2 0 (i 1)) := by
  refine Eq.trans (b := x0 i * val_main_v7 (F := Ideal) x0 (ix2 (i 0) 0) * x1 (ix2 0 (i 1))) (by pointwise [val_main_v12, val_main_v11, val_main_v10, val_main_v9, val_main_v8]) ?_
  rw [v7]; rfl

end

open Cert.Reference17Ideal.Read in
theorem algebraic : Cert.algebraic_Kernel17Ideal_Reference17Ideal (hKernel17Ideal := Cert.Kernel17Ideal.Gen.facts) (hReference17Ideal := Cert.Reference17Ideal.Gen.facts) := by
  intro m g m' g' _ hargs
  obtain ⟨h0, h1⟩ := hargs 0
  refine ⟨fun _ => out m, fun _ => scale m, ?_, ?_⟩
  · refine (θ_run _ _ _).mono (fun r h c => ?_) (Cert.Kernel17Ideal.Value.run_blocks (F := Ideal) m g)
    obtain rfl : c = 0 := Subsingleton.elim _ _
    obtain ⟨r0, r1, k⟩ := h 0
    exact ⟨r0.trans (arr2 m), r1.trans (arr3 m), k⟩
  · refine (θ_run _ _ _).mono (fun r h c => ?_) (Cert.Reference17Ideal.Value.run (F := Ideal) m' g')
    obtain rfl : c = 0 := Subsingleton.elim _ _
    obtain ⟨r0, r1, k⟩ := h 0
    refine ⟨(r0.trans (val_main_v12_eq _ _)).trans ?_, (r1.trans (val_main_v20_eq _)).trans ?_, k⟩
    · rw [h0, h1]; exact funext fun i => v12 _ _ i
    · rw [h0]; exact funext fun i => v7 _ i

end Cert.NormF

end
-- ==== Proof.FfnF.lean ====
/- The gated activation behind the causal convolution, forwards. -/
module

public import proofs.«01_k».proof.Defs
public import proofs.«01_k».proof.Proof.Access
public import proofs.«01_k».proof.Proof.FfnSpec
public import proofs.«01_k».proof.Proof.Gen.Kernel18Ideal.Value
public import proofs.«01_k».proof.Proof.Gen.Reference18Ideal.Read
public import proofs.«01_k».proof.Proof.Gen.Reference18Ideal.Run
public import Idealize.ShloMosaic.Lib.WordCmp

@[expose] public section

set_option maxRecDepth 16384

noncomputable section

namespace Cert.FfnF

open Idealize.ShloMosaic Idealize.ShloMosaic.TcCoe Idealize.SL.Sem
open Cert.Access Cert.Ffn Cert.Kernel18Ideal Cert.Kernel18Ideal.Gen

/-- The gate `k` rows above row `r` of a tile, the tile's first rows from the one before. -/
def above (first : Prop) [Decidable first] (p : S8x1408.Idx → EReal) (x : S1024x1408.Idx → EReal) (k r c : ℕ) : EReal :=
  if r < k then (if first then 0 else at2 (n := 8) (m := 1408) p (r + 8 - k) c) else at2 (n := 1024) (m := 1408) x (r - k) c

/-- The convolved gate of a tile. -/
theorem pay2_at (i : grid0.Coords) (p : Vec Ideal S8x1408 .f32) (x : Vec Ideal S1024x1408 .f32) (b w0 w1 w2 : Vec Ideal S1x1408 .f32) (r c : ℕ) (hr : r < 1024) (hc : c < 1408) :
    at2 (k0_pay2 i p x b w0 w1 w2) r c = ((at2 b 0 c + above ((i 0).val = 0) p x 2 r c * at2 w0 0 c) + above ((i 0).val = 0) p x 1 r c * at2 w1 0 c) + at2 x r c * at2 w2 0 c := by
  rw [at2_pos (k0_pay2 i p x b w0 w1 w2) hr hc]
  pointwise [k0_pay2]
  have hi : (i 0).val < 4 := (i 0).isLt
  refine congrArg₂ (· + ·) (congrArg₂ (· + ·) (congrArg₂ (· + ·) (rdm _ _ _ rfl rfl) (congrArg₂ (· * ·) ?_ (rdm _ _ _ rfl rfl))) (congrArg₂ (· * ·) ?_ (rdm _ _ _ rfl rfl))) (congrArg₂ (· * ·) (rdm _ _ _ rfl rfl) (rdm _ _ _ rfl rfl))
  all_goals
    unfold above
    simp (disch := omega) only [hlo_ix]
    repeat' split
    all_goals first | (exfalso; omega) | rfl | exact rdm _ _ _ (by omega) rfl

/-- The gated activation of a tile. -/
theorem pay1_at (v u : Vec Ideal S1024x1408 .f32) (r c : ℕ) (hr : r < 1024) (hc : c < 1408) :
    at2 (n := 1024) (m := 1408) (k0_pay1 (F := Ideal) v (Scalar.ofBits .f32 0x00000000#32) u) r c = at2 v r c * sg (at2 v r c) * at2 u r c := by
  rw [at2_pos _ hr hc, at2_pos _ hr hc, at2_pos _ hr hc]
  pointwise [k0_pay1]
  rfl

theorem coord0 : ∀ t : Fin cfg0.N, (grid0.coords t 0).val = t.val / 4 := (by decide +kernel : ∀ t : Fin grid0.N, _)
theorem idx0 : ∀ t : Fin cfg0.N, win0_0.index t = ![t.val / 4, 2 * (t.val % 4)] := (by decide +kernel : ∀ t : Fin grid0.N, _)
theorem idx1 : ∀ t : Fin cfg0.N, win0_1.index t = ![128 * (t.val / 4) - 1, 2 * (t.val % 4)] := (by decide +kernel : ∀ t : Fin grid0.N, _)
theorem idx2 : ∀ t : Fin cfg0.N, win0_2.index t = ![t.val / 4, 2 * (t.val % 4) + 1] := (by decide +kernel : ∀ t : Fin grid0.N, _)
theorem idx3 : ∀ t : Fin cfg0.N, win0_3.index t = ![0, t.val % 4] := (by decide +kernel : ∀ t : Fin grid0.N, _)
theorem idx4 : ∀ t : Fin cfg0.N, win0_4.index t = ![0, t.val % 4] := (by decide +kernel : ∀ t : Fin grid0.N, _)
theorem idx5 : ∀ t : Fin cfg0.N, win0_5.index t = ![t.val / 4, t.val % 4] := (by decide +kernel : ∀ t : Fin grid0.N, _)

variable (m : (ℓ : Loc nD τ sig) → Buf (Elt Ideal) ℓ)

/-- The kernel's arguments. -/
abbrev arg0 : S4096x11264.Idx → EReal := m (((0 : Dev nD).tc : Thread nD τ).loc main_arg0)
abbrev arg1 : S3x5632.Idx → EReal := m (((0 : Dev nD).tc : Thread nD τ).loc main_arg1)
abbrev arg2 : S1x5632.Idx → EReal := m (((0 : Dev nD).tc : Thread nD τ).loc main_arg2)

/-- The input columns as functions of the row number, by the column of the unlaced halves. -/
def gc (x : S4096x11264.Idx → EReal) (J s : ℕ) : EReal := at2 (n := 4096) (m := 11264) x s (2816 * (J / 1408) + J % 1408)
def uc (x : S4096x11264.Idx → EReal) (J s : ℕ) : EReal := at2 (n := 4096) (m := 11264) x s (2816 * (J / 1408) + 1408 + J % 1408)
def wc (x : S3x5632.Idx → EReal) (J k : ℕ) : EReal := at2 (n := 3) (m := 5632) x k J
def bc (x : S1x5632.Idx → EReal) (J : ℕ) : EReal := at2 (n := 1) (m := 5632) x 0 J

/-- The gated activation, by the input columns. -/
def actAt (x : S4096x11264.Idx → EReal) (w : S3x5632.Idx → EReal) (b : S1x5632.Idx → EReal) (J s : ℕ) : EReal :=
  conv (gc x J) (wc w J) (bc b J) s * sg (conv (gc x J) (wc w J) (bc b J) s) * uc x J s

/-- The gated activation. -/
def act (x : S4096x11264.Idx → EReal) (w : S3x5632.Idx → EReal) (b : S1x5632.Idx → EReal) : S4096x5632.Idx → EReal :=
  fun i => actAt x w b (i 1).val (i 0).val

section

variable (t : Fin cfg0.N) {r c : ℕ} (hc : c < 1408)

/-- Column `c` of the tile's column block. -/
abbrev col (c : ℕ) : ℕ := 1408 * (t.val % 4) + c

include hc

theorem col_div : col t c / 1408 = t.val % 4 := by unfold col; omega
theorem col_mod : col t c % 1408 = c := by unfold col; omega

theorem gate_at (hr : r < 1024) : at2 (n := 1024) (m := 1408) (iblk m 0 0 t) r c = gc (arg0 m) (col t c) (1024 * (t.val / 4) + r) := by
  have ht : t.val < 16 := t.isLt
  unfold gc
  rw [col_div t hc, col_mod t hc, at2_pos _ hr hc, at2_pos _ (by omega) (by omega)]
  blk_ext [Gen.iblk, Gen.V, idx0 t]
theorem prev_at (hr : r < 8) (hn : t.val / 4 ≠ 0) : at2 (n := 8) (m := 1408) (iblk m 0 1 t) r c = gc (arg0 m) (col t c) (1024 * (t.val / 4) - 8 + r) := by
  have ht : t.val < 16 := t.isLt
  unfold gc
  rw [col_div t hc, col_mod t hc, at2_pos _ hr hc, at2_pos _ (by omega) (by omega)]
  blk_ext [Gen.iblk, Gen.V, idx1 t]
theorem up_at (hr : r < 1024) : at2 (n := 1024) (m := 1408) (iblk m 0 2 t) r c = uc (arg0 m) (col t c) (1024 * (t.val / 4) + r) := by
  have ht : t.val < 16 := t.isLt
  unfold uc
  rw [col_div t hc, col_mod t hc, at2_pos _ hr hc, at2_pos _ (by omega) (by omega)]
  blk_ext [Gen.iblk, Gen.V, idx2 t]
theorem tap_at (k : ℕ) (hk : k < 3) : at2 (n := 3) (m := 1408) (iblk m 0 3 t) k c = wc (arg1 m) (col t c) k := by
  have ht : t.val < 16 := t.isLt
  unfold wc col
  rw [at2_pos _ hk hc, at2_pos _ (by omega) (by omega)]
  blk_ext [Gen.iblk, Gen.V, idx3 t]
theorem bias_at : at2 (n := 1) (m := 1408) (iblk m 0 4 t) 0 c = bc (arg2 m) (col t c) := by
  have ht : t.val < 16 := t.isLt
  unfold bc col
  rw [at2_pos _ Nat.one_pos hc, at2_pos _ (by omega) (by omega)]
  blk_ext [Gen.iblk, Gen.V, idx4 t]

theorem above_at (hr : r < 1024) (k : ℕ) (hk : k ≤ 8) :
    above ((grid0.coords t 0).val = 0) (iblk m 0 1 t) (iblk m 0 0 t) k r c = tap (gc (arg0 m) (col t c)) k (1024 * (t.val / 4) + r) := by
  rw [coord0 t]
  unfold above tap
  split_ifs with h1 h2 h3 h3 h3
  · rfl
  · omega
  · omega
  · rw [prev_at m t hc (by omega) h2]; congr 1; omega
  · omega
  · rw [gate_at m t hc (by omega)]; congr 1; omega

/-- A tile of the gated activation. -/
theorem out5_at (hr : r < 1024) :
    at2 (n := 1024) (m := 1408) (out0_5 (F := Ideal) (grid0.coords t) (iblk m 0 0 t) (iblk m 0 1 t) (iblk m 0 2 t) (iblk m 0 3 t) (iblk m 0 4 t)) r c
      = actAt (arg0 m) (arg1 m) (arg2 m) (col t c) (1024 * (t.val / 4) + r) := by
  have hw (k : ℕ) (hk : k < 3) (inb) : at2 (n := 1) (m := 1408) (View.ld (Val := Elt Ideal) (e' := .f32) (iblk m 0 3 t) (Rect.unit (s := S3x1408) ![k, 0] ![1, 1408] inb)) 0 c = wc (arg1 m) (col t c) k :=
    (at2_ld (n := 3) (m := 1408) (iblk m 0 3 t) k 0 1 1408 inb Nat.one_pos hc).trans (by rw [Nat.add_zero, Nat.zero_add]; exact tap_at m t hc k hk)
  refine Eq.trans (b := at2 (n := 1024) (m := 1408) (k0_pay1 (F := Ideal) (k0_pay2 (grid0.coords t) (iblk m 0 1 t) (iblk m 0 0 t) (iblk m 0 4 t)
    (View.ld (iblk m 0 3 t) r0_3) (View.ld (iblk m 0 3 t) r0_4) (View.ld (iblk m 0 3 t) r0_5)) (Scalar.ofBits .f32 0x00000000#32) (iblk m 0 2 t)) r c) ?_ ?_
  · rw [at2_pos _ hr hc, at2_pos _ hr hc]
    frame_out
    rfl
  · rw [pay1_at _ _ r c hr hc, pay2_at _ _ _ _ _ _ _ r c hr hc, bias_at m t hc, above_at m t hc hr 2 (by omega), above_at m t hc hr 1 (by omega),
      gate_at m t hc hr, up_at m t hc hr, hw 0 (by omega), hw 1 (by omega), hw 2 (by omega)]
    rfl

end

theorem arr5 : (dats m 0 (0 : Dev nD)).arrAt 5 cfg0.N = act (arg0 m) (arg1 m) (arg2 m) := by
  refine (dats m 0 (0 : Dev nD)).arrAt_eq_of_covers 5 (act (arg0 m) (arg1 m) (arg2 m)) (by decide +kernel) fun t hf y => ?_
  have ht : t.val < 16 := t.isLt
  have h0 : (y 0).val < 1024 := (y 0).isLt
  have h1 : (y 1).val < 1408 := (y 1).isLt
  blk_simp
  rw [after0_5]
  refine (eq_at2 (n := 1024) (m := 1408) _ y).trans ((out5_at m t h1 h0).trans ?_)
  have e1 : win0_5.index t 1 = t.val % 4 := congrFun (idx5 t) 1
  have e0 : win0_5.index t 0 = t.val / 4 := congrFun (idx5 t) 0
  unfold act
  refine congrArg₂ (actAt (arg0 m) (arg1 m) (arg2 m)) ?_ ?_
  · blk_simp
    rw [e1, Nat.mul_comm]
  · blk_simp
    rw [e0, Nat.mul_comm]

section

open Cert.Reference18Ideal Cert.Reference18Ideal.Read

variable (x0 : (⟨Cert.Reference18Ideal.S4096x11264, .f32⟩ : BufTy).Contents (Elt Ideal)) (x1 : (⟨Cert.Reference18Ideal.S3x5632, .f32⟩ : BufTy).Contents (Elt Ideal))
  (x2 : (⟨Cert.Reference18Ideal.S1x5632, .f32⟩ : BufTy).Contents (Elt Ideal)) (s J : ℕ) (hs : s < 4096) (hJ : J < 5632)

theorem v3_at : val_main_v3 (F := Ideal) x0 (ix2 ⟨s, hs⟩ ⟨J, hJ⟩) = gc x0 J s := by
  pointwise [val_main_v3, val_main_v2, val_main_v1, val_main_v0]
  exact rdm _ _ _ (by omega) (by omega)

theorem v6_at : val_main_v6 (F := Ideal) x0 (ix2 ⟨s, hs⟩ ⟨J, hJ⟩) = uc x0 J s := by
  pointwise [val_main_v6, val_main_v5, val_main_v4, val_main_v0]
  exact rdm _ _ _ (by omega) (by omega)

theorem v10_at (hs' : s < 4098) : val_main_v10 (F := Ideal) x0 (ix3 0 ⟨s, hs'⟩ ⟨J, hJ⟩) = if s < 2 then 0 else gc x0 J (s - 2) := by
  pointwise [val_main_v10, val_main_v9, val_main_v7]
  split_ifs with h
  · pointwise [val_main_cst]
  all_goals exact v3_at x0 _ _ _ _

theorem v11_at : val_main_v11 (F := Ideal) x0 (ix3 0 ⟨s, hs⟩ ⟨J, hJ⟩) = tap (gc x0 J) 2 s := by
  pointwise [val_main_v11]
  exact v10_at x0 _ _ hJ _

theorem v20_at : val_main_v20 (F := Ideal) x0 (ix3 0 ⟨s, hs⟩ ⟨J, hJ⟩) = tap (gc x0 J) 1 s := by
  pointwise [val_main_v20]
  refine (v10_at x0 (1 + s) J hJ (by omega)).trans ?_
  unfold tap
  split_ifs <;> first | rfl | omega | (congr 1; omega)

theorem v27_at : val_main_v27 (F := Ideal) x0 (ix3 0 ⟨s, hs⟩ ⟨J, hJ⟩) = gc x0 J s := by
  pointwise [val_main_v27]
  refine (v10_at x0 (2 + s) J hJ (by omega)).trans ?_
  rw [if_neg (by omega)]
  congr 1; omega

theorem v33_at : val_main_v33 (F := Ideal) x0 x1 x2 (ix3 0 ⟨s, hs⟩ ⟨J, hJ⟩) = conv (gc x0 J) (wc x1 J) (bc x2 J) s := by
  pointwise [val_main_v33, val_main_v32, val_main_v31, val_main_v30, val_main_v29, val_main_v28, val_main_v26, val_main_v25, val_main_v24, val_main_v23, val_main_v22, val_main_v21,
    val_main_v19, val_main_v18, val_main_v17, val_main_v16, val_main_v15, val_main_v14, val_main_v13, val_main_v12, val_main_v8]
  rw [v11_at x0 s J hs hJ, v20_at x0 s J hs hJ, v27_at x0 s J hs hJ]
  unfold conv wc bc
  rw [at2_pos _ (by omega : 0 < 1) hJ, at2_pos _ (by omega : 0 < 3) hJ, at2_pos _ (by omega : 1 < 3) hJ, at2_pos _ (by omega : 2 < 3) hJ]
  rfl

theorem call0_v5_at : val_main_call0_v5 (F := Ideal) x0 x1 x2 (ix3 0 ⟨s, hs⟩ ⟨J, hJ⟩) = sg (conv (gc x0 J) (wc x1 J) (bc x2 J) s) := by
  rw [← v33_at x0 x1 x2 s J hs hJ]
  pointwise [val_main_call0_v5, val_main_call0_v4, val_main_call0_v3, val_main_call0_v2, val_main_call0_v1, val_main_call0_v0, val_main_call0_cst, val_main_call0_cst_0]
  rw [sg, sub_eq_add_neg, zero_add]

theorem v37_at : val_main_v37 (F := Ideal) x0 x1 x2 (ix2 ⟨s, hs⟩ ⟨J, hJ⟩) = actAt x0 x1 x2 J s := by
  pointwise [val_main_v37, val_main_v36, val_main_v35, val_main_v34]
  rw [v33_at x0 x1 x2 s J hs hJ, call0_v5_at x0 x1 x2 s J hs hJ, v6_at x0 s J hs hJ]
  rfl

theorem ref : val_main_v37 (F := Ideal) x0 x1 x2 = act x0 x1 x2 := by
  funext i
  exact (congrArg (val_main_v37 (F := Ideal) x0 x1 x2) (eq_ix2 i)).trans (v37_at x0 x1 x2 (i 0).val (i 1).val (i 0).isLt (i 1).isLt)

end

open Cert.Reference18Ideal.Read in
theorem algebraic : Cert.algebraic_Kernel18Ideal_Reference18Ideal (hKernel18Ideal := Cert.Kernel18Ideal.Gen.facts) (hReference18Ideal := Cert.Reference18Ideal.Gen.facts) := by
  intro m g m' g' _ hargs
  obtain ⟨h0, h1, h2⟩ := hargs 0
  refine ⟨fun _ => act (arg0 m) (arg1 m) (arg2 m), ?_, ?_⟩
  · refine (θ_run _ _ _).mono (fun r h c => ?_) (Cert.Kernel18Ideal.Value.run_blocks (F := Ideal) m g)
    obtain rfl : c = 0 := Subsingleton.elim _ _
    obtain ⟨r0, k⟩ := h 0
    exact ⟨r0.trans (arr5 m), k⟩
  · refine (θ_run _ _ _).mono (fun r h c => ?_) (Cert.Reference18Ideal.Value.run (F := Ideal) m' g')
    obtain rfl : c = 0 := Subsingleton.elim _ _
    obtain ⟨r0, k⟩ := h 0
    refine ⟨(r0.trans (val_main_v37_eq m' 0)).trans ?_, k⟩
    rw [h0, h1, h2]; exact ref _ _ _

end Cert.FfnF

end
-- ==== Proof.AdamSpec.lean ====
/- The optimiser's step for one weight, as a formula of the weight, its gradient and its two moments. -/
module

public import proofs.«01_k».proof.Defs
public import proofs.«01_k».proof.Proof.NormSpec

@[expose] public section

noncomputable section

namespace Cert.Adam

open Idealize.ShloMosaic

/-- The number a float's pattern stands for. -/
abbrev num (b : BitVec 32) : EReal := Scalar.ofBits (F := Ideal) .f32 b

/-- The next first moment: `B1 * m + (1 - B1) * g`. -/
def mom (g m : EReal) : EReal := num 0x3F666666#32 * m + num 0x3DCCCCCD#32 * g

/-- The next second moment: `B2 * v + (1 - B2) * g²`. -/
def sqm (g v : EReal) : EReal := num 0x3F7FBE77#32 * v + num 0x3A83126F#32 * (g * g)

/-- What is added to the weight: `-LR * (m_hat / (sqrt v_hat + EPS) + WD * w)`, the moments corrected for their start. -/
def delta (w g m v : EReal) : EReal :=
  num 0xBA83126F#32 * (Scalar.divf (F := Ideal) (φ := .f32) (Scalar.divf (F := Ideal) (φ := .f32) (mom g m) (num 0x3F26BD02#32))
    (Scalar.sqrt (F := Ideal) (φ := .f32) (Scalar.divf (F := Ideal) (φ := .f32) (sqm g v) (num 0x3C231ACC#32)) + num 0x322BCC77#32) + num 0x3C23D70A#32 * w)

end Cert.Adam

end
-- ==== Proof.AdamOut.lean ====
/- The optimiser's step on this chip's shard of `w_out`: every entry is stepped by the formula of `AdamSpec`. -/
module

public import proofs.«01_k».proof.Proof.AdamSpec
public import proofs.«01_k».proof.Proof.Gen.Kernel19Ideal.Value
public import proofs.«01_k».proof.Proof.Gen.Reference19Ideal.Read
public import proofs.«01_k».proof.Proof.Gen.Reference19Ideal.Run

@[expose] public section

set_option maxRecDepth 16384

noncomputable section

namespace Cert.AdamOut

open Idealize.ShloMosaic Idealize.ShloMosaic.TcCoe Idealize.SL.Sem
open Cert.Adam Cert.Kernel19Ideal Cert.Kernel19Ideal.Gen

section

variable (x0 x1 x2 x3 : Vec Ideal S128x2048 .f32) (y : S128x2048.Idx)

theorem out4 : out0_4 (F := Ideal) x0 x1 x2 x3 y = x1 y := by frame_out
theorem out5 : out0_5 (F := Ideal) x0 x1 x2 x3 y = delta (x0 y) (x1 y) (x2 y) (x3 y) :=
  Eq.trans (b := k0_pay3 (F := Ideal) x1 x0 x2 x3 y) (by frame_out) rfl
theorem out6 : out0_6 (F := Ideal) x0 x1 x2 x3 y = mom (x1 y) (x2 y) :=
  Eq.trans (b := k0_pay1 (F := Ideal) x1 x2 y) (by frame_out) rfl
theorem out7 : out0_7 (F := Ideal) x0 x1 x2 x3 y = sqm (x1 y) (x3 y) :=
  Eq.trans (b := k0_pay2 (F := Ideal) x1 x3 y) (by frame_out) rfl

end

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

variable (m : (ℓ : Loc nD τ sig) → Buf (Elt Ideal) ℓ)

/-- The weight, its gradient and its two moments. -/
abbrev argw : S512x2048.Idx → EReal := m (((0 : Dev nD).tc : Thread nD τ).loc main_arg0)
abbrev argg : S512x2048.Idx → EReal := m (((0 : Dev nD).tc : Thread nD τ).loc main_arg1)
abbrev argm : S512x2048.Idx → EReal := m (((0 : Dev nD).tc : Thread nD τ).loc main_arg2)
abbrev argv : S512x2048.Idx → EReal := m (((0 : Dev nD).tc : Thread nD τ).loc main_arg3)

variable (t : Fin cfg0.N) (a : Fin 128) (k : Fin 2048)

/-- Row `a` of tile `t`. -/
def row : Fin 512 := ⟨t.val * 128 + a.val, by have : t.val < 4 := t.isLt; omega⟩

theorem blk0 : iblk m 0 0 t (ix2 a k) = argw m (ix2 (row t a) k) := by
  blk_ext [Gen.iblk, Gen.V, idx0 t]
  rfl
theorem blk1 : iblk m 0 1 t (ix2 a k) = argg m (ix2 (row t a) k) := by
  blk_ext [Gen.iblk, Gen.V, idx1 t]
  rfl
theorem blk2 : iblk m 0 2 t (ix2 a k) = argm m (ix2 (row t a) k) := by
  blk_ext [Gen.iblk, Gen.V, idx2 t]
  rfl
theorem blk3 : iblk m 0 3 t (ix2 a k) = argv m (ix2 (row t a) k) := by
  blk_ext [Gen.iblk, Gen.V, idx3 t]
  rfl

/-- The four results. -/
def newd : S512x2048.Idx → EReal := fun i => delta (argw m i) (argg m i) (argm m i) (argv m i)
def newm : S512x2048.Idx → EReal := fun i => mom (argg m i) (argm m i)
def newv : S512x2048.Idx → EReal := fun i => sqm (argg m i) (argv m i)

theorem res4 (y : S128x2048.Idx) : out0_4 (F := Ideal) (iblk m 0 0 t) (iblk m 0 1 t) (iblk m 0 2 t) (iblk m 0 3 t) y = argg m (ix2 (row t (y 0)) (y 1)) := by
  obtain ⟨a, b, rfl⟩ : ∃ (a : Fin 128) (b : Fin 2048), y = ix2 a b := ⟨y 0, y 1, eq_ix2 y⟩
  rw [out4, blk1]; rfl
theorem res5 (y : S128x2048.Idx) : out0_5 (F := Ideal) (iblk m 0 0 t) (iblk m 0 1 t) (iblk m 0 2 t) (iblk m 0 3 t) y = newd m (ix2 (row t (y 0)) (y 1)) := by
  obtain ⟨a, b, rfl⟩ : ∃ (a : Fin 128) (b : Fin 2048), y = ix2 a b := ⟨y 0, y 1, eq_ix2 y⟩
  rw [out5, blk0, blk1, blk2, blk3]; rfl
theorem res6 (y : S128x2048.Idx) : out0_6 (F := Ideal) (iblk m 0 0 t) (iblk m 0 1 t) (iblk m 0 2 t) (iblk m 0 3 t) y = newm m (ix2 (row t (y 0)) (y 1)) := by
  obtain ⟨a, b, rfl⟩ : ∃ (a : Fin 128) (b : Fin 2048), y = ix2 a b := ⟨y 0, y 1, eq_ix2 y⟩
  rw [out6, blk1, blk2]; rfl
theorem res7 (y : S128x2048.Idx) : out0_7 (F := Ideal) (iblk m 0 0 t) (iblk m 0 1 t) (iblk m 0 2 t) (iblk m 0 3 t) y = newv m (ix2 (row t (y 0)) (y 1)) := by
  obtain ⟨a, b, rfl⟩ : ∃ (a : Fin 128) (b : Fin 2048), y = ix2 a b := ⟨y 0, y 1, eq_ix2 y⟩
  rw [out7, blk1, blk3]; rfl

theorem arr4 : (dats m 0 (0 : Dev nD)).arrAt 4 cfg0.N = argg m := by
  refine (dats m 0 (0 : Dev nD)).arrAt_eq_of_covers 4 _ (by decide +kernel) fun t hf y => ?_
  blk_simp
  rw [after0_4, res4]
  blk_ext [idx4 t] <;> rfl

theorem arr5 : (dats m 0 (0 : Dev nD)).arrAt 5 cfg0.N = newd m := by
  refine (dats m 0 (0 : Dev nD)).arrAt_eq_of_covers 5 _ (by decide +kernel) fun t hf y => ?_
  blk_simp
  rw [after0_5, res5]
  blk_ext [idx5 t] <;> rfl

theorem arr6 : (dats m 0 (0 : Dev nD)).arrAt 6 cfg0.N = newm m := by
  refine (dats m 0 (0 : Dev nD)).arrAt_eq_of_covers 6 _ (by decide +kernel) fun t hf y => ?_
  blk_simp
  rw [after0_6, res6]
  blk_ext [idx6 t] <;> rfl

theorem arr7 : (dats m 0 (0 : Dev nD)).arrAt 7 cfg0.N = newv m := by
  refine (dats m 0 (0 : Dev nD)).arrAt_eq_of_covers 7 _ (by decide +kernel) fun t hf y => ?_
  blk_simp
  rw [after0_7, res7]
  blk_ext [idx7 t] <;> rfl

open Cert.Reference19Ideal.Read in
theorem algebraic : Cert.algebraic_Kernel19Ideal_Reference19Ideal (hKernel19Ideal := Cert.Kernel19Ideal.Gen.facts) (hReference19Ideal := Cert.Reference19Ideal.Gen.facts) := by
  intro m g m' g' _ hargs
  obtain ⟨h0, h1, h2, h3⟩ := hargs 0
  refine ⟨fun _ => argg m, fun _ => newd m, fun _ => newm m, fun _ => newv m, ?_, ?_⟩
  · refine (θ_run _ _ _).mono (fun r h c => ?_) (Cert.Kernel19Ideal.Value.run_blocks (F := Ideal) m g)
    obtain rfl : c = 0 := Subsingleton.elim _ _
    obtain ⟨r0, r1, r2, r3, k⟩ := h 0
    exact ⟨r0.trans (arr4 m), r1.trans (arr5 m), r2.trans (arr6 m), r3.trans (arr7 m), k⟩
  · refine (θ_run _ _ _).mono (fun r h c => ?_) (Cert.Reference19Ideal.Value.run (F := Ideal) m' g')
    obtain rfl : c = 0 := Subsingleton.elim _ _
    obtain ⟨r0, r1, r2, r3, k⟩ := h 0
    refine ⟨r0.trans h1, (r1.trans (val_main_v23_eq _ _ _ _)).trans ?_, (r2.trans (val_main_v4_eq _ _)).trans ?_, (r3.trans (val_main_v10_eq _ _)).trans ?_, k⟩
    · rw [h0, h1, h2, h3]; rfl
    · rw [h1, h2]; rfl
    · rw [h1, h3]; rfl

end Cert.AdamOut

end
-- ==== Proof.AdamUp.lean ====
/- The optimiser's step on this chip's shard of `w_up`: every entry is stepped by the formula of `AdamSpec`. -/
module

public import proofs.«01_k».proof.Proof.AdamSpec
public import proofs.«01_k».proof.Proof.Gen.Kernel20Ideal.Value
public import proofs.«01_k».proof.Proof.Gen.Reference20Ideal.Read
public import proofs.«01_k».proof.Proof.Gen.Reference20Ideal.Run

@[expose] public section

set_option maxRecDepth 16384

noncomputable section

namespace Cert.AdamUp

open Idealize.ShloMosaic Idealize.ShloMosaic.TcCoe Idealize.SL.Sem
open Cert.Adam Cert.Kernel20Ideal Cert.Kernel20Ideal.Gen

section

variable (x0 x1 x2 x3 : Vec Ideal S128x2816 .f32) (y : S128x2816.Idx)

theorem out4 : out0_4 (F := Ideal) x0 x1 x2 x3 y = x1 y := by frame_out
theorem out5 : out0_5 (F := Ideal) x0 x1 x2 x3 y = delta (x0 y) (x1 y) (x2 y) (x3 y) :=
  Eq.trans (b := k0_pay3 (F := Ideal) x1 x0 x2 x3 y) (by frame_out) rfl
theorem out6 : out0_6 (F := Ideal) x0 x1 x2 x3 y = mom (x1 y) (x2 y) :=
  Eq.trans (b := k0_pay1 (F := Ideal) x1 x2 y) (by frame_out) rfl
theorem out7 : out0_7 (F := Ideal) x0 x1 x2 x3 y = sqm (x1 y) (x3 y) :=
  Eq.trans (b := k0_pay2 (F := Ideal) x1 x3 y) (by frame_out) rfl

end

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

variable (m : (ℓ : Loc nD τ sig) → Buf (Elt Ideal) ℓ)

/-- The weight, its gradient and its two moments. -/
abbrev argw : S2048x2816.Idx → EReal := m (((0 : Dev nD).tc : Thread nD τ).loc main_arg0)
abbrev argg : S2048x2816.Idx → EReal := m (((0 : Dev nD).tc : Thread nD τ).loc main_arg1)
abbrev argm : S2048x2816.Idx → EReal := m (((0 : Dev nD).tc : Thread nD τ).loc main_arg2)
abbrev argv : S2048x2816.Idx → EReal := m (((0 : Dev nD).tc : Thread nD τ).loc main_arg3)

variable (t : Fin cfg0.N) (a : Fin 128) (k : Fin 2816)

/-- Row `a` of tile `t`. -/
def row : Fin 2048 := ⟨t.val * 128 + a.val, by have : t.val < 16 := t.isLt; omega⟩

theorem blk0 : iblk m 0 0 t (ix2 a k) = argw m (ix2 (row t a) k) := by
  blk_ext [Gen.iblk, Gen.V, idx0 t]
  rfl
theorem blk1 : iblk m 0 1 t (ix2 a k) = argg m (ix2 (row t a) k) := by
  blk_ext [Gen.iblk, Gen.V, idx1 t]
  rfl
theorem blk2 : iblk m 0 2 t (ix2 a k) = argm m (ix2 (row t a) k) := by
  blk_ext [Gen.iblk, Gen.V, idx2 t]
  rfl
theorem blk3 : iblk m 0 3 t (ix2 a k) = argv m (ix2 (row t a) k) := by
  blk_ext [Gen.iblk, Gen.V, idx3 t]
  rfl

/-- The four results. -/
def newd : S2048x2816.Idx → EReal := fun i => delta (argw m i) (argg m i) (argm m i) (argv m i)
def newm : S2048x2816.Idx → EReal := fun i => mom (argg m i) (argm m i)
def newv : S2048x2816.Idx → EReal := fun i => sqm (argg m i) (argv m i)

theorem res4 (y : S128x2816.Idx) : out0_4 (F := Ideal) (iblk m 0 0 t) (iblk m 0 1 t) (iblk m 0 2 t) (iblk m 0 3 t) y = argg m (ix2 (row t (y 0)) (y 1)) := by
  obtain ⟨a, b, rfl⟩ : ∃ (a : Fin 128) (b : Fin 2816), y = ix2 a b := ⟨y 0, y 1, eq_ix2 y⟩
  rw [out4, blk1]; rfl
theorem res5 (y : S128x2816.Idx) : out0_5 (F := Ideal) (iblk m 0 0 t) (iblk m 0 1 t) (iblk m 0 2 t) (iblk m 0 3 t) y = newd m (ix2 (row t (y 0)) (y 1)) := by
  obtain ⟨a, b, rfl⟩ : ∃ (a : Fin 128) (b : Fin 2816), y = ix2 a b := ⟨y 0, y 1, eq_ix2 y⟩
  rw [out5, blk0, blk1, blk2, blk3]; rfl
theorem res6 (y : S128x2816.Idx) : out0_6 (F := Ideal) (iblk m 0 0 t) (iblk m 0 1 t) (iblk m 0 2 t) (iblk m 0 3 t) y = newm m (ix2 (row t (y 0)) (y 1)) := by
  obtain ⟨a, b, rfl⟩ : ∃ (a : Fin 128) (b : Fin 2816), y = ix2 a b := ⟨y 0, y 1, eq_ix2 y⟩
  rw [out6, blk1, blk2]; rfl
theorem res7 (y : S128x2816.Idx) : out0_7 (F := Ideal) (iblk m 0 0 t) (iblk m 0 1 t) (iblk m 0 2 t) (iblk m 0 3 t) y = newv m (ix2 (row t (y 0)) (y 1)) := by
  obtain ⟨a, b, rfl⟩ : ∃ (a : Fin 128) (b : Fin 2816), y = ix2 a b := ⟨y 0, y 1, eq_ix2 y⟩
  rw [out7, blk1, blk3]; rfl

theorem arr4 : (dats m 0 (0 : Dev nD)).arrAt 4 cfg0.N = argg m := by
  refine (dats m 0 (0 : Dev nD)).arrAt_eq_of_covers 4 _ (by decide +kernel) fun t hf y => ?_
  blk_simp
  rw [after0_4, res4]
  blk_ext [idx4 t] <;> rfl

theorem arr5 : (dats m 0 (0 : Dev nD)).arrAt 5 cfg0.N = newd m := by
  refine (dats m 0 (0 : Dev nD)).arrAt_eq_of_covers 5 _ (by decide +kernel) fun t hf y => ?_
  blk_simp
  rw [after0_5, res5]
  blk_ext [idx5 t] <;> rfl

theorem arr6 : (dats m 0 (0 : Dev nD)).arrAt 6 cfg0.N = newm m := by
  refine (dats m 0 (0 : Dev nD)).arrAt_eq_of_covers 6 _ (by decide +kernel) fun t hf y => ?_
  blk_simp
  rw [after0_6, res6]
  blk_ext [idx6 t] <;> rfl

theorem arr7 : (dats m 0 (0 : Dev nD)).arrAt 7 cfg0.N = newv m := by
  refine (dats m 0 (0 : Dev nD)).arrAt_eq_of_covers 7 _ (by decide +kernel) fun t hf y => ?_
  blk_simp
  rw [after0_7, res7]
  blk_ext [idx7 t] <;> rfl

open Cert.Reference20Ideal.Read in
theorem algebraic : Cert.algebraic_Kernel20Ideal_Reference20Ideal (hKernel20Ideal := Cert.Kernel20Ideal.Gen.facts) (hReference20Ideal := Cert.Reference20Ideal.Gen.facts) := by
  intro m g m' g' _ hargs
  obtain ⟨h0, h1, h2, h3⟩ := hargs 0
  refine ⟨fun _ => argg m, fun _ => newd m, fun _ => newm m, fun _ => newv m, ?_, ?_⟩
  · refine (θ_run _ _ _).mono (fun r h c => ?_) (Cert.Kernel20Ideal.Value.run_blocks (F := Ideal) m g)
    obtain rfl : c = 0 := Subsingleton.elim _ _
    obtain ⟨r0, r1, r2, r3, k⟩ := h 0
    exact ⟨r0.trans (arr4 m), r1.trans (arr5 m), r2.trans (arr6 m), r3.trans (arr7 m), k⟩
  · refine (θ_run _ _ _).mono (fun r h c => ?_) (Cert.Reference20Ideal.Value.run (F := Ideal) m' g')
    obtain rfl : c = 0 := Subsingleton.elim _ _
    obtain ⟨r0, r1, r2, r3, k⟩ := h 0
    refine ⟨r0.trans h1, (r1.trans (val_main_v23_eq _ _ _ _)).trans ?_, (r2.trans (val_main_v4_eq _ _)).trans ?_, (r3.trans (val_main_v10_eq _ _)).trans ?_, k⟩
    · rw [h0, h1, h2, h3]; rfl
    · rw [h1, h2]; rfl
    · rw [h1, h3]; rfl

end Cert.AdamUp

end
-- ==== Proof.AdamDown.lean ====
/- The optimiser's step on this chip's shard of `w_down`: every entry is stepped by the formula of `AdamSpec`. -/
module

public import proofs.«01_k».proof.Proof.AdamSpec
public import proofs.«01_k».proof.Proof.Gen.Kernel21Ideal.Value
public import proofs.«01_k».proof.Proof.Gen.Reference21Ideal.Read
public import proofs.«01_k».proof.Proof.Gen.Reference21Ideal.Run

@[expose] public section

set_option maxRecDepth 16384

noncomputable section

namespace Cert.AdamDown

open Idealize.ShloMosaic Idealize.ShloMosaic.TcCoe Idealize.SL.Sem
open Cert.Adam Cert.Kernel21Ideal Cert.Kernel21Ideal.Gen

section

variable (x0 x1 x2 x3 : Vec Ideal S128x2048 .f32) (y : S128x2048.Idx)

theorem out4 : out0_4 (F := Ideal) x0 x1 x2 x3 y = x1 y := by frame_out
theorem out5 : out0_5 (F := Ideal) x0 x1 x2 x3 y = delta (x0 y) (x1 y) (x2 y) (x3 y) :=
  Eq.trans (b := k0_pay3 (F := Ideal) x1 x0 x2 x3 y) (by frame_out) rfl
theorem out6 : out0_6 (F := Ideal) x0 x1 x2 x3 y = mom (x1 y) (x2 y) :=
  Eq.trans (b := k0_pay1 (F := Ideal) x1 x2 y) (by frame_out) rfl
theorem out7 : out0_7 (F := Ideal) x0 x1 x2 x3 y = sqm (x1 y) (x3 y) :=
  Eq.trans (b := k0_pay2 (F := Ideal) x1 x3 y) (by frame_out) rfl

end

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

variable (m : (ℓ : Loc nD τ sig) → Buf (Elt Ideal) ℓ)

/-- The weight, its gradient and its two moments. -/
abbrev argw : S1408x2048.Idx → EReal := m (((0 : Dev nD).tc : Thread nD τ).loc main_arg0)
abbrev argg : S1408x2048.Idx → EReal := m (((0 : Dev nD).tc : Thread nD τ).loc main_arg1)
abbrev argm : S1408x2048.Idx → EReal := m (((0 : Dev nD).tc : Thread nD τ).loc main_arg2)
abbrev argv : S1408x2048.Idx → EReal := m (((0 : Dev nD).tc : Thread nD τ).loc main_arg3)

variable (t : Fin cfg0.N) (a : Fin 128) (k : Fin 2048)

/-- Row `a` of tile `t`. -/
def row : Fin 1408 := ⟨t.val * 128 + a.val, by have : t.val < 11 := t.isLt; omega⟩

theorem blk0 : iblk m 0 0 t (ix2 a k) = argw m (ix2 (row t a) k) := by
  blk_ext [Gen.iblk, Gen.V, idx0 t]
  rfl
theorem blk1 : iblk m 0 1 t (ix2 a k) = argg m (ix2 (row t a) k) := by
  blk_ext [Gen.iblk, Gen.V, idx1 t]
  rfl
theorem blk2 : iblk m 0 2 t (ix2 a k) = argm m (ix2 (row t a) k) := by
  blk_ext [Gen.iblk, Gen.V, idx2 t]
  rfl
theorem blk3 : iblk m 0 3 t (ix2 a k) = argv m (ix2 (row t a) k) := by
  blk_ext [Gen.iblk, Gen.V, idx3 t]
  rfl

/-- The four results. -/
def newd : S1408x2048.Idx → EReal := fun i => delta (argw m i) (argg m i) (argm m i) (argv m i)
def newm : S1408x2048.Idx → EReal := fun i => mom (argg m i) (argm m i)
def newv : S1408x2048.Idx → EReal := fun i => sqm (argg m i) (argv m i)

theorem res4 (y : S128x2048.Idx) : out0_4 (F := Ideal) (iblk m 0 0 t) (iblk m 0 1 t) (iblk m 0 2 t) (iblk m 0 3 t) y = argg m (ix2 (row t (y 0)) (y 1)) := by
  obtain ⟨a, b, rfl⟩ : ∃ (a : Fin 128) (b : Fin 2048), y = ix2 a b := ⟨y 0, y 1, eq_ix2 y⟩
  rw [out4, blk1]; rfl
theorem res5 (y : S128x2048.Idx) : out0_5 (F := Ideal) (iblk m 0 0 t) (iblk m 0 1 t) (iblk m 0 2 t) (iblk m 0 3 t) y = newd m (ix2 (row t (y 0)) (y 1)) := by
  obtain ⟨a, b, rfl⟩ : ∃ (a : Fin 128) (b : Fin 2048), y = ix2 a b := ⟨y 0, y 1, eq_ix2 y⟩
  rw [out5, blk0, blk1, blk2, blk3]; rfl
theorem res6 (y : S128x2048.Idx) : out0_6 (F := Ideal) (iblk m 0 0 t) (iblk m 0 1 t) (iblk m 0 2 t) (iblk m 0 3 t) y = newm m (ix2 (row t (y 0)) (y 1)) := by
  obtain ⟨a, b, rfl⟩ : ∃ (a : Fin 128) (b : Fin 2048), y = ix2 a b := ⟨y 0, y 1, eq_ix2 y⟩
  rw [out6, blk1, blk2]; rfl
theorem res7 (y : S128x2048.Idx) : out0_7 (F := Ideal) (iblk m 0 0 t) (iblk m 0 1 t) (iblk m 0 2 t) (iblk m 0 3 t) y = newv m (ix2 (row t (y 0)) (y 1)) := by
  obtain ⟨a, b, rfl⟩ : ∃ (a : Fin 128) (b : Fin 2048), y = ix2 a b := ⟨y 0, y 1, eq_ix2 y⟩
  rw [out7, blk1, blk3]; rfl

theorem arr4 : (dats m 0 (0 : Dev nD)).arrAt 4 cfg0.N = argg m := by
  refine (dats m 0 (0 : Dev nD)).arrAt_eq_of_covers 4 _ (by decide +kernel) fun t hf y => ?_
  blk_simp
  rw [after0_4, res4]
  blk_ext [idx4 t] <;> rfl

theorem arr5 : (dats m 0 (0 : Dev nD)).arrAt 5 cfg0.N = newd m := by
  refine (dats m 0 (0 : Dev nD)).arrAt_eq_of_covers 5 _ (by decide +kernel) fun t hf y => ?_
  blk_simp
  rw [after0_5, res5]
  blk_ext [idx5 t] <;> rfl

theorem arr6 : (dats m 0 (0 : Dev nD)).arrAt 6 cfg0.N = newm m := by
  refine (dats m 0 (0 : Dev nD)).arrAt_eq_of_covers 6 _ (by decide +kernel) fun t hf y => ?_
  blk_simp
  rw [after0_6, res6]
  blk_ext [idx6 t] <;> rfl

theorem arr7 : (dats m 0 (0 : Dev nD)).arrAt 7 cfg0.N = newv m := by
  refine (dats m 0 (0 : Dev nD)).arrAt_eq_of_covers 7 _ (by decide +kernel) fun t hf y => ?_
  blk_simp
  rw [after0_7, res7]
  blk_ext [idx7 t] <;> rfl

open Cert.Reference21Ideal.Read in
theorem algebraic : Cert.algebraic_Kernel21Ideal_Reference21Ideal (hKernel21Ideal := Cert.Kernel21Ideal.Gen.facts) (hReference21Ideal := Cert.Reference21Ideal.Gen.facts) := by
  intro m g m' g' _ hargs
  obtain ⟨h0, h1, h2, h3⟩ := hargs 0
  refine ⟨fun _ => argg m, fun _ => newd m, fun _ => newm m, fun _ => newv m, ?_, ?_⟩
  · refine (θ_run _ _ _).mono (fun r h c => ?_) (Cert.Kernel21Ideal.Value.run_blocks (F := Ideal) m g)
    obtain rfl : c = 0 := Subsingleton.elim _ _
    obtain ⟨r0, r1, r2, r3, k⟩ := h 0
    exact ⟨r0.trans (arr4 m), r1.trans (arr5 m), r2.trans (arr6 m), r3.trans (arr7 m), k⟩
  · refine (θ_run _ _ _).mono (fun r h c => ?_) (Cert.Reference21Ideal.Value.run (F := Ideal) m' g')
    obtain rfl : c = 0 := Subsingleton.elim _ _
    obtain ⟨r0, r1, r2, r3, k⟩ := h 0
    refine ⟨r0.trans h1, (r1.trans (val_main_v23_eq _ _ _ _)).trans ?_, (r2.trans (val_main_v4_eq _ _)).trans ?_, (r3.trans (val_main_v10_eq _ _)).trans ?_, k⟩
    · rw [h0, h1, h2, h3]; rfl
    · rw [h1, h2]; rfl
    · rw [h1, h3]; rfl

end Cert.AdamDown

end
-- ==== Proof.AdamIn.lean ====
/- The optimiser's step on this chip's shard of `w_in`: every entry is stepped by the formula of `AdamSpec`. -/
module

public import proofs.«01_k».proof.Proof.AdamSpec
public import proofs.«01_k».proof.Proof.Gen.Kernel22Ideal.Value
public import proofs.«01_k».proof.Proof.Gen.Reference22Ideal.Read
public import proofs.«01_k».proof.Proof.Gen.Reference22Ideal.Run

@[expose] public section

set_option maxRecDepth 16384

noncomputable section

namespace Cert.AdamIn

open Idealize.ShloMosaic Idealize.ShloMosaic.TcCoe Idealize.SL.Sem
open Cert.Adam Cert.Kernel22Ideal Cert.Kernel22Ideal.Gen

section

variable (x0 x1 x2 x3 : Vec Ideal S128x1538 .f32) (y : S128x1538.Idx)

theorem out4 : out0_4 (F := Ideal) x0 x1 x2 x3 y = x1 y := by frame_out
theorem out5 : out0_5 (F := Ideal) x0 x1 x2 x3 y = delta (x0 y) (x1 y) (x2 y) (x3 y) :=
  Eq.trans (b := k0_pay3 (F := Ideal) x1 x0 x2 x3 y) (by frame_out) rfl
theorem out6 : out0_6 (F := Ideal) x0 x1 x2 x3 y = mom (x1 y) (x2 y) :=
  Eq.trans (b := k0_pay1 (F := Ideal) x1 x2 y) (by frame_out) rfl
theorem out7 : out0_7 (F := Ideal) x0 x1 x2 x3 y = sqm (x1 y) (x3 y) :=
  Eq.trans (b := k0_pay2 (F := Ideal) x1 x3 y) (by frame_out) rfl

end

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

variable (m : (ℓ : Loc nD τ sig) → Buf (Elt Ideal) ℓ)

/-- The weight, its gradient and its two moments. -/
abbrev argw : S2048x1538.Idx → EReal := m (((0 : Dev nD).tc : Thread nD τ).loc main_arg0)
abbrev argg : S2048x1538.Idx → EReal := m (((0 : Dev nD).tc : Thread nD τ).loc main_arg1)
abbrev argm : S2048x1538.Idx → EReal := m (((0 : Dev nD).tc : Thread nD τ).loc main_arg2)
abbrev argv : S2048x1538.Idx → EReal := m (((0 : Dev nD).tc : Thread nD τ).loc main_arg3)

variable (t : Fin cfg0.N) (a : Fin 128) (k : Fin 1538)

/-- Row `a` of tile `t`. -/
def row : Fin 2048 := ⟨t.val * 128 + a.val, by have : t.val < 16 := t.isLt; omega⟩

theorem blk0 : iblk m 0 0 t (ix2 a k) = argw m (ix2 (row t a) k) := by
  blk_ext [Gen.iblk, Gen.V, idx0 t]
  rfl
theorem blk1 : iblk m 0 1 t (ix2 a k) = argg m (ix2 (row t a) k) := by
  blk_ext [Gen.iblk, Gen.V, idx1 t]
  rfl
theorem blk2 : iblk m 0 2 t (ix2 a k) = argm m (ix2 (row t a) k) := by
  blk_ext [Gen.iblk, Gen.V, idx2 t]
  rfl
theorem blk3 : iblk m 0 3 t (ix2 a k) = argv m (ix2 (row t a) k) := by
  blk_ext [Gen.iblk, Gen.V, idx3 t]
  rfl

/-- The four results. -/
def newd : S2048x1538.Idx → EReal := fun i => delta (argw m i) (argg m i) (argm m i) (argv m i)
def newm : S2048x1538.Idx → EReal := fun i => mom (argg m i) (argm m i)
def newv : S2048x1538.Idx → EReal := fun i => sqm (argg m i) (argv m i)

theorem res4 (y : S128x1538.Idx) : out0_4 (F := Ideal) (iblk m 0 0 t) (iblk m 0 1 t) (iblk m 0 2 t) (iblk m 0 3 t) y = argg m (ix2 (row t (y 0)) (y 1)) := by
  obtain ⟨a, b, rfl⟩ : ∃ (a : Fin 128) (b : Fin 1538), y = ix2 a b := ⟨y 0, y 1, eq_ix2 y⟩
  rw [out4, blk1]; rfl
theorem res5 (y : S128x1538.Idx) : out0_5 (F := Ideal) (iblk m 0 0 t) (iblk m 0 1 t) (iblk m 0 2 t) (iblk m 0 3 t) y = newd m (ix2 (row t (y 0)) (y 1)) := by
  obtain ⟨a, b, rfl⟩ : ∃ (a : Fin 128) (b : Fin 1538), y = ix2 a b := ⟨y 0, y 1, eq_ix2 y⟩
  rw [out5, blk0, blk1, blk2, blk3]; rfl
theorem res6 (y : S128x1538.Idx) : out0_6 (F := Ideal) (iblk m 0 0 t) (iblk m 0 1 t) (iblk m 0 2 t) (iblk m 0 3 t) y = newm m (ix2 (row t (y 0)) (y 1)) := by
  obtain ⟨a, b, rfl⟩ : ∃ (a : Fin 128) (b : Fin 1538), y = ix2 a b := ⟨y 0, y 1, eq_ix2 y⟩
  rw [out6, blk1, blk2]; rfl
theorem res7 (y : S128x1538.Idx) : out0_7 (F := Ideal) (iblk m 0 0 t) (iblk m 0 1 t) (iblk m 0 2 t) (iblk m 0 3 t) y = newv m (ix2 (row t (y 0)) (y 1)) := by
  obtain ⟨a, b, rfl⟩ : ∃ (a : Fin 128) (b : Fin 1538), y = ix2 a b := ⟨y 0, y 1, eq_ix2 y⟩
  rw [out7, blk1, blk3]; rfl

theorem arr4 : (dats m 0 (0 : Dev nD)).arrAt 4 cfg0.N = argg m := by
  refine (dats m 0 (0 : Dev nD)).arrAt_eq_of_covers 4 _ (by decide +kernel) fun t hf y => ?_
  blk_simp
  rw [after0_4, res4]
  blk_ext [idx4 t] <;> rfl

theorem arr5 : (dats m 0 (0 : Dev nD)).arrAt 5 cfg0.N = newd m := by
  refine (dats m 0 (0 : Dev nD)).arrAt_eq_of_covers 5 _ (by decide +kernel) fun t hf y => ?_
  blk_simp
  rw [after0_5, res5]
  blk_ext [idx5 t] <;> rfl

theorem arr6 : (dats m 0 (0 : Dev nD)).arrAt 6 cfg0.N = newm m := by
  refine (dats m 0 (0 : Dev nD)).arrAt_eq_of_covers 6 _ (by decide +kernel) fun t hf y => ?_
  blk_simp
  rw [after0_6, res6]
  blk_ext [idx6 t] <;> rfl

theorem arr7 : (dats m 0 (0 : Dev nD)).arrAt 7 cfg0.N = newv m := by
  refine (dats m 0 (0 : Dev nD)).arrAt_eq_of_covers 7 _ (by decide +kernel) fun t hf y => ?_
  blk_simp
  rw [after0_7, res7]
  blk_ext [idx7 t] <;> rfl

open Cert.Reference22Ideal.Read in
theorem algebraic : Cert.algebraic_Kernel22Ideal_Reference22Ideal (hKernel22Ideal := Cert.Kernel22Ideal.Gen.facts) (hReference22Ideal := Cert.Reference22Ideal.Gen.facts) := by
  intro m g m' g' _ hargs
  obtain ⟨h0, h1, h2, h3⟩ := hargs 0
  refine ⟨fun _ => argg m, fun _ => newd m, fun _ => newm m, fun _ => newv m, ?_, ?_⟩
  · refine (θ_run _ _ _).mono (fun r h c => ?_) (Cert.Kernel22Ideal.Value.run_blocks (F := Ideal) m g)
    obtain rfl : c = 0 := Subsingleton.elim _ _
    obtain ⟨r0, r1, r2, r3, k⟩ := h 0
    exact ⟨r0.trans (arr4 m), r1.trans (arr5 m), r2.trans (arr6 m), r3.trans (arr7 m), k⟩
  · refine (θ_run _ _ _).mono (fun r h c => ?_) (Cert.Reference22Ideal.Value.run (F := Ideal) m' g')
    obtain rfl : c = 0 := Subsingleton.elim _ _
    obtain ⟨r0, r1, r2, r3, k⟩ := h 0
    refine ⟨r0.trans h1, (r1.trans (val_main_v23_eq _ _ _ _)).trans ?_, (r2.trans (val_main_v4_eq _ _)).trans ?_, (r3.trans (val_main_v10_eq _ _)).trans ?_, k⟩
    · rw [h0, h1, h2, h3]; rfl
    · rw [h1, h2]; rfl
    · rw [h1, h3]; rfl

end Cert.AdamIn

end
-- ==== Proof.SumSmall.lean ====
/- The sum of the chips' packed small gradients: the kernel adds the four packs one after the other. -/
module

public import proofs.«01_k».proof.Defs
public import proofs.«01_k».proof.Proof.Gen.Kernel25Ideal.Value
public import proofs.«01_k».proof.Proof.Gen.Reference25Ideal.Read
public import proofs.«01_k».proof.Proof.Gen.Reference25Ideal.Run
public import Idealize.ShloMosaic.Lib.Pointwise

@[expose] public section

set_option maxRecDepth 16384

noncomputable section

namespace Cert.SumSmall

open Idealize.ShloMosaic Idealize.ShloMosaic.TcCoe Idealize.SL.Sem
open Cert.Kernel25Ideal Cert.Kernel25Ideal.Gen

/-- An entry of a rank-three array at coordinates equal to its own. -/
theorem at_coords {a b c : ℕ} (x : (⟨3, ![a, b, c]⟩ : Shape).Idx → EReal) (i j : (⟨3, ![a, b, c]⟩ : Shape).Idx)
    (h0 : (i 0).val = (j 0).val) (h1 : (i 1).val = (j 1).val) (h2 : (i 2).val = (j 2).val) : x i = x j := by
  refine congrArg x (funext fun d => ?_)
  match d with
  | ⟨0, _⟩ => exact Fin.ext h0
  | ⟨1, _⟩ => exact Fin.ext h1
  | ⟨2, _⟩ => exact Fin.ext h2

/-- The kernel's sum is the reference's, entry by entry. -/
theorem sum_eq (x : S4x2336x128.Idx → EReal) :
    Cert.Kernel25Ideal.Value.G1 (F := Ideal) x = Cert.Reference25Ideal.Read.val_main_v0 (F := Ideal) x := by
  funext i
  rw [Cert.Reference25Ideal.Read.val_main_v0_apply, Fin.sum_univ_four]
  have hz : Cert.Reference25Ideal.Read.val_main_cst (F := Ideal) (Shape.Idx.first Cert.Reference25Ideal.Gen.facts.h_S_) = 0 := Ideal.ofBits_zero .f32
  refine Eq.trans ?_ (congrArg (· + _) hz).symm
  dsimp only
  rw [zero_add]
  pointwise [Cert.Kernel25Ideal.Value.G1, k0_pay1]
  refine congrArg₂ (· + ·) (congrArg₂ (· + ·) (congrArg₂ (· + ·) ?_ ?_) ?_) ?_ <;> exact at_coords x _ _ rfl rfl rfl

open Cert.Reference25Ideal.Read in
theorem algebraic : Cert.algebraic_Kernel25Ideal_Reference25Ideal (hKernel25Ideal := Cert.Kernel25Ideal.Gen.facts) (hReference25Ideal := Cert.Reference25Ideal.Gen.facts) := by
  intro m g m' g' _ hargs
  have h0 := hargs 0
  refine ⟨fun _ => val_main_v0 (F := Ideal) (m (((0 : Dev nD).tc : Thread nD τ).loc main_arg0)), ?_, ?_⟩
  · refine (θ_run _ _ _).mono (fun r h c => ?_) (Cert.Kernel25Ideal.Value.run (F := Ideal) m g)
    obtain rfl : c = 0 := Subsingleton.elim _ _
    obtain ⟨r0, k⟩ := h 0
    exact ⟨r0.trans (sum_eq _), k⟩
  · refine (θ_run _ _ _).mono (fun r h c => ?_) (Cert.Reference25Ideal.Value.run (F := Ideal) m' g')
    obtain rfl : c = 0 := Subsingleton.elim _ _
    obtain ⟨r0, k⟩ := h 0
    refine ⟨(r0.trans (val_main_v0_eq _)).trans ?_, k⟩
    rw [h0]

end Cert.SumSmall

end
-- ==== Proof.SumLate.lean ====
/- The sum of the devices' packed gradients of the mixing norm's gain: the kernel adds the eight packs one after the other. -/
module

public import proofs.«01_k».proof.Proof.SumSmall
public import proofs.«01_k».proof.Proof.Gen.Kernel26Ideal.Value
public import proofs.«01_k».proof.Proof.Gen.Reference26Ideal.Read
public import proofs.«01_k».proof.Proof.Gen.Reference26Ideal.Run
public import Idealize.ShloMosaic.Lib.Pointwise

@[expose] public section

set_option maxRecDepth 16384

noncomputable section

namespace Cert.SumLate

open Idealize.ShloMosaic Idealize.ShloMosaic.TcCoe Idealize.SL.Sem
open Cert.Kernel26Ideal Cert.Kernel26Ideal.Gen

/-- The kernel's sum is the reference's, entry by entry. -/
theorem sum_eq (x : S8x16x128.Idx → EReal) :
    Cert.Kernel26Ideal.Value.G1 (F := Ideal) x = Cert.Reference26Ideal.Read.val_main_v0 (F := Ideal) x := by
  funext i
  rw [Cert.Reference26Ideal.Read.val_main_v0_apply, Fin.sum_univ_eight]
  have hz : Cert.Reference26Ideal.Read.val_main_cst (F := Ideal) (Shape.Idx.first Cert.Reference26Ideal.Gen.facts.h_S_) = 0 := Ideal.ofBits_zero .f32
  refine Eq.trans ?_ (congrArg (· + _) hz).symm
  dsimp only
  rw [zero_add]
  pointwise [Cert.Kernel26Ideal.Value.G1, k0_pay1]
  repeat refine congrArg₂ (· + ·) ?_ ?_
  all_goals exact Cert.SumSmall.at_coords x _ _ rfl rfl rfl

open Cert.Reference26Ideal.Read in
theorem algebraic : Cert.algebraic_Kernel26Ideal_Reference26Ideal (hKernel26Ideal := Cert.Kernel26Ideal.Gen.facts) (hReference26Ideal := Cert.Reference26Ideal.Gen.facts) := by
  intro m g m' g' _ hargs
  have h0 := hargs 0
  refine ⟨fun _ => val_main_v0 (F := Ideal) (m (((0 : Dev nD).tc : Thread nD τ).loc main_arg0)), ?_, ?_⟩
  · refine (θ_run _ _ _).mono (fun r h c => ?_) (Cert.Kernel26Ideal.Value.run (F := Ideal) m g)
    obtain rfl : c = 0 := Subsingleton.elim _ _
    obtain ⟨r0, k⟩ := h 0
    exact ⟨r0.trans (sum_eq _), k⟩
  · refine (θ_run _ _ _).mono (fun r h c => ?_) (Cert.Reference26Ideal.Value.run (F := Ideal) m' g')
    obtain rfl : c = 0 := Subsingleton.elim _ _
    obtain ⟨r0, k⟩ := h 0
    refine ⟨(r0.trans (val_main_v0_eq _)).trans ?_, k⟩
    rw [h0]

end Cert.SumLate

end
-- ==== Proof.SumOwn.lean ====
/- The sum of one core's pack of small gradients and its partner's, in this chip's place. -/
module

public import proofs.«01_k».proof.Defs
public import proofs.«01_k».proof.Proof.SumSmall
public import proofs.«01_k».proof.Proof.Gen.Kernel27Ideal.Frame
public import proofs.«01_k».proof.Proof.Gen.Reference27Ideal.Read
public import proofs.«01_k».proof.Proof.Gen.Reference27Ideal.Run
public import Idealize.ShloMosaic.Lib.Pointwise
public import Idealize.ShloMosaic.Lib.Pipeline.Value
public import Idealize.ShloMosaic.Lib.Pipeline.ValueKit.Partial
public import Idealize.ShloMosaic.Lib.Pipeline.ValueKit.Acc

@[expose] public section

set_option maxRecDepth 16384

noncomputable section

namespace Cert.SumOwn

open Idealize.ShloMosaic Idealize.ShloMosaic.TcCoe Idealize.SL.Sem
open Cert.SumSmall (at_coords)
open Cert.Kernel27Ideal Cert.Kernel27Ideal.Gen

section

variable {F : FTy → Type} [FloatOps F]

/-- The table of places: this core, this chip and the other chips. -/
def T : pre0.Contents (Elt F) := fun
  | 0 => fun i => lit0 (S5.rowMajor i)
  | ⟨_ + 1, h⟩ => absurd h (Nat.not_lt.2 (Nat.le_add_left _ _))

/-- Every block that the table names lies inside its array. -/
theorem okT : ok0 (F := F) T := of_decide_eq_true (by sl_kernel_rfl)

variable (m : (ℓ : Loc nD τ sig) → Buf (Elt F) ℓ)

/-- The table that the kernel finds is the host's constant. -/
theorem tbl_eq : tbl m = T := by
  funext j
  obtain rfl : j = 0 := Subsingleton.elim _ _
  rfl

theorem ok : Ok m := by
  show ok0 (tbl m)
  rw [tbl_eq]
  exact okT

end

section

variable (c : Dev nD) (i : grid0.Coords) (arg2 : Memref sig .tc .vmem S2336x128 .f32) (harg2 : arg2.IsWhole) (arg3 : Memref sig .tc .vmem S2336x128 .f32) (harg3 : arg3.IsWhole)
    (arg4 : Memref sig .tc .vmem S1x2336x128 .f32) (harg4 : arg4.IsWhole)
    (x0 x1 : Vec Ideal S2336x128 .f32) (xt0 : TbBuf0 (F := Ideal) c tbM0_0) (b : Fin 2336) (k : Fin 128)

theorem pay : k0_pay1 (F := Ideal) x0 x1 (ix3 0 b k) = x0 (ix2 b k) + x1 (ix2 b k) := by
  pointwise [k0_pay1]

theorem tile : out0_A_2 (F := Ideal) c i arg2 harg2 arg3 harg3 arg4 harg4 x0 x1 xt0 (ix3 0 b k) = x0 (ix2 b k) + x1 (ix2 b k) :=
  Eq.trans (b := k0_pay1 (F := Ideal) x0 x1 (ix3 0 b k)) (by frame_out) (pay x0 x1 b k)

end

/-- The admissible table of places. -/
def A : (pcfg0 (F := Ideal)).Adm := ⟨T, okT⟩

theorem idx0A : ∀ t : Fin grid0.N, ((cfg0 A).win 0).index t = ![0, 0] := by decide +kernel
theorem idx1A : ∀ t : Fin grid0.N, ((cfg0 A).win 1).index t = ![0, 0] := by decide +kernel
theorem idx2A : ∀ t : Fin grid0.N, ((cfg0 A).win 2).index t = ![0, 0, 0] := by decide +kernel
theorem coverA : ((cfg0 A).win 2).CoversWhere (fun β => β (0 : Fin 3) < 1) := by decide +kernel

variable (m : (ℓ : Loc nD τ sig) → Buf (Elt Ideal) ℓ) (hO : Ok m)

theorem adm_eq : adm m hO = A := Subtype.ext (tbl_eq m)

theorem idx0 (t : Fin (cfgM m hO).N) : ((cfgM m hO).win 0).index t = ![0, 0] := by
  revert t; unfold cfgM; rw [adm_eq]; exact idx0A
theorem idx1 (t : Fin (cfgM m hO).N) : ((cfgM m hO).win 1).index t = ![0, 0] := by
  revert t; unfold cfgM; rw [adm_eq]; exact idx1A
theorem idx2 (t : Fin (cfgM m hO).N) : ((cfgM m hO).win 2).index t = ![0, 0, 0] := by
  revert t; unfold cfgM; rw [adm_eq]; exact idx2A
theorem cover : ((cfgM m hO).win 2).CoversWhere (fun β => β (0 : Fin 3) < 1) := by
  unfold cfgM; rw [adm_eq]; exact coverA

/-- The core's own pack of small gradients and its partner's. -/
abbrev own : S2336x128.Idx → EReal := m (((0 : Dev nD).tc : Thread nD τ).loc main_arg0)
abbrev recv : S2336x128.Idx → EReal := m (((0 : Dev nD).tc : Thread nD τ).loc main_arg1)

variable (t : Fin (cfgM m hO).N) (b : Fin 2336) (k : Fin 128)

theorem blk0 : iblk m hO 0 0 t (ix2 b k) = own m (ix2 b k) := by
  blk_ext [Gen.iblk, Gen.V, idx0 m hO t]
  all_goals rfl
theorem blk1 : iblk m hO 0 1 t (ix2 b k) = recv m (ix2 b k) := by
  blk_ext [Gen.iblk, Gen.V, idx1 m hO t]
  all_goals rfl

/-- This chip's place holds the sum; the other chips' are left as they are. -/
def res : S4x2336x128.Idx → EReal := fun i => if (i 0).val < 1 then own m (ix2 (i 1) (i 2)) + recv m (ix2 (i 1) (i 2)) else V m 0 main_v0 i

theorem out : outsAt0 m hO 0 t (ix3 0 b k) = res m (ix3 0 b k) := by
  refine (tile _ _ _ _ _ _ _ _ _ _ _ _ _).trans ?_
  refine Eq.trans (b := own m (ix2 b k) + recv m (ix2 b k)) ?_ (if_pos Nat.one_pos).symm
  exact congrArg₂ (fun x y : EReal => x + y) (blk0 m hO t b k) (blk1 m hO t b k)

theorem arr : (dats m hO 0 (0 : Dev nD)).arrAt 2 (cfgM m hO).N = res m := by
  refine (dats m hO 0 (0 : Dev nD)).arrAt_eq_of_coversWhere_of_agree 2 _ (fun β => β (0 : Fin 3) < 1) (cover m hO) (fun t hf (y : S1x2336x128.Idx) => ?_) (fun j hj => ?_)
  · obtain ⟨a, b, k, rfl⟩ : ∃ (a : Fin 1) (b : Fin 2336) (k : Fin 128), y = ix3 a b k := ⟨y 0, y 1, y 2, ValueIdx.eq_ix3 y⟩
    obtain rfl : a = 0 := Subsingleton.elim _ _
    refine ((congrFun (after0_2 m hO 0 t) _).trans (out m hO t b k)).trans (congrArg (res m) ?_)
    blk_ext [idx2 m hO t]
    all_goals rfl
  · have h : ¬ (j (0 : Fin 3)).val < 1 := by
      intro h
      apply hj
      show (j (0 : Fin 3)).val / 1 < 1
      omega
    exact (if_neg h).symm

/-- The host's lines after the kernel keep this chip's place. -/
theorem tail_eq : Pipeline.afterTail pcfgs (fun _ => adm m hO) (dats m hO) 0 (V0 m) [hostOps1] (0 : Dev nD) main_v2
    = shapeCast S2336x128 (extractStridedSlice S1x2336x128 ![0, 0, 0] (res m) slices_S4x2336x128_S1x2336x128_0_0_0) shapeCasts_S1x2336x128_S2336x128 := by
  rw [← arr m hO, ← Pipeline.withArrays_arr spec0 winFacts0.arr_inj (0 : Dev nD) (V0 m (0 : Dev nD)) (fun w => (dats m hO 0 (0 : Dev nD)).arrAt w (cfgM m hO).N) 2]
  unfold Pipeline.afterTail
  after_results_simp
  rfl

open Cert.Reference27Ideal.Read in
/-- The reference's sum is what they keep. -/
theorem ref_eq : val_main_v0 (F := Ideal) (own m) (recv m)
    = shapeCast S2336x128 (extractStridedSlice S1x2336x128 ![0, 0, 0] (res m) slices_S4x2336x128_S1x2336x128_0_0_0) shapeCasts_S1x2336x128_S2336x128 := by
  funext i
  obtain ⟨b, k, rfl⟩ : ∃ (b : Fin 2336) (k : Fin 128), i = ix2 b k := ⟨i 0, i 1, ValueIdx.eq_ix2 i⟩
  refine Eq.trans (b := res m (ix3 0 b k)) (if_pos Nat.one_pos).symm ?_
  pointwise []

open Cert.Reference27Ideal.Read in
theorem algebraic : Cert.algebraic_Kernel27Ideal_Reference27Ideal (hKernel27Ideal := Cert.Kernel27Ideal.Gen.facts) (hReference27Ideal := Cert.Reference27Ideal.Gen.facts) := by
  intro m g m' g' _ hargs
  obtain ⟨h0, h1⟩ := hargs 0
  refine ⟨fun _ => val_main_v0 (F := Ideal) (own m) (recv m), ?_, ?_⟩
  · refine (θ_run _ _ _).mono (fun r h c => ?_) (θ_run_and (run_main m g (ok m)) (unchanged m g (ok m)))
    obtain rfl : c = 0 := Subsingleton.elim _ _
    exact ⟨(((h.1 0).2 main_v2 (Pipeline.mem_restRefs_of main_v2 (by decide) (show ∀ w : Fin 3, (spec0 w).arr.view.ref ≠ main_v2 by decide))).trans (tail_eq m (ok m))).trans (ref_eq m).symm, h.2 0⟩
  · refine (θ_run _ _ _).mono (fun r h c => ?_) (Cert.Reference27Ideal.Value.run (F := Ideal) m' g')
    obtain rfl : c = 0 := Subsingleton.elim _ _
    obtain ⟨r0, k⟩ := h 0
    refine ⟨(r0.trans (val_main_v0_eq _ _)).trans ?_, k⟩
    rw [h0, h1]

end Cert.SumOwn

end
-- ==== Proof.SumPair.lean ====
/- The sum of one core's half of the gradient of the output product's weight and its partner's, for the other chips. -/
module

public import proofs.«01_k».proof.Defs
public import proofs.«01_k».proof.Proof.SumSmall
public import proofs.«01_k».proof.Proof.Gen.Kernel28Ideal.Frame
public import proofs.«01_k».proof.Proof.Gen.Reference28Ideal.Read
public import proofs.«01_k».proof.Proof.Gen.Reference28Ideal.Run
public import Idealize.ShloMosaic.Lib.Pointwise
public import Idealize.ShloMosaic.Lib.Pipeline.Value
public import Idealize.ShloMosaic.Lib.Pipeline.ValueKit.Partial
public import Idealize.ShloMosaic.Lib.Pipeline.ValueKit.Acc

@[expose] public section

set_option maxRecDepth 16384

noncomputable section

namespace Cert.SumPair

open Idealize.ShloMosaic Idealize.ShloMosaic.TcCoe Idealize.SL.Sem
open Cert.SumSmall (at_coords)
open Cert.Kernel28Ideal Cert.Kernel28Ideal.Gen

section

variable {F : FTy → Type} [FloatOps F]

/-- The table of places: this core, this chip and the other chips. -/
def T : pre0.Contents (Elt F) := fun
  | 0 => fun i => lit0 (S5.rowMajor i)
  | ⟨_ + 1, h⟩ => absurd h (Nat.not_lt.2 (Nat.le_add_left _ _))

/-- Every block that the table names lies inside its array. -/
theorem okT : ok0 (F := F) T := of_decide_eq_true (by sl_kernel_rfl)

variable (m : (ℓ : Loc nD τ sig) → Buf (Elt F) ℓ)

/-- The table that the kernel finds is the host's constant. -/
theorem tbl_eq : tbl m = T := by
  funext j
  obtain rfl : j = 0 := Subsingleton.elim _ _
  rfl

theorem ok : Ok m := by
  show ok0 (tbl m)
  rw [tbl_eq]
  exact okT

end

section

variable (c : Dev nD) (i : grid0.Coords) (arg3 : Memref sig .tc .vmem S1x128x2048 .f32) (harg3 : arg3.IsWhole) (arg4 : Memref sig .tc .vmem S1x128x2048 .f32) (harg4 : arg4.IsWhole) (arg5 : Memref sig .tc .vmem S1x128x2048 .bf16) (harg5 : arg5.IsWhole)
    (x0 : Vec Ideal S1x128x2048 .f32) (x1 : Vec Ideal S1x128x2048 .f32) (xt0 : TbBuf0 (F := Ideal) c tbM0_0)

theorem pay (y : S1x128x2048.Idx) : k0_pay1 (F := Ideal) x0 x1 y = x0 y + x1 y := by
  obtain ⟨a, b, k, rfl⟩ : ∃ (a : Fin 1) (b : Fin 128) (k : Fin 2048), y = ix3 a b k := ⟨y 0, y 1, y 2, ValueIdx.eq_ix3 y⟩
  obtain rfl : a = 0 := Subsingleton.elim _ _
  pointwise [k0_pay1]

theorem tile (y : S1x128x2048.Idx) : out0_A_2 (F := Ideal) c i arg3 harg3 arg4 harg4 arg5 harg5 x0 x1 xt0 y = x0 y + x1 y :=
  Eq.trans (b := k0_pay1 (F := Ideal) x0 x1 y) (by frame_out) (pay x0 x1 y)

end

/-- The admissible table of places. -/
def A : (pcfg0 (F := Ideal)).Adm := ⟨T, okT⟩

theorem idx0A : ∀ t : Fin grid0.N, ((cfg0 A).win 0).index t = ![1 + t.val / 2, t.val % 2, 0] := by decide +kernel
theorem idx1A : ∀ t : Fin grid0.N, ((cfg0 A).win 1).index t = ![1 + t.val / 2, t.val % 2, 0] := by decide +kernel
theorem idx2A : ∀ t : Fin grid0.N, ((cfg0 A).win 2).index t = ![1 + t.val / 2, t.val % 2, 0] := by decide +kernel
theorem coverA : ((cfg0 A).win 2).CoversWhere (fun β => 1 ≤ β (0 : Fin 3)) := by decide +kernel

variable (m : (ℓ : Loc nD τ sig) → Buf (Elt Ideal) ℓ) (hO : Ok m)

theorem adm_eq : adm m hO = A := Subtype.ext (tbl_eq m)

theorem idx0 (t : Fin (cfgM m hO).N) : ((cfgM m hO).win 0).index t = ![1 + t.val / 2, t.val % 2, 0] := by
  revert t; unfold cfgM; rw [adm_eq]; exact idx0A
theorem idx1 (t : Fin (cfgM m hO).N) : ((cfgM m hO).win 1).index t = ![1 + t.val / 2, t.val % 2, 0] := by
  revert t; unfold cfgM; rw [adm_eq]; exact idx1A
theorem idx2 (t : Fin (cfgM m hO).N) : ((cfgM m hO).win 2).index t = ![1 + t.val / 2, t.val % 2, 0] := by
  revert t; unfold cfgM; rw [adm_eq]; exact idx2A
theorem cover : ((cfgM m hO).win 2).CoversWhere (fun β => 1 ≤ β (0 : Fin 3)) := by
  unfold cfgM; rw [adm_eq]; exact coverA

/-- The core's own gradient of the four chips' rows, and its partner's of this core's half of the rows. -/
abbrev own : S4x512x2048.Idx → EReal := m (((0 : Dev nD).tc : Thread nD τ).loc main_arg0)
abbrev recv : S4x256x2048.Idx → EReal := m (((0 : Dev nD).tc : Thread nD τ).loc main_arg1)

variable (t : Fin (cfgM m hO).N) (b : Fin 128) (k : Fin 2048)

/-- The chip and the row of row `b` of tile `t`. -/
def chip : Fin 4 := ⟨1 + t.val / 2, by have : t.val < 6 := t.isLt; omega⟩
def row : Fin 256 := ⟨t.val % 2 * 128 + b.val, by omega⟩

theorem blk0 : iblk m hO 0 0 t (ix3 0 b k) = own m (ix3 (chip m hO t) ⟨(row m hO t b).val, by omega⟩ k) := by
  blk_ext [Gen.iblk, Gen.V, idx0 m hO t]
  all_goals rfl
theorem blk1 : iblk m hO 0 1 t (ix3 0 b k) = recv m (ix3 (chip m hO t) (row m hO t b) k) := by
  blk_ext [Gen.iblk, Gen.V, idx1 m hO t]
  all_goals rfl

/-- The other chips' rows hold the sum; this chip's are left as they are. -/
def res : S4x256x2048.Idx → EReal := fun i =>
  if 1 ≤ (i 0).val then own m (ix3 (i 0) ⟨(i 1).val, by have : (i 1).val < 256 := (i 1).isLt; omega⟩ (i 2)) + recv m i else V m 0 main_v0 i

theorem out : outsAt0 m hO 0 t (ix3 0 b k) = res m (ix3 (chip m hO t) (row m hO t b) k) := by
  refine (tile _ _ _ _ _ _ _ _ _ _ _ _).trans ?_
  refine Eq.trans (b := own m (ix3 (chip m hO t) ⟨(row m hO t b).val, by omega⟩ k) + recv m (ix3 (chip m hO t) (row m hO t b) k)) ?_ (if_pos (Nat.le_add_right 1 _)).symm
  exact congrArg₂ (fun x y : EReal => x + y) (blk0 m hO t b k) (blk1 m hO t b k)

theorem arr : (dats m hO 0 (0 : Dev nD)).arrAt 2 (cfgM m hO).N = res m := by
  refine (dats m hO 0 (0 : Dev nD)).arrAt_eq_of_coversWhere_of_agree 2 _ (fun β => 1 ≤ β (0 : Fin 3)) (cover m hO) (fun t hf (y : S1x128x2048.Idx) => ?_) (fun j hj => ?_)
  · obtain ⟨a, b, k, rfl⟩ : ∃ (a : Fin 1) (b : Fin 128) (k : Fin 2048), y = ix3 a b k := ⟨y 0, y 1, y 2, ValueIdx.eq_ix3 y⟩
    obtain rfl : a = 0 := Subsingleton.elim _ _
    refine ((congrFun (after0_2 m hO 0 t) _).trans (out m hO t b k)).trans (congrArg (res m) ?_)
    blk_ext [idx2 m hO t]
    all_goals rfl
  · have h : ¬ 1 ≤ (j (0 : Fin 3)).val := by
      intro h
      apply hj
      show 1 ≤ (j (0 : Fin 3)).val / 1
      exact le_of_le_of_eq h (Nat.div_one _).symm
    exact (if_neg h).symm

/-- The host's line after the kernel drops this chip's rows. -/
theorem tail_eq : Pipeline.afterTail pcfgs (fun _ => adm m hO) (dats m hO) 0 (V0 m) [hostOps1] (0 : Dev nD) main_v1
    = extractStridedSlice S3x256x2048 ![1, 0, 0] (res m) slices_S4x256x2048_S3x256x2048_1_0_0 := by
  rw [← arr m hO, ← Pipeline.withArrays_arr spec0 winFacts0.arr_inj (0 : Dev nD) (V0 m (0 : Dev nD)) (fun w => (dats m hO 0 (0 : Dev nD)).arrAt w (cfgM m hO).N) 2]
  unfold Pipeline.afterTail
  after_results_simp
  rfl

open Cert.Reference28Ideal.Read in
/-- The reference's result is those rows of the sum. -/
theorem ref_eq : val_main_v3 (F := Ideal) (own m) (recv m) = extractStridedSlice S3x256x2048 ![1, 0, 0] (res m) slices_S4x256x2048_S3x256x2048_1_0_0 := by
  funext i
  refine Eq.trans ?_ (if_pos (Nat.le_add_right 1 _)).symm
  exact congrArg₂ (fun x y : EReal => x + y) (at_coords (own m) _ _ rfl rfl rfl) (at_coords (recv m) _ _ rfl rfl rfl)

open Cert.Reference28Ideal.Read in
theorem algebraic : Cert.algebraic_Kernel28Ideal_Reference28Ideal (hKernel28Ideal := Cert.Kernel28Ideal.Gen.facts) (hReference28Ideal := Cert.Reference28Ideal.Gen.facts) := by
  intro m g m' g' _ hargs
  obtain ⟨h0, h1⟩ := hargs 0
  refine ⟨fun _ => val_main_v3 (F := Ideal) (own m) (recv m), ?_, ?_⟩
  · refine (θ_run _ _ _).mono (fun r h c => ?_) (θ_run_and (run_main m g (ok m)) (unchanged m g (ok m)))
    obtain rfl : c = 0 := Subsingleton.elim _ _
    exact ⟨(((h.1 0).2 main_v1 (Pipeline.mem_restRefs_of main_v1 (by decide) (show ∀ w : Fin 3, (spec0 w).arr.view.ref ≠ main_v1 by decide))).trans (tail_eq m (ok m))).trans (ref_eq m).symm, h.2 0⟩
  · refine (θ_run _ _ _).mono (fun r h c => ?_) (Cert.Reference28Ideal.Value.run (F := Ideal) m' g')
    obtain rfl : c = 0 := Subsingleton.elim _ _
    obtain ⟨r0, k⟩ := h 0
    refine ⟨(r0.trans (val_main_v3_eq _ _)).trans ?_, k⟩
    rw [h0, h1]

end Cert.SumPair

end
-- ==== Proof.SumFinal.lean ====
/- The last sum of the output product's weight gradient: the core's own, its partner's and the three other chips' sums. -/
module

public import proofs.«01_k».proof.Defs
public import proofs.«01_k».proof.Proof.SumSmall
public import proofs.«01_k».proof.Proof.Gen.Kernel29Ideal.Frame
public import proofs.«01_k».proof.Proof.Gen.Reference29Ideal.Read
public import proofs.«01_k».proof.Proof.Gen.Reference29Ideal.Run
public import Idealize.ShloMosaic.Lib.Pointwise
public import Idealize.ShloMosaic.Lib.Pipeline.Value
public import Idealize.ShloMosaic.Lib.Pipeline.ValueKit.Partial
public import Idealize.ShloMosaic.Lib.Pipeline.ValueKit.Acc

@[expose] public section

set_option maxRecDepth 16384

noncomputable section

namespace Cert.SumFinal

open Idealize.ShloMosaic Idealize.ShloMosaic.TcCoe Idealize.SL.Sem
open Cert.SumSmall (at_coords)
open Cert.Kernel29Ideal Cert.Kernel29Ideal.Gen

section

variable {F : FTy → Type} [FloatOps F]

/-- The table of places: this core, this chip and the other chips. -/
def T : pre0.Contents (Elt F) := fun
  | 0 => fun i => lit0 (S5.rowMajor i)
  | ⟨_ + 1, h⟩ => absurd h (Nat.not_lt.2 (Nat.le_add_left _ _))

/-- Every block that the table names lies inside its array. -/
theorem okT : ok0 (F := F) T := of_decide_eq_true (by sl_kernel_rfl)

variable (m : (ℓ : Loc nD τ sig) → Buf (Elt F) ℓ)

/-- The table that the kernel finds is the host's constant. -/
theorem tbl_eq : tbl m = T := by
  funext j
  obtain rfl : j = 0 := Subsingleton.elim _ _
  rfl

theorem ok : Ok m := by
  show ok0 (tbl m)
  rw [tbl_eq]
  exact okT

end

section

variable (c : Dev nD) (i : grid0.Coords) (arg2 : Memref sig .tc .vmem S1x128x2048 .f32) (harg2 : arg2.IsWhole) (arg3 : Memref sig .tc .vmem S1x128x2048 .f32) (harg3 : arg3.IsWhole) (arg4 : Memref sig .tc .vmem S1x128x2048 .bf16) (harg4 : arg4.IsWhole) (arg5 : Memref sig .tc .vmem S1x128x2048 .bf16) (harg5 : arg5.IsWhole) (arg6 : Memref sig .tc .vmem S1x128x2048 .bf16) (harg6 : arg6.IsWhole)
    (arg7 : Memref sig .tc .vmem S128x2048 .f32) (harg7 : arg7.IsWhole)
    (x0 x1 : Vec Ideal S1x128x2048 .f32) (x2 x3 x4 : Vec Ideal S1x128x2048 .bf16) (xt0 : TbBuf0 (F := Ideal) c tbM0_0)
    (b : Fin 128) (k : Fin 2048)

theorem pay : k0_pay1 (F := Ideal) x0 x1 x2 x3 x4 (ix2 b k) = x0 (ix3 0 b k) + x1 (ix3 0 b k) + x2 (ix3 0 b k) + x3 (ix3 0 b k) + x4 (ix3 0 b k) := by
  pointwise [k0_pay1]

theorem tile : out0_A_5 (F := Ideal) c i arg2 harg2 arg3 harg3 arg4 harg4 arg5 harg5 arg6 harg6 arg7 harg7 x0 x1 x2 x3 x4 xt0 (ix2 b k)
    = x0 (ix3 0 b k) + x1 (ix3 0 b k) + x2 (ix3 0 b k) + x3 (ix3 0 b k) + x4 (ix3 0 b k) :=
  Eq.trans (b := k0_pay1 (F := Ideal) x0 x1 x2 x3 x4 (ix2 b k)) (by frame_out) (pay x0 x1 x2 x3 x4 b k)

end

/-- The admissible table of places. -/
def A : (pcfg0 (F := Ideal)).Adm := ⟨T, okT⟩

theorem idx0A : ∀ t : Fin grid0.N, ((cfg0 A).win 0).index t = ![0, t.val, 0] := by decide +kernel
theorem idx1A : ∀ t : Fin grid0.N, ((cfg0 A).win 1).index t = ![0, t.val, 0] := by decide +kernel
theorem idx2A : ∀ t : Fin grid0.N, ((cfg0 A).win 2).index t = ![1, t.val, 0] := by decide +kernel
theorem idx3A : ∀ t : Fin grid0.N, ((cfg0 A).win 3).index t = ![2, t.val, 0] := by decide +kernel
theorem idx4A : ∀ t : Fin grid0.N, ((cfg0 A).win 4).index t = ![3, t.val, 0] := by decide +kernel
theorem idx5A : ∀ t : Fin grid0.N, ((cfg0 A).win 5).index t = ![t.val, 0] := by decide +kernel
theorem coverA : ((cfg0 A).win 5).CoversWhere (fun β => β (0 : Fin 2) < 2) := by decide +kernel

variable (m : (ℓ : Loc nD τ sig) → Buf (Elt Ideal) ℓ) (hO : Ok m)

theorem adm_eq : adm m hO = A := Subtype.ext (tbl_eq m)

theorem idx0 (t : Fin (cfgM m hO).N) : ((cfgM m hO).win 0).index t = ![0, t.val, 0] := by
  revert t; unfold cfgM; rw [adm_eq]; exact idx0A
theorem idx1 (t : Fin (cfgM m hO).N) : ((cfgM m hO).win 1).index t = ![0, t.val, 0] := by
  revert t; unfold cfgM; rw [adm_eq]; exact idx1A
theorem idx2 (t : Fin (cfgM m hO).N) : ((cfgM m hO).win 2).index t = ![1, t.val, 0] := by
  revert t; unfold cfgM; rw [adm_eq]; exact idx2A
theorem idx3 (t : Fin (cfgM m hO).N) : ((cfgM m hO).win 3).index t = ![2, t.val, 0] := by
  revert t; unfold cfgM; rw [adm_eq]; exact idx3A
theorem idx4 (t : Fin (cfgM m hO).N) : ((cfgM m hO).win 4).index t = ![3, t.val, 0] := by
  revert t; unfold cfgM; rw [adm_eq]; exact idx4A
theorem idx5 (t : Fin (cfgM m hO).N) : ((cfgM m hO).win 5).index t = ![t.val, 0] := by
  revert t; unfold cfgM; rw [adm_eq]; exact idx5A
theorem cover : ((cfgM m hO).win 5).CoversWhere (fun β => β (0 : Fin 2) < 2) := by
  unfold cfgM; rw [adm_eq]; exact coverA

/-- The core's own gradient, its partner's, and the other chips' sums of the two. -/
abbrev own : S4x512x2048.Idx → EReal := m (((0 : Dev nD).tc : Thread nD τ).loc main_arg0)
abbrev recv : S4x256x2048.Idx → EReal := m (((0 : Dev nD).tc : Thread nD τ).loc main_arg1)
abbrev sums : S4x256x2048.Idx → EReal := m (((0 : Dev nD).tc : Thread nD τ).loc main_arg2)

variable (t : Fin (cfgM m hO).N) (b : Fin 128) (k : Fin 2048)

/-- Row `b` of tile `t`. -/
def row : Fin 256 := ⟨t.val * 128 + b.val, by have : t.val < 2 := t.isLt; omega⟩

theorem blk0 : iblk m hO 0 0 t (ix3 0 b k) = own m (ix3 0 ⟨(row m hO t b).val, by omega⟩ k) := by
  blk_ext [Gen.iblk, Gen.V, idx0 m hO t]
  all_goals rfl
theorem blk1 : iblk m hO 0 1 t (ix3 0 b k) = recv m (ix3 0 (row m hO t b) k) := by
  blk_ext [Gen.iblk, Gen.V, idx1 m hO t]
  all_goals rfl
theorem blk2 : iblk m hO 0 2 t (ix3 0 b k) = sums m (ix3 1 (row m hO t b) k) := by
  blk_ext [Gen.iblk, Gen.V, idx2 m hO t]
  all_goals rfl
theorem blk3 : iblk m hO 0 3 t (ix3 0 b k) = sums m (ix3 2 (row m hO t b) k) := by
  blk_ext [Gen.iblk, Gen.V, idx3 m hO t]
  all_goals rfl
theorem blk4 : iblk m hO 0 4 t (ix3 0 b k) = sums m (ix3 3 (row m hO t b) k) := by
  blk_ext [Gen.iblk, Gen.V, idx4 m hO t]
  all_goals rfl

/-- One entry of the sum over the chips. -/
def total (r : Fin 256) (k : Fin 2048) : EReal :=
  own m (ix3 0 ⟨r.val, by omega⟩ k) + recv m (ix3 0 r k) + sums m (ix3 1 r k) + sums m (ix3 2 r k) + sums m (ix3 3 r k)

/-- This core's half of the rows holds the sum; the other half is left as it is. -/
def res : S512x2048.Idx → EReal := fun i => if h : (i 0).val < 256 then total m ⟨(i 0).val, h⟩ (i 1) else V m 0 main_v0 i

theorem res_lo (r : Fin 256) (k : Fin 2048) (h : r.val < 512) : res m (ix2 ⟨r.val, h⟩ k) = total m r k := dif_pos r.isLt
theorem res_hi (i : S512x2048.Idx) (h : ¬ (i 0).val < 256) : res m i = V m 0 main_v0 i := dif_neg h

theorem out : outsAt0 m hO 0 t (ix2 b k) = res m (ix2 ⟨(row m hO t b).val, by omega⟩ k) := by
  refine (tile _ _ _ _ _ _ _ _ _ _ _ _ _ _ _ _ _ _ _ _ _ _).trans ?_
  refine Eq.trans (b := total m (row m hO t b) k) ?_ (res_lo m _ k _).symm
  exact congrArg₂ (fun x y : EReal => x + y) (congrArg₂ (fun x y : EReal => x + y) (congrArg₂ (fun x y : EReal => x + y)
    (congrArg₂ (fun x y : EReal => x + y) (blk0 m hO t b k) (blk1 m hO t b k)) (blk2 m hO t b k)) (blk3 m hO t b k)) (blk4 m hO t b k)

theorem arr : (dats m hO 0 (0 : Dev nD)).arrAt 5 (cfgM m hO).N = res m := by
  refine (dats m hO 0 (0 : Dev nD)).arrAt_eq_of_coversWhere_of_agree 5 _ (fun β => β (0 : Fin 2) < 2) (cover m hO) (fun t hf (y : S128x2048.Idx) => ?_) (fun j hj => ?_)
  · obtain ⟨b, k, rfl⟩ : ∃ (b : Fin 128) (k : Fin 2048), y = ix2 b k := ⟨y 0, y 1, ValueIdx.eq_ix2 y⟩
    refine ((congrFun (after0_5 m hO 0 t) _).trans (out m hO t b k)).trans (congrArg (res m) ?_)
    blk_ext [idx5 m hO t]
    all_goals rfl
  · have h : ¬ (j (0 : Fin 2)).val < 256 := by
      intro h
      apply hj
      show (j (0 : Fin 2)).val / 128 < 2
      omega
    exact (res_hi m _ h).symm

/-- The host's line after the kernel keeps this core's half of the rows. -/
theorem tail_eq : Pipeline.afterTail pcfgs (fun _ => adm m hO) (dats m hO) 0 (V0 m) [hostOps1] (0 : Dev nD) main_v1
    = extractStridedSlice S256x2048 ![0, 0] (res m) slices_S512x2048_S256x2048_0_0 := by
  rw [← arr m hO, ← Pipeline.Dat.withArrays_arrAt (dats m hO 0 (0 : Dev nD)) sharedIn0 (V0 m (0 : Dev nD)) (A_eq m hO (0 : Dev nD)) 5]
  unfold Pipeline.afterTail
  after_results_simp
  rfl

/-- An entry of the kernel's result. -/
theorem tail_at (i : S256x2048.Idx) : extractStridedSlice S256x2048 ![0, 0] (res m) slices_S512x2048_S256x2048_0_0 i = total m (i 0) (i 1) := by
  obtain ⟨r, k, rfl⟩ : ∃ (r : Fin 256) (k : Fin 2048), i = ix2 r k := ⟨i 0, i 1, ValueIdx.eq_ix2 i⟩
  pointwise []
  exact res_lo m r k _

open Cert.Reference29Ideal.Read in
/-- The reference adds the same five terms, the chips' sums first. -/
theorem ref_eq : val_main_v8 (F := Ideal) (own m) (recv m) (sums m) = extractStridedSlice S256x2048 ![0, 0] (res m) slices_S512x2048_S256x2048_0_0 := by
  funext i
  rw [tail_at, val_main_v8_apply, val_main_v7_apply, Fin.sum_univ_three]
  have hz : val_main_cst (F := Ideal) (Shape.Idx.first Cert.Reference29Ideal.Gen.facts.h_S_) = 0 := Ideal.ofBits_zero .f32
  obtain ⟨r, k, rfl⟩ : ∃ (r : Fin 256) (k : Fin 2048), i = ix2 r k := ⟨i 0, i 1, ValueIdx.eq_ix2 i⟩
  have e4 : val_main_v4 (F := Ideal) (own m) (recv m) (ix2 r k) = own m (ix3 0 ⟨r.val, by omega⟩ k) + recv m (ix3 0 r k) := by
    pointwise [val_main_v4, val_main_v3, val_main_v2, val_main_v1, val_main_v0]
  have e6 (j : Fin 3) : val_main_v6 (F := Ideal) (sums m) (idx_main_v7 (ix2 r k) j) = sums m (ix3 ⟨1 + j.val, by omega⟩ r k) :=
    at_coords (sums m) _ _ rfl (Nat.zero_add _) (Nat.zero_add _)
  rw [hz, zero_add, e4, e6, e6, e6]
  have key (a b c d e : EReal) : a + b + (c + d + e) = a + b + c + d + e := by rw [← add_assoc, ← add_assoc]
  exact key _ _ _ _ _

open Cert.Reference29Ideal.Read in
theorem algebraic : Cert.algebraic_Kernel29Ideal_Reference29Ideal (hKernel29Ideal := Cert.Kernel29Ideal.Gen.facts) (hReference29Ideal := Cert.Reference29Ideal.Gen.facts) := by
  intro m g m' g' _ hargs
  obtain ⟨h0, h1, h2⟩ := hargs 0
  refine ⟨fun _ => val_main_v8 (F := Ideal) (own m) (recv m) (sums m), ?_, ?_⟩
  · refine (θ_run _ _ _).mono (fun r h c => ?_) (θ_run_and (run_main m g (ok m)) (unchanged m g (ok m)))
    obtain rfl : c = 0 := Subsingleton.elim _ _
    exact ⟨(((h.1 0).2 main_v1 (Pipeline.mem_restRefs_of main_v1 (by decide) (show ∀ w : Fin 6, (spec0 w).arr.view.ref ≠ main_v1 by decide))).trans (tail_eq m (ok m))).trans (ref_eq m).symm, h.2 0⟩
  · refine (θ_run _ _ _).mono (fun r h c => ?_) (Cert.Reference29Ideal.Value.run (F := Ideal) m' g')
    obtain rfl : c = 0 := Subsingleton.elim _ _
    obtain ⟨r0, k⟩ := h 0
    refine ⟨(r0.trans (val_main_v8_eq _ _ _)).trans ?_, k⟩
    rw [h0, h1, h2]

end Cert.SumFinal

end
-- ==== Proof.SumPairUp.lean ====
/- The sum of one core's half of the gradient of the up product's weight and its partner's, for the other chips. -/
module

public import proofs.«01_k».proof.Defs
public import proofs.«01_k».proof.Proof.SumSmall
public import proofs.«01_k».proof.Proof.Gen.Kernel30Ideal.Frame
public import proofs.«01_k».proof.Proof.Gen.Reference30Ideal.Read
public import proofs.«01_k».proof.Proof.Gen.Reference30Ideal.Run
public import Idealize.ShloMosaic.Lib.Pointwise
public import Idealize.ShloMosaic.Lib.Pipeline.Value
public import Idealize.ShloMosaic.Lib.Pipeline.ValueKit.Partial
public import Idealize.ShloMosaic.Lib.Pipeline.ValueKit.Acc

@[expose] public section

set_option maxRecDepth 16384

noncomputable section

namespace Cert.SumPairUp

open Idealize.ShloMosaic Idealize.ShloMosaic.TcCoe Idealize.SL.Sem
open Cert.SumSmall (at_coords)
open Cert.Kernel30Ideal Cert.Kernel30Ideal.Gen

section

variable {F : FTy → Type} [FloatOps F]

/-- The table of places: this core, this chip and the other chips. -/
def T : pre0.Contents (Elt F) := fun
  | 0 => fun i => lit0 (S5.rowMajor i)
  | ⟨_ + 1, h⟩ => absurd h (Nat.not_lt.2 (Nat.le_add_left _ _))

/-- Every block that the table names lies inside its array. -/
theorem okT : ok0 (F := F) T := of_decide_eq_true (by sl_kernel_rfl)

variable (m : (ℓ : Loc nD τ sig) → Buf (Elt F) ℓ)

/-- The table that the kernel finds is the host's constant. -/
theorem tbl_eq : tbl m = T := by
  funext j
  obtain rfl : j = 0 := Subsingleton.elim _ _
  rfl

theorem ok : Ok m := by
  show ok0 (tbl m)
  rw [tbl_eq]
  exact okT

end

section

variable (c : Dev nD) (i : grid0.Coords) (arg3 : Memref sig .tc .vmem S1x128x2816 .f32) (harg3 : arg3.IsWhole) (arg4 : Memref sig .tc .vmem S1x128x2816 .f32) (harg4 : arg4.IsWhole) (arg5 : Memref sig .tc .vmem S1x128x2816 .bf16) (harg5 : arg5.IsWhole)
    (x0 : Vec Ideal S1x128x2816 .f32) (x1 : Vec Ideal S1x128x2816 .f32) (xt0 : TbBuf0 (F := Ideal) c tbM0_0)

theorem pay (y : S1x128x2816.Idx) : k0_pay1 (F := Ideal) x0 x1 y = x0 y + x1 y := by
  obtain ⟨a, b, k, rfl⟩ : ∃ (a : Fin 1) (b : Fin 128) (k : Fin 2816), y = ix3 a b k := ⟨y 0, y 1, y 2, ValueIdx.eq_ix3 y⟩
  obtain rfl : a = 0 := Subsingleton.elim _ _
  pointwise [k0_pay1]

theorem tile (y : S1x128x2816.Idx) : out0_A_2 (F := Ideal) c i arg3 harg3 arg4 harg4 arg5 harg5 x0 x1 xt0 y = x0 y + x1 y :=
  Eq.trans (b := k0_pay1 (F := Ideal) x0 x1 y) (by frame_out) (pay x0 x1 y)

end

/-- The admissible table of places. -/
def A : (pcfg0 (F := Ideal)).Adm := ⟨T, okT⟩

theorem idx0A : ∀ t : Fin grid0.N, ((cfg0 A).win 0).index t = ![1 + t.val / 8, t.val % 8, 0] := by decide +kernel
theorem idx1A : ∀ t : Fin grid0.N, ((cfg0 A).win 1).index t = ![1 + t.val / 8, t.val % 8, 0] := by decide +kernel
theorem idx2A : ∀ t : Fin grid0.N, ((cfg0 A).win 2).index t = ![1 + t.val / 8, t.val % 8, 0] := by decide +kernel
theorem coverA : ((cfg0 A).win 2).CoversWhere (fun β => 1 ≤ β (0 : Fin 3)) := by decide +kernel

variable (m : (ℓ : Loc nD τ sig) → Buf (Elt Ideal) ℓ) (hO : Ok m)

theorem adm_eq : adm m hO = A := Subtype.ext (tbl_eq m)

theorem idx0 (t : Fin (cfgM m hO).N) : ((cfgM m hO).win 0).index t = ![1 + t.val / 8, t.val % 8, 0] := by
  revert t; unfold cfgM; rw [adm_eq]; exact idx0A
theorem idx1 (t : Fin (cfgM m hO).N) : ((cfgM m hO).win 1).index t = ![1 + t.val / 8, t.val % 8, 0] := by
  revert t; unfold cfgM; rw [adm_eq]; exact idx1A
theorem idx2 (t : Fin (cfgM m hO).N) : ((cfgM m hO).win 2).index t = ![1 + t.val / 8, t.val % 8, 0] := by
  revert t; unfold cfgM; rw [adm_eq]; exact idx2A
theorem cover : ((cfgM m hO).win 2).CoversWhere (fun β => 1 ≤ β (0 : Fin 3)) := by
  unfold cfgM; rw [adm_eq]; exact coverA

/-- The core's own gradient of the four chips' rows, and its partner's of this core's half of the rows. -/
abbrev own : S4x2048x2816.Idx → EReal := m (((0 : Dev nD).tc : Thread nD τ).loc main_arg0)
abbrev recv : S4x1024x2816.Idx → EReal := m (((0 : Dev nD).tc : Thread nD τ).loc main_arg1)

variable (t : Fin (cfgM m hO).N) (b : Fin 128) (k : Fin 2816)

/-- The chip and the row of row `b` of tile `t`. -/
def chip : Fin 4 := ⟨1 + t.val / 8, by have : t.val < 24 := t.isLt; omega⟩
def row : Fin 1024 := ⟨t.val % 8 * 128 + b.val, by omega⟩

theorem blk0 : iblk m hO 0 0 t (ix3 0 b k) = own m (ix3 (chip m hO t) ⟨(row m hO t b).val, by omega⟩ k) := by
  blk_ext [Gen.iblk, Gen.V, idx0 m hO t]
  all_goals rfl
theorem blk1 : iblk m hO 0 1 t (ix3 0 b k) = recv m (ix3 (chip m hO t) (row m hO t b) k) := by
  blk_ext [Gen.iblk, Gen.V, idx1 m hO t]
  all_goals rfl

/-- The other chips' rows hold the sum; this chip's are left as they are. -/
def res : S4x1024x2816.Idx → EReal := fun i =>
  if 1 ≤ (i 0).val then own m (ix3 (i 0) ⟨(i 1).val, by have : (i 1).val < 1024 := (i 1).isLt; omega⟩ (i 2)) + recv m i else V m 0 main_v0 i

theorem out : outsAt0 m hO 0 t (ix3 0 b k) = res m (ix3 (chip m hO t) (row m hO t b) k) := by
  refine (tile _ _ _ _ _ _ _ _ _ _ _ _).trans ?_
  refine Eq.trans (b := own m (ix3 (chip m hO t) ⟨(row m hO t b).val, by omega⟩ k) + recv m (ix3 (chip m hO t) (row m hO t b) k)) ?_ (if_pos (Nat.le_add_right 1 _)).symm
  exact congrArg₂ (fun x y : EReal => x + y) (blk0 m hO t b k) (blk1 m hO t b k)

theorem arr : (dats m hO 0 (0 : Dev nD)).arrAt 2 (cfgM m hO).N = res m := by
  refine (dats m hO 0 (0 : Dev nD)).arrAt_eq_of_coversWhere_of_agree 2 _ (fun β => 1 ≤ β (0 : Fin 3)) (cover m hO) (fun t hf (y : S1x128x2816.Idx) => ?_) (fun j hj => ?_)
  · obtain ⟨a, b, k, rfl⟩ : ∃ (a : Fin 1) (b : Fin 128) (k : Fin 2816), y = ix3 a b k := ⟨y 0, y 1, y 2, ValueIdx.eq_ix3 y⟩
    obtain rfl : a = 0 := Subsingleton.elim _ _
    refine ((congrFun (after0_2 m hO 0 t) _).trans (out m hO t b k)).trans (congrArg (res m) ?_)
    blk_ext [idx2 m hO t]
    all_goals rfl
  · have h : ¬ 1 ≤ (j (0 : Fin 3)).val := by
      intro h
      apply hj
      show 1 ≤ (j (0 : Fin 3)).val / 1
      exact le_of_le_of_eq h (Nat.div_one _).symm
    exact (if_neg h).symm

/-- The host's line after the kernel drops this chip's rows. -/
theorem tail_eq : Pipeline.afterTail pcfgs (fun _ => adm m hO) (dats m hO) 0 (V0 m) [hostOps1] (0 : Dev nD) main_v1
    = extractStridedSlice S3x1024x2816 ![1, 0, 0] (res m) slices_S4x1024x2816_S3x1024x2816_1_0_0 := by
  rw [← arr m hO, ← Pipeline.withArrays_arr spec0 winFacts0.arr_inj (0 : Dev nD) (V0 m (0 : Dev nD)) (fun w => (dats m hO 0 (0 : Dev nD)).arrAt w (cfgM m hO).N) 2]
  unfold Pipeline.afterTail
  after_results_simp
  rfl

open Cert.Reference30Ideal.Read in
/-- The reference's result is those rows of the sum. -/
theorem ref_eq : val_main_v3 (F := Ideal) (own m) (recv m) = extractStridedSlice S3x1024x2816 ![1, 0, 0] (res m) slices_S4x1024x2816_S3x1024x2816_1_0_0 := by
  funext i
  refine Eq.trans ?_ (if_pos (Nat.le_add_right 1 _)).symm
  exact congrArg₂ (fun x y : EReal => x + y) (at_coords (own m) _ _ rfl rfl rfl) (at_coords (recv m) _ _ rfl rfl rfl)

open Cert.Reference30Ideal.Read in
theorem algebraic : Cert.algebraic_Kernel30Ideal_Reference30Ideal (hKernel30Ideal := Cert.Kernel30Ideal.Gen.facts) (hReference30Ideal := Cert.Reference30Ideal.Gen.facts) := by
  intro m g m' g' _ hargs
  obtain ⟨h0, h1⟩ := hargs 0
  refine ⟨fun _ => val_main_v3 (F := Ideal) (own m) (recv m), ?_, ?_⟩
  · refine (θ_run _ _ _).mono (fun r h c => ?_) (θ_run_and (run_main m g (ok m)) (unchanged m g (ok m)))
    obtain rfl : c = 0 := Subsingleton.elim _ _
    exact ⟨(((h.1 0).2 main_v1 (Pipeline.mem_restRefs_of main_v1 (by decide) (show ∀ w : Fin 3, (spec0 w).arr.view.ref ≠ main_v1 by decide))).trans (tail_eq m (ok m))).trans (ref_eq m).symm, h.2 0⟩
  · refine (θ_run _ _ _).mono (fun r h c => ?_) (Cert.Reference30Ideal.Value.run (F := Ideal) m' g')
    obtain rfl : c = 0 := Subsingleton.elim _ _
    obtain ⟨r0, k⟩ := h 0
    refine ⟨(r0.trans (val_main_v3_eq _ _)).trans ?_, k⟩
    rw [h0, h1]

end Cert.SumPairUp

end
-- ==== Proof.SumFinalUp.lean ====
/- The last sum of the up product's weight gradient: the core's own, its partner's and the three other chips' sums. -/
module

public import proofs.«01_k».proof.Defs
public import proofs.«01_k».proof.Proof.SumSmall
public import proofs.«01_k».proof.Proof.Gen.Kernel31Ideal.Frame
public import proofs.«01_k».proof.Proof.Gen.Reference31Ideal.Read
public import proofs.«01_k».proof.Proof.Gen.Reference31Ideal.Run
public import Idealize.ShloMosaic.Lib.Pointwise
public import Idealize.ShloMosaic.Lib.Pipeline.Value
public import Idealize.ShloMosaic.Lib.Pipeline.ValueKit.Partial
public import Idealize.ShloMosaic.Lib.Pipeline.ValueKit.Acc

@[expose] public section

set_option maxRecDepth 16384

noncomputable section

namespace Cert.SumFinalUp

open Idealize.ShloMosaic Idealize.ShloMosaic.TcCoe Idealize.SL.Sem
open Cert.SumSmall (at_coords)
open Cert.Kernel31Ideal Cert.Kernel31Ideal.Gen

section

variable {F : FTy → Type} [FloatOps F]

/-- The table of places: this core, this chip and the other chips. -/
def T : pre0.Contents (Elt F) := fun
  | 0 => fun i => lit0 (S5.rowMajor i)
  | ⟨_ + 1, h⟩ => absurd h (Nat.not_lt.2 (Nat.le_add_left _ _))

/-- Every block that the table names lies inside its array. -/
theorem okT : ok0 (F := F) T := of_decide_eq_true (by sl_kernel_rfl)

variable (m : (ℓ : Loc nD τ sig) → Buf (Elt F) ℓ)

/-- The table that the kernel finds is the host's constant. -/
theorem tbl_eq : tbl m = T := by
  funext j
  obtain rfl : j = 0 := Subsingleton.elim _ _
  rfl

theorem ok : Ok m := by
  show ok0 (tbl m)
  rw [tbl_eq]
  exact okT

end

section

variable (c : Dev nD) (i : grid0.Coords) (arg2 : Memref sig .tc .vmem S1x128x2816 .f32) (harg2 : arg2.IsWhole) (arg3 : Memref sig .tc .vmem S1x128x2816 .f32) (harg3 : arg3.IsWhole) (arg4 : Memref sig .tc .vmem S1x128x2816 .bf16) (harg4 : arg4.IsWhole) (arg5 : Memref sig .tc .vmem S1x128x2816 .bf16) (harg5 : arg5.IsWhole) (arg6 : Memref sig .tc .vmem S1x128x2816 .bf16) (harg6 : arg6.IsWhole)
    (arg7 : Memref sig .tc .vmem S128x2816 .f32) (harg7 : arg7.IsWhole)
    (x0 x1 : Vec Ideal S1x128x2816 .f32) (x2 x3 x4 : Vec Ideal S1x128x2816 .bf16) (xt0 : TbBuf0 (F := Ideal) c tbM0_0)
    (b : Fin 128) (k : Fin 2816)

theorem pay : k0_pay1 (F := Ideal) x0 x1 x2 x3 x4 (ix2 b k) = x0 (ix3 0 b k) + x1 (ix3 0 b k) + x2 (ix3 0 b k) + x3 (ix3 0 b k) + x4 (ix3 0 b k) := by
  pointwise [k0_pay1]

theorem tile : out0_A_5 (F := Ideal) c i arg2 harg2 arg3 harg3 arg4 harg4 arg5 harg5 arg6 harg6 arg7 harg7 x0 x1 x2 x3 x4 xt0 (ix2 b k)
    = x0 (ix3 0 b k) + x1 (ix3 0 b k) + x2 (ix3 0 b k) + x3 (ix3 0 b k) + x4 (ix3 0 b k) :=
  Eq.trans (b := k0_pay1 (F := Ideal) x0 x1 x2 x3 x4 (ix2 b k)) (by frame_out) (pay x0 x1 x2 x3 x4 b k)

end

/-- The admissible table of places. -/
def A : (pcfg0 (F := Ideal)).Adm := ⟨T, okT⟩

theorem idx0A : ∀ t : Fin grid0.N, ((cfg0 A).win 0).index t = ![0, t.val, 0] := by decide +kernel
theorem idx1A : ∀ t : Fin grid0.N, ((cfg0 A).win 1).index t = ![0, t.val, 0] := by decide +kernel
theorem idx2A : ∀ t : Fin grid0.N, ((cfg0 A).win 2).index t = ![1, t.val, 0] := by decide +kernel
theorem idx3A : ∀ t : Fin grid0.N, ((cfg0 A).win 3).index t = ![2, t.val, 0] := by decide +kernel
theorem idx4A : ∀ t : Fin grid0.N, ((cfg0 A).win 4).index t = ![3, t.val, 0] := by decide +kernel
theorem idx5A : ∀ t : Fin grid0.N, ((cfg0 A).win 5).index t = ![t.val, 0] := by decide +kernel
theorem coverA : ((cfg0 A).win 5).CoversWhere (fun β => β (0 : Fin 2) < 8) := by decide +kernel

variable (m : (ℓ : Loc nD τ sig) → Buf (Elt Ideal) ℓ) (hO : Ok m)

theorem adm_eq : adm m hO = A := Subtype.ext (tbl_eq m)

theorem idx0 (t : Fin (cfgM m hO).N) : ((cfgM m hO).win 0).index t = ![0, t.val, 0] := by
  revert t; unfold cfgM; rw [adm_eq]; exact idx0A
theorem idx1 (t : Fin (cfgM m hO).N) : ((cfgM m hO).win 1).index t = ![0, t.val, 0] := by
  revert t; unfold cfgM; rw [adm_eq]; exact idx1A
theorem idx2 (t : Fin (cfgM m hO).N) : ((cfgM m hO).win 2).index t = ![1, t.val, 0] := by
  revert t; unfold cfgM; rw [adm_eq]; exact idx2A
theorem idx3 (t : Fin (cfgM m hO).N) : ((cfgM m hO).win 3).index t = ![2, t.val, 0] := by
  revert t; unfold cfgM; rw [adm_eq]; exact idx3A
theorem idx4 (t : Fin (cfgM m hO).N) : ((cfgM m hO).win 4).index t = ![3, t.val, 0] := by
  revert t; unfold cfgM; rw [adm_eq]; exact idx4A
theorem idx5 (t : Fin (cfgM m hO).N) : ((cfgM m hO).win 5).index t = ![t.val, 0] := by
  revert t; unfold cfgM; rw [adm_eq]; exact idx5A
theorem cover : ((cfgM m hO).win 5).CoversWhere (fun β => β (0 : Fin 2) < 8) := by
  unfold cfgM; rw [adm_eq]; exact coverA

/-- The core's own gradient, its partner's, and the other chips' sums of the two. -/
abbrev own : S4x2048x2816.Idx → EReal := m (((0 : Dev nD).tc : Thread nD τ).loc main_arg0)
abbrev recv : S4x1024x2816.Idx → EReal := m (((0 : Dev nD).tc : Thread nD τ).loc main_arg1)
abbrev sums : S4x1024x2816.Idx → EReal := m (((0 : Dev nD).tc : Thread nD τ).loc main_arg2)

variable (t : Fin (cfgM m hO).N) (b : Fin 128) (k : Fin 2816)

/-- Row `b` of tile `t`. -/
def row : Fin 1024 := ⟨t.val * 128 + b.val, by have : t.val < 8 := t.isLt; omega⟩

theorem blk0 : iblk m hO 0 0 t (ix3 0 b k) = own m (ix3 0 ⟨(row m hO t b).val, by omega⟩ k) := by
  blk_ext [Gen.iblk, Gen.V, idx0 m hO t]
  all_goals rfl
theorem blk1 : iblk m hO 0 1 t (ix3 0 b k) = recv m (ix3 0 (row m hO t b) k) := by
  blk_ext [Gen.iblk, Gen.V, idx1 m hO t]
  all_goals rfl
theorem blk2 : iblk m hO 0 2 t (ix3 0 b k) = sums m (ix3 1 (row m hO t b) k) := by
  blk_ext [Gen.iblk, Gen.V, idx2 m hO t]
  all_goals rfl
theorem blk3 : iblk m hO 0 3 t (ix3 0 b k) = sums m (ix3 2 (row m hO t b) k) := by
  blk_ext [Gen.iblk, Gen.V, idx3 m hO t]
  all_goals rfl
theorem blk4 : iblk m hO 0 4 t (ix3 0 b k) = sums m (ix3 3 (row m hO t b) k) := by
  blk_ext [Gen.iblk, Gen.V, idx4 m hO t]
  all_goals rfl

/-- One entry of the sum over the chips. -/
def total (r : Fin 1024) (k : Fin 2816) : EReal :=
  own m (ix3 0 ⟨r.val, by omega⟩ k) + recv m (ix3 0 r k) + sums m (ix3 1 r k) + sums m (ix3 2 r k) + sums m (ix3 3 r k)

/-- This core's half of the rows holds the sum; the other half is left as it is. -/
def res : S2048x2816.Idx → EReal := fun i => if h : (i 0).val < 1024 then total m ⟨(i 0).val, h⟩ (i 1) else V m 0 main_v0 i

theorem res_lo (r : Fin 1024) (k : Fin 2816) (h : r.val < 2048) : res m (ix2 ⟨r.val, h⟩ k) = total m r k := dif_pos r.isLt
theorem res_hi (i : S2048x2816.Idx) (h : ¬ (i 0).val < 1024) : res m i = V m 0 main_v0 i := dif_neg h

theorem out : outsAt0 m hO 0 t (ix2 b k) = res m (ix2 ⟨(row m hO t b).val, by omega⟩ k) := by
  refine (tile _ _ _ _ _ _ _ _ _ _ _ _ _ _ _ _ _ _ _ _ _ _).trans ?_
  refine Eq.trans (b := total m (row m hO t b) k) ?_ (res_lo m _ k _).symm
  exact congrArg₂ (fun x y : EReal => x + y) (congrArg₂ (fun x y : EReal => x + y) (congrArg₂ (fun x y : EReal => x + y)
    (congrArg₂ (fun x y : EReal => x + y) (blk0 m hO t b k) (blk1 m hO t b k)) (blk2 m hO t b k)) (blk3 m hO t b k)) (blk4 m hO t b k)

theorem arr : (dats m hO 0 (0 : Dev nD)).arrAt 5 (cfgM m hO).N = res m := by
  refine (dats m hO 0 (0 : Dev nD)).arrAt_eq_of_coversWhere_of_agree 5 _ (fun β => β (0 : Fin 2) < 8) (cover m hO) (fun t hf (y : S128x2816.Idx) => ?_) (fun j hj => ?_)
  · obtain ⟨b, k, rfl⟩ : ∃ (b : Fin 128) (k : Fin 2816), y = ix2 b k := ⟨y 0, y 1, ValueIdx.eq_ix2 y⟩
    refine ((congrFun (after0_5 m hO 0 t) _).trans (out m hO t b k)).trans (congrArg (res m) ?_)
    blk_ext [idx5 m hO t]
    all_goals rfl
  · have h : ¬ (j (0 : Fin 2)).val < 1024 := by
      intro h
      apply hj
      show (j (0 : Fin 2)).val / 128 < 8
      omega
    exact (res_hi m _ h).symm

/-- The host's line after the kernel keeps this core's half of the rows. -/
theorem tail_eq : Pipeline.afterTail pcfgs (fun _ => adm m hO) (dats m hO) 0 (V0 m) [hostOps1] (0 : Dev nD) main_v1
    = extractStridedSlice S1024x2816 ![0, 0] (res m) slices_S2048x2816_S1024x2816_0_0 := by
  rw [← arr m hO, ← Pipeline.Dat.withArrays_arrAt (dats m hO 0 (0 : Dev nD)) sharedIn0 (V0 m (0 : Dev nD)) (A_eq m hO (0 : Dev nD)) 5]
  unfold Pipeline.afterTail
  after_results_simp
  rfl

/-- An entry of the kernel's result. -/
theorem tail_at (i : S1024x2816.Idx) : extractStridedSlice S1024x2816 ![0, 0] (res m) slices_S2048x2816_S1024x2816_0_0 i = total m (i 0) (i 1) := by
  obtain ⟨r, k, rfl⟩ : ∃ (r : Fin 1024) (k : Fin 2816), i = ix2 r k := ⟨i 0, i 1, ValueIdx.eq_ix2 i⟩
  pointwise []
  exact res_lo m r k _

open Cert.Reference31Ideal.Read in
/-- The reference adds the same five terms, the chips' sums first. -/
theorem ref_eq : val_main_v8 (F := Ideal) (own m) (recv m) (sums m) = extractStridedSlice S1024x2816 ![0, 0] (res m) slices_S2048x2816_S1024x2816_0_0 := by
  funext i
  rw [tail_at, val_main_v8_apply, val_main_v7_apply, Fin.sum_univ_three]
  have hz : val_main_cst (F := Ideal) (Shape.Idx.first Cert.Reference31Ideal.Gen.facts.h_S_) = 0 := Ideal.ofBits_zero .f32
  obtain ⟨r, k, rfl⟩ : ∃ (r : Fin 1024) (k : Fin 2816), i = ix2 r k := ⟨i 0, i 1, ValueIdx.eq_ix2 i⟩
  have e4 : val_main_v4 (F := Ideal) (own m) (recv m) (ix2 r k) = own m (ix3 0 ⟨r.val, by omega⟩ k) + recv m (ix3 0 r k) := by
    pointwise [val_main_v4, val_main_v3, val_main_v2, val_main_v1, val_main_v0]
  have e6 (j : Fin 3) : val_main_v6 (F := Ideal) (sums m) (idx_main_v7 (ix2 r k) j) = sums m (ix3 ⟨1 + j.val, by omega⟩ r k) :=
    at_coords (sums m) _ _ rfl (Nat.zero_add _) (Nat.zero_add _)
  rw [hz, zero_add, e4, e6, e6, e6]
  have key (a b c d e : EReal) : a + b + (c + d + e) = a + b + c + d + e := by rw [← add_assoc, ← add_assoc]
  exact key _ _ _ _ _

open Cert.Reference31Ideal.Read in
theorem algebraic : Cert.algebraic_Kernel31Ideal_Reference31Ideal (hKernel31Ideal := Cert.Kernel31Ideal.Gen.facts) (hReference31Ideal := Cert.Reference31Ideal.Gen.facts) := by
  intro m g m' g' _ hargs
  obtain ⟨h0, h1, h2⟩ := hargs 0
  refine ⟨fun _ => val_main_v8 (F := Ideal) (own m) (recv m) (sums m), ?_, ?_⟩
  · refine (θ_run _ _ _).mono (fun r h c => ?_) (θ_run_and (run_main m g (ok m)) (unchanged m g (ok m)))
    obtain rfl : c = 0 := Subsingleton.elim _ _
    exact ⟨(((h.1 0).2 main_v1 (Pipeline.mem_restRefs_of main_v1 (by decide) (show ∀ w : Fin 6, (spec0 w).arr.view.ref ≠ main_v1 by decide))).trans (tail_eq m (ok m))).trans (ref_eq m).symm, h.2 0⟩
  · refine (θ_run _ _ _).mono (fun r h c => ?_) (Cert.Reference31Ideal.Value.run (F := Ideal) m' g')
    obtain rfl : c = 0 := Subsingleton.elim _ _
    obtain ⟨r0, k⟩ := h 0
    refine ⟨(r0.trans (val_main_v8_eq _ _ _)).trans ?_, k⟩
    rw [h0, h1, h2]

end Cert.SumFinalUp

end
-- ==== Proof.SumPairDown.lean ====
/- The sum of one core's half of the gradient of the down product's weight and its partner's, for the other chips. -/
module

public import proofs.«01_k».proof.Defs
public import proofs.«01_k».proof.Proof.SumSmall
public import proofs.«01_k».proof.Proof.Gen.Kernel32Ideal.Frame
public import proofs.«01_k».proof.Proof.Gen.Reference32Ideal.Read
public import proofs.«01_k».proof.Proof.Gen.Reference32Ideal.Run
public import Idealize.ShloMosaic.Lib.Pointwise
public import Idealize.ShloMosaic.Lib.Pipeline.Value
public import Idealize.ShloMosaic.Lib.Pipeline.ValueKit.Partial
public import Idealize.ShloMosaic.Lib.Pipeline.ValueKit.Acc

@[expose] public section

set_option maxRecDepth 16384

noncomputable section

namespace Cert.SumPairDown

open Idealize.ShloMosaic Idealize.ShloMosaic.TcCoe Idealize.SL.Sem
open Cert.SumSmall (at_coords)
open Cert.Kernel32Ideal Cert.Kernel32Ideal.Gen

section

variable {F : FTy → Type} [FloatOps F]

/-- The table of places: this core, this chip and the other chips. -/
def T : pre0.Contents (Elt F) := fun
  | 0 => fun i => lit0 (S5.rowMajor i)
  | ⟨_ + 1, h⟩ => absurd h (Nat.not_lt.2 (Nat.le_add_left _ _))

/-- Every block that the table names lies inside its array. -/
theorem okT : ok0 (F := F) T := of_decide_eq_true (by sl_kernel_rfl)

variable (m : (ℓ : Loc nD τ sig) → Buf (Elt F) ℓ)

/-- The table that the kernel finds is the host's constant. -/
theorem tbl_eq : tbl m = T := by
  funext j
  obtain rfl : j = 0 := Subsingleton.elim _ _
  rfl

theorem ok : Ok m := by
  show ok0 (tbl m)
  rw [tbl_eq]
  exact okT

end

section

variable (c : Dev nD) (i : grid0.Coords) (arg3 : Memref sig .tc .vmem S1x64x2048 .f32) (harg3 : arg3.IsWhole) (arg4 : Memref sig .tc .vmem S1x64x2048 .f32) (harg4 : arg4.IsWhole) (arg5 : Memref sig .tc .vmem S1x64x2048 .bf16) (harg5 : arg5.IsWhole)
    (x0 : Vec Ideal S1x64x2048 .f32) (x1 : Vec Ideal S1x64x2048 .f32) (xt0 : TbBuf0 (F := Ideal) c tbM0_0)

theorem pay (y : S1x64x2048.Idx) : k0_pay1 (F := Ideal) x0 x1 y = x0 y + x1 y := by
  obtain ⟨a, b, k, rfl⟩ : ∃ (a : Fin 1) (b : Fin 64) (k : Fin 2048), y = ix3 a b k := ⟨y 0, y 1, y 2, ValueIdx.eq_ix3 y⟩
  obtain rfl : a = 0 := Subsingleton.elim _ _
  pointwise [k0_pay1]

theorem tile (y : S1x64x2048.Idx) : out0_A_2 (F := Ideal) c i arg3 harg3 arg4 harg4 arg5 harg5 x0 x1 xt0 y = x0 y + x1 y :=
  Eq.trans (b := k0_pay1 (F := Ideal) x0 x1 y) (by frame_out) (pay x0 x1 y)

end

/-- The admissible table of places. -/
def A : (pcfg0 (F := Ideal)).Adm := ⟨T, okT⟩

theorem idx0A : ∀ t : Fin grid0.N, ((cfg0 A).win 0).index t = ![1 + t.val / 11, t.val % 11, 0] := by decide +kernel
theorem idx1A : ∀ t : Fin grid0.N, ((cfg0 A).win 1).index t = ![1 + t.val / 11, t.val % 11, 0] := by decide +kernel
theorem idx2A : ∀ t : Fin grid0.N, ((cfg0 A).win 2).index t = ![1 + t.val / 11, t.val % 11, 0] := by decide +kernel
theorem coverA : ((cfg0 A).win 2).CoversWhere (fun β => 1 ≤ β (0 : Fin 3)) := by decide +kernel

variable (m : (ℓ : Loc nD τ sig) → Buf (Elt Ideal) ℓ) (hO : Ok m)

theorem adm_eq : adm m hO = A := Subtype.ext (tbl_eq m)

theorem idx0 (t : Fin (cfgM m hO).N) : ((cfgM m hO).win 0).index t = ![1 + t.val / 11, t.val % 11, 0] := by
  revert t; unfold cfgM; rw [adm_eq]; exact idx0A
theorem idx1 (t : Fin (cfgM m hO).N) : ((cfgM m hO).win 1).index t = ![1 + t.val / 11, t.val % 11, 0] := by
  revert t; unfold cfgM; rw [adm_eq]; exact idx1A
theorem idx2 (t : Fin (cfgM m hO).N) : ((cfgM m hO).win 2).index t = ![1 + t.val / 11, t.val % 11, 0] := by
  revert t; unfold cfgM; rw [adm_eq]; exact idx2A
theorem cover : ((cfgM m hO).win 2).CoversWhere (fun β => 1 ≤ β (0 : Fin 3)) := by
  unfold cfgM; rw [adm_eq]; exact coverA

/-- The core's own gradient of the four chips' rows, and its partner's of this core's half of the rows. -/
abbrev own : S4x1408x2048.Idx → EReal := m (((0 : Dev nD).tc : Thread nD τ).loc main_arg0)
abbrev recv : S4x704x2048.Idx → EReal := m (((0 : Dev nD).tc : Thread nD τ).loc main_arg1)

variable (t : Fin (cfgM m hO).N) (b : Fin 64) (k : Fin 2048)

/-- The chip and the row of row `b` of tile `t`. -/
def chip : Fin 4 := ⟨1 + t.val / 11, by have : t.val < 33 := t.isLt; omega⟩
def row : Fin 704 := ⟨t.val % 11 * 64 + b.val, by omega⟩

theorem blk0 : iblk m hO 0 0 t (ix3 0 b k) = own m (ix3 (chip m hO t) ⟨(row m hO t b).val, by omega⟩ k) := by
  blk_ext [Gen.iblk, Gen.V, idx0 m hO t]
  all_goals rfl
theorem blk1 : iblk m hO 0 1 t (ix3 0 b k) = recv m (ix3 (chip m hO t) (row m hO t b) k) := by
  blk_ext [Gen.iblk, Gen.V, idx1 m hO t]
  all_goals rfl

/-- The other chips' rows hold the sum; this chip's are left as they are. -/
def res : S4x704x2048.Idx → EReal := fun i =>
  if 1 ≤ (i 0).val then own m (ix3 (i 0) ⟨(i 1).val, by have : (i 1).val < 704 := (i 1).isLt; omega⟩ (i 2)) + recv m i else V m 0 main_v0 i

theorem out : outsAt0 m hO 0 t (ix3 0 b k) = res m (ix3 (chip m hO t) (row m hO t b) k) := by
  refine (tile _ _ _ _ _ _ _ _ _ _ _ _).trans ?_
  refine Eq.trans (b := own m (ix3 (chip m hO t) ⟨(row m hO t b).val, by omega⟩ k) + recv m (ix3 (chip m hO t) (row m hO t b) k)) ?_ (if_pos (Nat.le_add_right 1 _)).symm
  exact congrArg₂ (fun x y : EReal => x + y) (blk0 m hO t b k) (blk1 m hO t b k)

theorem arr : (dats m hO 0 (0 : Dev nD)).arrAt 2 (cfgM m hO).N = res m := by
  refine (dats m hO 0 (0 : Dev nD)).arrAt_eq_of_coversWhere_of_agree 2 _ (fun β => 1 ≤ β (0 : Fin 3)) (cover m hO) (fun t hf (y : S1x64x2048.Idx) => ?_) (fun j hj => ?_)
  · obtain ⟨a, b, k, rfl⟩ : ∃ (a : Fin 1) (b : Fin 64) (k : Fin 2048), y = ix3 a b k := ⟨y 0, y 1, y 2, ValueIdx.eq_ix3 y⟩
    obtain rfl : a = 0 := Subsingleton.elim _ _
    refine ((congrFun (after0_2 m hO 0 t) _).trans (out m hO t b k)).trans (congrArg (res m) ?_)
    blk_ext [idx2 m hO t]
    all_goals rfl
  · have h : ¬ 1 ≤ (j (0 : Fin 3)).val := by
      intro h
      apply hj
      show 1 ≤ (j (0 : Fin 3)).val / 1
      exact le_of_le_of_eq h (Nat.div_one _).symm
    exact (if_neg h).symm

/-- The host's line after the kernel drops this chip's rows. -/
theorem tail_eq : Pipeline.afterTail pcfgs (fun _ => adm m hO) (dats m hO) 0 (V0 m) [hostOps1] (0 : Dev nD) main_v1
    = extractStridedSlice S3x704x2048 ![1, 0, 0] (res m) slices_S4x704x2048_S3x704x2048_1_0_0 := by
  rw [← arr m hO, ← Pipeline.withArrays_arr spec0 winFacts0.arr_inj (0 : Dev nD) (V0 m (0 : Dev nD)) (fun w => (dats m hO 0 (0 : Dev nD)).arrAt w (cfgM m hO).N) 2]
  unfold Pipeline.afterTail
  after_results_simp
  rfl

open Cert.Reference32Ideal.Read in
/-- The reference's result is those rows of the sum. -/
theorem ref_eq : val_main_v3 (F := Ideal) (own m) (recv m) = extractStridedSlice S3x704x2048 ![1, 0, 0] (res m) slices_S4x704x2048_S3x704x2048_1_0_0 := by
  funext i
  refine Eq.trans ?_ (if_pos (Nat.le_add_right 1 _)).symm
  exact congrArg₂ (fun x y : EReal => x + y) (at_coords (own m) _ _ rfl rfl rfl) (at_coords (recv m) _ _ rfl rfl rfl)

open Cert.Reference32Ideal.Read in
theorem algebraic : Cert.algebraic_Kernel32Ideal_Reference32Ideal (hKernel32Ideal := Cert.Kernel32Ideal.Gen.facts) (hReference32Ideal := Cert.Reference32Ideal.Gen.facts) := by
  intro m g m' g' _ hargs
  obtain ⟨h0, h1⟩ := hargs 0
  refine ⟨fun _ => val_main_v3 (F := Ideal) (own m) (recv m), ?_, ?_⟩
  · refine (θ_run _ _ _).mono (fun r h c => ?_) (θ_run_and (run_main m g (ok m)) (unchanged m g (ok m)))
    obtain rfl : c = 0 := Subsingleton.elim _ _
    exact ⟨(((h.1 0).2 main_v1 (Pipeline.mem_restRefs_of main_v1 (by decide) (show ∀ w : Fin 3, (spec0 w).arr.view.ref ≠ main_v1 by decide))).trans (tail_eq m (ok m))).trans (ref_eq m).symm, h.2 0⟩
  · refine (θ_run _ _ _).mono (fun r h c => ?_) (Cert.Reference32Ideal.Value.run (F := Ideal) m' g')
    obtain rfl : c = 0 := Subsingleton.elim _ _
    obtain ⟨r0, k⟩ := h 0
    refine ⟨(r0.trans (val_main_v3_eq _ _)).trans ?_, k⟩
    rw [h0, h1]

end Cert.SumPairDown

end
-- ==== Proof.SumFinalDown.lean ====
/- The last sum of the down product's weight gradient: the core's own, its partner's and the three other chips' sums. -/
module

public import proofs.«01_k».proof.Defs
public import proofs.«01_k».proof.Proof.SumSmall
public import proofs.«01_k».proof.Proof.Gen.Kernel33Ideal.Frame
public import proofs.«01_k».proof.Proof.Gen.Reference33Ideal.Read
public import proofs.«01_k».proof.Proof.Gen.Reference33Ideal.Run
public import Idealize.ShloMosaic.Lib.Pointwise
public import Idealize.ShloMosaic.Lib.Pipeline.Value
public import Idealize.ShloMosaic.Lib.Pipeline.ValueKit.Partial
public import Idealize.ShloMosaic.Lib.Pipeline.ValueKit.Acc

@[expose] public section

set_option maxRecDepth 16384

noncomputable section

namespace Cert.SumFinalDown

open Idealize.ShloMosaic Idealize.ShloMosaic.TcCoe Idealize.SL.Sem
open Cert.SumSmall (at_coords)
open Cert.Kernel33Ideal Cert.Kernel33Ideal.Gen

section

variable {F : FTy → Type} [FloatOps F]

/-- The table of places: this core, this chip and the other chips. -/
def T : pre0.Contents (Elt F) := fun
  | 0 => fun i => lit0 (S5.rowMajor i)
  | ⟨_ + 1, h⟩ => absurd h (Nat.not_lt.2 (Nat.le_add_left _ _))

/-- Every block that the table names lies inside its array. -/
theorem okT : ok0 (F := F) T := of_decide_eq_true (by sl_kernel_rfl)

variable (m : (ℓ : Loc nD τ sig) → Buf (Elt F) ℓ)

/-- The table that the kernel finds is the host's constant. -/
theorem tbl_eq : tbl m = T := by
  funext j
  obtain rfl : j = 0 := Subsingleton.elim _ _
  rfl

theorem ok : Ok m := by
  show ok0 (tbl m)
  rw [tbl_eq]
  exact okT

end

section

variable (c : Dev nD) (i : grid0.Coords) (arg2 : Memref sig .tc .vmem S1x64x2048 .f32) (harg2 : arg2.IsWhole) (arg3 : Memref sig .tc .vmem S1x64x2048 .f32) (harg3 : arg3.IsWhole) (arg4 : Memref sig .tc .vmem S1x64x2048 .bf16) (harg4 : arg4.IsWhole) (arg5 : Memref sig .tc .vmem S1x64x2048 .bf16) (harg5 : arg5.IsWhole) (arg6 : Memref sig .tc .vmem S1x64x2048 .bf16) (harg6 : arg6.IsWhole)
    (arg7 : Memref sig .tc .vmem S64x2048 .f32) (harg7 : arg7.IsWhole)
    (x0 x1 : Vec Ideal S1x64x2048 .f32) (x2 x3 x4 : Vec Ideal S1x64x2048 .bf16) (xt0 : TbBuf0 (F := Ideal) c tbM0_0)
    (b : Fin 64) (k : Fin 2048)

theorem pay : k0_pay1 (F := Ideal) x0 x1 x2 x3 x4 (ix2 b k) = x0 (ix3 0 b k) + x1 (ix3 0 b k) + x2 (ix3 0 b k) + x3 (ix3 0 b k) + x4 (ix3 0 b k) := by
  pointwise [k0_pay1]

theorem tile : out0_A_5 (F := Ideal) c i arg2 harg2 arg3 harg3 arg4 harg4 arg5 harg5 arg6 harg6 arg7 harg7 x0 x1 x2 x3 x4 xt0 (ix2 b k)
    = x0 (ix3 0 b k) + x1 (ix3 0 b k) + x2 (ix3 0 b k) + x3 (ix3 0 b k) + x4 (ix3 0 b k) :=
  Eq.trans (b := k0_pay1 (F := Ideal) x0 x1 x2 x3 x4 (ix2 b k)) (by frame_out) (pay x0 x1 x2 x3 x4 b k)

end

/-- The admissible table of places. -/
def A : (pcfg0 (F := Ideal)).Adm := ⟨T, okT⟩

theorem idx0A : ∀ t : Fin grid0.N, ((cfg0 A).win 0).index t = ![0, t.val, 0] := by decide +kernel
theorem idx1A : ∀ t : Fin grid0.N, ((cfg0 A).win 1).index t = ![0, t.val, 0] := by decide +kernel
theorem idx2A : ∀ t : Fin grid0.N, ((cfg0 A).win 2).index t = ![1, t.val, 0] := by decide +kernel
theorem idx3A : ∀ t : Fin grid0.N, ((cfg0 A).win 3).index t = ![2, t.val, 0] := by decide +kernel
theorem idx4A : ∀ t : Fin grid0.N, ((cfg0 A).win 4).index t = ![3, t.val, 0] := by decide +kernel
theorem idx5A : ∀ t : Fin grid0.N, ((cfg0 A).win 5).index t = ![t.val, 0] := by decide +kernel
theorem coverA : ((cfg0 A).win 5).CoversWhere (fun β => β (0 : Fin 2) < 11) := by decide +kernel

variable (m : (ℓ : Loc nD τ sig) → Buf (Elt Ideal) ℓ) (hO : Ok m)

theorem adm_eq : adm m hO = A := Subtype.ext (tbl_eq m)

theorem idx0 (t : Fin (cfgM m hO).N) : ((cfgM m hO).win 0).index t = ![0, t.val, 0] := by
  revert t; unfold cfgM; rw [adm_eq]; exact idx0A
theorem idx1 (t : Fin (cfgM m hO).N) : ((cfgM m hO).win 1).index t = ![0, t.val, 0] := by
  revert t; unfold cfgM; rw [adm_eq]; exact idx1A
theorem idx2 (t : Fin (cfgM m hO).N) : ((cfgM m hO).win 2).index t = ![1, t.val, 0] := by
  revert t; unfold cfgM; rw [adm_eq]; exact idx2A
theorem idx3 (t : Fin (cfgM m hO).N) : ((cfgM m hO).win 3).index t = ![2, t.val, 0] := by
  revert t; unfold cfgM; rw [adm_eq]; exact idx3A
theorem idx4 (t : Fin (cfgM m hO).N) : ((cfgM m hO).win 4).index t = ![3, t.val, 0] := by
  revert t; unfold cfgM; rw [adm_eq]; exact idx4A
theorem idx5 (t : Fin (cfgM m hO).N) : ((cfgM m hO).win 5).index t = ![t.val, 0] := by
  revert t; unfold cfgM; rw [adm_eq]; exact idx5A
theorem cover : ((cfgM m hO).win 5).CoversWhere (fun β => β (0 : Fin 2) < 11) := by
  unfold cfgM; rw [adm_eq]; exact coverA

/-- The core's own gradient, its partner's, and the other chips' sums of the two. -/
abbrev own : S4x1408x2048.Idx → EReal := m (((0 : Dev nD).tc : Thread nD τ).loc main_arg0)
abbrev recv : S4x704x2048.Idx → EReal := m (((0 : Dev nD).tc : Thread nD τ).loc main_arg1)
abbrev sums : S4x704x2048.Idx → EReal := m (((0 : Dev nD).tc : Thread nD τ).loc main_arg2)

variable (t : Fin (cfgM m hO).N) (b : Fin 64) (k : Fin 2048)

/-- Row `b` of tile `t`. -/
def row : Fin 704 := ⟨t.val * 64 + b.val, by have : t.val < 11 := t.isLt; omega⟩

theorem blk0 : iblk m hO 0 0 t (ix3 0 b k) = own m (ix3 0 ⟨(row m hO t b).val, by omega⟩ k) := by
  blk_ext [Gen.iblk, Gen.V, idx0 m hO t]
  all_goals rfl
theorem blk1 : iblk m hO 0 1 t (ix3 0 b k) = recv m (ix3 0 (row m hO t b) k) := by
  blk_ext [Gen.iblk, Gen.V, idx1 m hO t]
  all_goals rfl
theorem blk2 : iblk m hO 0 2 t (ix3 0 b k) = sums m (ix3 1 (row m hO t b) k) := by
  blk_ext [Gen.iblk, Gen.V, idx2 m hO t]
  all_goals rfl
theorem blk3 : iblk m hO 0 3 t (ix3 0 b k) = sums m (ix3 2 (row m hO t b) k) := by
  blk_ext [Gen.iblk, Gen.V, idx3 m hO t]
  all_goals rfl
theorem blk4 : iblk m hO 0 4 t (ix3 0 b k) = sums m (ix3 3 (row m hO t b) k) := by
  blk_ext [Gen.iblk, Gen.V, idx4 m hO t]
  all_goals rfl

/-- One entry of the sum over the chips. -/
def total (r : Fin 704) (k : Fin 2048) : EReal :=
  own m (ix3 0 ⟨r.val, by omega⟩ k) + recv m (ix3 0 r k) + sums m (ix3 1 r k) + sums m (ix3 2 r k) + sums m (ix3 3 r k)

/-- This core's half of the rows holds the sum; the other half is left as it is. -/
def res : S1408x2048.Idx → EReal := fun i => if h : (i 0).val < 704 then total m ⟨(i 0).val, h⟩ (i 1) else V m 0 main_v0 i

theorem res_lo (r : Fin 704) (k : Fin 2048) (h : r.val < 1408) : res m (ix2 ⟨r.val, h⟩ k) = total m r k := dif_pos r.isLt
theorem res_hi (i : S1408x2048.Idx) (h : ¬ (i 0).val < 704) : res m i = V m 0 main_v0 i := dif_neg h

theorem out : outsAt0 m hO 0 t (ix2 b k) = res m (ix2 ⟨(row m hO t b).val, by omega⟩ k) := by
  refine (tile _ _ _ _ _ _ _ _ _ _ _ _ _ _ _ _ _ _ _ _ _ _).trans ?_
  refine Eq.trans (b := total m (row m hO t b) k) ?_ (res_lo m _ k _).symm
  exact congrArg₂ (fun x y : EReal => x + y) (congrArg₂ (fun x y : EReal => x + y) (congrArg₂ (fun x y : EReal => x + y)
    (congrArg₂ (fun x y : EReal => x + y) (blk0 m hO t b k) (blk1 m hO t b k)) (blk2 m hO t b k)) (blk3 m hO t b k)) (blk4 m hO t b k)

theorem arr : (dats m hO 0 (0 : Dev nD)).arrAt 5 (cfgM m hO).N = res m := by
  refine (dats m hO 0 (0 : Dev nD)).arrAt_eq_of_coversWhere_of_agree 5 _ (fun β => β (0 : Fin 2) < 11) (cover m hO) (fun t hf (y : S64x2048.Idx) => ?_) (fun j hj => ?_)
  · obtain ⟨b, k, rfl⟩ : ∃ (b : Fin 64) (k : Fin 2048), y = ix2 b k := ⟨y 0, y 1, ValueIdx.eq_ix2 y⟩
    refine ((congrFun (after0_5 m hO 0 t) _).trans (out m hO t b k)).trans (congrArg (res m) ?_)
    blk_ext [idx5 m hO t]
    all_goals rfl
  · have h : ¬ (j (0 : Fin 2)).val < 704 := by
      intro h
      apply hj
      show (j (0 : Fin 2)).val / 64 < 11
      omega
    exact (res_hi m _ h).symm

/-- The host's line after the kernel keeps this core's half of the rows. -/
theorem tail_eq : Pipeline.afterTail pcfgs (fun _ => adm m hO) (dats m hO) 0 (V0 m) [hostOps1] (0 : Dev nD) main_v1
    = extractStridedSlice S704x2048 ![0, 0] (res m) slices_S1408x2048_S704x2048_0_0 := by
  rw [← arr m hO, ← Pipeline.Dat.withArrays_arrAt (dats m hO 0 (0 : Dev nD)) sharedIn0 (V0 m (0 : Dev nD)) (A_eq m hO (0 : Dev nD)) 5]
  unfold Pipeline.afterTail
  after_results_simp
  rfl

/-- An entry of the kernel's result. -/
theorem tail_at (i : S704x2048.Idx) : extractStridedSlice S704x2048 ![0, 0] (res m) slices_S1408x2048_S704x2048_0_0 i = total m (i 0) (i 1) := by
  obtain ⟨r, k, rfl⟩ : ∃ (r : Fin 704) (k : Fin 2048), i = ix2 r k := ⟨i 0, i 1, ValueIdx.eq_ix2 i⟩
  pointwise []
  exact res_lo m r k _

open Cert.Reference33Ideal.Read in
/-- The reference adds the same five terms, the chips' sums first. -/
theorem ref_eq : val_main_v8 (F := Ideal) (own m) (recv m) (sums m) = extractStridedSlice S704x2048 ![0, 0] (res m) slices_S1408x2048_S704x2048_0_0 := by
  funext i
  rw [tail_at, val_main_v8_apply, val_main_v7_apply, Fin.sum_univ_three]
  have hz : val_main_cst (F := Ideal) (Shape.Idx.first Cert.Reference33Ideal.Gen.facts.h_S_) = 0 := Ideal.ofBits_zero .f32
  obtain ⟨r, k, rfl⟩ : ∃ (r : Fin 704) (k : Fin 2048), i = ix2 r k := ⟨i 0, i 1, ValueIdx.eq_ix2 i⟩
  have e4 : val_main_v4 (F := Ideal) (own m) (recv m) (ix2 r k) = own m (ix3 0 ⟨r.val, by omega⟩ k) + recv m (ix3 0 r k) := by
    pointwise [val_main_v4, val_main_v3, val_main_v2, val_main_v1, val_main_v0]
  have e6 (j : Fin 3) : val_main_v6 (F := Ideal) (sums m) (idx_main_v7 (ix2 r k) j) = sums m (ix3 ⟨1 + j.val, by omega⟩ r k) :=
    at_coords (sums m) _ _ rfl (Nat.zero_add _) (Nat.zero_add _)
  rw [hz, zero_add, e4, e6, e6, e6]
  have key (a b c d e : EReal) : a + b + (c + d + e) = a + b + c + d + e := by rw [← add_assoc, ← add_assoc]
  exact key _ _ _ _ _

open Cert.Reference33Ideal.Read in
theorem algebraic : Cert.algebraic_Kernel33Ideal_Reference33Ideal (hKernel33Ideal := Cert.Kernel33Ideal.Gen.facts) (hReference33Ideal := Cert.Reference33Ideal.Gen.facts) := by
  intro m g m' g' _ hargs
  obtain ⟨h0, h1, h2⟩ := hargs 0
  refine ⟨fun _ => val_main_v8 (F := Ideal) (own m) (recv m) (sums m), ?_, ?_⟩
  · refine (θ_run _ _ _).mono (fun r h c => ?_) (θ_run_and (run_main m g (ok m)) (unchanged m g (ok m)))
    obtain rfl : c = 0 := Subsingleton.elim _ _
    exact ⟨(((h.1 0).2 main_v1 (Pipeline.mem_restRefs_of main_v1 (by decide) (show ∀ w : Fin 6, (spec0 w).arr.view.ref ≠ main_v1 by decide))).trans (tail_eq m (ok m))).trans (ref_eq m).symm, h.2 0⟩
  · refine (θ_run _ _ _).mono (fun r h c => ?_) (Cert.Reference33Ideal.Value.run (F := Ideal) m' g')
    obtain rfl : c = 0 := Subsingleton.elim _ _
    obtain ⟨r0, k⟩ := h 0
    refine ⟨(r0.trans (val_main_v8_eq _ _ _)).trans ?_, k⟩
    rw [h0, h1, h2]

end Cert.SumFinalDown

end
-- ==== Proof.SumAllIn.lean ====
/- The sum of one core's half of the rows of the input product's weight gradient and its partner's. -/
module

public import proofs.«01_k».proof.Defs
public import proofs.«01_k».proof.Proof.SumSmall
public import proofs.«01_k».proof.Proof.Gen.Kernel34Ideal.Frame
public import proofs.«01_k».proof.Proof.Gen.Reference34Ideal.Read
public import proofs.«01_k».proof.Proof.Gen.Reference34Ideal.Run
public import Idealize.ShloMosaic.Lib.Pointwise
public import Idealize.ShloMosaic.Lib.Pipeline.Value
public import Idealize.ShloMosaic.Lib.Pipeline.ValueKit.Partial
public import Idealize.ShloMosaic.Lib.Pipeline.ValueKit.Acc

@[expose] public section

set_option maxRecDepth 16384

noncomputable section

namespace Cert.SumAllIn

open Idealize.ShloMosaic Idealize.ShloMosaic.TcCoe Idealize.SL.Sem
open Cert.SumSmall (at_coords)
open Cert.Kernel34Ideal Cert.Kernel34Ideal.Gen

section

variable {F : FTy → Type} [FloatOps F]

/-- The table of places: this core, this chip and the other chips. -/
def T : pre0.Contents (Elt F) := fun
  | 0 => fun i => lit0 (S5.rowMajor i)
  | ⟨_ + 1, h⟩ => absurd h (Nat.not_lt.2 (Nat.le_add_left _ _))

/-- Every block that the table names lies inside its array. -/
theorem okT : ok0 (F := F) T := of_decide_eq_true (by sl_kernel_rfl)

variable (m : (ℓ : Loc nD τ sig) → Buf (Elt F) ℓ)

/-- The table that the kernel finds is the host's constant. -/
theorem tbl_eq : tbl m = T := by
  funext j
  obtain rfl : j = 0 := Subsingleton.elim _ _
  rfl

theorem ok : Ok m := by
  show ok0 (tbl m)
  rw [tbl_eq]
  exact okT

end

section

variable (c : Dev nD) (i : grid0.Coords) (arg2 : Memref sig .tc .vmem S1x128x6272 .f32) (harg2 : arg2.IsWhole) (arg3 : Memref sig .tc .vmem S1x128x6272 .f32) (harg3 : arg3.IsWhole) (arg4 : Memref sig .tc .vmem S128x6272 .bf16) (harg4 : arg4.IsWhole)
    (x0 x1 : Vec Ideal S1x128x6272 .f32) (xt0 : TbBuf0 (F := Ideal) c tbM0_0)
    (b : Fin 128) (k : Fin 6272)

theorem pay : k0_pay1 (F := Ideal) x0 x1 (ix2 b k) = x0 (ix3 0 b k) + x1 (ix3 0 b k) := by
  pointwise [k0_pay1]

theorem tile : out0_A_2 (F := Ideal) c i arg2 harg2 arg3 harg3 arg4 harg4 x0 x1 xt0 (ix2 b k) = x0 (ix3 0 b k) + x1 (ix3 0 b k) :=
  Eq.trans (b := k0_pay1 (F := Ideal) x0 x1 (ix2 b k)) (by frame_out) (pay x0 x1 b k)

end

/-- The admissible table of places. -/
def A : (pcfg0 (F := Ideal)).Adm := ⟨T, okT⟩

theorem idx0A : ∀ t : Fin grid0.N, ((cfg0 A).win 0).index t = ![0, t.val, 0] := by decide +kernel
theorem idx1A : ∀ t : Fin grid0.N, ((cfg0 A).win 1).index t = ![0, t.val, 0] := by decide +kernel
theorem idx2A : ∀ t : Fin grid0.N, ((cfg0 A).win 2).index t = ![t.val, 0] := by decide +kernel
theorem coverA : ((cfg0 A).win 2).CoversWhere (fun β => β (0 : Fin 2) < 8) := by decide +kernel

variable (m : (ℓ : Loc nD τ sig) → Buf (Elt Ideal) ℓ) (hO : Ok m)

theorem adm_eq : adm m hO = A := Subtype.ext (tbl_eq m)

theorem idx0 (t : Fin (cfgM m hO).N) : ((cfgM m hO).win 0).index t = ![0, t.val, 0] := by
  revert t; unfold cfgM; rw [adm_eq]; exact idx0A
theorem idx1 (t : Fin (cfgM m hO).N) : ((cfgM m hO).win 1).index t = ![0, t.val, 0] := by
  revert t; unfold cfgM; rw [adm_eq]; exact idx1A
theorem idx2 (t : Fin (cfgM m hO).N) : ((cfgM m hO).win 2).index t = ![t.val, 0] := by
  revert t; unfold cfgM; rw [adm_eq]; exact idx2A
theorem cover : ((cfgM m hO).win 2).CoversWhere (fun β => β (0 : Fin 2) < 8) := by
  unfold cfgM; rw [adm_eq]; exact coverA

/-- The core's own gradient, and its partner's of this core's half of the rows. -/
abbrev own : S1x2048x6272.Idx → EReal := m (((0 : Dev nD).tc : Thread nD τ).loc main_arg0)
abbrev recv : S1x1024x6272.Idx → EReal := m (((0 : Dev nD).tc : Thread nD τ).loc main_arg1)

variable (t : Fin (cfgM m hO).N) (b : Fin 128) (k : Fin 6272)

/-- Row `b` of tile `t`. -/
def row : Fin 1024 := ⟨t.val * 128 + b.val, by have : t.val < 8 := t.isLt; omega⟩

theorem blk0 : iblk m hO 0 0 t (ix3 0 b k) = own m (ix3 0 ⟨(row m hO t b).val, by omega⟩ k) := by
  blk_ext [Gen.iblk, Gen.V, idx0 m hO t]
  all_goals rfl
theorem blk1 : iblk m hO 0 1 t (ix3 0 b k) = recv m (ix3 0 (row m hO t b) k) := by
  blk_ext [Gen.iblk, Gen.V, idx1 m hO t]
  all_goals rfl

/-- The sum of the two, row by row. -/
def res : S1024x6272.Idx → EReal := fun i => own m (ix3 0 ⟨(i 0).val, by have : (i 0).val < 1024 := (i 0).isLt; omega⟩ (i 1)) + recv m (ix3 0 (i 0) (i 1))

theorem out : outsAt0 m hO 0 t (ix2 b k) = res m (ix2 (row m hO t b) k) := by
  refine (tile _ _ _ _ _ _ _ _ _ _ _ _ _).trans ?_
  exact congrArg₂ (fun x y : EReal => x + y) (blk0 m hO t b k) (blk1 m hO t b k)

theorem arr : (dats m hO 0 (0 : Dev nD)).arrAt 2 (cfgM m hO).N = res m := by
  refine (dats m hO 0 (0 : Dev nD)).arrAt_eq_of_coversWhere_of_agree 2 _ (fun β => β (0 : Fin 2) < 8) (cover m hO) (fun t hf (y : S128x6272.Idx) => ?_) (fun j hj => ?_)
  · obtain ⟨b, k, rfl⟩ : ∃ (b : Fin 128) (k : Fin 6272), y = ix2 b k := ⟨y 0, y 1, ValueIdx.eq_ix2 y⟩
    refine ((congrFun (after0_2 m hO 0 t) _).trans (out m hO t b k)).trans (congrArg (res m) ?_)
    blk_ext [idx2 m hO t]
    all_goals rfl
  · refine absurd ?_ hj
    have h : (j (0 : Fin 2)).val < 1024 := (j (0 : Fin 2)).isLt
    show (j (0 : Fin 2)).val / 128 < 8
    omega

open Cert.Reference34Ideal.Read in
/-- The reference adds the same two terms. -/
theorem ref_eq : val_main_v4 (F := Ideal) (own m) (recv m) = res m := by
  funext i
  obtain ⟨r, k, rfl⟩ : ∃ (r : Fin 1024) (k : Fin 6272), i = ix2 r k := ⟨i 0, i 1, ValueIdx.eq_ix2 i⟩
  refine Eq.trans (b := own m (ix3 0 ⟨r.val, by omega⟩ k) + recv m (ix3 0 r k)) ?_ rfl
  pointwise [val_main_v4, val_main_v3, val_main_v2, val_main_v1, val_main_v0]

open Cert.Reference34Ideal.Read in
theorem algebraic : Cert.algebraic_Kernel34Ideal_Reference34Ideal (hKernel34Ideal := Cert.Kernel34Ideal.Gen.facts) (hReference34Ideal := Cert.Reference34Ideal.Gen.facts) := by
  intro m g m' g' _ hargs
  obtain ⟨h0, h1⟩ := hargs 0
  refine ⟨fun _ => val_main_v4 (F := Ideal) (own m) (recv m), ?_, ?_⟩
  · refine (θ_run _ _ _).mono (fun r h c => ?_) (θ_run_and (run_main m g (ok m)) (unchanged m g (ok m)))
    obtain rfl : c = 0 := Subsingleton.elim _ _
    exact ⟨(((h.1 0).1 2).trans (arr m (ok m))).trans (ref_eq m).symm, h.2 0⟩
  · refine (θ_run _ _ _).mono (fun r h c => ?_) (Cert.Reference34Ideal.Value.run (F := Ideal) m' g')
    obtain rfl : c = 0 := Subsingleton.elim _ _
    obtain ⟨r0, k⟩ := h 0
    refine ⟨(r0.trans (val_main_v4_eq _ _)).trans ?_, k⟩
    rw [h0, h1]

end Cert.SumAllIn

end
-- ==== Proof.SumFinalIn.lean ====
/- The last sum of the input product's weight gradient: the core pair's own sum and the three other chips'. -/
module

public import proofs.«01_k».proof.Defs
public import proofs.«01_k».proof.Proof.SumSmall
public import proofs.«01_k».proof.Proof.Gen.Kernel35Ideal.Frame
public import proofs.«01_k».proof.Proof.Gen.Reference35Ideal.Read
public import proofs.«01_k».proof.Proof.Gen.Reference35Ideal.Run
public import Idealize.ShloMosaic.Lib.Pointwise
public import Idealize.ShloMosaic.Lib.Pipeline.Value
public import Idealize.ShloMosaic.Lib.Pipeline.ValueKit.Partial
public import Idealize.ShloMosaic.Lib.Pipeline.ValueKit.Acc

@[expose] public section

set_option maxRecDepth 16384

noncomputable section

namespace Cert.SumFinalIn

open Idealize.ShloMosaic Idealize.ShloMosaic.TcCoe Idealize.SL.Sem
open Cert.SumSmall (at_coords)
open Cert.Kernel35Ideal Cert.Kernel35Ideal.Gen

section

variable {F : FTy → Type} [FloatOps F]

/-- The table of places: this core, this chip and the other chips. -/
def T : pre0.Contents (Elt F) := fun
  | 0 => fun i => lit0 (S5.rowMajor i)
  | ⟨_ + 1, h⟩ => absurd h (Nat.not_lt.2 (Nat.le_add_left _ _))

/-- Every block that the table names lies inside its array. -/
theorem okT : ok0 (F := F) T := of_decide_eq_true (by sl_kernel_rfl)

variable (m : (ℓ : Loc nD τ sig) → Buf (Elt F) ℓ)

/-- The table that the kernel finds is the host's constant. -/
theorem tbl_eq : tbl m = T := by
  funext j
  obtain rfl : j = 0 := Subsingleton.elim _ _
  rfl

theorem ok : Ok m := by
  show ok0 (tbl m)
  rw [tbl_eq]
  exact okT

end

section

variable (c : Dev nD) (i : grid0.Coords) (arg2 : Memref sig .tc .vmem S1x128x1538 .bf16) (harg2 : arg2.IsWhole) (arg3 : Memref sig .tc .vmem S1x128x1538 .bf16) (harg3 : arg3.IsWhole) (arg4 : Memref sig .tc .vmem S1x128x1538 .bf16) (harg4 : arg4.IsWhole) (arg5 : Memref sig .tc .vmem S1x128x1538 .bf16) (harg5 : arg5.IsWhole)
    (arg6 : Memref sig .tc .vmem S128x1538 .f32) (harg6 : arg6.IsWhole)
    (x0 x1 x2 x3 : Vec Ideal S1x128x1538 .bf16) (xt0 : TbBuf0 (F := Ideal) c tbM0_0)
    (b : Fin 128) (k : Fin 1538)

theorem pay : k0_pay1 (F := Ideal) x0 x1 x2 x3 (ix2 b k) = x0 (ix3 0 b k) + x1 (ix3 0 b k) + x2 (ix3 0 b k) + x3 (ix3 0 b k) := by
  pointwise [k0_pay1]

theorem tile : out0_A_4 (F := Ideal) c i arg2 harg2 arg3 harg3 arg4 harg4 arg5 harg5 arg6 harg6 x0 x1 x2 x3 xt0 (ix2 b k)
    = x0 (ix3 0 b k) + x1 (ix3 0 b k) + x2 (ix3 0 b k) + x3 (ix3 0 b k) :=
  Eq.trans (b := k0_pay1 (F := Ideal) x0 x1 x2 x3 (ix2 b k)) (by frame_out) (pay x0 x1 x2 x3 b k)

end

/-- The admissible table of places. -/
def A : (pcfg0 (F := Ideal)).Adm := ⟨T, okT⟩

theorem idx0A : ∀ t : Fin grid0.N, ((cfg0 A).win 0).index t = ![0, t.val, 0] := by decide +kernel
theorem idx1A : ∀ t : Fin grid0.N, ((cfg0 A).win 1).index t = ![1, t.val, 0] := by decide +kernel
theorem idx2A : ∀ t : Fin grid0.N, ((cfg0 A).win 2).index t = ![2, t.val, 0] := by decide +kernel
theorem idx3A : ∀ t : Fin grid0.N, ((cfg0 A).win 3).index t = ![3, t.val, 0] := by decide +kernel
theorem idx4A : ∀ t : Fin grid0.N, ((cfg0 A).win 4).index t = ![t.val, 0] := by decide +kernel
theorem coverA : ((cfg0 A).win 4).CoversWhere (fun β => β (0 : Fin 2) < 8) := by decide +kernel

variable (m : (ℓ : Loc nD τ sig) → Buf (Elt Ideal) ℓ) (hO : Ok m)

theorem adm_eq : adm m hO = A := Subtype.ext (tbl_eq m)

theorem idx0 (t : Fin (cfgM m hO).N) : ((cfgM m hO).win 0).index t = ![0, t.val, 0] := by
  revert t; unfold cfgM; rw [adm_eq]; exact idx0A
theorem idx1 (t : Fin (cfgM m hO).N) : ((cfgM m hO).win 1).index t = ![1, t.val, 0] := by
  revert t; unfold cfgM; rw [adm_eq]; exact idx1A
theorem idx2 (t : Fin (cfgM m hO).N) : ((cfgM m hO).win 2).index t = ![2, t.val, 0] := by
  revert t; unfold cfgM; rw [adm_eq]; exact idx2A
theorem idx3 (t : Fin (cfgM m hO).N) : ((cfgM m hO).win 3).index t = ![3, t.val, 0] := by
  revert t; unfold cfgM; rw [adm_eq]; exact idx3A
theorem idx4 (t : Fin (cfgM m hO).N) : ((cfgM m hO).win 4).index t = ![t.val, 0] := by
  revert t; unfold cfgM; rw [adm_eq]; exact idx4A
theorem cover : ((cfgM m hO).win 4).CoversWhere (fun β => β (0 : Fin 2) < 8) := by
  unfold cfgM; rw [adm_eq]; exact coverA

/-- The core pair's own sums, and the other chips'. -/
abbrev own : S4x1024x1538.Idx → EReal := m (((0 : Dev nD).tc : Thread nD τ).loc main_arg0)
abbrev sums : S4x1024x1538.Idx → EReal := m (((0 : Dev nD).tc : Thread nD τ).loc main_arg1)

variable (t : Fin (cfgM m hO).N) (b : Fin 128) (k : Fin 1538)

/-- Row `b` of tile `t`. -/
def row : Fin 1024 := ⟨t.val * 128 + b.val, by have : t.val < 8 := t.isLt; omega⟩

theorem blk0 : iblk m hO 0 0 t (ix3 0 b k) = own m (ix3 0 (row m hO t b) k) := by
  blk_ext [Gen.iblk, Gen.V, idx0 m hO t]
  all_goals rfl
theorem blk1 : iblk m hO 0 1 t (ix3 0 b k) = sums m (ix3 1 (row m hO t b) k) := by
  blk_ext [Gen.iblk, Gen.V, idx1 m hO t]
  all_goals rfl
theorem blk2 : iblk m hO 0 2 t (ix3 0 b k) = sums m (ix3 2 (row m hO t b) k) := by
  blk_ext [Gen.iblk, Gen.V, idx2 m hO t]
  all_goals rfl
theorem blk3 : iblk m hO 0 3 t (ix3 0 b k) = sums m (ix3 3 (row m hO t b) k) := by
  blk_ext [Gen.iblk, Gen.V, idx3 m hO t]
  all_goals rfl

/-- One entry of the sum over the chips. -/
def total (r : Fin 1024) (k : Fin 1538) : EReal :=
  own m (ix3 0 r k) + sums m (ix3 1 r k) + sums m (ix3 2 r k) + sums m (ix3 3 r k)

/-- This core's half of the rows holds the sum; the other half is left as it is. -/
def res : S2048x1538.Idx → EReal := fun i => if h : (i 0).val < 1024 then total m ⟨(i 0).val, h⟩ (i 1) else V m 0 main_v0 i

theorem res_lo (r : Fin 1024) (k : Fin 1538) (h : r.val < 2048) : res m (ix2 ⟨r.val, h⟩ k) = total m r k := dif_pos r.isLt
theorem res_hi (i : S2048x1538.Idx) (h : ¬ (i 0).val < 1024) : res m i = V m 0 main_v0 i := dif_neg h

theorem out : outsAt0 m hO 0 t (ix2 b k) = res m (ix2 ⟨(row m hO t b).val, by omega⟩ k) := by
  refine (tile _ _ _ _ _ _ _ _ _ _ _ _ _ _ _ _ _ _ _).trans ?_
  refine Eq.trans (b := total m (row m hO t b) k) ?_ (res_lo m _ k _).symm
  exact congrArg₂ (fun x y : EReal => x + y) (congrArg₂ (fun x y : EReal => x + y)
    (congrArg₂ (fun x y : EReal => x + y) (blk0 m hO t b k) (blk1 m hO t b k)) (blk2 m hO t b k)) (blk3 m hO t b k)

theorem arr : (dats m hO 0 (0 : Dev nD)).arrAt 4 (cfgM m hO).N = res m := by
  refine (dats m hO 0 (0 : Dev nD)).arrAt_eq_of_coversWhere_of_agree 4 _ (fun β => β (0 : Fin 2) < 8) (cover m hO) (fun t hf (y : S128x1538.Idx) => ?_) (fun j hj => ?_)
  · obtain ⟨b, k, rfl⟩ : ∃ (b : Fin 128) (k : Fin 1538), y = ix2 b k := ⟨y 0, y 1, ValueIdx.eq_ix2 y⟩
    refine ((congrFun (after0_4 m hO 0 t) _).trans (out m hO t b k)).trans (congrArg (res m) ?_)
    blk_ext [idx4 m hO t]
    all_goals rfl
  · have h : ¬ (j (0 : Fin 2)).val < 1024 := by
      intro h
      apply hj
      show (j (0 : Fin 2)).val / 128 < 8
      omega
    exact (res_hi m _ h).symm

/-- The host's line after the kernel keeps this core's half of the rows. -/
theorem tail_eq : Pipeline.afterTail pcfgs (fun _ => adm m hO) (dats m hO) 0 (V0 m) [hostOps1] (0 : Dev nD) main_v1
    = extractStridedSlice S1024x1538 ![0, 0] (res m) slices_S2048x1538_S1024x1538_0_0 := by
  rw [← arr m hO, ← Pipeline.Dat.withArrays_arrAt (dats m hO 0 (0 : Dev nD)) sharedIn0 (V0 m (0 : Dev nD)) (A_eq m hO (0 : Dev nD)) 4]
  unfold Pipeline.afterTail
  after_results_simp
  rfl

/-- An entry of the kernel's result. -/
theorem tail_at (i : S1024x1538.Idx) : extractStridedSlice S1024x1538 ![0, 0] (res m) slices_S2048x1538_S1024x1538_0_0 i = total m (i 0) (i 1) := by
  obtain ⟨r, k, rfl⟩ : ∃ (r : Fin 1024) (k : Fin 1538), i = ix2 r k := ⟨i 0, i 1, ValueIdx.eq_ix2 i⟩
  pointwise []
  exact res_lo m r k _

open Cert.Reference35Ideal.Read in
/-- The reference adds the same four terms, the other chips' sums first. -/
theorem ref_eq : val_main_v6 (F := Ideal) (own m) (sums m) = extractStridedSlice S1024x1538 ![0, 0] (res m) slices_S2048x1538_S1024x1538_0_0 := by
  funext i
  rw [tail_at, val_main_v6_apply, val_main_v5_apply, Fin.sum_univ_three]
  have hz : val_main_cst (F := Ideal) (Shape.Idx.first Cert.Reference35Ideal.Gen.facts.h_S_) = 0 := Ideal.ofBits_zero .f32
  obtain ⟨r, k, rfl⟩ : ∃ (r : Fin 1024) (k : Fin 1538), i = ix2 r k := ⟨i 0, i 1, ValueIdx.eq_ix2 i⟩
  have e2 : val_main_v2 (F := Ideal) (own m) (ix2 r k) = own m (ix3 0 r k) := by
    pointwise [val_main_v2, val_main_v1, val_main_v0]
  have e4 (j : Fin 3) : val_main_v4 (F := Ideal) (sums m) (idx_main_v5 (ix2 r k) j) = sums m (ix3 ⟨1 + j.val, by omega⟩ r k) :=
    at_coords (sums m) _ _ rfl (Nat.zero_add _) (Nat.zero_add _)
  rw [hz, zero_add, e2, e4, e4, e4]
  have key (a c d e : EReal) : a + (c + d + e) = a + c + d + e := by rw [← add_assoc, ← add_assoc]
  exact key _ _ _ _

open Cert.Reference35Ideal.Read in
theorem algebraic : Cert.algebraic_Kernel35Ideal_Reference35Ideal (hKernel35Ideal := Cert.Kernel35Ideal.Gen.facts) (hReference35Ideal := Cert.Reference35Ideal.Gen.facts) := by
  intro m g m' g' _ hargs
  obtain ⟨h0, h1⟩ := hargs 0
  refine ⟨fun _ => val_main_v6 (F := Ideal) (own m) (sums m), ?_, ?_⟩
  · refine (θ_run _ _ _).mono (fun r h c => ?_) (θ_run_and (run_main m g (ok m)) (unchanged m g (ok m)))
    obtain rfl : c = 0 := Subsingleton.elim _ _
    exact ⟨(((h.1 0).2 main_v1 (Pipeline.mem_restRefs_of main_v1 (by decide) (show ∀ w : Fin 5, (spec0 w).arr.view.ref ≠ main_v1 by decide))).trans (tail_eq m (ok m))).trans (ref_eq m).symm, h.2 0⟩
  · refine (θ_run _ _ _).mono (fun r h c => ?_) (Cert.Reference35Ideal.Value.run (F := Ideal) m' g')
    obtain rfl : c = 0 := Subsingleton.elim _ _
    obtain ⟨r0, k⟩ := h 0
    refine ⟨(r0.trans (val_main_v6_eq _ _)).trans ?_, k⟩
    rw [h0, h1]

end Cert.SumFinalIn

end
-- ==== Proof.SumTables.lean ====
/- The tables of places that the sums' kernels are handed name blocks inside their arrays. -/
module

public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame
public import proofs.«01_k».proof.Proof.Gen.Kernel34.Frame
public import proofs.«01_k».proof.Proof.Gen.Kernel35.Frame

@[expose] public section

set_option maxRecDepth 16384

noncomputable section

open Idealize.ShloMosaic Idealize.ShloMosaic.TcCoe Idealize.SL.Sem

namespace Cert.SumOwn.AsBits

open Cert.Kernel27 Cert.Kernel27.Gen

/-- Every block that the table names lies inside its array. -/
theorem ok {F : FTy → Type} [FloatOps F] (m : (ℓ : Loc nD τ sig) → Buf (Elt F) ℓ) : Ok m :=
  of_decide_eq_true (p := ok0 (F := F) fun
    | 0 => fun i => lit0 (S5.rowMajor i)
    | ⟨_ + 1, h⟩ => absurd h (Nat.not_lt.2 (Nat.le_add_left _ _))) (by sl_kernel_rfl)

end Cert.SumOwn.AsBits

namespace Cert.SumPair.AsBits

open Cert.Kernel28 Cert.Kernel28.Gen

/-- Every block that the table names lies inside its array. -/
theorem ok {F : FTy → Type} [FloatOps F] (m : (ℓ : Loc nD τ sig) → Buf (Elt F) ℓ) : Ok m :=
  of_decide_eq_true (p := ok0 (F := F) fun
    | 0 => fun i => lit0 (S5.rowMajor i)
    | ⟨_ + 1, h⟩ => absurd h (Nat.not_lt.2 (Nat.le_add_left _ _))) (by sl_kernel_rfl)

end Cert.SumPair.AsBits

namespace Cert.SumFinal.AsBits

open Cert.Kernel29 Cert.Kernel29.Gen

/-- Every block that the table names lies inside its array. -/
theorem ok {F : FTy → Type} [FloatOps F] (m : (ℓ : Loc nD τ sig) → Buf (Elt F) ℓ) : Ok m :=
  of_decide_eq_true (p := ok0 (F := F) fun
    | 0 => fun i => lit0 (S5.rowMajor i)
    | ⟨_ + 1, h⟩ => absurd h (Nat.not_lt.2 (Nat.le_add_left _ _))) (by sl_kernel_rfl)

end Cert.SumFinal.AsBits

namespace Cert.SumPairUp.AsBits

open Cert.Kernel30 Cert.Kernel30.Gen

/-- Every block that the table names lies inside its array. -/
theorem ok {F : FTy → Type} [FloatOps F] (m : (ℓ : Loc nD τ sig) → Buf (Elt F) ℓ) : Ok m :=
  of_decide_eq_true (p := ok0 (F := F) fun
    | 0 => fun i => lit0 (S5.rowMajor i)
    | ⟨_ + 1, h⟩ => absurd h (Nat.not_lt.2 (Nat.le_add_left _ _))) (by sl_kernel_rfl)

end Cert.SumPairUp.AsBits

namespace Cert.SumFinalUp.AsBits

open Cert.Kernel31 Cert.Kernel31.Gen

/-- Every block that the table names lies inside its array. -/
theorem ok {F : FTy → Type} [FloatOps F] (m : (ℓ : Loc nD τ sig) → Buf (Elt F) ℓ) : Ok m :=
  of_decide_eq_true (p := ok0 (F := F) fun
    | 0 => fun i => lit0 (S5.rowMajor i)
    | ⟨_ + 1, h⟩ => absurd h (Nat.not_lt.2 (Nat.le_add_left _ _))) (by sl_kernel_rfl)

end Cert.SumFinalUp.AsBits

namespace Cert.SumPairDown.AsBits

open Cert.Kernel32 Cert.Kernel32.Gen

/-- Every block that the table names lies inside its array. -/
theorem ok {F : FTy → Type} [FloatOps F] (m : (ℓ : Loc nD τ sig) → Buf (Elt F) ℓ) : Ok m :=
  of_decide_eq_true (p := ok0 (F := F) fun
    | 0 => fun i => lit0 (S5.rowMajor i)
    | ⟨_ + 1, h⟩ => absurd h (Nat.not_lt.2 (Nat.le_add_left _ _))) (by sl_kernel_rfl)

end Cert.SumPairDown.AsBits

namespace Cert.SumFinalDown.AsBits

open Cert.Kernel33 Cert.Kernel33.Gen

/-- Every block that the table names lies inside its array. -/
theorem ok {F : FTy → Type} [FloatOps F] (m : (ℓ : Loc nD τ sig) → Buf (Elt F) ℓ) : Ok m :=
  of_decide_eq_true (p := ok0 (F := F) fun
    | 0 => fun i => lit0 (S5.rowMajor i)
    | ⟨_ + 1, h⟩ => absurd h (Nat.not_lt.2 (Nat.le_add_left _ _))) (by sl_kernel_rfl)

end Cert.SumFinalDown.AsBits

namespace Cert.SumAllIn.AsBits

open Cert.Kernel34 Cert.Kernel34.Gen

/-- Every block that the table names lies inside its array. -/
theorem ok {F : FTy → Type} [FloatOps F] (m : (ℓ : Loc nD τ sig) → Buf (Elt F) ℓ) : Ok m :=
  of_decide_eq_true (p := ok0 (F := F) fun
    | 0 => fun i => lit0 (S5.rowMajor i)
    | ⟨_ + 1, h⟩ => absurd h (Nat.not_lt.2 (Nat.le_add_left _ _))) (by sl_kernel_rfl)

end Cert.SumAllIn.AsBits

namespace Cert.SumFinalIn.AsBits

open Cert.Kernel35 Cert.Kernel35.Gen

/-- Every block that the table names lies inside its array. -/
theorem ok {F : FTy → Type} [FloatOps F] (m : (ℓ : Loc nD τ sig) → Buf (Elt F) ℓ) : Ok m :=
  of_decide_eq_true (p := ok0 (F := F) fun
    | 0 => fun i => lit0 (S5.rowMajor i)
    | ⟨_ + 1, h⟩ => absurd h (Nat.not_lt.2 (Nat.le_add_left _ _))) (by sl_kernel_rfl)

end Cert.SumFinalIn.AsBits

end
-- ==== Proof.lean ====
/- The certificate: the frames, and each call's value claim out of its own module. -/
module

public import proofs.«01_k».proof.Defs
public import proofs.«01_k».proof.Proof.Gen.Kernel.Frame
public import proofs.«01_k».proof.Proof.FfnClaim
public import proofs.«01_k».proof.Proof.Gen.Kernel2.Frame
public import proofs.«01_k».proof.Proof.UpX
public import proofs.«01_k».proof.Proof.Gen.Kernel3.Frame
public import proofs.«01_k».proof.Proof.UpW
public import proofs.«01_k».proof.Proof.Gen.Kernel4.Frame
public import proofs.«01_k».proof.Proof.DownX
public import proofs.«01_k».proof.Proof.Gen.Kernel5.Frame
public import proofs.«01_k».proof.Proof.DownW
public import proofs.«01_k».proof.Proof.Gen.Kernel6.Frame
public import proofs.«01_k».proof.Proof.OutX
public import proofs.«01_k».proof.Proof.Gen.Kernel7.Frame
public import proofs.«01_k».proof.Proof.OutW
public import proofs.«01_k».proof.Proof.Gen.Kernel8.Frame
public import proofs.«01_k».proof.Proof.ProjX
public import proofs.«01_k».proof.Proof.Gen.Kernel9.Frame
public import proofs.«01_k».proof.Proof.ProjW
public import proofs.«01_k».proof.Proof.Gen.Kernel10.Frame
public import proofs.«01_k».proof.Proof.NormB
public import proofs.«01_k».proof.Proof.Gen.Kernel11.Frame
public import proofs.«01_k».proof.Proof.ProjF
public import proofs.«01_k».proof.Proof.Gen.Kernel12.Frame
public import proofs.«01_k».proof.Proof.OutF
public import proofs.«01_k».proof.Proof.Gen.Kernel13.Frame
public import proofs.«01_k».proof.Proof.UpF
public import proofs.«01_k».proof.Proof.Gen.Kernel14.Frame
public import proofs.«01_k».proof.Proof.DownF
public import proofs.«01_k».proof.Proof.Gen.Kernel15.Frame
public import proofs.«01_k».proof.Proof.LossB
public import proofs.«01_k».proof.Proof.Gen.Kernel16.Frame
public import proofs.«01_k».proof.Proof.GateB
public import proofs.«01_k».proof.Proof.Gen.Kernel17.Frame
public import proofs.«01_k».proof.Proof.NormF
public import proofs.«01_k».proof.Proof.Gen.Kernel18.Frame
public import proofs.«01_k».proof.Proof.FfnF
public import proofs.«01_k».proof.Proof.Gen.Kernel19.Frame
public import proofs.«01_k».proof.Proof.AdamOut
public import proofs.«01_k».proof.Proof.Gen.Kernel20.Frame
public import proofs.«01_k».proof.Proof.AdamUp
public import proofs.«01_k».proof.Proof.Gen.Kernel21.Frame
public import proofs.«01_k».proof.Proof.AdamDown
public import proofs.«01_k».proof.Proof.Gen.Kernel22.Frame
public import proofs.«01_k».proof.Proof.AdamIn
public import proofs.«01_k».proof.Proof.Gen.Kernel25.Frame
public import proofs.«01_k».proof.Proof.SumSmall
public import proofs.«01_k».proof.Proof.Gen.Kernel26.Frame
public import proofs.«01_k».proof.Proof.SumLate
public import proofs.«01_k».proof.Proof.Gen.Kernel27.Frame
public import proofs.«01_k».proof.Proof.SumOwn
public import proofs.«01_k».proof.Proof.Gen.Kernel28.Frame
public import proofs.«01_k».proof.Proof.SumPair
public import proofs.«01_k».proof.Proof.Gen.Kernel29.Frame
public import proofs.«01_k».proof.Proof.SumFinal
public import proofs.«01_k».proof.Proof.Gen.Kernel30.Frame
public import proofs.«01_k».proof.Proof.SumPairUp
public import proofs.«01_k».proof.Proof.Gen.Kernel31.Frame
public import proofs.«01_k».proof.Proof.SumFinalUp
public import proofs.«01_k».proof.Proof.Gen.Kernel32.Frame
public import proofs.«01_k».proof.Proof.SumPairDown
public import proofs.«01_k».proof.Proof.Gen.Kernel33.Frame
public import proofs.«01_k».proof.Proof.SumFinalDown
public import proofs.«01_k».proof.Proof.Gen.Kernel34.Frame
public import proofs.«01_k».proof.Proof.SumAllIn
public import proofs.«01_k».proof.Proof.Gen.Kernel35.Frame
public import proofs.«01_k».proof.Proof.SumFinalIn
public import proofs.«01_k».proof.Proof.SumTables

@[expose] public section

set_option maxRecDepth 16384

open Idealize.ShloMosaic Idealize.ShloMosaic.TcCoe Idealize.SL.Sem

theorem Cert.Proof.reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩) (Cert.ReferenceIdeal.Value.run (F := Ideal) m ρ)

theorem Cert.Proof.reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩) (Cert.Reference2Ideal.Value.run (F := Ideal) m ρ)

theorem Cert.Proof.reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩) (Cert.Reference3Ideal.Value.run (F := Ideal) m ρ)

theorem Cert.Proof.reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩) (Cert.Reference4Ideal.Value.run (F := Ideal) m ρ)

theorem Cert.Proof.reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩) (Cert.Reference5Ideal.Value.run (F := Ideal) m ρ)

theorem Cert.Proof.reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩) (Cert.Reference6Ideal.Value.run (F := Ideal) m ρ)

theorem Cert.Proof.reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩) (Cert.Reference7Ideal.Value.run (F := Ideal) m ρ)

theorem Cert.Proof.reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩) (Cert.Reference8Ideal.Value.run (F := Ideal) m ρ)

theorem Cert.Proof.reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩) (Cert.Reference9Ideal.Value.run (F := Ideal) m ρ)

theorem Cert.Proof.reference10 : Cert.quiescent_Reference10Ideal (hReference10Ideal := Cert.Reference10Ideal.Gen.facts) := fun m ρ _ =>
  (θ_run Cert.Reference10Ideal.defs _ _).mono (fun r h => ⟨fun c => (h c).2.2.2, sem_eq_zero_of_no_sems (by decide) r.2⟩) (Cert.Reference10Ideal.Value.run (F := Ideal) m ρ)

theorem Cert.Proof.reference11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩) (Cert.Reference11Ideal.Value.run (F := Ideal) m ρ)

theorem Cert.Proof.reference12 : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩) (Cert.Reference12Ideal.Value.run (F := Ideal) m ρ)

theorem Cert.Proof.reference13 : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩) (Cert.Reference13Ideal.Value.run (F := Ideal) m ρ)

theorem Cert.Proof.reference14 : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩) (Cert.Reference14Ideal.Value.run (F := Ideal) m ρ)

theorem Cert.Proof.reference15 : Cert.quiescent_Reference15Ideal (hReference15Ideal := Cert.Reference15Ideal.Gen.facts) := fun m ρ _ =>
  (θ_run Cert.Reference15Ideal.defs _ _).mono (fun r h => ⟨fun c => (h c).2.2.2.2, sem_eq_zero_of_no_sems (by decide) r.2⟩) (Cert.Reference15Ideal.Value.run (F := Ideal) m ρ)

theorem Cert.Proof.reference16 : Cert.quiescent_Reference16Ideal (hReference16Ideal := Cert.Reference16Ideal.Gen.facts) := fun m ρ _ =>
  (θ_run Cert.Reference16Ideal.defs _ _).mono (fun r h => ⟨fun c => (h c).2.2, sem_eq_zero_of_no_sems (by decide) r.2⟩) (Cert.Reference16Ideal.Value.run (F := Ideal) m ρ)

theorem Cert.Proof.reference17 : Cert.quiescent_Reference17Ideal (hReference17Ideal := Cert.Reference17Ideal.Gen.facts) := fun m ρ _ =>
  (θ_run Cert.Reference17Ideal.defs _ _).mono (fun r h => ⟨fun c => (h c).2.2, sem_eq_zero_of_no_sems (by decide) r.2⟩) (Cert.Reference17Ideal.Value.run (F := Ideal) m ρ)

theorem Cert.Proof.reference18 : Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩) (Cert.Reference18Ideal.Value.run (F := Ideal) m ρ)

theorem Cert.Proof.reference19 : Cert.quiescent_Reference19Ideal (hReference19Ideal := Cert.Reference19Ideal.Gen.facts) := fun m ρ _ =>
  (θ_run Cert.Reference19Ideal.defs _ _).mono (fun r h => ⟨fun c => (h c).2.2.2.2, sem_eq_zero_of_no_sems (by decide) r.2⟩) (Cert.Reference19Ideal.Value.run (F := Ideal) m ρ)

theorem Cert.Proof.reference20 : Cert.quiescent_Reference20Ideal (hReference20Ideal := Cert.Reference20Ideal.Gen.facts) := fun m ρ _ =>
  (θ_run Cert.Reference20Ideal.defs _ _).mono (fun r h => ⟨fun c => (h c).2.2.2.2, sem_eq_zero_of_no_sems (by decide) r.2⟩) (Cert.Reference20Ideal.Value.run (F := Ideal) m ρ)

theorem Cert.Proof.reference21 : Cert.quiescent_Reference21Ideal (hReference21Ideal := Cert.Reference21Ideal.Gen.facts) := fun m ρ _ =>
  (θ_run Cert.Reference21Ideal.defs _ _).mono (fun r h => ⟨fun c => (h c).2.2.2.2, sem_eq_zero_of_no_sems (by decide) r.2⟩) (Cert.Reference21Ideal.Value.run (F := Ideal) m ρ)

theorem Cert.Proof.reference22 : Cert.quiescent_Reference22Ideal (hReference22Ideal := Cert.Reference22Ideal.Gen.facts) := fun m ρ _ =>
  (θ_run Cert.Reference22Ideal.defs _ _).mono (fun r h => ⟨fun c => (h c).2.2.2.2, sem_eq_zero_of_no_sems (by decide) r.2⟩) (Cert.Reference22Ideal.Value.run (F := Ideal) m ρ)

theorem Cert.Proof.reference25 : Cert.quiescent_Reference25Ideal (hReference25Ideal := Cert.Reference25Ideal.Gen.facts) := fun m ρ _ =>
  (θ_run Cert.Reference25Ideal.defs _ _).mono (fun r h => ⟨fun c => (h c).2, sem_eq_zero_of_no_sems (by decide) r.2⟩) (Cert.Reference25Ideal.Value.run (F := Ideal) m ρ)

theorem Cert.Proof.reference26 : Cert.quiescent_Reference26Ideal (hReference26Ideal := Cert.Reference26Ideal.Gen.facts) := fun m ρ _ =>
  (θ_run Cert.Reference26Ideal.defs _ _).mono (fun r h => ⟨fun c => (h c).2, sem_eq_zero_of_no_sems (by decide) r.2⟩) (Cert.Reference26Ideal.Value.run (F := Ideal) m ρ)

theorem Cert.Proof.reference27 : Cert.quiescent_Reference27Ideal (hReference27Ideal := Cert.Reference27Ideal.Gen.facts) := fun m ρ _ =>
  (θ_run Cert.Reference27Ideal.defs _ _).mono (fun r h => ⟨fun c => (h c).2, sem_eq_zero_of_no_sems (by decide) r.2⟩) (Cert.Reference27Ideal.Value.run (F := Ideal) m ρ)

theorem Cert.Proof.reference28 : Cert.quiescent_Reference28Ideal (hReference28Ideal := Cert.Reference28Ideal.Gen.facts) := fun m ρ _ =>
  (θ_run Cert.Reference28Ideal.defs _ _).mono (fun r h => ⟨fun c => (h c).2, sem_eq_zero_of_no_sems (by decide) r.2⟩) (Cert.Reference28Ideal.Value.run (F := Ideal) m ρ)

theorem Cert.Proof.reference29 : Cert.quiescent_Reference29Ideal (hReference29Ideal := Cert.Reference29Ideal.Gen.facts) := fun m ρ _ =>
  (θ_run Cert.Reference29Ideal.defs _ _).mono (fun r h => ⟨fun c => (h c).2, sem_eq_zero_of_no_sems (by decide) r.2⟩) (Cert.Reference29Ideal.Value.run (F := Ideal) m ρ)

theorem Cert.Proof.reference30 : Cert.quiescent_Reference30Ideal (hReference30Ideal := Cert.Reference30Ideal.Gen.facts) := fun m ρ _ =>
  (θ_run Cert.Reference30Ideal.defs _ _).mono (fun r h => ⟨fun c => (h c).2, sem_eq_zero_of_no_sems (by decide) r.2⟩) (Cert.Reference30Ideal.Value.run (F := Ideal) m ρ)

theorem Cert.Proof.reference31 : Cert.quiescent_Reference31Ideal (hReference31Ideal := Cert.Reference31Ideal.Gen.facts) := fun m ρ _ =>
  (θ_run Cert.Reference31Ideal.defs _ _).mono (fun r h => ⟨fun c => (h c).2, sem_eq_zero_of_no_sems (by decide) r.2⟩) (Cert.Reference31Ideal.Value.run (F := Ideal) m ρ)

theorem Cert.Proof.reference32 : Cert.quiescent_Reference32Ideal (hReference32Ideal := Cert.Reference32Ideal.Gen.facts) := fun m ρ _ =>
  (θ_run Cert.Reference32Ideal.defs _ _).mono (fun r h => ⟨fun c => (h c).2, sem_eq_zero_of_no_sems (by decide) r.2⟩) (Cert.Reference32Ideal.Value.run (F := Ideal) m ρ)

theorem Cert.Proof.reference33 : Cert.quiescent_Reference33Ideal (hReference33Ideal := Cert.Reference33Ideal.Gen.facts) := fun m ρ _ =>
  (θ_run Cert.Reference33Ideal.defs _ _).mono (fun r h => ⟨fun c => (h c).2, sem_eq_zero_of_no_sems (by decide) r.2⟩) (Cert.Reference33Ideal.Value.run (F := Ideal) m ρ)

theorem Cert.Proof.reference34 : Cert.quiescent_Reference34Ideal (hReference34Ideal := Cert.Reference34Ideal.Gen.facts) := fun m ρ _ =>
  (θ_run Cert.Reference34Ideal.defs _ _).mono (fun r h => ⟨fun c => (h c).2, sem_eq_zero_of_no_sems (by decide) r.2⟩) (Cert.Reference34Ideal.Value.run (F := Ideal) m ρ)

theorem Cert.Proof.reference35 : Cert.quiescent_Reference35Ideal (hReference35Ideal := Cert.Reference35Ideal.Gen.facts) := fun m ρ _ =>
  (θ_run Cert.Reference35Ideal.defs _ _).mono (fun r h => ⟨fun c => (h c).2, sem_eq_zero_of_no_sems (by decide) r.2⟩) (Cert.Reference35Ideal.Value.run (F := Ideal) m ρ)

theorem Cert.Proof.claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel25.Gen.facts,
    Cert.Kernel25Ideal.Gen.facts,
    Cert.Reference25Ideal.Gen.facts,
    Cert.Kernel26.Gen.facts,
    Cert.Kernel26Ideal.Gen.facts,
    Cert.Reference26Ideal.Gen.facts,
    Cert.Kernel27.Gen.facts,
    Cert.Kernel27Ideal.Gen.facts,
    Cert.Reference27Ideal.Gen.facts,
    Cert.Kernel28.Gen.facts,
    Cert.Kernel28Ideal.Gen.facts,
    Cert.Reference28Ideal.Gen.facts,
    Cert.Kernel29.Gen.facts,
    Cert.Kernel29Ideal.Gen.facts,
    Cert.Reference29Ideal.Gen.facts,
    Cert.Kernel30.Gen.facts,
    Cert.Kernel30Ideal.Gen.facts,
    Cert.Reference30Ideal.Gen.facts,
    Cert.Kernel31.Gen.facts,
    Cert.Kernel31Ideal.Gen.facts,
    Cert.Reference31Ideal.Gen.facts,
    Cert.Kernel32.Gen.facts,
    Cert.Kernel32Ideal.Gen.facts,
    Cert.Reference32Ideal.Gen.facts,
    Cert.Kernel33.Gen.facts,
    Cert.Kernel33Ideal.Gen.facts,
    Cert.Reference33Ideal.Gen.facts,
    Cert.Kernel34.Gen.facts,
    Cert.Kernel34Ideal.Gen.facts,
    Cert.Reference34Ideal.Gen.facts,
    Cert.Kernel35.Gen.facts,
    Cert.Kernel35Ideal.Gen.facts,
    Cert.Reference35Ideal.Gen.facts,
    Cert.FfnClaim.preFacts,
    fun m ρ _ => Cert.Kernel.Gen.frame m ρ,
    fun m ρ _ => Cert.KernelIdeal.Gen.frame m ρ,
    fun m ρ _ => Cert.KernelIdeal.Gen.frame m ρ,
    fun m ρ _ => Cert.Proof.reference m ρ trivial,
    fun m ρ _ => Cert.Proof.reference m ρ trivial,
    fun m ρ _ => Cert.Kernel2.Gen.frame m ρ,
    fun m ρ _ => Cert.Kernel2Ideal.Gen.frame m ρ,
    fun m ρ _ => Cert.Proof.reference2 m ρ trivial,
    fun m ρ _ => Cert.Kernel3.Gen.frame m ρ,
    fun m ρ _ => Cert.Kernel3Ideal.Gen.frame m ρ,
    fun m ρ _ => Cert.Proof.reference3 m ρ trivial,
    fun m ρ _ => Cert.Kernel4.Gen.frame m ρ,
    fun m ρ _ => Cert.Kernel4Ideal.Gen.frame m ρ,
    fun m ρ _ => Cert.Proof.reference4 m ρ trivial,
    fun m ρ _ => Cert.Kernel5.Gen.frame m ρ,
    fun m ρ _ => Cert.Kernel5Ideal.Gen.frame m ρ,
    fun m ρ _ => Cert.Proof.reference5 m ρ trivial,
    fun m ρ _ => Cert.Kernel6.Gen.frame m ρ,
    fun m ρ _ => Cert.Kernel6Ideal.Gen.frame m ρ,
    fun m ρ _ => Cert.Proof.reference6 m ρ trivial,
    fun m ρ _ => Cert.Kernel7.Gen.frame m ρ,
    fun m ρ _ => Cert.Kernel7Ideal.Gen.frame m ρ,
    fun m ρ _ => Cert.Proof.reference7 m ρ trivial,
    fun m ρ _ => Cert.Kernel8.Gen.frame m ρ,
    fun m ρ _ => Cert.Kernel8Ideal.Gen.frame m ρ,
    fun m ρ _ => Cert.Proof.reference8 m ρ trivial,
    fun m ρ _ => Cert.Kernel9.Gen.frame m ρ,
    fun m ρ _ => Cert.Kernel9Ideal.Gen.frame m ρ,
    fun m ρ _ => Cert.Proof.reference9 m ρ trivial,
    fun m ρ _ => Cert.Kernel10.Gen.frame m ρ,
    fun m ρ _ => Cert.Kernel10Ideal.Gen.frame m ρ,
    fun m ρ _ => Cert.Proof.reference10 m ρ trivial,
    fun m ρ _ => Cert.Kernel11.Gen.frame m ρ,
    fun m ρ _ => Cert.Kernel11Ideal.Gen.frame m ρ,
    fun m ρ _ => Cert.Proof.reference11 m ρ trivial,
    fun m ρ _ => Cert.Kernel12.Gen.frame m ρ,
    fun m ρ _ => Cert.Kernel12Ideal.Gen.frame m ρ,
    fun m ρ _ => Cert.Proof.reference12 m ρ trivial,
    fun m ρ _ => Cert.Kernel13.Gen.frame m ρ,
    fun m ρ _ => Cert.Kernel13Ideal.Gen.frame m ρ,
    fun m ρ _ => Cert.Proof.reference13 m ρ trivial,
    fun m ρ _ => Cert.Kernel14.Gen.frame m ρ,
    fun m ρ _ => Cert.Kernel14Ideal.Gen.frame m ρ,
    fun m ρ _ => Cert.Proof.reference14 m ρ trivial,
    fun m ρ _ => Cert.Kernel15.Gen.frame m ρ,
    fun m ρ _ => Cert.Kernel15Ideal.Gen.frame m ρ,
    fun m ρ _ => Cert.Proof.reference15 m ρ trivial,
    fun m ρ _ => Cert.Kernel16.Gen.frame m ρ,
    fun m ρ _ => Cert.Kernel16Ideal.Gen.frame m ρ,
    fun m ρ _ => Cert.Proof.reference16 m ρ trivial,
    fun m ρ _ => Cert.Kernel17.Gen.frame m ρ,
    fun m ρ _ => Cert.Kernel17Ideal.Gen.frame m ρ,
    fun m ρ _ => Cert.Proof.reference17 m ρ trivial,
    fun m ρ _ => Cert.Kernel18.Gen.frame m ρ,
    fun m ρ _ => Cert.Kernel18Ideal.Gen.frame m ρ,
    fun m ρ _ => Cert.Proof.reference18 m ρ trivial,
    fun m ρ _ => Cert.Kernel19.Gen.frame m ρ,
    fun m ρ _ => Cert.Kernel19Ideal.Gen.frame m ρ,
    fun m ρ _ => Cert.Proof.reference19 m ρ trivial,
    fun m ρ _ => Cert.Kernel20.Gen.frame m ρ,
    fun m ρ _ => Cert.Kernel20Ideal.Gen.frame m ρ,
    fun m ρ _ => Cert.Proof.reference20 m ρ trivial,
    fun m ρ _ => Cert.Kernel21.Gen.frame m ρ,
    fun m ρ _ => Cert.Kernel21Ideal.Gen.frame m ρ,
    fun m ρ _ => Cert.Proof.reference21 m ρ trivial,
    fun m ρ _ => Cert.Kernel22.Gen.frame m ρ,
    fun m ρ _ => Cert.Kernel22Ideal.Gen.frame m ρ,
    fun m ρ _ => Cert.Proof.reference22 m ρ trivial,
    fun m ρ _ => Cert.Kernel25.Gen.frame m ρ,
    fun m ρ _ => Cert.Kernel25Ideal.Gen.frame m ρ,
    fun m ρ _ => Cert.Proof.reference25 m ρ trivial,
    fun m ρ _ => Cert.Kernel26.Gen.frame m ρ,
    fun m ρ _ => Cert.Kernel26Ideal.Gen.frame m ρ,
    fun m ρ _ => Cert.Proof.reference26 m ρ trivial,
    fun m ρ _ => Cert.Kernel27.Gen.frame m ρ (Cert.SumOwn.AsBits.ok m),
    fun m ρ _ => Cert.Kernel27Ideal.Gen.frame m ρ (Cert.SumOwn.ok m),
    fun m ρ _ => Cert.Proof.reference27 m ρ trivial,
    fun m ρ _ => Cert.Kernel28.Gen.frame m ρ (Cert.SumPair.AsBits.ok m),
    fun m ρ _ => Cert.Kernel28Ideal.Gen.frame m ρ (Cert.SumPair.ok m),
    fun m ρ _ => Cert.Proof.reference28 m ρ trivial,
    fun m ρ _ => Cert.Kernel29.Gen.frame m ρ (Cert.SumFinal.AsBits.ok m),
    fun m ρ _ => Cert.Kernel29Ideal.Gen.frame m ρ (Cert.SumFinal.ok m),
    fun m ρ _ => Cert.Proof.reference29 m ρ trivial,
    fun m ρ _ => Cert.Kernel30.Gen.frame m ρ (Cert.SumPairUp.AsBits.ok m),
    fun m ρ _ => Cert.Kernel30Ideal.Gen.frame m ρ (Cert.SumPairUp.ok m),
    fun m ρ _ => Cert.Proof.reference30 m ρ trivial,
    fun m ρ _ => Cert.Kernel31.Gen.frame m ρ (Cert.SumFinalUp.AsBits.ok m),
    fun m ρ _ => Cert.Kernel31Ideal.Gen.frame m ρ (Cert.SumFinalUp.ok m),
    fun m ρ _ => Cert.Proof.reference31 m ρ trivial,
    fun m ρ _ => Cert.Kernel32.Gen.frame m ρ (Cert.SumPairDown.AsBits.ok m),
    fun m ρ _ => Cert.Kernel32Ideal.Gen.frame m ρ (Cert.SumPairDown.ok m),
    fun m ρ _ => Cert.Proof.reference32 m ρ trivial,
    fun m ρ _ => Cert.Kernel33.Gen.frame m ρ (Cert.SumFinalDown.AsBits.ok m),
    fun m ρ _ => Cert.Kernel33Ideal.Gen.frame m ρ (Cert.SumFinalDown.ok m),
    fun m ρ _ => Cert.Proof.reference33 m ρ trivial,
    fun m ρ _ => Cert.Kernel34.Gen.frame m ρ (Cert.SumAllIn.AsBits.ok m),
    fun m ρ _ => Cert.Kernel34Ideal.Gen.frame m ρ (Cert.SumAllIn.ok m),
    fun m ρ _ => Cert.Proof.reference34 m ρ trivial,
    fun m ρ _ => Cert.Kernel35.Gen.frame m ρ (Cert.SumFinalIn.AsBits.ok m),
    fun m ρ _ => Cert.Kernel35Ideal.Gen.frame m ρ (Cert.SumFinalIn.ok m),
    fun m ρ _ => Cert.Proof.reference35 m ρ trivial,
    trivial,
    Cert.FfnClaim.algebraic,
    trivial,
    Cert.UpX.algebraic,
    trivial,
    Cert.UpW.algebraic,
    trivial,
    Cert.DownX.algebraic,
    trivial,
    Cert.DownW.algebraic,
    trivial,
    Cert.OutX.algebraic,
    trivial,
    Cert.OutW.algebraic,
    trivial,
    Cert.ProjX.algebraic,
    trivial,
    Cert.ProjW.algebraic,
    trivial,
    Cert.NormB.algebraic,
    trivial,
    Cert.ProjF.algebraic,
    trivial,
    Cert.OutF.algebraic,
    trivial,
    Cert.UpF.algebraic,
    trivial,
    Cert.DownF.algebraic,
    trivial,
    Cert.LossB.algebraic,
    trivial,
    Cert.GateB.algebraic,
    trivial,
    Cert.NormF.algebraic,
    trivial,
    Cert.FfnF.algebraic,
    trivial,
    Cert.AdamOut.algebraic,
    trivial,
    Cert.AdamUp.algebraic,
    trivial,
    Cert.AdamDown.algebraic,
    trivial,
    Cert.AdamIn.algebraic,
    trivial,
    Cert.SumSmall.algebraic,
    trivial,
    Cert.SumLate.algebraic,
    trivial,
    Cert.SumOwn.algebraic,
    trivial,
    Cert.SumPair.algebraic,
    trivial,
    Cert.SumFinal.algebraic,
    trivial,
    Cert.SumPairUp.algebraic,
    trivial,
    Cert.SumFinalUp.algebraic,
    trivial,
    Cert.SumPairDown.algebraic,
    trivial,
    Cert.SumFinalDown.algebraic,
    trivial,
    Cert.SumAllIn.algebraic,
    trivial,
    Cert.SumFinalIn.algebraic⟩
